-- ==== Defs.lean ====
def Pre_ConvPre (m : (ℓ : Loc Cert.ConvPre.nD Cert.ConvPre.τ Cert.ConvPre.sig) → Buf (Elt Bits) ℓ) : Prop :=
  True

def Pre_ConvPreIdeal (m : (ℓ : Loc Cert.ConvPreIdeal.nD Cert.ConvPreIdeal.τ Cert.ConvPreIdeal.sig) → Buf (Elt Ideal) ℓ) : Prop :=
  True

def Pre_RefPreIdeal (m : (ℓ : Loc Cert.RefPreIdeal.nD Cert.RefPreIdeal.τ Cert.RefPreIdeal.sig) → Buf (Elt Ideal) ℓ) : Prop :=
  True

def Pre_ConvC1 (m : (ℓ : Loc Cert.ConvC1.nD Cert.ConvC1.τ Cert.ConvC1.sig) → Buf (Elt Bits) ℓ) : Prop :=
  True

def Pre_ConvC1Ideal (m : (ℓ : Loc Cert.ConvC1Ideal.nD Cert.ConvC1Ideal.τ Cert.ConvC1Ideal.sig) → Buf (Elt Ideal) ℓ) : Prop :=
  True

def Pre_ConvC1Ideal_padding_inactive [hPre_padding_inactive : Cert.Pre_padding_inactive.Facts] (m : (ℓ : Loc Cert.ConvC1Ideal.nD Cert.ConvC1Ideal.τ Cert.ConvC1Ideal.sig) → Buf (Elt Ideal) ℓ) : Prop :=
  ∀ c : Dev Cert.ConvC1Ideal.nD,
    (Cert.Pre_padding_inactive.fn (F := Ideal) (m ((c.tc : Thread Cert.ConvC1Ideal.nD Cert.ConvC1Ideal.τ).loc Cert.ConvC1Ideal.main_arg0)) (m ((c.tc : Thread Cert.ConvC1Ideal.nD Cert.ConvC1Ideal.τ).loc Cert.ConvC1Ideal.main_arg1)) (m ((c.tc : Thread Cert.ConvC1Ideal.nD Cert.ConvC1Ideal.τ).loc Cert.ConvC1Ideal.main_arg2)) (m ((c.tc : Thread Cert.ConvC1Ideal.nD Cert.ConvC1Ideal.τ).loc Cert.ConvC1Ideal.main_arg3)) (m ((c.tc : Thread Cert.ConvC1Ideal.nD Cert.ConvC1Ideal.τ).loc Cert.ConvC1Ideal.main_arg4)) (m ((c.tc : Thread Cert.ConvC1Ideal.nD Cert.ConvC1Ideal.τ).loc Cert.ConvC1Ideal.main_arg5)) (m ((c.tc : Thread Cert.ConvC1Ideal.nD Cert.ConvC1Ideal.τ).loc Cert.ConvC1Ideal.main_arg6))) = (fun _ => 1#1)

def Pre_RefC1Ideal (m : (ℓ : Loc Cert.RefC1Ideal.nD Cert.RefC1Ideal.τ Cert.RefC1Ideal.sig) → Buf (Elt Ideal) ℓ) : Prop :=
  True

def Pre_RefC1Ideal_padding_inactive [hPre_padding_inactive : Cert.Pre_padding_inactive.Facts] (m : (ℓ : Loc Cert.RefC1Ideal.nD Cert.RefC1Ideal.τ Cert.RefC1Ideal.sig) → Buf (Elt Ideal) ℓ) : Prop :=
  ∀ c : Dev Cert.RefC1Ideal.nD,
    (Cert.Pre_padding_inactive.fn (F := Ideal) (m ((c.tc : Thread Cert.RefC1Ideal.nD Cert.RefC1Ideal.τ).loc Cert.RefC1Ideal.main_arg0)) (m ((c.tc : Thread Cert.RefC1Ideal.nD Cert.RefC1Ideal.τ).loc Cert.RefC1Ideal.main_arg1)) (m ((c.tc : Thread Cert.RefC1Ideal.nD Cert.RefC1Ideal.τ).loc Cert.RefC1Ideal.main_arg2)) (m ((c.tc : Thread Cert.RefC1Ideal.nD Cert.RefC1Ideal.τ).loc Cert.RefC1Ideal.main_arg3)) (m ((c.tc : Thread Cert.RefC1Ideal.nD Cert.RefC1Ideal.τ).loc Cert.RefC1Ideal.main_arg4)) (m ((c.tc : Thread Cert.RefC1Ideal.nD Cert.RefC1Ideal.τ).loc Cert.RefC1Ideal.main_arg5)) (m ((c.tc : Thread Cert.RefC1Ideal.nD Cert.RefC1Ideal.τ).loc Cert.RefC1Ideal.main_arg6))) = (fun _ => 1#1)

def Pre_ConvC2 (m : (ℓ : Loc Cert.ConvC2.nD Cert.ConvC2.τ Cert.ConvC2.sig) → Buf (Elt Bits) ℓ) : Prop :=
  True

def Pre_ConvC2Ideal (m : (ℓ : Loc Cert.ConvC2Ideal.nD Cert.ConvC2Ideal.τ Cert.ConvC2Ideal.sig) → Buf (Elt Ideal) ℓ) : Prop :=
  True

def Pre_ConvC2Ideal_padding_inactive_c2 [hPre_padding_inactive_c2 : Cert.Pre_padding_inactive_c2.Facts] (m : (ℓ : Loc Cert.ConvC2Ideal.nD Cert.ConvC2Ideal.τ Cert.ConvC2Ideal.sig) → Buf (Elt Ideal) ℓ) : Prop :=
  ∀ c : Dev Cert.ConvC2Ideal.nD,
    (Cert.Pre_padding_inactive_c2.fn (F := Ideal) (m ((c.tc : Thread Cert.ConvC2Ideal.nD Cert.ConvC2Ideal.τ).loc Cert.ConvC2Ideal.main_arg0)) (m ((c.tc : Thread Cert.ConvC2Ideal.nD Cert.ConvC2Ideal.τ).loc Cert.ConvC2Ideal.main_arg1)) (m ((c.tc : Thread Cert.ConvC2Ideal.nD Cert.ConvC2Ideal.τ).loc Cert.ConvC2Ideal.main_arg2)) (m ((c.tc : Thread Cert.ConvC2Ideal.nD Cert.ConvC2Ideal.τ).loc Cert.ConvC2Ideal.main_arg3)) (m ((c.tc : Thread Cert.ConvC2Ideal.nD Cert.ConvC2Ideal.τ).loc Cert.ConvC2Ideal.main_arg4)) (m ((c.tc : Thread Cert.ConvC2Ideal.nD Cert.ConvC2Ideal.τ).loc Cert.ConvC2Ideal.main_arg5)) (m ((c.tc : Thread Cert.ConvC2Ideal.nD Cert.ConvC2Ideal.τ).loc Cert.ConvC2Ideal.main_arg6))) = (fun _ => 1#1)

def Pre_RefC2Ideal (m : (ℓ : Loc Cert.RefC2Ideal.nD Cert.RefC2Ideal.τ Cert.RefC2Ideal.sig) → Buf (Elt Ideal) ℓ) : Prop :=
  True

def Pre_RefC2Ideal_padding_inactive_c2 [hPre_padding_inactive_c2 : Cert.Pre_padding_inactive_c2.Facts] (m : (ℓ : Loc Cert.RefC2Ideal.nD Cert.RefC2Ideal.τ Cert.RefC2Ideal.sig) → Buf (Elt Ideal) ℓ) : Prop :=
  ∀ c : Dev Cert.RefC2Ideal.nD,
    (Cert.Pre_padding_inactive_c2.fn (F := Ideal) (m ((c.tc : Thread Cert.RefC2Ideal.nD Cert.RefC2Ideal.τ).loc Cert.RefC2Ideal.main_arg0)) (m ((c.tc : Thread Cert.RefC2Ideal.nD Cert.RefC2Ideal.τ).loc Cert.RefC2Ideal.main_arg1)) (m ((c.tc : Thread Cert.RefC2Ideal.nD Cert.RefC2Ideal.τ).loc Cert.RefC2Ideal.main_arg2)) (m ((c.tc : Thread Cert.RefC2Ideal.nD Cert.RefC2Ideal.τ).loc Cert.RefC2Ideal.main_arg3)) (m ((c.tc : Thread Cert.RefC2Ideal.nD Cert.RefC2Ideal.τ).loc Cert.RefC2Ideal.main_arg4)) (m ((c.tc : Thread Cert.RefC2Ideal.nD Cert.RefC2Ideal.τ).loc Cert.RefC2Ideal.main_arg5)) (m ((c.tc : Thread Cert.RefC2Ideal.nD Cert.RefC2Ideal.τ).loc Cert.RefC2Ideal.main_arg6))) = (fun _ => 1#1)

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_RefReadoutIdeal (m : (ℓ : Loc Cert.RefReadoutIdeal.nD Cert.RefReadoutIdeal.τ Cert.RefReadoutIdeal.sig) → Buf (Elt Ideal) ℓ) : Prop :=
  True

def Pre_Oscillators (m : (ℓ : Loc Cert.Oscillators.nD Cert.Oscillators.τ Cert.Oscillators.sig) → Buf (Elt Bits) ℓ) : Prop :=
  True

def Pre_OscillatorsIdeal (m : (ℓ : Loc Cert.OscillatorsIdeal.nD Cert.OscillatorsIdeal.τ Cert.OscillatorsIdeal.sig) → Buf (Elt Ideal) ℓ) : Prop :=
  True

def quiescent_ConvPre [hConvPre : Cert.ConvPre.Facts] : Prop :=
  ∀ (m : (ℓ : Loc Cert.ConvPre.nD Cert.ConvPre.τ Cert.ConvPre.sig) → Buf (Elt Bits) ℓ) (g : Dev Cert.ConvPre.nD → PrngReg), Pre_ConvPre m →
    θ_run (Cert.ConvPre.defs (F := Bits)) (onTc (τ := Cert.ConvPre.τ) (Cert.ConvPre.main (F := Bits))) ⟨m, fun _ => 0, g⟩ (fun r => (∀ c : Dev Cert.ConvPre.nD,
      r.2.mem ((c.tc : Thread Cert.ConvPre.nD Cert.ConvPre.τ).loc Cert.ConvPre.main_arg0) = m ((c.tc : Thread Cert.ConvPre.nD Cert.ConvPre.τ).loc Cert.ConvPre.main_arg0)
      ∧ r.2.mem ((c.tc : Thread Cert.ConvPre.nD Cert.ConvPre.τ).loc Cert.ConvPre.main_arg1) = m ((c.tc : Thread Cert.ConvPre.nD Cert.ConvPre.τ).loc Cert.ConvPre.main_arg1)
      ∧ r.2.mem ((c.tc : Thread Cert.ConvPre.nD Cert.ConvPre.τ).loc Cert.ConvPre.main_arg2) = m ((c.tc : Thread Cert.ConvPre.nD Cert.ConvPre.τ).loc Cert.ConvPre.main_arg2)
      ∧ r.2.mem ((c.tc : Thread Cert.ConvPre.nD Cert.ConvPre.τ).loc Cert.ConvPre.main_arg3) = m ((c.tc : Thread Cert.ConvPre.nD Cert.ConvPre.τ).loc Cert.ConvPre.main_arg3)
      ∧ r.2.mem ((c.tc : Thread Cert.ConvPre.nD Cert.ConvPre.τ).loc Cert.ConvPre.main_arg4) = m ((c.tc : Thread Cert.ConvPre.nD Cert.ConvPre.τ).loc Cert.ConvPre.main_arg4))
      ∧ r.2.sem = fun _ => 0)

def quiescent_ConvPreIdeal [hConvPreIdeal : Cert.ConvPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg), Pre_ConvPreIdeal m →
    θ_run (Cert.ConvPreIdeal.defs (F := Ideal)) (onTc (τ := Cert.ConvPreIdeal.τ) (Cert.ConvPreIdeal.main (F := Ideal))) ⟨m, fun _ => 0, g⟩ (fun r => (∀ c : Dev Cert.ConvPreIdeal.nD,
      r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
      ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
      ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
      ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3)
      ∧ r.2.mem ((c.tc : Thread Cert.ConvPreIdeal.nD Cert.ConvPreIdeal.τ).loc Cert.ConvPreIdeal.main_arg4) = m ((c.tc : Thread Cert.ConvPreIdeal.nD Cert.ConvPreIdeal.τ).loc Cert.ConvPreIdeal.main_arg4))
      ∧ r.2.sem = fun _ => 0)

def quiescent_RefPreIdeal [hRefPreIdeal : Cert.RefPreIdeal.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4))
      ∧ r.2.sem = fun _ => 0)

def quiescent_ConvC1 [hConvC1 : Cert.ConvC1.Facts] : Prop :=
  ∀ (m : (ℓ : Loc Cert.ConvC1.nD Cert.ConvC1.τ Cert.ConvC1.sig) → Buf (Elt Bits) ℓ) (g : Dev Cert.ConvC1.nD → PrngReg), Pre_ConvC1 m →
    θ_run (Cert.ConvC1.defs (F := Bits)) (onTc (τ := Cert.ConvC1.τ) (Cert.ConvC1.main (F := Bits))) ⟨m, fun _ => 0, g⟩ (fun r => (∀ c : Dev Cert.ConvC1.nD,
      r.2.mem ((c.tc : Thread Cert.ConvC1.nD Cert.ConvC1.τ).loc Cert.ConvC1.main_arg0) = m ((c.tc : Thread Cert.ConvC1.nD Cert.ConvC1.τ).loc Cert.ConvC1.main_arg0)
      ∧ r.2.mem ((c.tc : Thread Cert.ConvC1.nD Cert.ConvC1.τ).loc Cert.ConvC1.main_arg1) = m ((c.tc : Thread Cert.ConvC1.nD Cert.ConvC1.τ).loc Cert.ConvC1.main_arg1)
      ∧ r.2.mem ((c.tc : Thread Cert.ConvC1.nD Cert.ConvC1.τ).loc Cert.ConvC1.main_arg2) = m ((c.tc : Thread Cert.ConvC1.nD Cert.ConvC1.τ).loc Cert.ConvC1.main_arg2)
      ∧ r.2.mem ((c.tc : Thread Cert.ConvC1.nD Cert.ConvC1.τ).loc Cert.ConvC1.main_arg3) = m ((c.tc : Thread Cert.ConvC1.nD Cert.ConvC1.τ).loc Cert.ConvC1.main_arg3)
      ∧ r.2.mem ((c.tc : Thread Cert.ConvC1.nD Cert.ConvC1.τ).loc Cert.ConvC1.main_arg4) = m ((c.tc : Thread Cert.ConvC1.nD Cert.ConvC1.τ).loc Cert.ConvC1.main_arg4)
      ∧ r.2.mem ((c.tc : Thread Cert.ConvC1.nD Cert.ConvC1.τ).loc Cert.ConvC1.main_arg5) = m ((c.tc : Thread Cert.ConvC1.nD Cert.ConvC1.τ).loc Cert.ConvC1.main_arg5)
      ∧ r.2.mem ((c.tc : Thread Cert.ConvC1.nD Cert.ConvC1.τ).loc Cert.ConvC1.main_arg6) = m ((c.tc : Thread Cert.ConvC1.nD Cert.ConvC1.τ).loc Cert.ConvC1.main_arg6))
      ∧ r.2.sem = fun _ => 0)

def quiescent_ConvC1Ideal [hConvC1Ideal : Cert.ConvC1Ideal.Facts] : Prop :=
  ∀ (m : (ℓ : Loc Cert.ConvC1Ideal.nD Cert.ConvC1Ideal.τ Cert.ConvC1Ideal.sig) → Buf (Elt Ideal) ℓ) (g : Dev Cert.ConvC1Ideal.nD → PrngReg), Pre_ConvC1Ideal m →
    θ_run (Cert.ConvC1Ideal.defs (F := Ideal)) (onTc (τ := Cert.ConvC1Ideal.τ) (Cert.ConvC1Ideal.main (F := Ideal))) ⟨m, fun _ => 0, g⟩ (fun r => (∀ c : Dev Cert.ConvC1Ideal.nD,
      r.2.mem ((c.tc : Thread Cert.ConvC1Ideal.nD Cert.ConvC1Ideal.τ).loc Cert.ConvC1Ideal.main_arg0) = m ((c.tc : Thread Cert.ConvC1Ideal.nD Cert.ConvC1Ideal.τ).loc Cert.ConvC1Ideal.main_arg0)
      ∧ r.2.mem ((c.tc : Thread Cert.ConvC1Ideal.nD Cert.ConvC1Ideal.τ).loc Cert.ConvC1Ideal.main_arg1) = m ((c.tc : Thread Cert.ConvC1Ideal.nD Cert.ConvC1Ideal.τ).loc Cert.ConvC1Ideal.main_arg1)
      ∧ r.2.mem ((c.tc : Thread Cert.ConvC1Ideal.nD Cert.ConvC1Ideal.τ).loc Cert.ConvC1Ideal.main_arg2) = m ((c.tc : Thread Cert.ConvC1Ideal.nD Cert.ConvC1Ideal.τ).loc Cert.ConvC1Ideal.main_arg2)
      ∧ r.2.mem ((c.tc : Thread Cert.ConvC1Ideal.nD Cert.ConvC1Ideal.τ).loc Cert.ConvC1Ideal.main_arg3) = m ((c.tc : Thread Cert.ConvC1Ideal.nD Cert.ConvC1Ideal.τ).loc Cert.ConvC1Ideal.main_arg3)
      ∧ r.2.mem ((c.tc : Thread Cert.ConvC1Ideal.nD Cert.ConvC1Ideal.τ).loc Cert.ConvC1Ideal.main_arg4) = m ((c.tc : Thread Cert.ConvC1Ideal.nD Cert.ConvC1Ideal.τ).loc Cert.ConvC1Ideal.main_arg4)
      ∧ r.2.mem ((c.tc : Thread Cert.ConvC1Ideal.nD Cert.ConvC1Ideal.τ).loc Cert.ConvC1Ideal.main_arg5) = m ((c.tc : Thread Cert.ConvC1Ideal.nD Cert.ConvC1Ideal.τ).loc Cert.ConvC1Ideal.main_arg5)
      ∧ r.2.mem ((c.tc : Thread Cert.ConvC1Ideal.nD Cert.ConvC1Ideal.τ).loc Cert.ConvC1Ideal.main_arg6) = m ((c.tc : Thread Cert.ConvC1Ideal.nD Cert.ConvC1Ideal.τ).loc Cert.ConvC1Ideal.main_arg6))
      ∧ r.2.sem = fun _ => 0)

def quiescent_ConvC1Ideal_pre_padding_inactive [hConvC1Ideal : Cert.ConvC1Ideal.Facts] [hPre_padding_inactive : Cert.Pre_padding_inactive.Facts] : Prop :=
  ∀ (m : (ℓ : Loc Cert.ConvC1Ideal.nD Cert.ConvC1Ideal.τ Cert.ConvC1Ideal.sig) → Buf (Elt Ideal) ℓ) (g : Dev Cert.ConvC1Ideal.nD → PrngReg), Pre_ConvC1Ideal_padding_inactive m →
    θ_run (Cert.ConvC1Ideal.defs (F := Ideal)) (onTc (τ := Cert.ConvC1Ideal.τ) (Cert.ConvC1Ideal.main (F := Ideal))) ⟨m, fun _ => 0, g⟩ (fun r => (∀ c : Dev Cert.ConvC1Ideal.nD,
      r.2.mem ((c.tc : Thread Cert.ConvC1Ideal.nD Cert.ConvC1Ideal.τ).loc Cert.ConvC1Ideal.main_arg0) = m ((c.tc : Thread Cert.ConvC1Ideal.nD Cert.ConvC1Ideal.τ).loc Cert.ConvC1Ideal.main_arg0)
      ∧ r.2.mem ((c.tc : Thread Cert.ConvC1Ideal.nD Cert.ConvC1Ideal.τ).loc Cert.ConvC1Ideal.main_arg1) = m ((c.tc : Thread Cert.ConvC1Ideal.nD Cert.ConvC1Ideal.τ).loc Cert.ConvC1Ideal.main_arg1)
      ∧ r.2.mem ((c.tc : Thread Cert.ConvC1Ideal.nD Cert.ConvC1Ideal.τ).loc Cert.ConvC1Ideal.main_arg2) = m ((c.tc : Thread Cert.ConvC1Ideal.nD Cert.ConvC1Ideal.τ).loc Cert.ConvC1Ideal.main_arg2)
      ∧ r.2.mem ((c.tc : Thread Cert.ConvC1Ideal.nD Cert.ConvC1Ideal.τ).loc Cert.ConvC1Ideal.main_arg3) = m ((c.tc : Thread Cert.ConvC1Ideal.nD Cert.ConvC1Ideal.τ).loc Cert.ConvC1Ideal.main_arg3)
      ∧ r.2.mem ((c.tc : Thread Cert.ConvC1Ideal.nD Cert.ConvC1Ideal.τ).loc Cert.ConvC1Ideal.main_arg4) = m ((c.tc : Thread Cert.ConvC1Ideal.nD Cert.ConvC1Ideal.τ).loc Cert.ConvC1Ideal.main_arg4)
      ∧ r.2.mem ((c.tc : Thread Cert.ConvC1Ideal.nD Cert.ConvC1Ideal.τ).loc Cert.ConvC1Ideal.main_arg5) = m ((c.tc : Thread Cert.ConvC1Ideal.nD Cert.ConvC1Ideal.τ).loc Cert.ConvC1Ideal.main_arg5)
      ∧ r.2.mem ((c.tc : Thread Cert.ConvC1Ideal.nD Cert.ConvC1Ideal.τ).loc Cert.ConvC1Ideal.main_arg6) = m ((c.tc : Thread Cert.ConvC1Ideal.nD Cert.ConvC1Ideal.τ).loc Cert.ConvC1Ideal.main_arg6))
      ∧ r.2.sem = fun _ => 0)

def quiescent_RefC1Ideal [hRefC1Ideal : Cert.RefC1Ideal.Facts] : Prop :=
  ∀ (m : (ℓ : Loc Cert.RefC1Ideal.nD Cert.RefC1Ideal.τ Cert.RefC1Ideal.sig) → Buf (Elt Ideal) ℓ) (g : Dev Cert.RefC1Ideal.nD → PrngReg), Pre_RefC1Ideal m →
    θ_run (Cert.RefC1Ideal.defs (F := Ideal)) (onTc (τ := Cert.RefC1Ideal.τ) (Cert.RefC1Ideal.main (F := Ideal))) ⟨m, fun _ => 0, g⟩ (fun r => (∀ c : Dev Cert.RefC1Ideal.nD,
      r.2.mem ((c.tc : Thread Cert.RefC1Ideal.nD Cert.RefC1Ideal.τ).loc Cert.RefC1Ideal.main_arg0) = m ((c.tc : Thread Cert.RefC1Ideal.nD Cert.RefC1Ideal.τ).loc Cert.RefC1Ideal.main_arg0)
      ∧ r.2.mem ((c.tc : Thread Cert.RefC1Ideal.nD Cert.RefC1Ideal.τ).loc Cert.RefC1Ideal.main_arg1) = m ((c.tc : Thread Cert.RefC1Ideal.nD Cert.RefC1Ideal.τ).loc Cert.RefC1Ideal.main_arg1)
      ∧ r.2.mem ((c.tc : Thread Cert.RefC1Ideal.nD Cert.RefC1Ideal.τ).loc Cert.RefC1Ideal.main_arg2) = m ((c.tc : Thread Cert.RefC1Ideal.nD Cert.RefC1Ideal.τ).loc Cert.RefC1Ideal.main_arg2)
      ∧ r.2.mem ((c.tc : Thread Cert.RefC1Ideal.nD Cert.RefC1Ideal.τ).loc Cert.RefC1Ideal.main_arg3) = m ((c.tc : Thread Cert.RefC1Ideal.nD Cert.RefC1Ideal.τ).loc Cert.RefC1Ideal.main_arg3)
      ∧ r.2.mem ((c.tc : Thread Cert.RefC1Ideal.nD Cert.RefC1Ideal.τ).loc Cert.RefC1Ideal.main_arg4) = m ((c.tc : Thread Cert.RefC1Ideal.nD Cert.RefC1Ideal.τ).loc Cert.RefC1Ideal.main_arg4)
      ∧ r.2.mem ((c.tc : Thread Cert.RefC1Ideal.nD Cert.RefC1Ideal.τ).loc Cert.RefC1Ideal.main_arg5) = m ((c.tc : Thread Cert.RefC1Ideal.nD Cert.RefC1Ideal.τ).loc Cert.RefC1Ideal.main_arg5)
      ∧ r.2.mem ((c.tc : Thread Cert.RefC1Ideal.nD Cert.RefC1Ideal.τ).loc Cert.RefC1Ideal.main_arg6) = m ((c.tc : Thread Cert.RefC1Ideal.nD Cert.RefC1Ideal.τ).loc Cert.RefC1Ideal.main_arg6))
      ∧ r.2.sem = fun _ => 0)

def quiescent_RefC1Ideal_pre_padding_inactive [hRefC1Ideal : Cert.RefC1Ideal.Facts] [hPre_padding_inactive : Cert.Pre_padding_inactive.Facts] : Prop :=
  ∀ (m : (ℓ : Loc Cert.RefC1Ideal.nD Cert.RefC1Ideal.τ Cert.RefC1Ideal.sig) → Buf (Elt Ideal) ℓ) (g : Dev Cert.RefC1Ideal.nD → PrngReg), Pre_RefC1Ideal_padding_inactive m →
    θ_run (Cert.RefC1Ideal.defs (F := Ideal)) (onTc (τ := Cert.RefC1Ideal.τ) (Cert.RefC1Ideal.main (F := Ideal))) ⟨m, fun _ => 0, g⟩ (fun r => (∀ c : Dev Cert.RefC1Ideal.nD,
      r.2.mem ((c.tc : Thread Cert.RefC1Ideal.nD Cert.RefC1Ideal.τ).loc Cert.RefC1Ideal.main_arg0) = m ((c.tc : Thread Cert.RefC1Ideal.nD Cert.RefC1Ideal.τ).loc Cert.RefC1Ideal.main_arg0)
      ∧ r.2.mem ((c.tc : Thread Cert.RefC1Ideal.nD Cert.RefC1Ideal.τ).loc Cert.RefC1Ideal.main_arg1) = m ((c.tc : Thread Cert.RefC1Ideal.nD Cert.RefC1Ideal.τ).loc Cert.RefC1Ideal.main_arg1)
      ∧ r.2.mem ((c.tc : Thread Cert.RefC1Ideal.nD Cert.RefC1Ideal.τ).loc Cert.RefC1Ideal.main_arg2) = m ((c.tc : Thread Cert.RefC1Ideal.nD Cert.RefC1Ideal.τ).loc Cert.RefC1Ideal.main_arg2)
      ∧ r.2.mem ((c.tc : Thread Cert.RefC1Ideal.nD Cert.RefC1Ideal.τ).loc Cert.RefC1Ideal.main_arg3) = m ((c.tc : Thread Cert.RefC1Ideal.nD Cert.RefC1Ideal.τ).loc Cert.RefC1Ideal.main_arg3)
      ∧ r.2.mem ((c.tc : Thread Cert.RefC1Ideal.nD Cert.RefC1Ideal.τ).loc Cert.RefC1Ideal.main_arg4) = m ((c.tc : Thread Cert.RefC1Ideal.nD Cert.RefC1Ideal.τ).loc Cert.RefC1Ideal.main_arg4)
      ∧ r.2.mem ((c.tc : Thread Cert.RefC1Ideal.nD Cert.RefC1Ideal.τ).loc Cert.RefC1Ideal.main_arg5) = m ((c.tc : Thread Cert.RefC1Ideal.nD Cert.RefC1Ideal.τ).loc Cert.RefC1Ideal.main_arg5)
      ∧ r.2.mem ((c.tc : Thread Cert.RefC1Ideal.nD Cert.RefC1Ideal.τ).loc Cert.RefC1Ideal.main_arg6) = m ((c.tc : Thread Cert.RefC1Ideal.nD Cert.RefC1Ideal.τ).loc Cert.RefC1Ideal.main_arg6))
      ∧ r.2.sem = fun _ => 0)

def quiescent_ConvC2 [hConvC2 : Cert.ConvC2.Facts] : Prop :=
  ∀ (m : (ℓ : Loc Cert.ConvC2.nD Cert.ConvC2.τ Cert.ConvC2.sig) → Buf (Elt Bits) ℓ) (g : Dev Cert.ConvC2.nD → PrngReg), Pre_ConvC2 m →
    θ_run (Cert.ConvC2.defs (F := Bits)) (onTc (τ := Cert.ConvC2.τ) (Cert.ConvC2.main (F := Bits))) ⟨m, fun _ => 0, g⟩ (fun r => (∀ c : Dev Cert.ConvC2.nD,
      r.2.mem ((c.tc : Thread Cert.ConvC2.nD Cert.ConvC2.τ).loc Cert.ConvC2.main_arg0) = m ((c.tc : Thread Cert.ConvC2.nD Cert.ConvC2.τ).loc Cert.ConvC2.main_arg0)
      ∧ r.2.mem ((c.tc : Thread Cert.ConvC2.nD Cert.ConvC2.τ).loc Cert.ConvC2.main_arg1) = m ((c.tc : Thread Cert.ConvC2.nD Cert.ConvC2.τ).loc Cert.ConvC2.main_arg1)
      ∧ r.2.mem ((c.tc : Thread Cert.ConvC2.nD Cert.ConvC2.τ).loc Cert.ConvC2.main_arg2) = m ((c.tc : Thread Cert.ConvC2.nD Cert.ConvC2.τ).loc Cert.ConvC2.main_arg2)
      ∧ r.2.mem ((c.tc : Thread Cert.ConvC2.nD Cert.ConvC2.τ).loc Cert.ConvC2.main_arg3) = m ((c.tc : Thread Cert.ConvC2.nD Cert.ConvC2.τ).loc Cert.ConvC2.main_arg3)
      ∧ r.2.mem ((c.tc : Thread Cert.ConvC2.nD Cert.ConvC2.τ).loc Cert.ConvC2.main_arg4) = m ((c.tc : Thread Cert.ConvC2.nD Cert.ConvC2.τ).loc Cert.ConvC2.main_arg4)
      ∧ r.2.mem ((c.tc : Thread Cert.ConvC2.nD Cert.ConvC2.τ).loc Cert.ConvC2.main_arg5) = m ((c.tc : Thread Cert.ConvC2.nD Cert.ConvC2.τ).loc Cert.ConvC2.main_arg5)
      ∧ r.2.mem ((c.tc : Thread Cert.ConvC2.nD Cert.ConvC2.τ).loc Cert.ConvC2.main_arg6) = m ((c.tc : Thread Cert.ConvC2.nD Cert.ConvC2.τ).loc Cert.ConvC2.main_arg6))
      ∧ r.2.sem = fun _ => 0)

def quiescent_ConvC2Ideal [hConvC2Ideal : Cert.ConvC2Ideal.Facts] : Prop :=
  ∀ (m : (ℓ : Loc Cert.ConvC2Ideal.nD Cert.ConvC2Ideal.τ Cert.ConvC2Ideal.sig) → Buf (Elt Ideal) ℓ) (g : Dev Cert.ConvC2Ideal.nD → PrngReg), Pre_ConvC2Ideal m →
    θ_run (Cert.ConvC2Ideal.defs (F := Ideal)) (onTc (τ := Cert.ConvC2Ideal.τ) (Cert.ConvC2Ideal.main (F := Ideal))) ⟨m, fun _ => 0, g⟩ (fun r => (∀ c : Dev Cert.ConvC2Ideal.nD,
      r.2.mem ((c.tc : Thread Cert.ConvC2Ideal.nD Cert.ConvC2Ideal.τ).loc Cert.ConvC2Ideal.main_arg0) = m ((c.tc : Thread Cert.ConvC2Ideal.nD Cert.ConvC2Ideal.τ).loc Cert.ConvC2Ideal.main_arg0)
      ∧ r.2.mem ((c.tc : Thread Cert.ConvC2Ideal.nD Cert.ConvC2Ideal.τ).loc Cert.ConvC2Ideal.main_arg1) = m ((c.tc : Thread Cert.ConvC2Ideal.nD Cert.ConvC2Ideal.τ).loc Cert.ConvC2Ideal.main_arg1)
      ∧ r.2.mem ((c.tc : Thread Cert.ConvC2Ideal.nD Cert.ConvC2Ideal.τ).loc Cert.ConvC2Ideal.main_arg2) = m ((c.tc : Thread Cert.ConvC2Ideal.nD Cert.ConvC2Ideal.τ).loc Cert.ConvC2Ideal.main_arg2)
      ∧ r.2.mem ((c.tc : Thread Cert.ConvC2Ideal.nD Cert.ConvC2Ideal.τ).loc Cert.ConvC2Ideal.main_arg3) = m ((c.tc : Thread Cert.ConvC2Ideal.nD Cert.ConvC2Ideal.τ).loc Cert.ConvC2Ideal.main_arg3)
      ∧ r.2.mem ((c.tc : Thread Cert.ConvC2Ideal.nD Cert.ConvC2Ideal.τ).loc Cert.ConvC2Ideal.main_arg4) = m ((c.tc : Thread Cert.ConvC2Ideal.nD Cert.ConvC2Ideal.τ).loc Cert.ConvC2Ideal.main_arg4)
      ∧ r.2.mem ((c.tc : Thread Cert.ConvC2Ideal.nD Cert.ConvC2Ideal.τ).loc Cert.ConvC2Ideal.main_arg5) = m ((c.tc : Thread Cert.ConvC2Ideal.nD Cert.ConvC2Ideal.τ).loc Cert.ConvC2Ideal.main_arg5)
      ∧ r.2.mem ((c.tc : Thread Cert.ConvC2Ideal.nD Cert.ConvC2Ideal.τ).loc Cert.ConvC2Ideal.main_arg6) = m ((c.tc : Thread Cert.ConvC2Ideal.nD Cert.ConvC2Ideal.τ).loc Cert.ConvC2Ideal.main_arg6))
      ∧ r.2.sem = fun _ => 0)

def quiescent_ConvC2Ideal_pre_padding_inactive_c2 [hConvC2Ideal : Cert.ConvC2Ideal.Facts] [hPre_padding_inactive_c2 : Cert.Pre_padding_inactive_c2.Facts] : Prop :=
  ∀ (m : (ℓ : Loc Cert.ConvC2Ideal.nD Cert.ConvC2Ideal.τ Cert.ConvC2Ideal.sig) → Buf (Elt Ideal) ℓ) (g : Dev Cert.ConvC2Ideal.nD → PrngReg), Pre_ConvC2Ideal_padding_inactive_c2 m →
    θ_run (Cert.ConvC2Ideal.defs (F := Ideal)) (onTc (τ := Cert.ConvC2Ideal.τ) (Cert.ConvC2Ideal.main (F := Ideal))) ⟨m, fun _ => 0, g⟩ (fun r => (∀ c : Dev Cert.ConvC2Ideal.nD,
      r.2.mem ((c.tc : Thread Cert.ConvC2Ideal.nD Cert.ConvC2Ideal.τ).loc Cert.ConvC2Ideal.main_arg0) = m ((c.tc : Thread Cert.ConvC2Ideal.nD Cert.ConvC2Ideal.τ).loc Cert.ConvC2Ideal.main_arg0)
      ∧ r.2.mem ((c.tc : Thread Cert.ConvC2Ideal.nD Cert.ConvC2Ideal.τ).loc Cert.ConvC2Ideal.main_arg1) = m ((c.tc : Thread Cert.ConvC2Ideal.nD Cert.ConvC2Ideal.τ).loc Cert.ConvC2Ideal.main_arg1)
      ∧ r.2.mem ((c.tc : Thread Cert.ConvC2Ideal.nD Cert.ConvC2Ideal.τ).loc Cert.ConvC2Ideal.main_arg2) = m ((c.tc : Thread Cert.ConvC2Ideal.nD Cert.ConvC2Ideal.τ).loc Cert.ConvC2Ideal.main_arg2)
      ∧ r.2.mem ((c.tc : Thread Cert.ConvC2Ideal.nD Cert.ConvC2Ideal.τ).loc Cert.ConvC2Ideal.main_arg3) = m ((c.tc : Thread Cert.ConvC2Ideal.nD Cert.ConvC2Ideal.τ).loc Cert.ConvC2Ideal.main_arg3)
      ∧ r.2.mem ((c.tc : Thread Cert.ConvC2Ideal.nD Cert.ConvC2Ideal.τ).loc Cert.ConvC2Ideal.main_arg4) = m ((c.tc : Thread Cert.ConvC2Ideal.nD Cert.ConvC2Ideal.τ).loc Cert.ConvC2Ideal.main_arg4)
      ∧ r.2.mem ((c.tc : Thread Cert.ConvC2Ideal.nD Cert.ConvC2Ideal.τ).loc Cert.ConvC2Ideal.main_arg5) = m ((c.tc : Thread Cert.ConvC2Ideal.nD Cert.ConvC2Ideal.τ).loc Cert.ConvC2Ideal.main_arg5)
      ∧ r.2.mem ((c.tc : Thread Cert.ConvC2Ideal.nD Cert.ConvC2Ideal.τ).loc Cert.ConvC2Ideal.main_arg6) = m ((c.tc : Thread Cert.ConvC2Ideal.nD Cert.ConvC2Ideal.τ).loc Cert.ConvC2Ideal.main_arg6))
      ∧ r.2.sem = fun _ => 0)

def quiescent_RefC2Ideal [hRefC2Ideal : Cert.RefC2Ideal.Facts] : Prop :=
  ∀ (m : (ℓ : Loc Cert.RefC2Ideal.nD Cert.RefC2Ideal.τ Cert.RefC2Ideal.sig) → Buf (Elt Ideal) ℓ) (g : Dev Cert.RefC2Ideal.nD → PrngReg), Pre_RefC2Ideal m →
    θ_run (Cert.RefC2Ideal.defs (F := Ideal)) (onTc (τ := Cert.RefC2Ideal.τ) (Cert.RefC2Ideal.main (F := Ideal))) ⟨m, fun _ => 0, g⟩ (fun r => (∀ c : Dev Cert.RefC2Ideal.nD,
      r.2.mem ((c.tc : Thread Cert.RefC2Ideal.nD Cert.RefC2Ideal.τ).loc Cert.RefC2Ideal.main_arg0) = m ((c.tc : Thread Cert.RefC2Ideal.nD Cert.RefC2Ideal.τ).loc Cert.RefC2Ideal.main_arg0)
      ∧ r.2.mem ((c.tc : Thread Cert.RefC2Ideal.nD Cert.RefC2Ideal.τ).loc Cert.RefC2Ideal.main_arg1) = m ((c.tc : Thread Cert.RefC2Ideal.nD Cert.RefC2Ideal.τ).loc Cert.RefC2Ideal.main_arg1)
      ∧ r.2.mem ((c.tc : Thread Cert.RefC2Ideal.nD Cert.RefC2Ideal.τ).loc Cert.RefC2Ideal.main_arg2) = m ((c.tc : Thread Cert.RefC2Ideal.nD Cert.RefC2Ideal.τ).loc Cert.RefC2Ideal.main_arg2)
      ∧ r.2.mem ((c.tc : Thread Cert.RefC2Ideal.nD Cert.RefC2Ideal.τ).loc Cert.RefC2Ideal.main_arg3) = m ((c.tc : Thread Cert.RefC2Ideal.nD Cert.RefC2Ideal.τ).loc Cert.RefC2Ideal.main_arg3)
      ∧ r.2.mem ((c.tc : Thread Cert.RefC2Ideal.nD Cert.RefC2Ideal.τ).loc Cert.RefC2Ideal.main_arg4) = m ((c.tc : Thread Cert.RefC2Ideal.nD Cert.RefC2Ideal.τ).loc Cert.RefC2Ideal.main_arg4)
      ∧ r.2.mem ((c.tc : Thread Cert.RefC2Ideal.nD Cert.RefC2Ideal.τ).loc Cert.RefC2Ideal.main_arg5) = m ((c.tc : Thread Cert.RefC2Ideal.nD Cert.RefC2Ideal.τ).loc Cert.RefC2Ideal.main_arg5)
      ∧ r.2.mem ((c.tc : Thread Cert.RefC2Ideal.nD Cert.RefC2Ideal.τ).loc Cert.RefC2Ideal.main_arg6) = m ((c.tc : Thread Cert.RefC2Ideal.nD Cert.RefC2Ideal.τ).loc Cert.RefC2Ideal.main_arg6))
      ∧ r.2.sem = fun _ => 0)

def quiescent_RefC2Ideal_pre_padding_inactive_c2 [hRefC2Ideal : Cert.RefC2Ideal.Facts] [hPre_padding_inactive_c2 : Cert.Pre_padding_inactive_c2.Facts] : Prop :=
  ∀ (m : (ℓ : Loc Cert.RefC2Ideal.nD Cert.RefC2Ideal.τ Cert.RefC2Ideal.sig) → Buf (Elt Ideal) ℓ) (g : Dev Cert.RefC2Ideal.nD → PrngReg), Pre_RefC2Ideal_padding_inactive_c2 m →
    θ_run (Cert.RefC2Ideal.defs (F := Ideal)) (onTc (τ := Cert.RefC2Ideal.τ) (Cert.RefC2Ideal.main (F := Ideal))) ⟨m, fun _ => 0, g⟩ (fun r => (∀ c : Dev Cert.RefC2Ideal.nD,
      r.2.mem ((c.tc : Thread Cert.RefC2Ideal.nD Cert.RefC2Ideal.τ).loc Cert.RefC2Ideal.main_arg0) = m ((c.tc : Thread Cert.RefC2Ideal.nD Cert.RefC2Ideal.τ).loc Cert.RefC2Ideal.main_arg0)
      ∧ r.2.mem ((c.tc : Thread Cert.RefC2Ideal.nD Cert.RefC2Ideal.τ).loc Cert.RefC2Ideal.main_arg1) = m ((c.tc : Thread Cert.RefC2Ideal.nD Cert.RefC2Ideal.τ).loc Cert.RefC2Ideal.main_arg1)
      ∧ r.2.mem ((c.tc : Thread Cert.RefC2Ideal.nD Cert.RefC2Ideal.τ).loc Cert.RefC2Ideal.main_arg2) = m ((c.tc : Thread Cert.RefC2Ideal.nD Cert.RefC2Ideal.τ).loc Cert.RefC2Ideal.main_arg2)
      ∧ r.2.mem ((c.tc : Thread Cert.RefC2Ideal.nD Cert.RefC2Ideal.τ).loc Cert.RefC2Ideal.main_arg3) = m ((c.tc : Thread Cert.RefC2Ideal.nD Cert.RefC2Ideal.τ).loc Cert.RefC2Ideal.main_arg3)
      ∧ r.2.mem ((c.tc : Thread Cert.RefC2Ideal.nD Cert.RefC2Ideal.τ).loc Cert.RefC2Ideal.main_arg4) = m ((c.tc : Thread Cert.RefC2Ideal.nD Cert.RefC2Ideal.τ).loc Cert.RefC2Ideal.main_arg4)
      ∧ r.2.mem ((c.tc : Thread Cert.RefC2Ideal.nD Cert.RefC2Ideal.τ).loc Cert.RefC2Ideal.main_arg5) = m ((c.tc : Thread Cert.RefC2Ideal.nD Cert.RefC2Ideal.τ).loc Cert.RefC2Ideal.main_arg5)
      ∧ r.2.mem ((c.tc : Thread Cert.RefC2Ideal.nD Cert.RefC2Ideal.τ).loc Cert.RefC2Ideal.main_arg6) = m ((c.tc : Thread Cert.RefC2Ideal.nD Cert.RefC2Ideal.τ).loc Cert.RefC2Ideal.main_arg6))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5)
      ∧ r.2.mem ((c.tc : Thread Cert.Readout.nD Cert.Readout.τ).loc Cert.Readout.main_arg6) = m ((c.tc : Thread Cert.Readout.nD Cert.Readout.τ).loc Cert.Readout.main_arg6))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
      ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6))
      ∧ r.2.sem = fun _ => 0)

def quiescent_RefReadoutIdeal [hRefReadoutIdeal : Cert.RefReadoutIdeal.Facts] : Prop :=
  ∀ (m : (ℓ : Loc Cert.RefReadoutIdeal.nD Cert.RefReadoutIdeal.τ Cert.RefReadoutIdeal.sig) → Buf (Elt Ideal) ℓ) (g : Dev Cert.RefReadoutIdeal.nD → PrngReg), Pre_RefReadoutIdeal m →
    θ_run (Cert.RefReadoutIdeal.defs (F := Ideal)) (onTc (τ := Cert.RefReadoutIdeal.τ) (Cert.RefReadoutIdeal.main (F := Ideal))) ⟨m, fun _ => 0, g⟩ (fun r => (∀ c : Dev Cert.RefReadoutIdeal.nD,
      r.2.mem ((c.tc : Thread Cert.RefReadoutIdeal.nD Cert.RefReadoutIdeal.τ).loc Cert.RefReadoutIdeal.main_arg0) = m ((c.tc : Thread Cert.RefReadoutIdeal.nD Cert.RefReadoutIdeal.τ).loc Cert.RefReadoutIdeal.main_arg0)
      ∧ r.2.mem ((c.tc : Thread Cert.RefReadoutIdeal.nD Cert.RefReadoutIdeal.τ).loc Cert.RefReadoutIdeal.main_arg1) = m ((c.tc : Thread Cert.RefReadoutIdeal.nD Cert.RefReadoutIdeal.τ).loc Cert.RefReadoutIdeal.main_arg1)
      ∧ r.2.mem ((c.tc : Thread Cert.RefReadoutIdeal.nD Cert.RefReadoutIdeal.τ).loc Cert.RefReadoutIdeal.main_arg2) = m ((c.tc : Thread Cert.RefReadoutIdeal.nD Cert.RefReadoutIdeal.τ).loc Cert.RefReadoutIdeal.main_arg2)
      ∧ r.2.mem ((c.tc : Thread Cert.RefReadoutIdeal.nD Cert.RefReadoutIdeal.τ).loc Cert.RefReadoutIdeal.main_arg3) = m ((c.tc : Thread Cert.RefReadoutIdeal.nD Cert.RefReadoutIdeal.τ).loc Cert.RefReadoutIdeal.main_arg3)
      ∧ r.2.mem ((c.tc : Thread Cert.RefReadoutIdeal.nD Cert.RefReadoutIdeal.τ).loc Cert.RefReadoutIdeal.main_arg4) = m ((c.tc : Thread Cert.RefReadoutIdeal.nD Cert.RefReadoutIdeal.τ).loc Cert.RefReadoutIdeal.main_arg4)
      ∧ r.2.mem ((c.tc : Thread Cert.RefReadoutIdeal.nD Cert.RefReadoutIdeal.τ).loc Cert.RefReadoutIdeal.main_arg5) = m ((c.tc : Thread Cert.RefReadoutIdeal.nD Cert.RefReadoutIdeal.τ).loc Cert.RefReadoutIdeal.main_arg5)
      ∧ r.2.mem ((c.tc : Thread Cert.RefReadoutIdeal.nD Cert.RefReadoutIdeal.τ).loc Cert.RefReadoutIdeal.main_arg6) = m ((c.tc : Thread Cert.RefReadoutIdeal.nD Cert.RefReadoutIdeal.τ).loc Cert.RefReadoutIdeal.main_arg6))
      ∧ r.2.sem = fun _ => 0)

def quiescent_Oscillators [hOscillators : Cert.Oscillators.Facts] : Prop :=
  ∀ (m : (ℓ : Loc Cert.Oscillators.nD Cert.Oscillators.τ Cert.Oscillators.sig) → Buf (Elt Bits) ℓ) (g : Dev Cert.Oscillators.nD → PrngReg), Pre_Oscillators m →
    θ_run (Cert.Oscillators.defs (F := Bits)) (onTc (τ := Cert.Oscillators.τ) (Cert.Oscillators.main (F := Bits))) ⟨m, fun _ => 0, g⟩ (fun r => (∀ c : Dev Cert.Oscillators.nD,
      r.2.mem ((c.tc : Thread Cert.Oscillators.nD Cert.Oscillators.τ).loc Cert.Oscillators.main_arg0) = m ((c.tc : Thread Cert.Oscillators.nD Cert.Oscillators.τ).loc Cert.Oscillators.main_arg0)
      ∧ r.2.mem ((c.tc : Thread Cert.Oscillators.nD Cert.Oscillators.τ).loc Cert.Oscillators.main_arg1) = m ((c.tc : Thread Cert.Oscillators.nD Cert.Oscillators.τ).loc Cert.Oscillators.main_arg1)
      ∧ r.2.mem ((c.tc : Thread Cert.Oscillators.nD Cert.Oscillators.τ).loc Cert.Oscillators.main_arg2) = m ((c.tc : Thread Cert.Oscillators.nD Cert.Oscillators.τ).loc Cert.Oscillators.main_arg2)
      ∧ r.2.mem ((c.tc : Thread Cert.Oscillators.nD Cert.Oscillators.τ).loc Cert.Oscillators.main_arg3) = m ((c.tc : Thread Cert.Oscillators.nD Cert.Oscillators.τ).loc Cert.Oscillators.main_arg3)
      ∧ r.2.mem ((c.tc : Thread Cert.Oscillators.nD Cert.Oscillators.τ).loc Cert.Oscillators.main_arg4) = m ((c.tc : Thread Cert.Oscillators.nD Cert.Oscillators.τ).loc Cert.Oscillators.main_arg4))
      ∧ r.2.sem = fun _ => 0)

def quiescent_OscillatorsIdeal [hOscillatorsIdeal : Cert.OscillatorsIdeal.Facts] : Prop :=
  ∀ (m : (ℓ : Loc Cert.OscillatorsIdeal.nD Cert.OscillatorsIdeal.τ Cert.OscillatorsIdeal.sig) → Buf (Elt Ideal) ℓ) (g : Dev Cert.OscillatorsIdeal.nD → PrngReg), Pre_OscillatorsIdeal m →
    θ_run (Cert.OscillatorsIdeal.defs (F := Ideal)) (onTc (τ := Cert.OscillatorsIdeal.τ) (Cert.OscillatorsIdeal.main (F := Ideal))) ⟨m, fun _ => 0, g⟩ (fun r => (∀ c : Dev Cert.OscillatorsIdeal.nD,
      r.2.mem ((c.tc : Thread Cert.OscillatorsIdeal.nD Cert.OscillatorsIdeal.τ).loc Cert.OscillatorsIdeal.main_arg0) = m ((c.tc : Thread Cert.OscillatorsIdeal.nD Cert.OscillatorsIdeal.τ).loc Cert.OscillatorsIdeal.main_arg0)
      ∧ r.2.mem ((c.tc : Thread Cert.OscillatorsIdeal.nD Cert.OscillatorsIdeal.τ).loc Cert.OscillatorsIdeal.main_arg1) = m ((c.tc : Thread Cert.OscillatorsIdeal.nD Cert.OscillatorsIdeal.τ).loc Cert.OscillatorsIdeal.main_arg1)
      ∧ r.2.mem ((c.tc : Thread Cert.OscillatorsIdeal.nD Cert.OscillatorsIdeal.τ).loc Cert.OscillatorsIdeal.main_arg2) = m ((c.tc : Thread Cert.OscillatorsIdeal.nD Cert.OscillatorsIdeal.τ).loc Cert.OscillatorsIdeal.main_arg2)
      ∧ r.2.mem ((c.tc : Thread Cert.OscillatorsIdeal.nD Cert.OscillatorsIdeal.τ).loc Cert.OscillatorsIdeal.main_arg3) = m ((c.tc : Thread Cert.OscillatorsIdeal.nD Cert.OscillatorsIdeal.τ).loc Cert.OscillatorsIdeal.main_arg3)
      ∧ r.2.mem ((c.tc : Thread Cert.OscillatorsIdeal.nD Cert.OscillatorsIdeal.τ).loc Cert.OscillatorsIdeal.main_arg4) = m ((c.tc : Thread Cert.OscillatorsIdeal.nD Cert.OscillatorsIdeal.τ).loc Cert.OscillatorsIdeal.main_arg4))
      ∧ r.2.sem = fun _ => 0)

def preserves_ConvPre_ConvPreIdeal : Prop :=
  True

def algebraic_ConvPreIdeal_RefPreIdeal [hConvPreIdeal : Cert.ConvPreIdeal.Facts] [hRefPreIdeal : Cert.RefPreIdeal.Facts] : Prop :=
  ∀ (m : (ℓ : Loc Cert.ConvPreIdeal.nD Cert.ConvPreIdeal.τ Cert.ConvPreIdeal.sig) → Buf (Elt Ideal) ℓ) (g : Dev Cert.ConvPreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_ConvPreIdeal m →
    (∀ c : Dev Cert.ConvPreIdeal.nD,
      m' ((c.tc : Thread Cert.RefPreIdeal.nD Cert.RefPreIdeal.τ).loc Cert.RefPreIdeal.main_arg0) = m ((c.tc : Thread Cert.ConvPreIdeal.nD Cert.ConvPreIdeal.τ).loc Cert.ConvPreIdeal.main_arg0)
      ∧ m' ((c.tc : Thread Cert.RefPreIdeal.nD Cert.RefPreIdeal.τ).loc Cert.RefPreIdeal.main_arg1) = m ((c.tc : Thread Cert.ConvPreIdeal.nD Cert.ConvPreIdeal.τ).loc Cert.ConvPreIdeal.main_arg1)
      ∧ m' ((c.tc : Thread Cert.RefPreIdeal.nD Cert.RefPreIdeal.τ).loc Cert.RefPreIdeal.main_arg2) = m ((c.tc : Thread Cert.ConvPreIdeal.nD Cert.ConvPreIdeal.τ).loc Cert.ConvPreIdeal.main_arg2)
      ∧ m' ((c.tc : Thread Cert.RefPreIdeal.nD Cert.RefPreIdeal.τ).loc Cert.RefPreIdeal.main_arg3) = m ((c.tc : Thread Cert.ConvPreIdeal.nD Cert.ConvPreIdeal.τ).loc Cert.ConvPreIdeal.main_arg3)
      ∧ m' ((c.tc : Thread Cert.RefPreIdeal.nD Cert.RefPreIdeal.τ).loc Cert.RefPreIdeal.main_arg4) = m ((c.tc : Thread Cert.ConvPreIdeal.nD Cert.ConvPreIdeal.τ).loc Cert.ConvPreIdeal.main_arg4)) →
    ∃ (v0 : (c : Dev Cert.ConvPreIdeal.nD) → Buf (Elt Ideal) ((c.tc : Thread Cert.ConvPreIdeal.nD Cert.ConvPreIdeal.τ).loc Cert.ConvPreIdeal.main_v12_0)) (v1 : (c : Dev Cert.ConvPreIdeal.nD) → Buf (Elt Ideal) ((c.tc : Thread Cert.ConvPreIdeal.nD Cert.ConvPreIdeal.τ).loc Cert.ConvPreIdeal.main_v12_1)) (v2 : (c : Dev Cert.ConvPreIdeal.nD) → Buf (Elt Ideal) ((c.tc : Thread Cert.ConvPreIdeal.nD Cert.ConvPreIdeal.τ).loc Cert.ConvPreIdeal.main_v12_2)),
      θ_run (Cert.ConvPreIdeal.defs (F := Ideal)) (onTc (τ := Cert.ConvPreIdeal.τ) (Cert.ConvPreIdeal.main (F := Ideal))) ⟨m, fun _ => 0, g⟩ (fun r => ∀ c : Dev Cert.ConvPreIdeal.nD,
          r.2.mem ((c.tc : Thread Cert.ConvPreIdeal.nD Cert.ConvPreIdeal.τ).loc Cert.ConvPreIdeal.main_v12_0) = v0 c
          ∧ r.2.mem ((c.tc : Thread Cert.ConvPreIdeal.nD Cert.ConvPreIdeal.τ).loc Cert.ConvPreIdeal.main_v12_1) = v1 c
          ∧ r.2.mem ((c.tc : Thread Cert.ConvPreIdeal.nD Cert.ConvPreIdeal.τ).loc Cert.ConvPreIdeal.main_v12_2) = v2 c
          ∧ r.2.mem ((c.tc : Thread Cert.ConvPreIdeal.nD Cert.ConvPreIdeal.τ).loc Cert.ConvPreIdeal.main_arg0) = m ((c.tc : Thread Cert.ConvPreIdeal.nD Cert.ConvPreIdeal.τ).loc Cert.ConvPreIdeal.main_arg0)
          ∧ r.2.mem ((c.tc : Thread Cert.ConvPreIdeal.nD Cert.ConvPreIdeal.τ).loc Cert.ConvPreIdeal.main_arg1) = m ((c.tc : Thread Cert.ConvPreIdeal.nD Cert.ConvPreIdeal.τ).loc Cert.ConvPreIdeal.main_arg1)
          ∧ r.2.mem ((c.tc : Thread Cert.ConvPreIdeal.nD Cert.ConvPreIdeal.τ).loc Cert.ConvPreIdeal.main_arg2) = m ((c.tc : Thread Cert.ConvPreIdeal.nD Cert.ConvPreIdeal.τ).loc Cert.ConvPreIdeal.main_arg2)
          ∧ r.2.mem ((c.tc : Thread Cert.ConvPreIdeal.nD Cert.ConvPreIdeal.τ).loc Cert.ConvPreIdeal.main_arg3) = m ((c.tc : Thread Cert.ConvPreIdeal.nD Cert.ConvPreIdeal.τ).loc Cert.ConvPreIdeal.main_arg3)
          ∧ r.2.mem ((c.tc : Thread Cert.ConvPreIdeal.nD Cert.ConvPreIdeal.τ).loc Cert.ConvPreIdeal.main_arg4) = m ((c.tc : Thread Cert.ConvPreIdeal.nD Cert.ConvPreIdeal.τ).loc Cert.ConvPreIdeal.main_arg4))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v140) = v0 c
          ∧ r.2.mem ((c.tc : Thread Cert.RefPreIdeal.nD Cert.RefPreIdeal.τ).loc Cert.RefPreIdeal.main_v281) = v1 c
          ∧ r.2.mem ((c.tc : Thread Cert.RefPreIdeal.nD Cert.RefPreIdeal.τ).loc Cert.RefPreIdeal.main_v293) = v2 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2)
          ∧ r.2.mem ((c.tc : Thread Cert.RefPreIdeal.nD Cert.RefPreIdeal.τ).loc Cert.RefPreIdeal.main_arg3) = m' ((c.tc : Thread Cert.RefPreIdeal.nD Cert.RefPreIdeal.τ).loc Cert.RefPreIdeal.main_arg3)
          ∧ r.2.mem ((c.tc : Thread Cert.RefPreIdeal.nD Cert.RefPreIdeal.τ).loc Cert.RefPreIdeal.main_arg4) = m' ((c.tc : Thread Cert.RefPreIdeal.nD Cert.RefPreIdeal.τ).loc Cert.RefPreIdeal.main_arg4))

def preserves_ConvC1_ConvC1Ideal : Prop :=
  True

def algebraic_ConvC1Ideal_RefC1Ideal_pre_padding_inactive [hConvC1Ideal : Cert.ConvC1Ideal.Facts] [hRefC1Ideal : Cert.RefC1Ideal.Facts] [hPre_padding_inactive : Cert.Pre_padding_inactive.Facts] : Prop :=
  ∀ (m : (ℓ : Loc Cert.ConvC1Ideal.nD Cert.ConvC1Ideal.τ Cert.ConvC1Ideal.sig) → Buf (Elt Ideal) ℓ) (g : Dev Cert.ConvC1Ideal.nD → PrngReg)
    (m' : (ℓ : Loc Cert.RefC1Ideal.nD Cert.RefC1Ideal.τ Cert.RefC1Ideal.sig) → Buf (Elt Ideal) ℓ) (g' : Dev Cert.RefC1Ideal.nD → PrngReg), Pre_ConvC1Ideal_padding_inactive m →
    (∀ c : Dev Cert.ConvC1Ideal.nD,
      m' ((c.tc : Thread Cert.RefC1Ideal.nD Cert.RefC1Ideal.τ).loc Cert.RefC1Ideal.main_arg0) = m ((c.tc : Thread Cert.ConvC1Ideal.nD Cert.ConvC1Ideal.τ).loc Cert.ConvC1Ideal.main_arg0)
      ∧ m' ((c.tc : Thread Cert.RefC1Ideal.nD Cert.RefC1Ideal.τ).loc Cert.RefC1Ideal.main_arg1) = m ((c.tc : Thread Cert.ConvC1Ideal.nD Cert.ConvC1Ideal.τ).loc Cert.ConvC1Ideal.main_arg1)
      ∧ m' ((c.tc : Thread Cert.RefC1Ideal.nD Cert.RefC1Ideal.τ).loc Cert.RefC1Ideal.main_arg2) = m ((c.tc : Thread Cert.ConvC1Ideal.nD Cert.ConvC1Ideal.τ).loc Cert.ConvC1Ideal.main_arg2)
      ∧ m' ((c.tc : Thread Cert.RefC1Ideal.nD Cert.RefC1Ideal.τ).loc Cert.RefC1Ideal.main_arg3) = m ((c.tc : Thread Cert.ConvC1Ideal.nD Cert.ConvC1Ideal.τ).loc Cert.ConvC1Ideal.main_arg3)
      ∧ m' ((c.tc : Thread Cert.RefC1Ideal.nD Cert.RefC1Ideal.τ).loc Cert.RefC1Ideal.main_arg4) = m ((c.tc : Thread Cert.ConvC1Ideal.nD Cert.ConvC1Ideal.τ).loc Cert.ConvC1Ideal.main_arg4)
      ∧ m' ((c.tc : Thread Cert.RefC1Ideal.nD Cert.RefC1Ideal.τ).loc Cert.RefC1Ideal.main_arg5) = m ((c.tc : Thread Cert.ConvC1Ideal.nD Cert.ConvC1Ideal.τ).loc Cert.ConvC1Ideal.main_arg5)
      ∧ m' ((c.tc : Thread Cert.RefC1Ideal.nD Cert.RefC1Ideal.τ).loc Cert.RefC1Ideal.main_arg6) = m ((c.tc : Thread Cert.ConvC1Ideal.nD Cert.ConvC1Ideal.τ).loc Cert.ConvC1Ideal.main_arg6)) →
    ∃ (v0 : (c : Dev Cert.ConvC1Ideal.nD) → Buf (Elt Ideal) ((c.tc : Thread Cert.ConvC1Ideal.nD Cert.ConvC1Ideal.τ).loc Cert.ConvC1Ideal.main_v10_0)) (v1 : (c : Dev Cert.ConvC1Ideal.nD) → Buf (Elt Ideal) ((c.tc : Thread Cert.ConvC1Ideal.nD Cert.ConvC1Ideal.τ).loc Cert.ConvC1Ideal.main_v10_1)) (v2 : (c : Dev Cert.ConvC1Ideal.nD) → Buf (Elt Ideal) ((c.tc : Thread Cert.ConvC1Ideal.nD Cert.ConvC1Ideal.τ).loc Cert.ConvC1Ideal.main_v10_2)),
      θ_run (Cert.ConvC1Ideal.defs (F := Ideal)) (onTc (τ := Cert.ConvC1Ideal.τ) (Cert.ConvC1Ideal.main (F := Ideal))) ⟨m, fun _ => 0, g⟩ (fun r => ∀ c : Dev Cert.ConvC1Ideal.nD,
          r.2.mem ((c.tc : Thread Cert.ConvC1Ideal.nD Cert.ConvC1Ideal.τ).loc Cert.ConvC1Ideal.main_v10_0) = v0 c
          ∧ r.2.mem ((c.tc : Thread Cert.ConvC1Ideal.nD Cert.ConvC1Ideal.τ).loc Cert.ConvC1Ideal.main_v10_1) = v1 c
          ∧ r.2.mem ((c.tc : Thread Cert.ConvC1Ideal.nD Cert.ConvC1Ideal.τ).loc Cert.ConvC1Ideal.main_v10_2) = v2 c
          ∧ r.2.mem ((c.tc : Thread Cert.ConvC1Ideal.nD Cert.ConvC1Ideal.τ).loc Cert.ConvC1Ideal.main_arg0) = m ((c.tc : Thread Cert.ConvC1Ideal.nD Cert.ConvC1Ideal.τ).loc Cert.ConvC1Ideal.main_arg0)
          ∧ r.2.mem ((c.tc : Thread Cert.ConvC1Ideal.nD Cert.ConvC1Ideal.τ).loc Cert.ConvC1Ideal.main_arg1) = m ((c.tc : Thread Cert.ConvC1Ideal.nD Cert.ConvC1Ideal.τ).loc Cert.ConvC1Ideal.main_arg1)
          ∧ r.2.mem ((c.tc : Thread Cert.ConvC1Ideal.nD Cert.ConvC1Ideal.τ).loc Cert.ConvC1Ideal.main_arg2) = m ((c.tc : Thread Cert.ConvC1Ideal.nD Cert.ConvC1Ideal.τ).loc Cert.ConvC1Ideal.main_arg2)
          ∧ r.2.mem ((c.tc : Thread Cert.ConvC1Ideal.nD Cert.ConvC1Ideal.τ).loc Cert.ConvC1Ideal.main_arg3) = m ((c.tc : Thread Cert.ConvC1Ideal.nD Cert.ConvC1Ideal.τ).loc Cert.ConvC1Ideal.main_arg3)
          ∧ r.2.mem ((c.tc : Thread Cert.ConvC1Ideal.nD Cert.ConvC1Ideal.τ).loc Cert.ConvC1Ideal.main_arg4) = m ((c.tc : Thread Cert.ConvC1Ideal.nD Cert.ConvC1Ideal.τ).loc Cert.ConvC1Ideal.main_arg4)
          ∧ r.2.mem ((c.tc : Thread Cert.ConvC1Ideal.nD Cert.ConvC1Ideal.τ).loc Cert.ConvC1Ideal.main_arg5) = m ((c.tc : Thread Cert.ConvC1Ideal.nD Cert.ConvC1Ideal.τ).loc Cert.ConvC1Ideal.main_arg5)
          ∧ r.2.mem ((c.tc : Thread Cert.ConvC1Ideal.nD Cert.ConvC1Ideal.τ).loc Cert.ConvC1Ideal.main_arg6) = m ((c.tc : Thread Cert.ConvC1Ideal.nD Cert.ConvC1Ideal.τ).loc Cert.ConvC1Ideal.main_arg6))
      ∧ θ_run (Cert.RefC1Ideal.defs (F := Ideal)) (onTc (τ := Cert.RefC1Ideal.τ) (Cert.RefC1Ideal.main (F := Ideal))) ⟨m', fun _ => 0, g'⟩ (fun r => ∀ c : Dev Cert.RefC1Ideal.nD,
          r.2.mem ((c.tc : Thread Cert.RefC1Ideal.nD Cert.RefC1Ideal.τ).loc Cert.RefC1Ideal.main_v159) = v0 c
          ∧ r.2.mem ((c.tc : Thread Cert.RefC1Ideal.nD Cert.RefC1Ideal.τ).loc Cert.RefC1Ideal.main_v300) = v1 c
          ∧ r.2.mem ((c.tc : Thread Cert.RefC1Ideal.nD Cert.RefC1Ideal.τ).loc Cert.RefC1Ideal.main_v312) = v2 c
          ∧ r.2.mem ((c.tc : Thread Cert.RefC1Ideal.nD Cert.RefC1Ideal.τ).loc Cert.RefC1Ideal.main_arg0) = m' ((c.tc : Thread Cert.RefC1Ideal.nD Cert.RefC1Ideal.τ).loc Cert.RefC1Ideal.main_arg0)
          ∧ r.2.mem ((c.tc : Thread Cert.RefC1Ideal.nD Cert.RefC1Ideal.τ).loc Cert.RefC1Ideal.main_arg1) = m' ((c.tc : Thread Cert.RefC1Ideal.nD Cert.RefC1Ideal.τ).loc Cert.RefC1Ideal.main_arg1)
          ∧ r.2.mem ((c.tc : Thread Cert.RefC1Ideal.nD Cert.RefC1Ideal.τ).loc Cert.RefC1Ideal.main_arg2) = m' ((c.tc : Thread Cert.RefC1Ideal.nD Cert.RefC1Ideal.τ).loc Cert.RefC1Ideal.main_arg2)
          ∧ r.2.mem ((c.tc : Thread Cert.RefC1Ideal.nD Cert.RefC1Ideal.τ).loc Cert.RefC1Ideal.main_arg3) = m' ((c.tc : Thread Cert.RefC1Ideal.nD Cert.RefC1Ideal.τ).loc Cert.RefC1Ideal.main_arg3)
          ∧ r.2.mem ((c.tc : Thread Cert.RefC1Ideal.nD Cert.RefC1Ideal.τ).loc Cert.RefC1Ideal.main_arg4) = m' ((c.tc : Thread Cert.RefC1Ideal.nD Cert.RefC1Ideal.τ).loc Cert.RefC1Ideal.main_arg4)
          ∧ r.2.mem ((c.tc : Thread Cert.RefC1Ideal.nD Cert.RefC1Ideal.τ).loc Cert.RefC1Ideal.main_arg5) = m' ((c.tc : Thread Cert.RefC1Ideal.nD Cert.RefC1Ideal.τ).loc Cert.RefC1Ideal.main_arg5)
          ∧ r.2.mem ((c.tc : Thread Cert.RefC1Ideal.nD Cert.RefC1Ideal.τ).loc Cert.RefC1Ideal.main_arg6) = m' ((c.tc : Thread Cert.RefC1Ideal.nD Cert.RefC1Ideal.τ).loc Cert.RefC1Ideal.main_arg6))

def preserves_ConvC2_ConvC2Ideal : Prop :=
  True

def algebraic_ConvC2Ideal_RefC2Ideal_pre_padding_inactive_c2 [hConvC2Ideal : Cert.ConvC2Ideal.Facts] [hRefC2Ideal : Cert.RefC2Ideal.Facts] [hPre_padding_inactive_c2 : Cert.Pre_padding_inactive_c2.Facts] : Prop :=
  ∀ (m : (ℓ : Loc Cert.ConvC2Ideal.nD Cert.ConvC2Ideal.τ Cert.ConvC2Ideal.sig) → Buf (Elt Ideal) ℓ) (g : Dev Cert.ConvC2Ideal.nD → PrngReg)
    (m' : (ℓ : Loc Cert.RefC2Ideal.nD Cert.RefC2Ideal.τ Cert.RefC2Ideal.sig) → Buf (Elt Ideal) ℓ) (g' : Dev Cert.RefC2Ideal.nD → PrngReg), Pre_ConvC2Ideal_padding_inactive_c2 m →
    (∀ c : Dev Cert.ConvC2Ideal.nD,
      m' ((c.tc : Thread Cert.RefC2Ideal.nD Cert.RefC2Ideal.τ).loc Cert.RefC2Ideal.main_arg0) = m ((c.tc : Thread Cert.ConvC2Ideal.nD Cert.ConvC2Ideal.τ).loc Cert.ConvC2Ideal.main_arg0)
      ∧ m' ((c.tc : Thread Cert.RefC2Ideal.nD Cert.RefC2Ideal.τ).loc Cert.RefC2Ideal.main_arg1) = m ((c.tc : Thread Cert.ConvC2Ideal.nD Cert.ConvC2Ideal.τ).loc Cert.ConvC2Ideal.main_arg1)
      ∧ m' ((c.tc : Thread Cert.RefC2Ideal.nD Cert.RefC2Ideal.τ).loc Cert.RefC2Ideal.main_arg2) = m ((c.tc : Thread Cert.ConvC2Ideal.nD Cert.ConvC2Ideal.τ).loc Cert.ConvC2Ideal.main_arg2)
      ∧ m' ((c.tc : Thread Cert.RefC2Ideal.nD Cert.RefC2Ideal.τ).loc Cert.RefC2Ideal.main_arg3) = m ((c.tc : Thread Cert.ConvC2Ideal.nD Cert.ConvC2Ideal.τ).loc Cert.ConvC2Ideal.main_arg3)
      ∧ m' ((c.tc : Thread Cert.RefC2Ideal.nD Cert.RefC2Ideal.τ).loc Cert.RefC2Ideal.main_arg4) = m ((c.tc : Thread Cert.ConvC2Ideal.nD Cert.ConvC2Ideal.τ).loc Cert.ConvC2Ideal.main_arg4)
      ∧ m' ((c.tc : Thread Cert.RefC2Ideal.nD Cert.RefC2Ideal.τ).loc Cert.RefC2Ideal.main_arg5) = m ((c.tc : Thread Cert.ConvC2Ideal.nD Cert.ConvC2Ideal.τ).loc Cert.ConvC2Ideal.main_arg5)
      ∧ m' ((c.tc : Thread Cert.RefC2Ideal.nD Cert.RefC2Ideal.τ).loc Cert.RefC2Ideal.main_arg6) = m ((c.tc : Thread Cert.ConvC2Ideal.nD Cert.ConvC2Ideal.τ).loc Cert.ConvC2Ideal.main_arg6)) →
    ∃ (v0 : (c : Dev Cert.ConvC2Ideal.nD) → Buf (Elt Ideal) ((c.tc : Thread Cert.ConvC2Ideal.nD Cert.ConvC2Ideal.τ).loc Cert.ConvC2Ideal.main_v10_0)) (v1 : (c : Dev Cert.ConvC2Ideal.nD) → Buf (Elt Ideal) ((c.tc : Thread Cert.ConvC2Ideal.nD Cert.ConvC2Ideal.τ).loc Cert.ConvC2Ideal.main_v10_1)) (v2 : (c : Dev Cert.ConvC2Ideal.nD) → Buf (Elt Ideal) ((c.tc : Thread Cert.ConvC2Ideal.nD Cert.ConvC2Ideal.τ).loc Cert.ConvC2Ideal.main_v10_2)),
      θ_run (Cert.ConvC2Ideal.defs (F := Ideal)) (onTc (τ := Cert.ConvC2Ideal.τ) (Cert.ConvC2Ideal.main (F := Ideal))) ⟨m, fun _ => 0, g⟩ (fun r => ∀ c : Dev Cert.ConvC2Ideal.nD,
          r.2.mem ((c.tc : Thread Cert.ConvC2Ideal.nD Cert.ConvC2Ideal.τ).loc Cert.ConvC2Ideal.main_v10_0) = v0 c
          ∧ r.2.mem ((c.tc : Thread Cert.ConvC2Ideal.nD Cert.ConvC2Ideal.τ).loc Cert.ConvC2Ideal.main_v10_1) = v1 c
          ∧ r.2.mem ((c.tc : Thread Cert.ConvC2Ideal.nD Cert.ConvC2Ideal.τ).loc Cert.ConvC2Ideal.main_v10_2) = v2 c
          ∧ r.2.mem ((c.tc : Thread Cert.ConvC2Ideal.nD Cert.ConvC2Ideal.τ).loc Cert.ConvC2Ideal.main_arg0) = m ((c.tc : Thread Cert.ConvC2Ideal.nD Cert.ConvC2Ideal.τ).loc Cert.ConvC2Ideal.main_arg0)
          ∧ r.2.mem ((c.tc : Thread Cert.ConvC2Ideal.nD Cert.ConvC2Ideal.τ).loc Cert.ConvC2Ideal.main_arg1) = m ((c.tc : Thread Cert.ConvC2Ideal.nD Cert.ConvC2Ideal.τ).loc Cert.ConvC2Ideal.main_arg1)
          ∧ r.2.mem ((c.tc : Thread Cert.ConvC2Ideal.nD Cert.ConvC2Ideal.τ).loc Cert.ConvC2Ideal.main_arg2) = m ((c.tc : Thread Cert.ConvC2Ideal.nD Cert.ConvC2Ideal.τ).loc Cert.ConvC2Ideal.main_arg2)
          ∧ r.2.mem ((c.tc : Thread Cert.ConvC2Ideal.nD Cert.ConvC2Ideal.τ).loc Cert.ConvC2Ideal.main_arg3) = m ((c.tc : Thread Cert.ConvC2Ideal.nD Cert.ConvC2Ideal.τ).loc Cert.ConvC2Ideal.main_arg3)
          ∧ r.2.mem ((c.tc : Thread Cert.ConvC2Ideal.nD Cert.ConvC2Ideal.τ).loc Cert.ConvC2Ideal.main_arg4) = m ((c.tc : Thread Cert.ConvC2Ideal.nD Cert.ConvC2Ideal.τ).loc Cert.ConvC2Ideal.main_arg4)
          ∧ r.2.mem ((c.tc : Thread Cert.ConvC2Ideal.nD Cert.ConvC2Ideal.τ).loc Cert.ConvC2Ideal.main_arg5) = m ((c.tc : Thread Cert.ConvC2Ideal.nD Cert.ConvC2Ideal.τ).loc Cert.ConvC2Ideal.main_arg5)
          ∧ r.2.mem ((c.tc : Thread Cert.ConvC2Ideal.nD Cert.ConvC2Ideal.τ).loc Cert.ConvC2Ideal.main_arg6) = m ((c.tc : Thread Cert.ConvC2Ideal.nD Cert.ConvC2Ideal.τ).loc Cert.ConvC2Ideal.main_arg6))
      ∧ θ_run (Cert.RefC2Ideal.defs (F := Ideal)) (onTc (τ := Cert.RefC2Ideal.τ) (Cert.RefC2Ideal.main (F := Ideal))) ⟨m', fun _ => 0, g'⟩ (fun r => ∀ c : Dev Cert.RefC2Ideal.nD,
          r.2.mem ((c.tc : Thread Cert.RefC2Ideal.nD Cert.RefC2Ideal.τ).loc Cert.RefC2Ideal.main_v159) = v0 c
          ∧ r.2.mem ((c.tc : Thread Cert.RefC2Ideal.nD Cert.RefC2Ideal.τ).loc Cert.RefC2Ideal.main_v300) = v1 c
          ∧ r.2.mem ((c.tc : Thread Cert.RefC2Ideal.nD Cert.RefC2Ideal.τ).loc Cert.RefC2Ideal.main_v312) = v2 c
          ∧ r.2.mem ((c.tc : Thread Cert.RefC2Ideal.nD Cert.RefC2Ideal.τ).loc Cert.RefC2Ideal.main_arg0) = m' ((c.tc : Thread Cert.RefC2Ideal.nD Cert.RefC2Ideal.τ).loc Cert.RefC2Ideal.main_arg0)
          ∧ r.2.mem ((c.tc : Thread Cert.RefC2Ideal.nD Cert.RefC2Ideal.τ).loc Cert.RefC2Ideal.main_arg1) = m' ((c.tc : Thread Cert.RefC2Ideal.nD Cert.RefC2Ideal.τ).loc Cert.RefC2Ideal.main_arg1)
          ∧ r.2.mem ((c.tc : Thread Cert.RefC2Ideal.nD Cert.RefC2Ideal.τ).loc Cert.RefC2Ideal.main_arg2) = m' ((c.tc : Thread Cert.RefC2Ideal.nD Cert.RefC2Ideal.τ).loc Cert.RefC2Ideal.main_arg2)
          ∧ r.2.mem ((c.tc : Thread Cert.RefC2Ideal.nD Cert.RefC2Ideal.τ).loc Cert.RefC2Ideal.main_arg3) = m' ((c.tc : Thread Cert.RefC2Ideal.nD Cert.RefC2Ideal.τ).loc Cert.RefC2Ideal.main_arg3)
          ∧ r.2.mem ((c.tc : Thread Cert.RefC2Ideal.nD Cert.RefC2Ideal.τ).loc Cert.RefC2Ideal.main_arg4) = m' ((c.tc : Thread Cert.RefC2Ideal.nD Cert.RefC2Ideal.τ).loc Cert.RefC2Ideal.main_arg4)
          ∧ r.2.mem ((c.tc : Thread Cert.RefC2Ideal.nD Cert.RefC2Ideal.τ).loc Cert.RefC2Ideal.main_arg5) = m' ((c.tc : Thread Cert.RefC2Ideal.nD Cert.RefC2Ideal.τ).loc Cert.RefC2Ideal.main_arg5)
          ∧ r.2.mem ((c.tc : Thread Cert.RefC2Ideal.nD Cert.RefC2Ideal.τ).loc Cert.RefC2Ideal.main_arg6) = m' ((c.tc : Thread Cert.RefC2Ideal.nD Cert.RefC2Ideal.τ).loc Cert.RefC2Ideal.main_arg6))

def preserves_Readout_ReadoutIdeal : Prop :=
  True

def algebraic_ReadoutIdeal_RefReadoutIdeal [hReadoutIdeal : Cert.ReadoutIdeal.Facts] [hRefReadoutIdeal : Cert.RefReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.RefReadoutIdeal.nD Cert.RefReadoutIdeal.τ Cert.RefReadoutIdeal.sig) → Buf (Elt Ideal) ℓ) (g' : Dev Cert.RefReadoutIdeal.nD → PrngReg), Pre_ReadoutIdeal m →
    (∀ c : Dev Cert.ReadoutIdeal.nD,
      m' ((c.tc : Thread Cert.RefReadoutIdeal.nD Cert.RefReadoutIdeal.τ).loc Cert.RefReadoutIdeal.main_arg0) = m ((c.tc : Thread Cert.ReadoutIdeal.nD Cert.ReadoutIdeal.τ).loc Cert.ReadoutIdeal.main_arg0)
      ∧ m' ((c.tc : Thread Cert.RefReadoutIdeal.nD Cert.RefReadoutIdeal.τ).loc Cert.RefReadoutIdeal.main_arg1) = m ((c.tc : Thread Cert.ReadoutIdeal.nD Cert.ReadoutIdeal.τ).loc Cert.ReadoutIdeal.main_arg1)
      ∧ m' ((c.tc : Thread Cert.RefReadoutIdeal.nD Cert.RefReadoutIdeal.τ).loc Cert.RefReadoutIdeal.main_arg2) = m ((c.tc : Thread Cert.ReadoutIdeal.nD Cert.ReadoutIdeal.τ).loc Cert.ReadoutIdeal.main_arg2)
      ∧ m' ((c.tc : Thread Cert.RefReadoutIdeal.nD Cert.RefReadoutIdeal.τ).loc Cert.RefReadoutIdeal.main_arg3) = m ((c.tc : Thread Cert.ReadoutIdeal.nD Cert.ReadoutIdeal.τ).loc Cert.ReadoutIdeal.main_arg3)
      ∧ m' ((c.tc : Thread Cert.RefReadoutIdeal.nD Cert.RefReadoutIdeal.τ).loc Cert.RefReadoutIdeal.main_arg4) = m ((c.tc : Thread Cert.ReadoutIdeal.nD Cert.ReadoutIdeal.τ).loc Cert.ReadoutIdeal.main_arg4)
      ∧ m' ((c.tc : Thread Cert.RefReadoutIdeal.nD Cert.RefReadoutIdeal.τ).loc Cert.RefReadoutIdeal.main_arg5) = m ((c.tc : Thread Cert.ReadoutIdeal.nD Cert.ReadoutIdeal.τ).loc Cert.ReadoutIdeal.main_arg5)
      ∧ m' ((c.tc : Thread Cert.RefReadoutIdeal.nD Cert.RefReadoutIdeal.τ).loc Cert.RefReadoutIdeal.main_arg6) = m ((c.tc : Thread Cert.ReadoutIdeal.nD Cert.ReadoutIdeal.τ).loc Cert.ReadoutIdeal.main_arg6)) →
    ∃ (v0 : (c : Dev Cert.ReadoutIdeal.nD) → Buf (Elt Ideal) ((c.tc : Thread Cert.ReadoutIdeal.nD Cert.ReadoutIdeal.τ).loc Cert.ReadoutIdeal.main_v10)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v10) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5)
          ∧ r.2.mem ((c.tc : Thread Cert.ReadoutIdeal.nD Cert.ReadoutIdeal.τ).loc Cert.ReadoutIdeal.main_arg6) = m ((c.tc : Thread Cert.ReadoutIdeal.nD Cert.ReadoutIdeal.τ).loc Cert.ReadoutIdeal.main_arg6))
      ∧ θ_run (Cert.RefReadoutIdeal.defs (F := Ideal)) (onTc (τ := Cert.RefReadoutIdeal.τ) (Cert.RefReadoutIdeal.main (F := Ideal))) ⟨m', fun _ => 0, g'⟩ (fun r => ∀ c : Dev Cert.RefReadoutIdeal.nD,
          r.2.mem ((c.tc : Thread Cert.RefReadoutIdeal.nD Cert.RefReadoutIdeal.τ).loc Cert.RefReadoutIdeal.main_v37) = v0 c
          ∧ r.2.mem ((c.tc : Thread Cert.RefReadoutIdeal.nD Cert.RefReadoutIdeal.τ).loc Cert.RefReadoutIdeal.main_arg0) = m' ((c.tc : Thread Cert.RefReadoutIdeal.nD Cert.RefReadoutIdeal.τ).loc Cert.RefReadoutIdeal.main_arg0)
          ∧ r.2.mem ((c.tc : Thread Cert.RefReadoutIdeal.nD Cert.RefReadoutIdeal.τ).loc Cert.RefReadoutIdeal.main_arg1) = m' ((c.tc : Thread Cert.RefReadoutIdeal.nD Cert.RefReadoutIdeal.τ).loc Cert.RefReadoutIdeal.main_arg1)
          ∧ r.2.mem ((c.tc : Thread Cert.RefReadoutIdeal.nD Cert.RefReadoutIdeal.τ).loc Cert.RefReadoutIdeal.main_arg2) = m' ((c.tc : Thread Cert.RefReadoutIdeal.nD Cert.RefReadoutIdeal.τ).loc Cert.RefReadoutIdeal.main_arg2)
          ∧ r.2.mem ((c.tc : Thread Cert.RefReadoutIdeal.nD Cert.RefReadoutIdeal.τ).loc Cert.RefReadoutIdeal.main_arg3) = m' ((c.tc : Thread Cert.RefReadoutIdeal.nD Cert.RefReadoutIdeal.τ).loc Cert.RefReadoutIdeal.main_arg3)
          ∧ r.2.mem ((c.tc : Thread Cert.RefReadoutIdeal.nD Cert.RefReadoutIdeal.τ).loc Cert.RefReadoutIdeal.main_arg4) = m' ((c.tc : Thread Cert.RefReadoutIdeal.nD Cert.RefReadoutIdeal.τ).loc Cert.RefReadoutIdeal.main_arg4)
          ∧ r.2.mem ((c.tc : Thread Cert.RefReadoutIdeal.nD Cert.RefReadoutIdeal.τ).loc Cert.RefReadoutIdeal.main_arg5) = m' ((c.tc : Thread Cert.RefReadoutIdeal.nD Cert.RefReadoutIdeal.τ).loc Cert.RefReadoutIdeal.main_arg5)
          ∧ r.2.mem ((c.tc : Thread Cert.RefReadoutIdeal.nD Cert.RefReadoutIdeal.τ).loc Cert.RefReadoutIdeal.main_arg6) = m' ((c.tc : Thread Cert.RefReadoutIdeal.nD Cert.RefReadoutIdeal.τ).loc Cert.RefReadoutIdeal.main_arg6))

def preserves_Oscillators_OscillatorsIdeal : Prop :=
  True

def Claim : Prop :=
  ∃ (hConvPre : Cert.ConvPre.Facts) (hConvPreIdeal : Cert.ConvPreIdeal.Facts) (hRefPreIdeal : Cert.RefPreIdeal.Facts) (hConvC1 : Cert.ConvC1.Facts) (hConvC1Ideal : Cert.ConvC1Ideal.Facts) (hRefC1Ideal : Cert.RefC1Ideal.Facts) (hConvC2 : Cert.ConvC2.Facts) (hConvC2Ideal : Cert.ConvC2Ideal.Facts) (hRefC2Ideal : Cert.RefC2Ideal.Facts) (hReadout : Cert.Readout.Facts) (hReadoutIdeal : Cert.ReadoutIdeal.Facts) (hRefReadoutIdeal : Cert.RefReadoutIdeal.Facts) (hOscillators : Cert.Oscillators.Facts) (hOscillatorsIdeal : Cert.OscillatorsIdeal.Facts) (hPre_padding_inactive : Cert.Pre_padding_inactive.Facts) (hPre_padding_inactive_c2 : Cert.Pre_padding_inactive_c2.Facts),
    quiescent_ConvPre (hConvPre := hConvPre)
    ∧ quiescent_ConvPreIdeal (hConvPreIdeal := hConvPreIdeal)
    ∧ quiescent_RefPreIdeal (hRefPreIdeal := hRefPreIdeal)
    ∧ quiescent_ConvC1 (hConvC1 := hConvC1)
    ∧ quiescent_ConvC1Ideal (hConvC1Ideal := hConvC1Ideal)
    ∧ quiescent_ConvC1Ideal_pre_padding_inactive (hConvC1Ideal := hConvC1Ideal) (hPre_padding_inactive := hPre_padding_inactive)
    ∧ quiescent_RefC1Ideal (hRefC1Ideal := hRefC1Ideal)
    ∧ quiescent_RefC1Ideal_pre_padding_inactive (hRefC1Ideal := hRefC1Ideal) (hPre_padding_inactive := hPre_padding_inactive)
    ∧ quiescent_ConvC2 (hConvC2 := hConvC2)
    ∧ quiescent_ConvC2Ideal (hConvC2Ideal := hConvC2Ideal)
    ∧ quiescent_ConvC2Ideal_pre_padding_inactive_c2 (hConvC2Ideal := hConvC2Ideal) (hPre_padding_inactive_c2 := hPre_padding_inactive_c2)
    ∧ quiescent_RefC2Ideal (hRefC2Ideal := hRefC2Ideal)
    ∧ quiescent_RefC2Ideal_pre_padding_inactive_c2 (hRefC2Ideal := hRefC2Ideal) (hPre_padding_inactive_c2 := hPre_padding_inactive_c2)
    ∧ quiescent_Readout (hReadout := hReadout)
    ∧ quiescent_ReadoutIdeal (hReadoutIdeal := hReadoutIdeal)
    ∧ quiescent_RefReadoutIdeal (hRefReadoutIdeal := hRefReadoutIdeal)
    ∧ quiescent_Oscillators (hOscillators := hOscillators)
    ∧ quiescent_OscillatorsIdeal (hOscillatorsIdeal := hOscillatorsIdeal)
    ∧ preserves_ConvPre_ConvPreIdeal
    ∧ algebraic_ConvPreIdeal_RefPreIdeal (hConvPreIdeal := hConvPreIdeal) (hRefPreIdeal := hRefPreIdeal)
    ∧ preserves_ConvC1_ConvC1Ideal
    ∧ algebraic_ConvC1Ideal_RefC1Ideal_pre_padding_inactive (hConvC1Ideal := hConvC1Ideal) (hRefC1Ideal := hRefC1Ideal) (hPre_padding_inactive := hPre_padding_inactive)
    ∧ preserves_ConvC2_ConvC2Ideal
    ∧ algebraic_ConvC2Ideal_RefC2Ideal_pre_padding_inactive_c2 (hConvC2Ideal := hConvC2Ideal) (hRefC2Ideal := hRefC2Ideal) (hPre_padding_inactive_c2 := hPre_padding_inactive_c2)
    ∧ preserves_Readout_ReadoutIdeal
    ∧ algebraic_ReadoutIdeal_RefReadoutIdeal (hReadoutIdeal := hReadoutIdeal) (hRefReadoutIdeal := hRefReadoutIdeal)
    ∧ preserves_Oscillators_OscillatorsIdeal
-- ==== Pre_padding_inactive.lean ====
abbrev S32x32x32x16x16 : Shape := ⟨5, ![32, 32, 32, 16, 16]⟩
abbrev S64x32x3x3x3 : Shape := ⟨5, ![64, 32, 3, 3, 3]⟩
abbrev S64 : Shape := ⟨1, ![64]⟩
abbrev S32x1 : Shape := ⟨2, ![32, 1]⟩
abbrev S_ : Shape := ⟨0, ![]⟩

class Facts : Prop where
  bcast_S_S32x1 : S_.BroadcastsInDim S32x1 (![] : Fin 0 → Fin S32x1.rank)

variable [Facts]

def fn {F : FTy → Type} [FloatOps F] (main_arg0 : FVec F S32x32x32x16x16 .f32) (main_arg1 : FVec F S32x32x32x16x16 .f32) (main_arg2 : FVec F S64x32x3x3x3 .f32) (main_arg3 : FVec F S64 .f32) (main_arg4 : FVec F S64 .f32) (main_arg5 : FVec F S32x1 .f32) (main_arg6 : FVec F S32x1 .f32) : IVec S32x1 1 :=
  let main_cst : FVec F S_ .f32 := constant S_ .f32 0x2B8CBCCC#32
  let main_v0 : FVec F S_ .f32 := Host.sqrt main_cst
  let main_v1 : FVec F S32x1 .f32 := broadcastInDim S32x1 ![] bcast_S_S32x1 main_v0
  let main_v2 : FVec F S32x1 .f32 := mulf main_v1 main_arg5
  let main_v3 : FVec F S32x1 .f32 := addf main_v2 main_arg6
  let main_cst_0 : FVec F S_ .f32 := constant S_ .f32 0x00000000#32
  let main_v4 : FVec F S32x1 .f32 := broadcastInDim S32x1 ![] bcast_S_S32x1 main_cst_0
  let main_v5 : IVec S32x1 1 := cmpf .ole main_v3 main_v4
  main_v5
-- ==== Pre_padding_inactive_c2.lean ====
abbrev S32x64x32x8x8 : Shape := ⟨5, ![32, 64, 32, 8, 8]⟩
abbrev S64x64x3x3x3 : Shape := ⟨5, ![64, 64, 3, 3, 3]⟩
abbrev S64 : Shape := ⟨1, ![64]⟩
abbrev S64x1 : Shape := ⟨2, ![64, 1]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S32x64x32x8x8 .f32) (main_arg1 : FVec F S32x64x32x8x8 .f32) (main_arg2 : FVec F S64x64x3x3x3 .f32) (main_arg3 : FVec F S64 .f32) (main_arg4 : FVec F S64 .f32) (main_arg5 : FVec F S64x1 .f32) (main_arg6 : FVec F S64x1 .f32) : IVec S64x1 1 :=
  let main_cst : FVec F S_ .f32 := constant S_ .f32 0x2B8CBCCC#32
  let main_v0 : FVec F S_ .f32 := Host.sqrt main_cst
  let main_v1 : FVec F S64x1 .f32 := broadcastInDim S64x1 ![] bcast_S_S64x1 main_v0
  let main_v2 : FVec F S64x1 .f32 := mulf main_v1 main_arg5
  let main_v3 : FVec F S64x1 .f32 := addf main_v2 main_arg6
  let main_cst_0 : FVec F S_ .f32 := constant S_ .f32 0x00000000#32
  let main_v4 : FVec F S64x1 .f32 := broadcastInDim S64x1 ![] bcast_S_S64x1 main_cst_0
  let main_v5 : IVec S64x1 1 := cmpf .ole main_v3 main_v4
  main_v5
-- ==== ConvPre.lean ====
abbrev S32x8x32x32x32 : Shape := ⟨5, ![32, 8, 32, 32, 32]⟩
abbrev S32x8x3x3x3 : Shape := ⟨5, ![32, 8, 3, 3, 3]⟩
abbrev S32 : Shape := ⟨1, ![32]⟩
abbrev S_ : Shape := ⟨0, ![]⟩
abbrev S32x8x34x34x34 : Shape := ⟨5, ![32, 8, 34, 34, 34]⟩
abbrev S32x8x34x17x2x17x2 : Shape := ⟨7, ![32, 8, 34, 17, 2, 17, 2]⟩
abbrev S32x8x34x2x2x17x17 : Shape := ⟨7, ![32, 8, 34, 2, 2, 17, 17]⟩
abbrev S32x3x3x3x8 : Shape := ⟨5, ![32, 3, 3, 3, 8]⟩
abbrev S32x216 : Shape := ⟨2, ![32, 216]⟩
abbrev S8x1 : Shape := ⟨2, ![8, 1]⟩
abbrev S32x1 : Shape := ⟨2, ![32, 1]⟩
abbrev S32x32x32x16x16 : Shape := ⟨5, ![32, 32, 32, 16, 16]⟩
abbrev S32x2x32 : Shape := ⟨3, ![32, 2, 32]⟩
abbrev S1x8x1x2x2x17x17 : Shape := ⟨7, ![1, 8, 1, 2, 2, 17, 17]⟩
abbrev S1x32x1x16x16 : Shape := ⟨5, ![1, 32, 1, 16, 16]⟩
abbrev S1x2x32 : Shape := ⟨3, ![1, 2, 32]⟩
abbrev S2x32 : Shape := ⟨2, ![2, 32]⟩
abbrev S8x2x2x17x17 : Shape := ⟨5, ![8, 2, 2, 17, 17]⟩
abbrev S8x1x1x16x16 : Shape := ⟨5, ![8, 1, 1, 16, 16]⟩
abbrev S8x16x16 : Shape := ⟨3, ![8, 16, 16]⟩
abbrev S8x256 : Shape := ⟨2, ![8, 256]⟩
abbrev S216x256 : Shape := ⟨2, ![216, 256]⟩
abbrev S216x512 : Shape := ⟨2, ![216, 512]⟩
abbrev S32x512 : Shape := ⟨2, ![32, 512]⟩
abbrev S32x256 : Shape := ⟨2, ![32, 256]⟩
abbrev S32x16x16 : Shape := ⟨3, ![32, 16, 16]⟩
abbrev S1x32 : Shape := ⟨2, ![1, 32]⟩

abbrev nBuf : Space → Nat
  | .hbm => 26
  | .vmem => 24
  | .smem => 0
  | _ => 0

abbrev bufTy : (tb : Table) → Fin (tcTables nBuf tb) → BufTy
  | .hbm, ⟨0, _⟩ => ⟨S32x8x32x32x32, .f32⟩
  | .hbm, ⟨1, _⟩ => ⟨S32x8x32x32x32, .f32⟩
  | .hbm, ⟨2, _⟩ => ⟨S32x8x3x3x3, .f32⟩
  | .hbm, ⟨3, _⟩ => ⟨S32, .f32⟩
  | .hbm, ⟨4, _⟩ => ⟨S32, .f32⟩
  | .hbm, ⟨5, _⟩ => ⟨S_, .i32⟩
  | .hbm, ⟨6, _⟩ => ⟨S_, .f32⟩
  | .hbm, ⟨7, _⟩ => ⟨S32x8x34x34x34, .f32⟩
  | .hbm, ⟨8, _⟩ => ⟨S32x8x34x17x2x17x2, .f32⟩
  | .hbm, ⟨9, _⟩ => ⟨S32x8x34x2x2x17x17, .f32⟩
  | .hbm, ⟨10, _⟩ => ⟨S_, .i32⟩
  | .hbm, ⟨11, _⟩ => ⟨S_, .f32⟩
  | .hbm, ⟨12, _⟩ => ⟨S32x8x34x34x34, .f32⟩
  | .hbm, ⟨13, _⟩ => ⟨S32x8x34x17x2x17x2, .f32⟩
  | .hbm, ⟨14, _⟩ => ⟨S32x8x34x2x2x17x17, .f32⟩
  | .hbm, ⟨15, _⟩ => ⟨S32x3x3x3x8, .f32⟩
  | .hbm, ⟨16, _⟩ => ⟨S32x216, .f32⟩
  | .hbm, ⟨17, _⟩ => ⟨S_, .f32⟩
  | .hbm, ⟨18, _⟩ => ⟨S8x1, .f32⟩
  | .hbm, ⟨19, _⟩ => ⟨S_, .f32⟩
  | .hbm, ⟨20, _⟩ => ⟨S8x1, .f32⟩
  | .hbm, ⟨21, _⟩ => ⟨S32x1, .f32⟩
  | .hbm, ⟨22, _⟩ => ⟨S32x1, .f32⟩
  | .hbm, ⟨23, _⟩ => ⟨S32x32x32x16x16, .f32⟩
  | .hbm, ⟨24, _⟩ => ⟨S32x32x32x16x16, .f32⟩
  | .hbm, ⟨25, _⟩ => ⟨S32x2x32, .f32⟩
  | .local _ .vmem, ⟨0, _⟩ => ⟨S1x8x1x2x2x17x17, .f32⟩
  | .local _ .vmem, ⟨1, _⟩ => ⟨S1x8x1x2x2x17x17, .f32⟩
  | .local _ .vmem, ⟨2, _⟩ => ⟨S1x8x1x2x2x17x17, .f32⟩
  | .local _ .vmem, ⟨3, _⟩ => ⟨S1x8x1x2x2x17x17, .f32⟩
  | .local _ .vmem, ⟨4, _⟩ => ⟨S1x8x1x2x2x17x17, .f32⟩
  | .local _ .vmem, ⟨5, _⟩ => ⟨S1x8x1x2x2x17x17, .f32⟩
  | .local _ .vmem, ⟨6, _⟩ => ⟨S1x8x1x2x2x17x17, .f32⟩
  | .local _ .vmem, ⟨7, _⟩ => ⟨S1x8x1x2x2x17x17, .f32⟩
  | .local _ .vmem, ⟨8, _⟩ => ⟨S1x8x1x2x2x17x17, .f32⟩
  | .local _ .vmem, ⟨9, _⟩ => ⟨S1x8x1x2x2x17x17, .f32⟩
  | .local _ .vmem, ⟨10, _⟩ => ⟨S1x8x1x2x2x17x17, .f32⟩
  | .local _ .vmem, ⟨11, _⟩ => ⟨S1x8x1x2x2x17x17, .f32⟩
  | .local _ .vmem, ⟨12, _⟩ => ⟨S32x216, .f32⟩
  | .local _ .vmem, ⟨13, _⟩ => ⟨S32x1, .f32⟩
  | .local _ .vmem, ⟨14, _⟩ => ⟨S32x1, .f32⟩
  | .local _ .vmem, ⟨15, _⟩ => ⟨S8x1, .f32⟩
  | .local _ .vmem, ⟨16, _⟩ => ⟨S8x1, .f32⟩
  | .local _ .vmem, ⟨17, _⟩ => ⟨S1x32x1x16x16, .f32⟩
  | .local _ .vmem, ⟨18, _⟩ => ⟨S1x32x1x16x16, .f32⟩
  | .local _ .vmem, ⟨19, _⟩ => ⟨S1x32x1x16x16, .f32⟩
  | .local _ .vmem, ⟨20, _⟩ => ⟨S1x32x1x16x16, .f32⟩
  | .local _ .vmem, ⟨21, _⟩ => ⟨S1x2x32, .f32⟩
  | .local _ .vmem, ⟨22, _⟩ => ⟨S1x2x32, .f32⟩
  | .local _ .vmem, ⟨23, _⟩ => ⟨S2x32, .f32⟩
  | _, _ => ⟨S32x8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v222 : BitVec 1 := Scalar.cmpi .eq arg1 c31_i32
  let v223 : BitVec 32 := Scalar.extui v222
  let c0_i32_68 : BitVec 32 := 0#32
  let v224 : BitVec 1 := Scalar.cmpi .ne v223 c0_i32_68
  v224

def cc0_transform_0 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_1 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_2 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_3 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_4 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_5 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1x2x2x17x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1x2x2x17x17 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1x2x2x17x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x2x2x17x17 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1x2x2x17x17 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1x2x2x17x17 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x1x16x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x1x16x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== RefPreIdeal.lean ====
abbrev S32x8x32x32x32 : Shape := ⟨5, ![32, 8, 32, 32, 32]⟩
abbrev S32x8x3x3x3 : Shape := ⟨5, ![32, 8, 3, 3, 3]⟩
abbrev S32 : Shape := ⟨1, ![32]⟩
abbrev S_ : Shape := ⟨0, ![]⟩
abbrev S32x8x34x34x34 : Shape := ⟨5, ![32, 8, 34, 34, 34]⟩
abbrev S32x32x16x16x32 : Shape := ⟨5, ![32, 32, 16, 16, 32]⟩
abbrev S32x8x32x16x16 : Shape := ⟨5, ![32, 8, 32, 16, 16]⟩
abbrev S32x8x1x1x1 : Shape := ⟨5, ![32, 8, 1, 1, 1]⟩
abbrev S32x8 : Shape := ⟨2, ![32, 8]⟩
abbrev S32x32x32x16x16 : Shape := ⟨5, ![32, 32, 32, 16, 16]⟩
abbrev S1x32x1x1x1 : Shape := ⟨5, ![1, 32, 1, 1, 1]⟩
abbrev S32x32 : Shape := ⟨2, ![32, 32]⟩
abbrev S32x1x32 : Shape := ⟨3, ![32, 1, 32]⟩
abbrev S32x2x32 : Shape := ⟨3, ![32, 2, 32]⟩

abbrev nBuf : Space → Nat
  | .hbm => 308
  | .vmem => 0
  | .smem => 0
  | _ => 0

abbrev hbmTy0_0 (i : Nat) : BufTy := match i % 128 with
  | 0 => ⟨S32x8x32x32x32, .f32⟩
  | 1 => ⟨S32x8x32x32x32, .f32⟩
  | 2 => ⟨S32x8x3x3x3, .f32⟩
  | 3 => ⟨S32, .f32⟩
  | 4 => ⟨S32, .f32⟩
  | 5 => ⟨S_, .i32⟩
  | 6 => ⟨S_, .f32⟩
  | 7 => ⟨S32x8x34x34x34, .f32⟩
  | 8 => ⟨S_, .f32⟩
  | 9 => ⟨S32x32x16x16x32, .f32⟩
  | 10 => ⟨S32x8x32x16x16, .f32⟩
  | 11 => ⟨S32x8x1x1x1, .f32⟩
  | 12 => ⟨S32x8, .f32⟩
  | 13 => ⟨S32x32x16x16x32, .f32⟩
  | 14 => ⟨S32x32x16x16x32, .f32⟩
  | 15 => ⟨S32x8x32x16x16, .f32⟩
  | 16 => ⟨S32x8x1x1x1, .f32⟩
  | 17 => ⟨S32x8, .f32⟩
  | 18 => ⟨S32x32x16x16x32, .f32⟩
  | 19 => ⟨S32x32x16x16x32, .f32⟩
  | 20 => ⟨S32x8x32x16x16, .f32⟩
  | 21 => ⟨S32x8x1x1x1, .f32⟩
  | 22 => ⟨S32x8, .f32⟩
  | 23 => ⟨S32x32x16x16x32, .f32⟩
  | 24 => ⟨S32x32x16x16x32, .f32⟩
  | 25 => ⟨S32x8x32x16x16, .f32⟩
  | 26 => ⟨S32x8x1x1x1, .f32⟩
  | 27 => ⟨S32x8, .f32⟩
  | 28 => ⟨S32x32x16x16x32, .f32⟩
  | 29 => ⟨S32x32x16x16x32, .f32⟩
  | 30 => ⟨S32x8x32x16x16, .f32⟩
  | 31 => ⟨S32x8x1x1x1, .f32⟩
  | 32 => ⟨S32x8, .f32⟩
  | 33 => ⟨S32x32x16x16x32, .f32⟩
  | 34 => ⟨S32x32x16x16x32, .f32⟩
  | 35 => ⟨S32x8x32x16x16, .f32⟩
  | 36 => ⟨S32x8x1x1x1, .f32⟩
  | 37 => ⟨S32x8, .f32⟩
  | 38 => ⟨S32x32x16x16x32, .f32⟩
  | 39 => ⟨S32x32x16x16x32, .f32⟩
  | 40 => ⟨S32x8x32x16x16, .f32⟩
  | 41 => ⟨S32x8x1x1x1, .f32⟩
  | 42 => ⟨S32x8, .f32⟩
  | 43 => ⟨S32x32x16x16x32, .f32⟩
  | 44 => ⟨S32x32x16x16x32, .f32⟩
  | 45 => ⟨S32x8x32x16x16, .f32⟩
  | 46 => ⟨S32x8x1x1x1, .f32⟩
  | 47 => ⟨S32x8, .f32⟩
  | 48 => ⟨S32x32x16x16x32, .f32⟩
  | 49 => ⟨S32x32x16x16x32, .f32⟩
  | 50 => ⟨S32x8x32x16x16, .f32⟩
  | 51 => ⟨S32x8x1x1x1, .f32⟩
  | 52 => ⟨S32x8, .f32⟩
  | 53 => ⟨S32x32x16x16x32, .f32⟩
  | 54 => ⟨S32x32x16x16x32, .f32⟩
  | 55 => ⟨S32x8x32x16x16, .f32⟩
  | 56 => ⟨S32x8x1x1x1, .f32⟩
  | 57 => ⟨S32x8, .f32⟩
  | 58 => ⟨S32x32x16x16x32, .f32⟩
  | 59 => ⟨S32x32x16x16x32, .f32⟩
  | 60 => ⟨S32x8x32x16x16, .f32⟩
  | 61 => ⟨S32x8x1x1x1, .f32⟩
  | 62 => ⟨S32x8, .f32⟩
  | 63 => ⟨S32x32x16x16x32, .f32⟩
  | 64 => ⟨S32x32x16x16x32, .f32⟩
  | 65 => ⟨S32x8x32x16x16, .f32⟩
  | 66 => ⟨S32x8x1x1x1, .f32⟩
  | 67 => ⟨S32x8, .f32⟩
  | 68 => ⟨S32x32x16x16x32, .f32⟩
  | 69 => ⟨S32x32x16x16x32, .f32⟩
  | 70 => ⟨S32x8x32x16x16, .f32⟩
  | 71 => ⟨S32x8x1x1x1, .f32⟩
  | 72 => ⟨S32x8, .f32⟩
  | 73 => ⟨S32x32x16x16x32, .f32⟩
  | 74 => ⟨S32x32x16x16x32, .f32⟩
  | 75 => ⟨S32x8x32x16x16, .f32⟩
  | 76 => ⟨S32x8x1x1x1, .f32⟩
  | 77 => ⟨S32x8, .f32⟩
  | 78 => ⟨S32x32x16x16x32, .f32⟩
  | 79 => ⟨S32x32x16x16x32, .f32⟩
  | 80 => ⟨S32x8x32x16x16, .f32⟩
  | 81 => ⟨S32x8x1x1x1, .f32⟩
  | 82 => ⟨S32x8, .f32⟩
  | 83 => ⟨S32x32x16x16x32, .f32⟩
  | 84 => ⟨S32x32x16x16x32, .f32⟩
  | 85 => ⟨S32x8x32x16x16, .f32⟩
  | 86 => ⟨S32x8x1x1x1, .f32⟩
  | 87 => ⟨S32x8, .f32⟩
  | 88 => ⟨S32x32x16x16x32, .f32⟩
  | 89 => ⟨S32x32x16x16x32, .f32⟩
  | 90 => ⟨S32x8x32x16x16, .f32⟩
  | 91 => ⟨S32x8x1x1x1, .f32⟩
  | 92 => ⟨S32x8, .f32⟩
  | 93 => ⟨S32x32x16x16x32, .f32⟩
  | 94 => ⟨S32x32x16x16x32, .f32⟩
  | 95 => ⟨S32x8x32x16x16, .f32⟩
  | 96 => ⟨S32x8x1x1x1, .f32⟩
  | 97 => ⟨S32x8, .f32⟩
  | 98 => ⟨S32x32x16x16x32, .f32⟩
  | 99 => ⟨S32x32x16x16x32, .f32⟩
  | 100 => ⟨S32x8x32x16x16, .f32⟩
  | 101 => ⟨S32x8x1x1x1, .f32⟩
  | 102 => ⟨S32x8, .f32⟩
  | 103 => ⟨S32x32x16x16x32, .f32⟩
  | 104 => ⟨S32x32x16x16x32, .f32⟩
  | 105 => ⟨S32x8x32x16x16, .f32⟩
  | 106 => ⟨S32x8x1x1x1, .f32⟩
  | 107 => ⟨S32x8, .f32⟩
  | 108 => ⟨S32x32x16x16x32, .f32⟩
  | 109 => ⟨S32x32x16x16x32, .f32⟩
  | 110 => ⟨S32x8x32x16x16, .f32⟩
  | 111 => ⟨S32x8x1x1x1, .f32⟩
  | 112 => ⟨S32x8, .f32⟩
  | 113 => ⟨S32x32x16x16x32, .f32⟩
  | 114 => ⟨S32x32x16x16x32, .f32⟩
  | 115 => ⟨S32x8x32x16x16, .f32⟩
  | 116 => ⟨S32x8x1x1x1, .f32⟩
  | 117 => ⟨S32x8, .f32⟩
  | 118 => ⟨S32x32x16x16x32, .f32⟩
  | 119 => ⟨S32x32x16x16x32, .f32⟩
  | 120 => ⟨S32x8x32x16x16, .f32⟩
  | 121 => ⟨S32x8x1x1x1, .f32⟩
  | 122 => ⟨S32x8, .f32⟩
  | 123 => ⟨S32x32x16x16x32, .f32⟩
  | 124 => ⟨S32x32x16x16x32, .f32⟩
  | 125 => ⟨S32x8x32x16x16, .f32⟩
  | 126 => ⟨S32x8x1x1x1, .f32⟩
  | 127 => ⟨S32x8, .f32⟩
  | _ => ⟨S32x8x32x32x32, .f32⟩

abbrev hbmTy0_1 (i : Nat) : BufTy := match i % 128 with
  | 0 => ⟨S32x32x16x16x32, .f32⟩
  | 1 => ⟨S32x32x16x16x32, .f32⟩
  | 2 => ⟨S32x8x32x16x16, .f32⟩
  | 3 => ⟨S32x8x1x1x1, .f32⟩
  | 4 => ⟨S32x8, .f32⟩
  | 5 => ⟨S32x32x16x16x32, .f32⟩
  | 6 => ⟨S32x32x16x16x32, .f32⟩
  | 7 => ⟨S32x8x32x16x16, .f32⟩
  | 8 => ⟨S32x8x1x1x1, .f32⟩
  | 9 => ⟨S32x8, .f32⟩
  | 10 => ⟨S32x32x16x16x32, .f32⟩
  | 11 => ⟨S32x32x16x16x32, .f32⟩
  | 12 => ⟨S32x8x32x16x16, .f32⟩
  | 13 => ⟨S32x8x1x1x1, .f32⟩
  | 14 => ⟨S32x8, .f32⟩
  | 15 => ⟨S32x32x16x16x32, .f32⟩
  | 16 => ⟨S32x32x16x16x32, .f32⟩
  | 17 => ⟨S32x32x32x16x16, .f32⟩
  | 18 => ⟨S1x32x1x1x1, .f32⟩
  | 19 => ⟨S32x32x32x16x16, .f32⟩
  | 20 => ⟨S32x32x32x16x16, .f32⟩
  | 21 => ⟨S_, .i32⟩
  | 22 => ⟨S_, .f32⟩
  | 23 => ⟨S32x8x34x34x34, .f32⟩
  | 24 => ⟨S_, .f32⟩
  | 25 => ⟨S32x32x16x16x32, .f32⟩
  | 26 => ⟨S32x8x32x16x16, .f32⟩
  | 27 => ⟨S32x8x1x1x1, .f32⟩
  | 28 => ⟨S32x8, .f32⟩
  | 29 => ⟨S32x32x16x16x32, .f32⟩
  | 30 => ⟨S32x32x16x16x32, .f32⟩
  | 31 => ⟨S32x8x32x16x16, .f32⟩
  | 32 => ⟨S32x8x1x1x1, .f32⟩
  | 33 => ⟨S32x8, .f32⟩
  | 34 => ⟨S32x32x16x16x32, .f32⟩
  | 35 => ⟨S32x32x16x16x32, .f32⟩
  | 36 => ⟨S32x8x32x16x16, .f32⟩
  | 37 => ⟨S32x8x1x1x1, .f32⟩
  | 38 => ⟨S32x8, .f32⟩
  | 39 => ⟨S32x32x16x16x32, .f32⟩
  | 40 => ⟨S32x32x16x16x32, .f32⟩
  | 41 => ⟨S32x8x32x16x16, .f32⟩
  | 42 => ⟨S32x8x1x1x1, .f32⟩
  | 43 => ⟨S32x8, .f32⟩
  | 44 => ⟨S32x32x16x16x32, .f32⟩
  | 45 => ⟨S32x32x16x16x32, .f32⟩
  | 46 => ⟨S32x8x32x16x16, .f32⟩
  | 47 => ⟨S32x8x1x1x1, .f32⟩
  | 48 => ⟨S32x8, .f32⟩
  | 49 => ⟨S32x32x16x16x32, .f32⟩
  | 50 => ⟨S32x32x16x16x32, .f32⟩
  | 51 => ⟨S32x8x32x16x16, .f32⟩
  | 52 => ⟨S32x8x1x1x1, .f32⟩
  | 53 => ⟨S32x8, .f32⟩
  | 54 => ⟨S32x32x16x16x32, .f32⟩
  | 55 => ⟨S32x32x16x16x32, .f32⟩
  | 56 => ⟨S32x8x32x16x16, .f32⟩
  | 57 => ⟨S32x8x1x1x1, .f32⟩
  | 58 => ⟨S32x8, .f32⟩
  | 59 => ⟨S32x32x16x16x32, .f32⟩
  | 60 => ⟨S32x32x16x16x32, .f32⟩
  | 61 => ⟨S32x8x32x16x16, .f32⟩
  | 62 => ⟨S32x8x1x1x1, .f32⟩
  | 63 => ⟨S32x8, .f32⟩
  | 64 => ⟨S32x32x16x16x32, .f32⟩
  | 65 => ⟨S32x32x16x16x32, .f32⟩
  | 66 => ⟨S32x8x32x16x16, .f32⟩
  | 67 => ⟨S32x8x1x1x1, .f32⟩
  | 68 => ⟨S32x8, .f32⟩
  | 69 => ⟨S32x32x16x16x32, .f32⟩
  | 70 => ⟨S32x32x16x16x32, .f32⟩
  | 71 => ⟨S32x8x32x16x16, .f32⟩
  | 72 => ⟨S32x8x1x1x1, .f32⟩
  | 73 => ⟨S32x8, .f32⟩
  | 74 => ⟨S32x32x16x16x32, .f32⟩
  | 75 => ⟨S32x32x16x16x32, .f32⟩
  | 76 => ⟨S32x8x32x16x16, .f32⟩
  | 77 => ⟨S32x8x1x1x1, .f32⟩
  | 78 => ⟨S32x8, .f32⟩
  | 79 => ⟨S32x32x16x16x32, .f32⟩
  | 80 => ⟨S32x32x16x16x32, .f32⟩
  | 81 => ⟨S32x8x32x16x16, .f32⟩
  | 82 => ⟨S32x8x1x1x1, .f32⟩
  | 83 => ⟨S32x8, .f32⟩
  | 84 => ⟨S32x32x16x16x32, .f32⟩
  | 85 => ⟨S32x32x16x16x32, .f32⟩
  | 86 => ⟨S32x8x32x16x16, .f32⟩
  | 87 => ⟨S32x8x1x1x1, .f32⟩
  | 88 => ⟨S32x8, .f32⟩
  | 89 => ⟨S32x32x16x16x32, .f32⟩
  | 90 => ⟨S32x32x16x16x32, .f32⟩
  | 91 => ⟨S32x8x32x16x16, .f32⟩
  | 92 => ⟨S32x8x1x1x1, .f32⟩
  | 93 => ⟨S32x8, .f32⟩
  | 94 => ⟨S32x32x16x16x32, .f32⟩
  | 95 => ⟨S32x32x16x16x32, .f32⟩
  | 96 => ⟨S32x8x32x16x16, .f32⟩
  | 97 => ⟨S32x8x1x1x1, .f32⟩
  | 98 => ⟨S32x8, .f32⟩
  | 99 => ⟨S32x32x16x16x32, .f32⟩
  | 100 => ⟨S32x32x16x16x32, .f32⟩
  | 101 => ⟨S32x8x32x16x16, .f32⟩
  | 102 => ⟨S32x8x1x1x1, .f32⟩
  | 103 => ⟨S32x8, .f32⟩
  | 104 => ⟨S32x32x16x16x32, .f32⟩
  | 105 => ⟨S32x32x16x16x32, .f32⟩
  | 106 => ⟨S32x8x32x16x16, .f32⟩
  | 107 => ⟨S32x8x1x1x1, .f32⟩
  | 108 => ⟨S32x8, .f32⟩
  | 109 => ⟨S32x32x16x16x32, .f32⟩
  | 110 => ⟨S32x32x16x16x32, .f32⟩
  | 111 => ⟨S32x8x32x16x16, .f32⟩
  | 112 => ⟨S32x8x1x1x1, .f32⟩
  | 113 => ⟨S32x8, .f32⟩
  | 114 => ⟨S32x32x16x16x32, .f32⟩
  | 115 => ⟨S32x32x16x16x32, .f32⟩
  | 116 => ⟨S32x8x32x16x16, .f32⟩
  | 117 => ⟨S32x8x1x1x1, .f32⟩
  | 118 => ⟨S32x8, .f32⟩
  | 119 => ⟨S32x32x16x16x32, .f32⟩
  | 120 => ⟨S32x32x16x16x32, .f32⟩
  | 121 => ⟨S32x8x32x16x16, .f32⟩
  | 122 => ⟨S32x8x1x1x1, .f32⟩
  | 123 => ⟨S32x8, .f32⟩
  | 124 => ⟨S32x32x16x16x32, .f32⟩
  | 125 => ⟨S32x32x16x16x32, .f32⟩
  | 126 => ⟨S32x8x32x16x16, .f32⟩
  | 127 => ⟨S32x8x1x1x1, .f32⟩
  | _ => ⟨S32x8x32x32x32, .f32⟩

abbrev hbmTy0_2 (i : Nat) : BufTy := match i % 128 with
  | 0 => ⟨S32x8, .f32⟩
  | 1 => ⟨S32x32x16x16x32, .f32⟩
  | 2 => ⟨S32x32x16x16x32, .f32⟩
  | 3 => ⟨S32x8x32x16x16, .f32⟩
  | 4 => ⟨S32x8x1x1x1, .f32⟩
  | 5 => ⟨S32x8, .f32⟩
  | 6 => ⟨S32x32x16x16x32, .f32⟩
  | 7 => ⟨S32x32x16x16x32, .f32⟩
  | 8 => ⟨S32x8x32x16x16, .f32⟩
  | 9 => ⟨S32x8x1x1x1, .f32⟩
  | 10 => ⟨S32x8, .f32⟩
  | 11 => ⟨S32x32x16x16x32, .f32⟩
  | 12 => ⟨S32x32x16x16x32, .f32⟩
  | 13 => ⟨S32x8x32x16x16, .f32⟩
  | 14 => ⟨S32x8x1x1x1, .f32⟩
  | 15 => ⟨S32x8, .f32⟩
  | 16 => ⟨S32x32x16x16x32, .f32⟩
  | 17 => ⟨S32x32x16x16x32, .f32⟩
  | 18 => ⟨S32x8x32x16x16, .f32⟩
  | 19 => ⟨S32x8x1x1x1, .f32⟩
  | 20 => ⟨S32x8, .f32⟩
  | 21 => ⟨S32x32x16x16x32, .f32⟩
  | 22 => ⟨S32x32x16x16x32, .f32⟩
  | 23 => ⟨S32x8x32x16x16, .f32⟩
  | 24 => ⟨S32x8x1x1x1, .f32⟩
  | 25 => ⟨S32x8, .f32⟩
  | 26 => ⟨S32x32x16x16x32, .f32⟩
  | 27 => ⟨S32x32x16x16x32, .f32⟩
  | 28 => ⟨S32x8x32x16x16, .f32⟩
  | 29 => ⟨S32x8x1x1x1, .f32⟩
  | 30 => ⟨S32x8, .f32⟩
  | 31 => ⟨S32x32x16x16x32, .f32⟩
  | 32 => ⟨S32x32x16x16x32, .f32⟩
  | 33 => ⟨S32x32x32x16x16, .f32⟩
  | 34 => ⟨S1x32x1x1x1, .f32⟩
  | 35 => ⟨S32x32x32x16x16, .f32⟩
  | 36 => ⟨S32x32x32x16x16, .f32⟩
  | 37 => ⟨S32x32x32x16x16, .f32⟩
  | 38 => ⟨S32x32x32x16x16, .f32⟩
  | 39 => ⟨S32x32x32x16x16, .f32⟩
  | 40 => ⟨S_, .f32⟩
  | 41 => ⟨S32x32x32x16x16, .f32⟩
  | 42 => ⟨S32x32x32x16x16, .f32⟩
  | 43 => ⟨S32x32x32x16x16, .f32⟩
  | 44 => ⟨S_, .f32⟩
  | 45 => ⟨S32x32, .f32⟩
  | 46 => ⟨S32x32x32x16x16, .f32⟩
  | 47 => ⟨S_, .f32⟩
  | 48 => ⟨S32x32, .f32⟩
  | 49 => ⟨S32x1x32, .f32⟩
  | 50 => ⟨S32x1x32, .f32⟩
  | 51 => ⟨S32x2x32, .f32⟩
  | _ => ⟨S32x8x32x32x32, .f32⟩

abbrev hbmTy (i : Nat) : BufTy := match i / 128 with
  | 0 => hbmTy0_0 i
  | 1 => hbmTy0_1 i
  | 2 => hbmTy0_2 i
  | _ => ⟨S32x8x32x32x32, .f32⟩

abbrev bufTy : (tb : Table) → Fin (tcTables nBuf tb) → BufTy
  | .hbm, ⟨i, _⟩ => hbmTy i
  | _, _ => ⟨S32x8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_c_0 : Ref sig .tc := ⟨.hbm, 149, rfl⟩
abbrev main_call1_v0 : Ref sig .tc := ⟨.hbm, 150, rfl⟩
abbrev main_v141 : Ref sig .tc := ⟨.hbm, 151, rfl⟩
abbrev main_cst_1 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_v254 : Ref sig .tc := ⟨.hbm, 265, rfl⟩
abbrev main_v255 : Ref sig .tc := ⟨.hbm, 266, rfl⟩
abbrev main_v256 : Ref sig .tc := ⟨.hbm, 267, rfl⟩
abbrev main_v257 : Ref sig .tc := ⟨.hbm, 268, rfl⟩
abbrev main_v258 : Ref sig .tc := ⟨.hbm, 269, rfl⟩
abbrev main_v259 : Ref sig .tc := ⟨.hbm, 270, rfl⟩
abbrev main_v260 : Ref sig .tc := ⟨.hbm, 271, rfl⟩
abbrev main_v261 : Ref sig .tc := ⟨.hbm, 272, rfl⟩
abbrev main_v262 : Ref sig .tc := ⟨.hbm, 273, rfl⟩
abbrev main_v263 : Ref sig .tc := ⟨.hbm, 274, rfl⟩
abbrev main_v264 : Ref sig .tc := ⟨.hbm, 275, rfl⟩
abbrev main_v265 : Ref sig .tc := ⟨.hbm, 276, rfl⟩
abbrev main_v266 : Ref sig .tc := ⟨.hbm, 277, rfl⟩
abbrev main_v267 : Ref sig .tc := ⟨.hbm, 278, rfl⟩
abbrev main_v268 : Ref sig .tc := ⟨.hbm, 279, rfl⟩
abbrev main_v269 : Ref sig .tc := ⟨.hbm, 280, rfl⟩
abbrev main_v270 : Ref sig .tc := ⟨.hbm, 281, rfl⟩
abbrev main_v271 : Ref sig .tc := ⟨.hbm, 282, rfl⟩
abbrev main_v272 : Ref sig .tc := ⟨.hbm, 283, rfl⟩
abbrev main_v273 : Ref sig .tc := ⟨.hbm, 284, rfl⟩
abbrev main_v274 : Ref sig .tc := ⟨.hbm, 285, rfl⟩
abbrev main_v275 : Ref sig .tc := ⟨.hbm, 286, rfl⟩
abbrev main_v276 : Ref sig .tc := ⟨.hbm, 287, rfl⟩
abbrev main_v277 : Ref sig .tc := ⟨.hbm, 288, rfl⟩
abbrev main_v278 : Ref sig .tc := ⟨.hbm, 289, rfl⟩
abbrev main_v279 : Ref sig .tc := ⟨.hbm, 290, rfl⟩
abbrev main_v280 : Ref sig .tc := ⟨.hbm, 291, rfl⟩
abbrev main_v281 : Ref sig .tc := ⟨.hbm, 292, rfl⟩
abbrev main_v282 : Ref sig .tc := ⟨.hbm, 293, rfl⟩
abbrev main_v283 : Ref sig .tc := ⟨.hbm, 294, rfl⟩
abbrev main_v284 : Ref sig .tc := ⟨.hbm, 295, rfl⟩
abbrev main_cst_2 : Ref sig .tc := ⟨.hbm, 296, rfl⟩
abbrev main_v285 : Ref sig .tc := ⟨.hbm, 297, rfl⟩
abbrev main_v286 : Ref sig .tc := ⟨.hbm, 298, rfl⟩
abbrev main_v287 : Ref sig .tc := ⟨.hbm, 299, rfl⟩
abbrev main_cst_3 : Ref sig .tc := ⟨.hbm, 300, rfl⟩
abbrev main_v288 : Ref sig .tc := ⟨.hbm, 301, rfl⟩
abbrev main_v289 : Ref sig .tc := ⟨.hbm, 302, rfl⟩
abbrev main_cst_4 : Ref sig .tc := ⟨.hbm, 303, rfl⟩
abbrev main_v290 : Ref sig .tc := ⟨.hbm, 304, rfl⟩
abbrev main_v291 : Ref sig .tc := ⟨.hbm, 305, rfl⟩
abbrev main_v292 : Ref sig .tc := ⟨.hbm, 306, rfl⟩
abbrev main_v293 : Ref sig .tc := ⟨.hbm, 307, rfl⟩

abbrev nD : Nat := 1
abbrev τ : Topo := Topo.v7x

variable {F : FTy → Type} [FloatOps F]
-- ==== ConvC1.lean ====
abbrev S32x32x32x16x16 : Shape := ⟨5, ![32, 32, 32, 16, 16]⟩
abbrev S64x32x3x3x3 : Shape := ⟨5, ![64, 32, 3, 3, 3]⟩
abbrev S64 : Shape := ⟨1, ![64]⟩
abbrev S32x1 : Shape := ⟨2, ![32, 1]⟩
abbrev S_ : Shape := ⟨0, ![]⟩
abbrev S32x32x34x18x18 : Shape := ⟨5, ![32, 32, 34, 18, 18]⟩
abbrev S32x32x34x9x2x9x2 : Shape := ⟨7, ![32, 32, 34, 9, 2, 9, 2]⟩
abbrev S32x32x34x2x2x9x9 : Shape := ⟨7, ![32, 32, 34, 2, 2, 9, 9]⟩
abbrev S64x3x3x3x32 : Shape := ⟨5, ![64, 3, 3, 3, 32]⟩
abbrev S64x864 : Shape := ⟨2, ![64, 864]⟩
abbrev S64x1 : Shape := ⟨2, ![64, 1]⟩
abbrev S32x64x32x8x8 : Shape := ⟨5, ![32, 64, 32, 8, 8]⟩
abbrev S32x2x64 : Shape := ⟨3, ![32, 2, 64]⟩
abbrev S1x32x1x2x2x9x9 : Shape := ⟨7, ![1, 32, 1, 2, 2, 9, 9]⟩
abbrev S1x64x1x8x8 : Shape := ⟨5, ![1, 64, 1, 8, 8]⟩
abbrev S1x2x64 : Shape := ⟨3, ![1, 2, 64]⟩
abbrev S2x64 : Shape := ⟨2, ![2, 64]⟩
abbrev S32x2x2x9x9 : Shape := ⟨5, ![32, 2, 2, 9, 9]⟩
abbrev S32x1x1x1x1 : Shape := ⟨5, ![32, 1, 1, 1, 1]⟩
abbrev S32x1x1x8x8 : Shape := ⟨5, ![32, 1, 1, 8, 8]⟩
abbrev S32x8x8 : Shape := ⟨3, ![32, 8, 8]⟩
abbrev S32x64 : Shape := ⟨2, ![32, 64]⟩
abbrev S864x64 : Shape := ⟨2, ![864, 64]⟩
abbrev S864x128 : Shape := ⟨2, ![864, 128]⟩
abbrev S64x128 : Shape := ⟨2, ![64, 128]⟩
abbrev S64x64 : Shape := ⟨2, ![64, 64]⟩
abbrev S64x8x8 : Shape := ⟨3, ![64, 8, 8]⟩
abbrev S1x64 : Shape := ⟨2, ![1, 64]⟩

abbrev nBuf : Space → Nat
  | .hbm => 24
  | .vmem => 24
  | .smem => 0
  | _ => 0

abbrev bufTy : (tb : Table) → Fin (tcTables nBuf tb) → BufTy
  | .hbm, ⟨0, _⟩ => ⟨S32x32x32x16x16, .f32⟩
  | .hbm, ⟨1, _⟩ => ⟨S32x32x32x16x16, .f32⟩
  | .hbm, ⟨2, _⟩ => ⟨S64x32x3x3x3, .f32⟩
  | .hbm, ⟨3, _⟩ => ⟨S64, .f32⟩
  | .hbm, ⟨4, _⟩ => ⟨S64, .f32⟩
  | .hbm, ⟨5, _⟩ => ⟨S32x1, .f32⟩
  | .hbm, ⟨6, _⟩ => ⟨S32x1, .f32⟩
  | .hbm, ⟨7, _⟩ => ⟨S_, .i32⟩
  | .hbm, ⟨8, _⟩ => ⟨S_, .f32⟩
  | .hbm, ⟨9, _⟩ => ⟨S32x32x34x18x18, .f32⟩
  | .hbm, ⟨10, _⟩ => ⟨S32x32x34x9x2x9x2, .f32⟩
  | .hbm, ⟨11, _⟩ => ⟨S32x32x34x2x2x9x9, .f32⟩
  | .hbm, ⟨12, _⟩ => ⟨S_, .i32⟩
  | .hbm, ⟨13, _⟩ => ⟨S_, .f32⟩
  | .hbm, ⟨14, _⟩ => ⟨S32x32x34x18x18, .f32⟩
  | .hbm, ⟨15, _⟩ => ⟨S32x32x34x9x2x9x2, .f32⟩
  | .hbm, ⟨16, _⟩ => ⟨S32x32x34x2x2x9x9, .f32⟩
  | .hbm, ⟨17, _⟩ => ⟨S64x3x3x3x32, .f32⟩
  | .hbm, ⟨18, _⟩ => ⟨S64x864, .f32⟩
  | .hbm, ⟨19, _⟩ => ⟨S64x1, .f32⟩
  | .hbm, ⟨20, _⟩ => ⟨S64x1, .f32⟩
  | .hbm, ⟨21, _⟩ => ⟨S32x64x32x8x8, .f32⟩
  | .hbm, ⟨22, _⟩ => ⟨S32x64x32x8x8, .f32⟩
  | .hbm, ⟨23, _⟩ => ⟨S32x2x64, .f32⟩
  | .local _ .vmem, ⟨0, _⟩ => ⟨S1x32x1x2x2x9x9, .f32⟩
  | .local _ .vmem, ⟨1, _⟩ => ⟨S1x32x1x2x2x9x9, .f32⟩
  | .local _ .vmem, ⟨2, _⟩ => ⟨S1x32x1x2x2x9x9, .f32⟩
  | .local _ .vmem, ⟨3, _⟩ => ⟨S1x32x1x2x2x9x9, .f32⟩
  | .local _ .vmem, ⟨4, _⟩ => ⟨S1x32x1x2x2x9x9, .f32⟩
  | .local _ .vmem, ⟨5, _⟩ => ⟨S1x32x1x2x2x9x9, .f32⟩
  | .local _ .vmem, ⟨6, _⟩ => ⟨S1x32x1x2x2x9x9, .f32⟩
  | .local _ .vmem, ⟨7, _⟩ => ⟨S1x32x1x2x2x9x9, .f32⟩
  | .local _ .vmem, ⟨8, _⟩ => ⟨S1x32x1x2x2x9x9, .f32⟩
  | .local _ .vmem, ⟨9, _⟩ => ⟨S1x32x1x2x2x9x9, .f32⟩
  | .local _ .vmem, ⟨10, _⟩ => ⟨S1x32x1x2x2x9x9, .f32⟩
  | .local _ .vmem, ⟨11, _⟩ => ⟨S1x32x1x2x2x9x9, .f32⟩
  | .local _ .vmem, ⟨12, _⟩ => ⟨S64x864, .f32⟩
  | .local _ .vmem, ⟨13, _⟩ => ⟨S64x1, .f32⟩
  | .local _ .vmem, ⟨14, _⟩ => ⟨S64x1, .f32⟩
  | .local _ .vmem, ⟨15, _⟩ => ⟨S32x1, .f32⟩
  | .local _ .vmem, ⟨16, _⟩ => ⟨S32x1, .f32⟩
  | .local _ .vmem, ⟨17, _⟩ => ⟨S1x64x1x8x8, .f32⟩
  | .local _ .vmem, ⟨18, _⟩ => ⟨S1x64x1x8x8, .f32⟩
  | .local _ .vmem, ⟨19, _⟩ => ⟨S1x64x1x8x8, .f32⟩
  | .local _ .vmem, ⟨20, _⟩ => ⟨S1x64x1x8x8, .f32⟩
  | .local _ .vmem, ⟨21, _⟩ => ⟨S1x2x64, .f32⟩
  | .local _ .vmem, ⟨22, _⟩ => ⟨S1x2x64, .f32⟩
  | .local _ .vmem, ⟨23, _⟩ => ⟨S2x64, .f32⟩
  | _, _ => ⟨S32x32x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v277 : BitVec 1 := Scalar.cmpi .eq arg1 c31_i32
  let v278 : BitVec 32 := Scalar.extui v277
  let c0_i32_78 : BitVec 32 := 0#32
  let v279 : BitVec 1 := Scalar.cmpi .ne v278 c0_i32_78
  v279

def cc0_transform_0 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_1 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_2 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_3 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_4 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_5 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1x2x2x9x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1x2x2x9x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1x2x2x9x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1x2x2x9x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1x2x2x9x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1x2x2x9x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x864 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x1x8x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1x8x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== RefC1Ideal.lean ====
abbrev S32x32x32x16x16 : Shape := ⟨5, ![32, 32, 32, 16, 16]⟩
abbrev S64x32x3x3x3 : Shape := ⟨5, ![64, 32, 3, 3, 3]⟩
abbrev S64 : Shape := ⟨1, ![64]⟩
abbrev S32x1 : Shape := ⟨2, ![32, 1]⟩
abbrev S_ : Shape := ⟨0, ![]⟩
abbrev S1x32x1x1x1 : Shape := ⟨5, ![1, 32, 1, 1, 1]⟩
abbrev S32x32x34x18x18 : Shape := ⟨5, ![32, 32, 34, 18, 18]⟩
abbrev S32x32x8x8x64 : Shape := ⟨5, ![32, 32, 8, 8, 64]⟩
abbrev S32x32x32x8x8 : Shape := ⟨5, ![32, 32, 32, 8, 8]⟩
abbrev S64x32x1x1x1 : Shape := ⟨5, ![64, 32, 1, 1, 1]⟩
abbrev S64x32 : Shape := ⟨2, ![64, 32]⟩
abbrev S32x64x32x8x8 : Shape := ⟨5, ![32, 64, 32, 8, 8]⟩
abbrev S1x64x1x1x1 : Shape := ⟨5, ![1, 64, 1, 1, 1]⟩
abbrev S32x64 : Shape := ⟨2, ![32, 64]⟩
abbrev S32x1x64 : Shape := ⟨3, ![32, 1, 64]⟩
abbrev S32x2x64 : Shape := ⟨3, ![32, 2, 64]⟩

abbrev nBuf : Space → Nat
  | .hbm => 331
  | .vmem => 0
  | .smem => 0
  | _ => 0

abbrev hbmTy0_0 (i : Nat) : BufTy := match i % 128 with
  | 0 => ⟨S32x32x32x16x16, .f32⟩
  | 1 => ⟨S32x32x32x16x16, .f32⟩
  | 2 => ⟨S64x32x3x3x3, .f32⟩
  | 3 => ⟨S64, .f32⟩
  | 4 => ⟨S64, .f32⟩
  | 5 => ⟨S32x1, .f32⟩
  | 6 => ⟨S32x1, .f32⟩
  | 7 => ⟨S32x32x32x16x16, .f32⟩
  | 8 => ⟨S32x32x32x16x16, .f32⟩
  | 9 => ⟨S32x32x32x16x16, .f32⟩
  | 10 => ⟨S_, .f32⟩
  | 11 => ⟨S32x32x32x16x16, .f32⟩
  | 12 => ⟨S32x32x32x16x16, .f32⟩
  | 13 => ⟨S32x32x32x16x16, .f32⟩
  | 14 => ⟨S32x32x32x16x16, .f32⟩
  | 15 => ⟨S1x32x1x1x1, .f32⟩
  | 16 => ⟨S32x32x32x16x16, .f32⟩
  | 17 => ⟨S32x32x32x16x16, .f32⟩
  | 18 => ⟨S1x32x1x1x1, .f32⟩
  | 19 => ⟨S32x32x32x16x16, .f32⟩
  | 20 => ⟨S32x32x32x16x16, .f32⟩
  | 21 => ⟨S_, .f32⟩
  | 22 => ⟨S32x32x32x16x16, .f32⟩
  | 23 => ⟨S32x32x32x16x16, .f32⟩
  | 24 => ⟨S32x32x32x16x16, .f32⟩
  | 25 => ⟨S32x32x32x16x16, .f32⟩
  | 26 => ⟨S32x32x32x16x16, .f32⟩
  | 27 => ⟨S32x32x32x16x16, .f32⟩
  | 28 => ⟨S_, .i32⟩
  | 29 => ⟨S_, .f32⟩
  | 30 => ⟨S32x32x34x18x18, .f32⟩
  | 31 => ⟨S_, .f32⟩
  | 32 => ⟨S32x32x8x8x64, .f32⟩
  | 33 => ⟨S32x32x32x8x8, .f32⟩
  | 34 => ⟨S64x32x1x1x1, .f32⟩
  | 35 => ⟨S64x32, .f32⟩
  | 36 => ⟨S32x32x8x8x64, .f32⟩
  | 37 => ⟨S32x32x8x8x64, .f32⟩
  | 38 => ⟨S32x32x32x8x8, .f32⟩
  | 39 => ⟨S64x32x1x1x1, .f32⟩
  | 40 => ⟨S64x32, .f32⟩
  | 41 => ⟨S32x32x8x8x64, .f32⟩
  | 42 => ⟨S32x32x8x8x64, .f32⟩
  | 43 => ⟨S32x32x32x8x8, .f32⟩
  | 44 => ⟨S64x32x1x1x1, .f32⟩
  | 45 => ⟨S64x32, .f32⟩
  | 46 => ⟨S32x32x8x8x64, .f32⟩
  | 47 => ⟨S32x32x8x8x64, .f32⟩
  | 48 => ⟨S32x32x32x8x8, .f32⟩
  | 49 => ⟨S64x32x1x1x1, .f32⟩
  | 50 => ⟨S64x32, .f32⟩
  | 51 => ⟨S32x32x8x8x64, .f32⟩
  | 52 => ⟨S32x32x8x8x64, .f32⟩
  | 53 => ⟨S32x32x32x8x8, .f32⟩
  | 54 => ⟨S64x32x1x1x1, .f32⟩
  | 55 => ⟨S64x32, .f32⟩
  | 56 => ⟨S32x32x8x8x64, .f32⟩
  | 57 => ⟨S32x32x8x8x64, .f32⟩
  | 58 => ⟨S32x32x32x8x8, .f32⟩
  | 59 => ⟨S64x32x1x1x1, .f32⟩
  | 60 => ⟨S64x32, .f32⟩
  | 61 => ⟨S32x32x8x8x64, .f32⟩
  | 62 => ⟨S32x32x8x8x64, .f32⟩
  | 63 => ⟨S32x32x32x8x8, .f32⟩
  | 64 => ⟨S64x32x1x1x1, .f32⟩
  | 65 => ⟨S64x32, .f32⟩
  | 66 => ⟨S32x32x8x8x64, .f32⟩
  | 67 => ⟨S32x32x8x8x64, .f32⟩
  | 68 => ⟨S32x32x32x8x8, .f32⟩
  | 69 => ⟨S64x32x1x1x1, .f32⟩
  | 70 => ⟨S64x32, .f32⟩
  | 71 => ⟨S32x32x8x8x64, .f32⟩
  | 72 => ⟨S32x32x8x8x64, .f32⟩
  | 73 => ⟨S32x32x32x8x8, .f32⟩
  | 74 => ⟨S64x32x1x1x1, .f32⟩
  | 75 => ⟨S64x32, .f32⟩
  | 76 => ⟨S32x32x8x8x64, .f32⟩
  | 77 => ⟨S32x32x8x8x64, .f32⟩
  | 78 => ⟨S32x32x32x8x8, .f32⟩
  | 79 => ⟨S64x32x1x1x1, .f32⟩
  | 80 => ⟨S64x32, .f32⟩
  | 81 => ⟨S32x32x8x8x64, .f32⟩
  | 82 => ⟨S32x32x8x8x64, .f32⟩
  | 83 => ⟨S32x32x32x8x8, .f32⟩
  | 84 => ⟨S64x32x1x1x1, .f32⟩
  | 85 => ⟨S64x32, .f32⟩
  | 86 => ⟨S32x32x8x8x64, .f32⟩
  | 87 => ⟨S32x32x8x8x64, .f32⟩
  | 88 => ⟨S32x32x32x8x8, .f32⟩
  | 89 => ⟨S64x32x1x1x1, .f32⟩
  | 90 => ⟨S64x32, .f32⟩
  | 91 => ⟨S32x32x8x8x64, .f32⟩
  | 92 => ⟨S32x32x8x8x64, .f32⟩
  | 93 => ⟨S32x32x32x8x8, .f32⟩
  | 94 => ⟨S64x32x1x1x1, .f32⟩
  | 95 => ⟨S64x32, .f32⟩
  | 96 => ⟨S32x32x8x8x64, .f32⟩
  | 97 => ⟨S32x32x8x8x64, .f32⟩
  | 98 => ⟨S32x32x32x8x8, .f32⟩
  | 99 => ⟨S64x32x1x1x1, .f32⟩
  | 100 => ⟨S64x32, .f32⟩
  | 101 => ⟨S32x32x8x8x64, .f32⟩
  | 102 => ⟨S32x32x8x8x64, .f32⟩
  | 103 => ⟨S32x32x32x8x8, .f32⟩
  | 104 => ⟨S64x32x1x1x1, .f32⟩
  | 105 => ⟨S64x32, .f32⟩
  | 106 => ⟨S32x32x8x8x64, .f32⟩
  | 107 => ⟨S32x32x8x8x64, .f32⟩
  | 108 => ⟨S32x32x32x8x8, .f32⟩
  | 109 => ⟨S64x32x1x1x1, .f32⟩
  | 110 => ⟨S64x32, .f32⟩
  | 111 => ⟨S32x32x8x8x64, .f32⟩
  | 112 => ⟨S32x32x8x8x64, .f32⟩
  | 113 => ⟨S32x32x32x8x8, .f32⟩
  | 114 => ⟨S64x32x1x1x1, .f32⟩
  | 115 => ⟨S64x32, .f32⟩
  | 116 => ⟨S32x32x8x8x64, .f32⟩
  | 117 => ⟨S32x32x8x8x64, .f32⟩
  | 118 => ⟨S32x32x32x8x8, .f32⟩
  | 119 => ⟨S64x32x1x1x1, .f32⟩
  | 120 => ⟨S64x32, .f32⟩
  | 121 => ⟨S32x32x8x8x64, .f32⟩
  | 122 => ⟨S32x32x8x8x64, .f32⟩
  | 123 => ⟨S32x32x32x8x8, .f32⟩
  | 124 => ⟨S64x32x1x1x1, .f32⟩
  | 125 => ⟨S64x32, .f32⟩
  | 126 => ⟨S32x32x8x8x64, .f32⟩
  | 127 => ⟨S32x32x8x8x64, .f32⟩
  | _ => ⟨S32x32x32x16x16, .f32⟩

abbrev hbmTy0_1 (i : Nat) : BufTy := match i % 128 with
  | 0 => ⟨S32x32x32x8x8, .f32⟩
  | 1 => ⟨S64x32x1x1x1, .f32⟩
  | 2 => ⟨S64x32, .f32⟩
  | 3 => ⟨S32x32x8x8x64, .f32⟩
  | 4 => ⟨S32x32x8x8x64, .f32⟩
  | 5 => ⟨S32x32x32x8x8, .f32⟩
  | 6 => ⟨S64x32x1x1x1, .f32⟩
  | 7 => ⟨S64x32, .f32⟩
  | 8 => ⟨S32x32x8x8x64, .f32⟩
  | 9 => ⟨S32x32x8x8x64, .f32⟩
  | 10 => ⟨S32x32x32x8x8, .f32⟩
  | 11 => ⟨S64x32x1x1x1, .f32⟩
  | 12 => ⟨S64x32, .f32⟩
  | 13 => ⟨S32x32x8x8x64, .f32⟩
  | 14 => ⟨S32x32x8x8x64, .f32⟩
  | 15 => ⟨S32x32x32x8x8, .f32⟩
  | 16 => ⟨S64x32x1x1x1, .f32⟩
  | 17 => ⟨S64x32, .f32⟩
  | 18 => ⟨S32x32x8x8x64, .f32⟩
  | 19 => ⟨S32x32x8x8x64, .f32⟩
  | 20 => ⟨S32x32x32x8x8, .f32⟩
  | 21 => ⟨S64x32x1x1x1, .f32⟩
  | 22 => ⟨S64x32, .f32⟩
  | 23 => ⟨S32x32x8x8x64, .f32⟩
  | 24 => ⟨S32x32x8x8x64, .f32⟩
  | 25 => ⟨S32x32x32x8x8, .f32⟩
  | 26 => ⟨S64x32x1x1x1, .f32⟩
  | 27 => ⟨S64x32, .f32⟩
  | 28 => ⟨S32x32x8x8x64, .f32⟩
  | 29 => ⟨S32x32x8x8x64, .f32⟩
  | 30 => ⟨S32x32x32x8x8, .f32⟩
  | 31 => ⟨S64x32x1x1x1, .f32⟩
  | 32 => ⟨S64x32, .f32⟩
  | 33 => ⟨S32x32x8x8x64, .f32⟩
  | 34 => ⟨S32x32x8x8x64, .f32⟩
  | 35 => ⟨S32x32x32x8x8, .f32⟩
  | 36 => ⟨S64x32x1x1x1, .f32⟩
  | 37 => ⟨S64x32, .f32⟩
  | 38 => ⟨S32x32x8x8x64, .f32⟩
  | 39 => ⟨S32x32x8x8x64, .f32⟩
  | 40 => ⟨S32x64x32x8x8, .f32⟩
  | 41 => ⟨S1x64x1x1x1, .f32⟩
  | 42 => ⟨S32x64x32x8x8, .f32⟩
  | 43 => ⟨S32x64x32x8x8, .f32⟩
  | 44 => ⟨S_, .i32⟩
  | 45 => ⟨S_, .f32⟩
  | 46 => ⟨S32x32x34x18x18, .f32⟩
  | 47 => ⟨S_, .f32⟩
  | 48 => ⟨S32x32x8x8x64, .f32⟩
  | 49 => ⟨S32x32x32x8x8, .f32⟩
  | 50 => ⟨S64x32x1x1x1, .f32⟩
  | 51 => ⟨S64x32, .f32⟩
  | 52 => ⟨S32x32x8x8x64, .f32⟩
  | 53 => ⟨S32x32x8x8x64, .f32⟩
  | 54 => ⟨S32x32x32x8x8, .f32⟩
  | 55 => ⟨S64x32x1x1x1, .f32⟩
  | 56 => ⟨S64x32, .f32⟩
  | 57 => ⟨S32x32x8x8x64, .f32⟩
  | 58 => ⟨S32x32x8x8x64, .f32⟩
  | 59 => ⟨S32x32x32x8x8, .f32⟩
  | 60 => ⟨S64x32x1x1x1, .f32⟩
  | 61 => ⟨S64x32, .f32⟩
  | 62 => ⟨S32x32x8x8x64, .f32⟩
  | 63 => ⟨S32x32x8x8x64, .f32⟩
  | 64 => ⟨S32x32x32x8x8, .f32⟩
  | 65 => ⟨S64x32x1x1x1, .f32⟩
  | 66 => ⟨S64x32, .f32⟩
  | 67 => ⟨S32x32x8x8x64, .f32⟩
  | 68 => ⟨S32x32x8x8x64, .f32⟩
  | 69 => ⟨S32x32x32x8x8, .f32⟩
  | 70 => ⟨S64x32x1x1x1, .f32⟩
  | 71 => ⟨S64x32, .f32⟩
  | 72 => ⟨S32x32x8x8x64, .f32⟩
  | 73 => ⟨S32x32x8x8x64, .f32⟩
  | 74 => ⟨S32x32x32x8x8, .f32⟩
  | 75 => ⟨S64x32x1x1x1, .f32⟩
  | 76 => ⟨S64x32, .f32⟩
  | 77 => ⟨S32x32x8x8x64, .f32⟩
  | 78 => ⟨S32x32x8x8x64, .f32⟩
  | 79 => ⟨S32x32x32x8x8, .f32⟩
  | 80 => ⟨S64x32x1x1x1, .f32⟩
  | 81 => ⟨S64x32, .f32⟩
  | 82 => ⟨S32x32x8x8x64, .f32⟩
  | 83 => ⟨S32x32x8x8x64, .f32⟩
  | 84 => ⟨S32x32x32x8x8, .f32⟩
  | 85 => ⟨S64x32x1x1x1, .f32⟩
  | 86 => ⟨S64x32, .f32⟩
  | 87 => ⟨S32x32x8x8x64, .f32⟩
  | 88 => ⟨S32x32x8x8x64, .f32⟩
  | 89 => ⟨S32x32x32x8x8, .f32⟩
  | 90 => ⟨S64x32x1x1x1, .f32⟩
  | 91 => ⟨S64x32, .f32⟩
  | 92 => ⟨S32x32x8x8x64, .f32⟩
  | 93 => ⟨S32x32x8x8x64, .f32⟩
  | 94 => ⟨S32x32x32x8x8, .f32⟩
  | 95 => ⟨S64x32x1x1x1, .f32⟩
  | 96 => ⟨S64x32, .f32⟩
  | 97 => ⟨S32x32x8x8x64, .f32⟩
  | 98 => ⟨S32x32x8x8x64, .f32⟩
  | 99 => ⟨S32x32x32x8x8, .f32⟩
  | 100 => ⟨S64x32x1x1x1, .f32⟩
  | 101 => ⟨S64x32, .f32⟩
  | 102 => ⟨S32x32x8x8x64, .f32⟩
  | 103 => ⟨S32x32x8x8x64, .f32⟩
  | 104 => ⟨S32x32x32x8x8, .f32⟩
  | 105 => ⟨S64x32x1x1x1, .f32⟩
  | 106 => ⟨S64x32, .f32⟩
  | 107 => ⟨S32x32x8x8x64, .f32⟩
  | 108 => ⟨S32x32x8x8x64, .f32⟩
  | 109 => ⟨S32x32x32x8x8, .f32⟩
  | 110 => ⟨S64x32x1x1x1, .f32⟩
  | 111 => ⟨S64x32, .f32⟩
  | 112 => ⟨S32x32x8x8x64, .f32⟩
  | 113 => ⟨S32x32x8x8x64, .f32⟩
  | 114 => ⟨S32x32x32x8x8, .f32⟩
  | 115 => ⟨S64x32x1x1x1, .f32⟩
  | 116 => ⟨S64x32, .f32⟩
  | 117 => ⟨S32x32x8x8x64, .f32⟩
  | 118 => ⟨S32x32x8x8x64, .f32⟩
  | 119 => ⟨S32x32x32x8x8, .f32⟩
  | 120 => ⟨S64x32x1x1x1, .f32⟩
  | 121 => ⟨S64x32, .f32⟩
  | 122 => ⟨S32x32x8x8x64, .f32⟩
  | 123 => ⟨S32x32x8x8x64, .f32⟩
  | 124 => ⟨S32x32x32x8x8, .f32⟩
  | 125 => ⟨S64x32x1x1x1, .f32⟩
  | 126 => ⟨S64x32, .f32⟩
  | 127 => ⟨S32x32x8x8x64, .f32⟩
  | _ => ⟨S32x32x32x16x16, .f32⟩

abbrev hbmTy0_2 (i : Nat) : BufTy := match i % 128 with
  | 0 => ⟨S32x32x8x8x64, .f32⟩
  | 1 => ⟨S32x32x32x8x8, .f32⟩
  | 2 => ⟨S64x32x1x1x1, .f32⟩
  | 3 => ⟨S64x32, .f32⟩
  | 4 => ⟨S32x32x8x8x64, .f32⟩
  | 5 => ⟨S32x32x8x8x64, .f32⟩
  | 6 => ⟨S32x32x32x8x8, .f32⟩
  | 7 => ⟨S64x32x1x1x1, .f32⟩
  | 8 => ⟨S64x32, .f32⟩
  | 9 => ⟨S32x32x8x8x64, .f32⟩
  | 10 => ⟨S32x32x8x8x64, .f32⟩
  | 11 => ⟨S32x32x32x8x8, .f32⟩
  | 12 => ⟨S64x32x1x1x1, .f32⟩
  | 13 => ⟨S64x32, .f32⟩
  | 14 => ⟨S32x32x8x8x64, .f32⟩
  | 15 => ⟨S32x32x8x8x64, .f32⟩
  | 16 => ⟨S32x32x32x8x8, .f32⟩
  | 17 => ⟨S64x32x1x1x1, .f32⟩
  | 18 => ⟨S64x32, .f32⟩
  | 19 => ⟨S32x32x8x8x64, .f32⟩
  | 20 => ⟨S32x32x8x8x64, .f32⟩
  | 21 => ⟨S32x32x32x8x8, .f32⟩
  | 22 => ⟨S64x32x1x1x1, .f32⟩
  | 23 => ⟨S64x32, .f32⟩
  | 24 => ⟨S32x32x8x8x64, .f32⟩
  | 25 => ⟨S32x32x8x8x64, .f32⟩
  | 26 => ⟨S32x32x32x8x8, .f32⟩
  | 27 => ⟨S64x32x1x1x1, .f32⟩
  | 28 => ⟨S64x32, .f32⟩
  | 29 => ⟨S32x32x8x8x64, .f32⟩
  | 30 => ⟨S32x32x8x8x64, .f32⟩
  | 31 => ⟨S32x32x32x8x8, .f32⟩
  | 32 => ⟨S64x32x1x1x1, .f32⟩
  | 33 => ⟨S64x32, .f32⟩
  | 34 => ⟨S32x32x8x8x64, .f32⟩
  | 35 => ⟨S32x32x8x8x64, .f32⟩
  | 36 => ⟨S32x32x32x8x8, .f32⟩
  | 37 => ⟨S64x32x1x1x1, .f32⟩
  | 38 => ⟨S64x32, .f32⟩
  | 39 => ⟨S32x32x8x8x64, .f32⟩
  | 40 => ⟨S32x32x8x8x64, .f32⟩
  | 41 => ⟨S32x32x32x8x8, .f32⟩
  | 42 => ⟨S64x32x1x1x1, .f32⟩
  | 43 => ⟨S64x32, .f32⟩
  | 44 => ⟨S32x32x8x8x64, .f32⟩
  | 45 => ⟨S32x32x8x8x64, .f32⟩
  | 46 => ⟨S32x32x32x8x8, .f32⟩
  | 47 => ⟨S64x32x1x1x1, .f32⟩
  | 48 => ⟨S64x32, .f32⟩
  | 49 => ⟨S32x32x8x8x64, .f32⟩
  | 50 => ⟨S32x32x8x8x64, .f32⟩
  | 51 => ⟨S32x32x32x8x8, .f32⟩
  | 52 => ⟨S64x32x1x1x1, .f32⟩
  | 53 => ⟨S64x32, .f32⟩
  | 54 => ⟨S32x32x8x8x64, .f32⟩
  | 55 => ⟨S32x32x8x8x64, .f32⟩
  | 56 => ⟨S32x64x32x8x8, .f32⟩
  | 57 => ⟨S1x64x1x1x1, .f32⟩
  | 58 => ⟨S32x64x32x8x8, .f32⟩
  | 59 => ⟨S32x64x32x8x8, .f32⟩
  | 60 => ⟨S32x64x32x8x8, .f32⟩
  | 61 => ⟨S32x64x32x8x8, .f32⟩
  | 62 => ⟨S32x64x32x8x8, .f32⟩
  | 63 => ⟨S_, .f32⟩
  | 64 => ⟨S32x64x32x8x8, .f32⟩
  | 65 => ⟨S32x64x32x8x8, .f32⟩
  | 66 => ⟨S32x64x32x8x8, .f32⟩
  | 67 => ⟨S_, .f32⟩
  | 68 => ⟨S32x64, .f32⟩
  | 69 => ⟨S32x64x32x8x8, .f32⟩
  | 70 => ⟨S_, .f32⟩
  | 71 => ⟨S32x64, .f32⟩
  | 72 => ⟨S32x1x64, .f32⟩
  | 73 => ⟨S32x1x64, .f32⟩
  | 74 => ⟨S32x2x64, .f32⟩
  | _ => ⟨S32x32x32x16x16, .f32⟩

abbrev hbmTy (i : Nat) : BufTy := match i / 128 with
  | 0 => hbmTy0_0 i
  | 1 => hbmTy0_1 i
  | 2 => hbmTy0_2 i
  | _ => ⟨S32x32x32x16x16, .f32⟩

abbrev bufTy : (tb : Table) → Fin (tcTables nBuf tb) → BufTy
  | .hbm, ⟨i, _⟩ => hbmTy i
  | _, _ => ⟨S32x32x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_c_2 : Ref sig .tc := ⟨.hbm, 172, rfl⟩
abbrev main_call1_v0 : Ref sig .tc := ⟨.hbm, 173, rfl⟩
abbrev main_v160 : Ref sig .tc := ⟨.hbm, 174, rfl⟩
abbrev main_cst_3 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_v288 : Ref sig .tc := ⟨.hbm, 303, rfl⟩
abbrev main_v289 : Ref sig .tc := ⟨.hbm, 304, rfl⟩
abbrev main_v290 : Ref sig .tc := ⟨.hbm, 305, rfl⟩
abbrev main_v291 : Ref sig .tc := ⟨.hbm, 306, rfl⟩
abbrev main_v292 : Ref sig .tc := ⟨.hbm, 307, rfl⟩
abbrev main_v293 : Ref sig .tc := ⟨.hbm, 308, rfl⟩
abbrev main_v294 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩
abbrev main_v300 : Ref sig .tc := ⟨.hbm, 315, rfl⟩
abbrev main_v301 : Ref sig .tc := ⟨.hbm, 316, rfl⟩
abbrev main_v302 : Ref sig .tc := ⟨.hbm, 317, rfl⟩
abbrev main_v303 : Ref sig .tc := ⟨.hbm, 318, rfl⟩
abbrev main_cst_4 : Ref sig .tc := ⟨.hbm, 319, rfl⟩
abbrev main_v304 : Ref sig .tc := ⟨.hbm, 320, rfl⟩
abbrev main_v305 : Ref sig .tc := ⟨.hbm, 321, rfl⟩
abbrev main_v306 : Ref sig .tc := ⟨.hbm, 322, rfl⟩
abbrev main_cst_5 : Ref sig .tc := ⟨.hbm, 323, rfl⟩
abbrev main_v307 : Ref sig .tc := ⟨.hbm, 324, rfl⟩
abbrev main_v308 : Ref sig .tc := ⟨.hbm, 325, rfl⟩
abbrev main_cst_6 : Ref sig .tc := ⟨.hbm, 326, rfl⟩
abbrev main_v309 : Ref sig .tc := ⟨.hbm, 327, rfl⟩
abbrev main_v310 : Ref sig .tc := ⟨.hbm, 328, rfl⟩
abbrev main_v311 : Ref sig .tc := ⟨.hbm, 329, rfl⟩
abbrev main_v312 : Ref sig .tc := ⟨.hbm, 330, rfl⟩

abbrev nD : Nat := 1
abbrev τ : Topo := Topo.v7x

variable {F : FTy → Type} [FloatOps F]
-- ==== ConvC2.lean ====
abbrev S32x64x32x8x8 : Shape := ⟨5, ![32, 64, 32, 8, 8]⟩
abbrev S64x64x3x3x3 : Shape := ⟨5, ![64, 64, 3, 3, 3]⟩
abbrev S64 : Shape := ⟨1, ![64]⟩
abbrev S64x1 : Shape := ⟨2, ![64, 1]⟩
abbrev S_ : Shape := ⟨0, ![]⟩
abbrev S32x64x34x10x10 : Shape := ⟨5, ![32, 64, 34, 10, 10]⟩
abbrev S32x64x34x5x2x5x2 : Shape := ⟨7, ![32, 64, 34, 5, 2, 5, 2]⟩
abbrev S32x64x34x2x2x5x5 : Shape := ⟨7, ![32, 64, 34, 2, 2, 5, 5]⟩
abbrev S64x3x3x3x64 : Shape := ⟨5, ![64, 3, 3, 3, 64]⟩
abbrev S64x1728 : Shape := ⟨2, ![64, 1728]⟩
abbrev S32x64x32x4x4 : Shape := ⟨5, ![32, 64, 32, 4, 4]⟩
abbrev S32x2x64 : Shape := ⟨3, ![32, 2, 64]⟩
abbrev S1x64x1x2x2x5x5 : Shape := ⟨7, ![1, 64, 1, 2, 2, 5, 5]⟩
abbrev S1x64x1x4x4 : Shape := ⟨5, ![1, 64, 1, 4, 4]⟩
abbrev S1x2x64 : Shape := ⟨3, ![1, 2, 64]⟩
abbrev S2x64 : Shape := ⟨2, ![2, 64]⟩
abbrev S64x2x2x5x5 : Shape := ⟨5, ![64, 2, 2, 5, 5]⟩
abbrev S64x1x1x1x1 : Shape := ⟨5, ![64, 1, 1, 1, 1]⟩
abbrev S64x1x1x4x4 : Shape := ⟨5, ![64, 1, 1, 4, 4]⟩
abbrev S64x4x4 : Shape := ⟨3, ![64, 4, 4]⟩
abbrev S64x16 : Shape := ⟨2, ![64, 16]⟩
abbrev S1728x16 : Shape := ⟨2, ![1728, 16]⟩
abbrev S1728x32 : Shape := ⟨2, ![1728, 32]⟩
abbrev S64x32 : Shape := ⟨2, ![64, 32]⟩
abbrev S1x64 : Shape := ⟨2, ![1, 64]⟩

abbrev nBuf : Space → Nat
  | .hbm => 24
  | .vmem => 24
  | .smem => 0
  | _ => 0

abbrev bufTy : (tb : Table) → Fin (tcTables nBuf tb) → BufTy
  | .hbm, ⟨0, _⟩ => ⟨S32x64x32x8x8, .f32⟩
  | .hbm, ⟨1, _⟩ => ⟨S32x64x32x8x8, .f32⟩
  | .hbm, ⟨2, _⟩ => ⟨S64x64x3x3x3, .f32⟩
  | .hbm, ⟨3, _⟩ => ⟨S64, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .i32⟩
  | .hbm, ⟨8, _⟩ => ⟨S_, .f32⟩
  | .hbm, ⟨9, _⟩ => ⟨S32x64x34x10x10, .f32⟩
  | .hbm, ⟨10, _⟩ => ⟨S32x64x34x5x2x5x2, .f32⟩
  | .hbm, ⟨11, _⟩ => ⟨S32x64x34x2x2x5x5, .f32⟩
  | .hbm, ⟨12, _⟩ => ⟨S_, .i32⟩
  | .hbm, ⟨13, _⟩ => ⟨S_, .f32⟩
  | .hbm, ⟨14, _⟩ => ⟨S32x64x34x10x10, .f32⟩
  | .hbm, ⟨15, _⟩ => ⟨S32x64x34x5x2x5x2, .f32⟩
  | .hbm, ⟨16, _⟩ => ⟨S32x64x34x2x2x5x5, .f32⟩
  | .hbm, ⟨17, _⟩ => ⟨S64x3x3x3x64, .f32⟩
  | .hbm, ⟨18, _⟩ => ⟨S64x1728, .f32⟩
  | .hbm, ⟨19, _⟩ => ⟨S64x1, .f32⟩
  | .hbm, ⟨20, _⟩ => ⟨S64x1, .f32⟩
  | .hbm, ⟨21, _⟩ => ⟨S32x64x32x4x4, .f32⟩
  | .hbm, ⟨22, _⟩ => ⟨S32x64x32x4x4, .f32⟩
  | .hbm, ⟨23, _⟩ => ⟨S32x2x64, .f32⟩
  | .local _ .vmem, ⟨0, _⟩ => ⟨S1x64x1x2x2x5x5, .f32⟩
  | .local _ .vmem, ⟨1, _⟩ => ⟨S1x64x1x2x2x5x5, .f32⟩
  | .local _ .vmem, ⟨2, _⟩ => ⟨S1x64x1x2x2x5x5, .f32⟩
  | .local _ .vmem, ⟨3, _⟩ => ⟨S1x64x1x2x2x5x5, .f32⟩
  | .local _ .vmem, ⟨4, _⟩ => ⟨S1x64x1x2x2x5x5, .f32⟩
  | .local _ .vmem, ⟨5, _⟩ => ⟨S1x64x1x2x2x5x5, .f32⟩
  | .local _ .vmem, ⟨6, _⟩ => ⟨S1x64x1x2x2x5x5, .f32⟩
  | .local _ .vmem, ⟨7, _⟩ => ⟨S1x64x1x2x2x5x5, .f32⟩
  | .local _ .vmem, ⟨8, _⟩ => ⟨S1x64x1x2x2x5x5, .f32⟩
  | .local _ .vmem, ⟨9, _⟩ => ⟨S1x64x1x2x2x5x5, .f32⟩
  | .local _ .vmem, ⟨10, _⟩ => ⟨S1x64x1x2x2x5x5, .f32⟩
  | .local _ .vmem, ⟨11, _⟩ => ⟨S1x64x1x2x2x5x5, .f32⟩
  | .local _ .vmem, ⟨12, _⟩ => ⟨S64x1728, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S64x1, .f32⟩
  | .local _ .vmem, ⟨17, _⟩ => ⟨S1x64x1x4x4, .f32⟩
  | .local _ .vmem, ⟨18, _⟩ => ⟨S1x64x1x4x4, .f32⟩
  | .local _ .vmem, ⟨19, _⟩ => ⟨S1x64x1x4x4, .f32⟩
  | .local _ .vmem, ⟨20, _⟩ => ⟨S1x64x1x4x4, .f32⟩
  | .local _ .vmem, ⟨21, _⟩ => ⟨S1x2x64, .f32⟩
  | .local _ .vmem, ⟨22, _⟩ => ⟨S1x2x64, .f32⟩
  | .local _ .vmem, ⟨23, _⟩ => ⟨S2x64, .f32⟩
  | _, _ => ⟨S32x64x32x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v277 : BitVec 1 := Scalar.cmpi .eq arg1 c31_i32
  let v278 : BitVec 32 := Scalar.extui v277
  let c0_i32_78 : BitVec 32 := 0#32
  let v279 : BitVec 1 := Scalar.cmpi .ne v278 c0_i32_78
  v279

def cc0_transform_0 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_1 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_2 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_3 (i : grid0.Coords) : Fin 7 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32_0.toNat, v0.toNat, c0_i32_1.toNat, c0_i32_2.toNat, c0_i32_3.toNat, c0_i32_4.toNat]

def cc0_transform_4 (i : grid0.Coords) : Fin 7 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_5 (i : grid0.Coords) : Fin 7 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, v0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1x2x2x5x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1x2x2x5x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1x2x2x5x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1x2x2x5x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1x2x2x5x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1x2x2x5x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x1728 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x1x4x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1x4x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== RefC2Ideal.lean ====
abbrev S32x64x32x8x8 : Shape := ⟨5, ![32, 64, 32, 8, 8]⟩
abbrev S64x64x3x3x3 : Shape := ⟨5, ![64, 64, 3, 3, 3]⟩
abbrev S64 : Shape := ⟨1, ![64]⟩
abbrev S64x1 : Shape := ⟨2, ![64, 1]⟩
abbrev S_ : Shape := ⟨0, ![]⟩
abbrev S1x64x1x1x1 : Shape := ⟨5, ![1, 64, 1, 1, 1]⟩
abbrev S32x64x34x10x10 : Shape := ⟨5, ![32, 64, 34, 10, 10]⟩
abbrev S32x32x4x4x64 : Shape := ⟨5, ![32, 32, 4, 4, 64]⟩
abbrev S32x64x32x4x4 : Shape := ⟨5, ![32, 64, 32, 4, 4]⟩
abbrev S64x64x1x1x1 : Shape := ⟨5, ![64, 64, 1, 1, 1]⟩
abbrev S64x64 : Shape := ⟨2, ![64, 64]⟩
abbrev S32x64 : Shape := ⟨2, ![32, 64]⟩
abbrev S32x1x64 : Shape := ⟨3, ![32, 1, 64]⟩
abbrev S32x2x64 : Shape := ⟨3, ![32, 2, 64]⟩

abbrev nBuf : Space → Nat
  | .hbm => 331
  | .vmem => 0
  | .smem => 0
  | _ => 0

abbrev hbmTy0_0 (i : Nat) : BufTy := match i % 128 with
  | 0 => ⟨S32x64x32x8x8, .f32⟩
  | 1 => ⟨S32x64x32x8x8, .f32⟩
  | 2 => ⟨S64x64x3x3x3, .f32⟩
  | 3 => ⟨S64, .f32⟩
  | 4 => ⟨S64, .f32⟩
  | 5 => ⟨S64x1, .f32⟩
  | 6 => ⟨S64x1, .f32⟩
  | 7 => ⟨S32x64x32x8x8, .f32⟩
  | 8 => ⟨S32x64x32x8x8, .f32⟩
  | 9 => ⟨S32x64x32x8x8, .f32⟩
  | 10 => ⟨S_, .f32⟩
  | 11 => ⟨S32x64x32x8x8, .f32⟩
  | 12 => ⟨S32x64x32x8x8, .f32⟩
  | 13 => ⟨S32x64x32x8x8, .f32⟩
  | 14 => ⟨S32x64x32x8x8, .f32⟩
  | 15 => ⟨S1x64x1x1x1, .f32⟩
  | 16 => ⟨S32x64x32x8x8, .f32⟩
  | 17 => ⟨S32x64x32x8x8, .f32⟩
  | 18 => ⟨S1x64x1x1x1, .f32⟩
  | 19 => ⟨S32x64x32x8x8, .f32⟩
  | 20 => ⟨S32x64x32x8x8, .f32⟩
  | 21 => ⟨S_, .f32⟩
  | 22 => ⟨S32x64x32x8x8, .f32⟩
  | 23 => ⟨S32x64x32x8x8, .f32⟩
  | 24 => ⟨S32x64x32x8x8, .f32⟩
  | 25 => ⟨S32x64x32x8x8, .f32⟩
  | 26 => ⟨S32x64x32x8x8, .f32⟩
  | 27 => ⟨S32x64x32x8x8, .f32⟩
  | 28 => ⟨S_, .i32⟩
  | 29 => ⟨S_, .f32⟩
  | 30 => ⟨S32x64x34x10x10, .f32⟩
  | 31 => ⟨S_, .f32⟩
  | 32 => ⟨S32x32x4x4x64, .f32⟩
  | 33 => ⟨S32x64x32x4x4, .f32⟩
  | 34 => ⟨S64x64x1x1x1, .f32⟩
  | 35 => ⟨S64x64, .f32⟩
  | 36 => ⟨S32x32x4x4x64, .f32⟩
  | 37 => ⟨S32x32x4x4x64, .f32⟩
  | 38 => ⟨S32x64x32x4x4, .f32⟩
  | 39 => ⟨S64x64x1x1x1, .f32⟩
  | 40 => ⟨S64x64, .f32⟩
  | 41 => ⟨S32x32x4x4x64, .f32⟩
  | 42 => ⟨S32x32x4x4x64, .f32⟩
  | 43 => ⟨S32x64x32x4x4, .f32⟩
  | 44 => ⟨S64x64x1x1x1, .f32⟩
  | 45 => ⟨S64x64, .f32⟩
  | 46 => ⟨S32x32x4x4x64, .f32⟩
  | 47 => ⟨S32x32x4x4x64, .f32⟩
  | 48 => ⟨S32x64x32x4x4, .f32⟩
  | 49 => ⟨S64x64x1x1x1, .f32⟩
  | 50 => ⟨S64x64, .f32⟩
  | 51 => ⟨S32x32x4x4x64, .f32⟩
  | 52 => ⟨S32x32x4x4x64, .f32⟩
  | 53 => ⟨S32x64x32x4x4, .f32⟩
  | 54 => ⟨S64x64x1x1x1, .f32⟩
  | 55 => ⟨S64x64, .f32⟩
  | 56 => ⟨S32x32x4x4x64, .f32⟩
  | 57 => ⟨S32x32x4x4x64, .f32⟩
  | 58 => ⟨S32x64x32x4x4, .f32⟩
  | 59 => ⟨S64x64x1x1x1, .f32⟩
  | 60 => ⟨S64x64, .f32⟩
  | 61 => ⟨S32x32x4x4x64, .f32⟩
  | 62 => ⟨S32x32x4x4x64, .f32⟩
  | 63 => ⟨S32x64x32x4x4, .f32⟩
  | 64 => ⟨S64x64x1x1x1, .f32⟩
  | 65 => ⟨S64x64, .f32⟩
  | 66 => ⟨S32x32x4x4x64, .f32⟩
  | 67 => ⟨S32x32x4x4x64, .f32⟩
  | 68 => ⟨S32x64x32x4x4, .f32⟩
  | 69 => ⟨S64x64x1x1x1, .f32⟩
  | 70 => ⟨S64x64, .f32⟩
  | 71 => ⟨S32x32x4x4x64, .f32⟩
  | 72 => ⟨S32x32x4x4x64, .f32⟩
  | 73 => ⟨S32x64x32x4x4, .f32⟩
  | 74 => ⟨S64x64x1x1x1, .f32⟩
  | 75 => ⟨S64x64, .f32⟩
  | 76 => ⟨S32x32x4x4x64, .f32⟩
  | 77 => ⟨S32x32x4x4x64, .f32⟩
  | 78 => ⟨S32x64x32x4x4, .f32⟩
  | 79 => ⟨S64x64x1x1x1, .f32⟩
  | 80 => ⟨S64x64, .f32⟩
  | 81 => ⟨S32x32x4x4x64, .f32⟩
  | 82 => ⟨S32x32x4x4x64, .f32⟩
  | 83 => ⟨S32x64x32x4x4, .f32⟩
  | 84 => ⟨S64x64x1x1x1, .f32⟩
  | 85 => ⟨S64x64, .f32⟩
  | 86 => ⟨S32x32x4x4x64, .f32⟩
  | 87 => ⟨S32x32x4x4x64, .f32⟩
  | 88 => ⟨S32x64x32x4x4, .f32⟩
  | 89 => ⟨S64x64x1x1x1, .f32⟩
  | 90 => ⟨S64x64, .f32⟩
  | 91 => ⟨S32x32x4x4x64, .f32⟩
  | 92 => ⟨S32x32x4x4x64, .f32⟩
  | 93 => ⟨S32x64x32x4x4, .f32⟩
  | 94 => ⟨S64x64x1x1x1, .f32⟩
  | 95 => ⟨S64x64, .f32⟩
  | 96 => ⟨S32x32x4x4x64, .f32⟩
  | 97 => ⟨S32x32x4x4x64, .f32⟩
  | 98 => ⟨S32x64x32x4x4, .f32⟩
  | 99 => ⟨S64x64x1x1x1, .f32⟩
  | 100 => ⟨S64x64, .f32⟩
  | 101 => ⟨S32x32x4x4x64, .f32⟩
  | 102 => ⟨S32x32x4x4x64, .f32⟩
  | 103 => ⟨S32x64x32x4x4, .f32⟩
  | 104 => ⟨S64x64x1x1x1, .f32⟩
  | 105 => ⟨S64x64, .f32⟩
  | 106 => ⟨S32x32x4x4x64, .f32⟩
  | 107 => ⟨S32x32x4x4x64, .f32⟩
  | 108 => ⟨S32x64x32x4x4, .f32⟩
  | 109 => ⟨S64x64x1x1x1, .f32⟩
  | 110 => ⟨S64x64, .f32⟩
  | 111 => ⟨S32x32x4x4x64, .f32⟩
  | 112 => ⟨S32x32x4x4x64, .f32⟩
  | 113 => ⟨S32x64x32x4x4, .f32⟩
  | 114 => ⟨S64x64x1x1x1, .f32⟩
  | 115 => ⟨S64x64, .f32⟩
  | 116 => ⟨S32x32x4x4x64, .f32⟩
  | 117 => ⟨S32x32x4x4x64, .f32⟩
  | 118 => ⟨S32x64x32x4x4, .f32⟩
  | 119 => ⟨S64x64x1x1x1, .f32⟩
  | 120 => ⟨S64x64, .f32⟩
  | 121 => ⟨S32x32x4x4x64, .f32⟩
  | 122 => ⟨S32x32x4x4x64, .f32⟩
  | 123 => ⟨S32x64x32x4x4, .f32⟩
  | 124 => ⟨S64x64x1x1x1, .f32⟩
  | 125 => ⟨S64x64, .f32⟩
  | 126 => ⟨S32x32x4x4x64, .f32⟩
  | 127 => ⟨S32x32x4x4x64, .f32⟩
  | _ => ⟨S32x64x32x8x8, .f32⟩

abbrev hbmTy0_1 (i : Nat) : BufTy := match i % 128 with
  | 0 => ⟨S32x64x32x4x4, .f32⟩
  | 1 => ⟨S64x64x1x1x1, .f32⟩
  | 2 => ⟨S64x64, .f32⟩
  | 3 => ⟨S32x32x4x4x64, .f32⟩
  | 4 => ⟨S32x32x4x4x64, .f32⟩
  | 5 => ⟨S32x64x32x4x4, .f32⟩
  | 6 => ⟨S64x64x1x1x1, .f32⟩
  | 7 => ⟨S64x64, .f32⟩
  | 8 => ⟨S32x32x4x4x64, .f32⟩
  | 9 => ⟨S32x32x4x4x64, .f32⟩
  | 10 => ⟨S32x64x32x4x4, .f32⟩
  | 11 => ⟨S64x64x1x1x1, .f32⟩
  | 12 => ⟨S64x64, .f32⟩
  | 13 => ⟨S32x32x4x4x64, .f32⟩
  | 14 => ⟨S32x32x4x4x64, .f32⟩
  | 15 => ⟨S32x64x32x4x4, .f32⟩
  | 16 => ⟨S64x64x1x1x1, .f32⟩
  | 17 => ⟨S64x64, .f32⟩
  | 18 => ⟨S32x32x4x4x64, .f32⟩
  | 19 => ⟨S32x32x4x4x64, .f32⟩
  | 20 => ⟨S32x64x32x4x4, .f32⟩
  | 21 => ⟨S64x64x1x1x1, .f32⟩
  | 22 => ⟨S64x64, .f32⟩
  | 23 => ⟨S32x32x4x4x64, .f32⟩
  | 24 => ⟨S32x32x4x4x64, .f32⟩
  | 25 => ⟨S32x64x32x4x4, .f32⟩
  | 26 => ⟨S64x64x1x1x1, .f32⟩
  | 27 => ⟨S64x64, .f32⟩
  | 28 => ⟨S32x32x4x4x64, .f32⟩
  | 29 => ⟨S32x32x4x4x64, .f32⟩
  | 30 => ⟨S32x64x32x4x4, .f32⟩
  | 31 => ⟨S64x64x1x1x1, .f32⟩
  | 32 => ⟨S64x64, .f32⟩
  | 33 => ⟨S32x32x4x4x64, .f32⟩
  | 34 => ⟨S32x32x4x4x64, .f32⟩
  | 35 => ⟨S32x64x32x4x4, .f32⟩
  | 36 => ⟨S64x64x1x1x1, .f32⟩
  | 37 => ⟨S64x64, .f32⟩
  | 38 => ⟨S32x32x4x4x64, .f32⟩
  | 39 => ⟨S32x32x4x4x64, .f32⟩
  | 40 => ⟨S32x64x32x4x4, .f32⟩
  | 41 => ⟨S1x64x1x1x1, .f32⟩
  | 42 => ⟨S32x64x32x4x4, .f32⟩
  | 43 => ⟨S32x64x32x4x4, .f32⟩
  | 44 => ⟨S_, .i32⟩
  | 45 => ⟨S_, .f32⟩
  | 46 => ⟨S32x64x34x10x10, .f32⟩
  | 47 => ⟨S_, .f32⟩
  | 48 => ⟨S32x32x4x4x64, .f32⟩
  | 49 => ⟨S32x64x32x4x4, .f32⟩
  | 50 => ⟨S64x64x1x1x1, .f32⟩
  | 51 => ⟨S64x64, .f32⟩
  | 52 => ⟨S32x32x4x4x64, .f32⟩
  | 53 => ⟨S32x32x4x4x64, .f32⟩
  | 54 => ⟨S32x64x32x4x4, .f32⟩
  | 55 => ⟨S64x64x1x1x1, .f32⟩
  | 56 => ⟨S64x64, .f32⟩
  | 57 => ⟨S32x32x4x4x64, .f32⟩
  | 58 => ⟨S32x32x4x4x64, .f32⟩
  | 59 => ⟨S32x64x32x4x4, .f32⟩
  | 60 => ⟨S64x64x1x1x1, .f32⟩
  | 61 => ⟨S64x64, .f32⟩
  | 62 => ⟨S32x32x4x4x64, .f32⟩
  | 63 => ⟨S32x32x4x4x64, .f32⟩
  | 64 => ⟨S32x64x32x4x4, .f32⟩
  | 65 => ⟨S64x64x1x1x1, .f32⟩
  | 66 => ⟨S64x64, .f32⟩
  | 67 => ⟨S32x32x4x4x64, .f32⟩
  | 68 => ⟨S32x32x4x4x64, .f32⟩
  | 69 => ⟨S32x64x32x4x4, .f32⟩
  | 70 => ⟨S64x64x1x1x1, .f32⟩
  | 71 => ⟨S64x64, .f32⟩
  | 72 => ⟨S32x32x4x4x64, .f32⟩
  | 73 => ⟨S32x32x4x4x64, .f32⟩
  | 74 => ⟨S32x64x32x4x4, .f32⟩
  | 75 => ⟨S64x64x1x1x1, .f32⟩
  | 76 => ⟨S64x64, .f32⟩
  | 77 => ⟨S32x32x4x4x64, .f32⟩
  | 78 => ⟨S32x32x4x4x64, .f32⟩
  | 79 => ⟨S32x64x32x4x4, .f32⟩
  | 80 => ⟨S64x64x1x1x1, .f32⟩
  | 81 => ⟨S64x64, .f32⟩
  | 82 => ⟨S32x32x4x4x64, .f32⟩
  | 83 => ⟨S32x32x4x4x64, .f32⟩
  | 84 => ⟨S32x64x32x4x4, .f32⟩
  | 85 => ⟨S64x64x1x1x1, .f32⟩
  | 86 => ⟨S64x64, .f32⟩
  | 87 => ⟨S32x32x4x4x64, .f32⟩
  | 88 => ⟨S32x32x4x4x64, .f32⟩
  | 89 => ⟨S32x64x32x4x4, .f32⟩
  | 90 => ⟨S64x64x1x1x1, .f32⟩
  | 91 => ⟨S64x64, .f32⟩
  | 92 => ⟨S32x32x4x4x64, .f32⟩
  | 93 => ⟨S32x32x4x4x64, .f32⟩
  | 94 => ⟨S32x64x32x4x4, .f32⟩
  | 95 => ⟨S64x64x1x1x1, .f32⟩
  | 96 => ⟨S64x64, .f32⟩
  | 97 => ⟨S32x32x4x4x64, .f32⟩
  | 98 => ⟨S32x32x4x4x64, .f32⟩
  | 99 => ⟨S32x64x32x4x4, .f32⟩
  | 100 => ⟨S64x64x1x1x1, .f32⟩
  | 101 => ⟨S64x64, .f32⟩
  | 102 => ⟨S32x32x4x4x64, .f32⟩
  | 103 => ⟨S32x32x4x4x64, .f32⟩
  | 104 => ⟨S32x64x32x4x4, .f32⟩
  | 105 => ⟨S64x64x1x1x1, .f32⟩
  | 106 => ⟨S64x64, .f32⟩
  | 107 => ⟨S32x32x4x4x64, .f32⟩
  | 108 => ⟨S32x32x4x4x64, .f32⟩
  | 109 => ⟨S32x64x32x4x4, .f32⟩
  | 110 => ⟨S64x64x1x1x1, .f32⟩
  | 111 => ⟨S64x64, .f32⟩
  | 112 => ⟨S32x32x4x4x64, .f32⟩
  | 113 => ⟨S32x32x4x4x64, .f32⟩
  | 114 => ⟨S32x64x32x4x4, .f32⟩
  | 115 => ⟨S64x64x1x1x1, .f32⟩
  | 116 => ⟨S64x64, .f32⟩
  | 117 => ⟨S32x32x4x4x64, .f32⟩
  | 118 => ⟨S32x32x4x4x64, .f32⟩
  | 119 => ⟨S32x64x32x4x4, .f32⟩
  | 120 => ⟨S64x64x1x1x1, .f32⟩
  | 121 => ⟨S64x64, .f32⟩
  | 122 => ⟨S32x32x4x4x64, .f32⟩
  | 123 => ⟨S32x32x4x4x64, .f32⟩
  | 124 => ⟨S32x64x32x4x4, .f32⟩
  | 125 => ⟨S64x64x1x1x1, .f32⟩
  | 126 => ⟨S64x64, .f32⟩
  | 127 => ⟨S32x32x4x4x64, .f32⟩
  | _ => ⟨S32x64x32x8x8, .f32⟩

abbrev hbmTy0_2 (i : Nat) : BufTy := match i % 128 with
  | 0 => ⟨S32x32x4x4x64, .f32⟩
  | 1 => ⟨S32x64x32x4x4, .f32⟩
  | 2 => ⟨S64x64x1x1x1, .f32⟩
  | 3 => ⟨S64x64, .f32⟩
  | 4 => ⟨S32x32x4x4x64, .f32⟩
  | 5 => ⟨S32x32x4x4x64, .f32⟩
  | 6 => ⟨S32x64x32x4x4, .f32⟩
  | 7 => ⟨S64x64x1x1x1, .f32⟩
  | 8 => ⟨S64x64, .f32⟩
  | 9 => ⟨S32x32x4x4x64, .f32⟩
  | 10 => ⟨S32x32x4x4x64, .f32⟩
  | 11 => ⟨S32x64x32x4x4, .f32⟩
  | 12 => ⟨S64x64x1x1x1, .f32⟩
  | 13 => ⟨S64x64, .f32⟩
  | 14 => ⟨S32x32x4x4x64, .f32⟩
  | 15 => ⟨S32x32x4x4x64, .f32⟩
  | 16 => ⟨S32x64x32x4x4, .f32⟩
  | 17 => ⟨S64x64x1x1x1, .f32⟩
  | 18 => ⟨S64x64, .f32⟩
  | 19 => ⟨S32x32x4x4x64, .f32⟩
  | 20 => ⟨S32x32x4x4x64, .f32⟩
  | 21 => ⟨S32x64x32x4x4, .f32⟩
  | 22 => ⟨S64x64x1x1x1, .f32⟩
  | 23 => ⟨S64x64, .f32⟩
  | 24 => ⟨S32x32x4x4x64, .f32⟩
  | 25 => ⟨S32x32x4x4x64, .f32⟩
  | 26 => ⟨S32x64x32x4x4, .f32⟩
  | 27 => ⟨S64x64x1x1x1, .f32⟩
  | 28 => ⟨S64x64, .f32⟩
  | 29 => ⟨S32x32x4x4x64, .f32⟩
  | 30 => ⟨S32x32x4x4x64, .f32⟩
  | 31 => ⟨S32x64x32x4x4, .f32⟩
  | 32 => ⟨S64x64x1x1x1, .f32⟩
  | 33 => ⟨S64x64, .f32⟩
  | 34 => ⟨S32x32x4x4x64, .f32⟩
  | 35 => ⟨S32x32x4x4x64, .f32⟩
  | 36 => ⟨S32x64x32x4x4, .f32⟩
  | 37 => ⟨S64x64x1x1x1, .f32⟩
  | 38 => ⟨S64x64, .f32⟩
  | 39 => ⟨S32x32x4x4x64, .f32⟩
  | 40 => ⟨S32x32x4x4x64, .f32⟩
  | 41 => ⟨S32x64x32x4x4, .f32⟩
  | 42 => ⟨S64x64x1x1x1, .f32⟩
  | 43 => ⟨S64x64, .f32⟩
  | 44 => ⟨S32x32x4x4x64, .f32⟩
  | 45 => ⟨S32x32x4x4x64, .f32⟩
  | 46 => ⟨S32x64x32x4x4, .f32⟩
  | 47 => ⟨S64x64x1x1x1, .f32⟩
  | 48 => ⟨S64x64, .f32⟩
  | 49 => ⟨S32x32x4x4x64, .f32⟩
  | 50 => ⟨S32x32x4x4x64, .f32⟩
  | 51 => ⟨S32x64x32x4x4, .f32⟩
  | 52 => ⟨S64x64x1x1x1, .f32⟩
  | 53 => ⟨S64x64, .f32⟩
  | 54 => ⟨S32x32x4x4x64, .f32⟩
  | 55 => ⟨S32x32x4x4x64, .f32⟩
  | 56 => ⟨S32x64x32x4x4, .f32⟩
  | 57 => ⟨S1x64x1x1x1, .f32⟩
  | 58 => ⟨S32x64x32x4x4, .f32⟩
  | 59 => ⟨S32x64x32x4x4, .f32⟩
  | 60 => ⟨S32x64x32x4x4, .f32⟩
  | 61 => ⟨S32x64x32x4x4, .f32⟩
  | 62 => ⟨S32x64x32x4x4, .f32⟩
  | 63 => ⟨S_, .f32⟩
  | 64 => ⟨S32x64x32x4x4, .f32⟩
  | 65 => ⟨S32x64x32x4x4, .f32⟩
  | 66 => ⟨S32x64x32x4x4, .f32⟩
  | 67 => ⟨S_, .f32⟩
  | 68 => ⟨S32x64, .f32⟩
  | 69 => ⟨S32x64x32x4x4, .f32⟩
  | 70 => ⟨S_, .f32⟩
  | 71 => ⟨S32x64, .f32⟩
  | 72 => ⟨S32x1x64, .f32⟩
  | 73 => ⟨S32x1x64, .f32⟩
  | 74 => ⟨S32x2x64, .f32⟩
  | _ => ⟨S32x64x32x8x8, .f32⟩

abbrev hbmTy (i : Nat) : BufTy := match i / 128 with
  | 0 => hbmTy0_0 i
  | 1 => hbmTy0_1 i
  | 2 => hbmTy0_2 i
  | _ => ⟨S32x64x32x8x8, .f32⟩

abbrev bufTy : (tb : Table) → Fin (tcTables nBuf tb) → BufTy
  | .hbm, ⟨i, _⟩ => hbmTy i
  | _, _ => ⟨S32x64x32x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_v0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_c_2 : Ref sig .tc := ⟨.hbm, 172, rfl⟩
abbrev main_call1_v0 : Ref sig .tc := ⟨.hbm, 173, rfl⟩
abbrev main_v160 : Ref sig .tc := ⟨.hbm, 174, rfl⟩
abbrev main_cst_3 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_v287 : Ref sig .tc := ⟨.hbm, 302, rfl⟩
abbrev main_v288 : Ref sig .tc := ⟨.hbm, 303, rfl⟩
abbrev main_v289 : Ref sig .tc := ⟨.hbm, 304, rfl⟩
abbrev main_v290 : Ref sig .tc := ⟨.hbm, 305, rfl⟩
abbrev main_v291 : Ref sig .tc := ⟨.hbm, 306, rfl⟩
abbrev main_v292 : Ref sig .tc := ⟨.hbm, 307, rfl⟩
abbrev main_v293 : Ref sig .tc := ⟨.hbm, 308, rfl⟩
abbrev main_v294 : Ref sig .tc := ⟨.hbm, 309, rfl⟩
abbrev main_v295 : Ref sig .tc := ⟨.hbm, 310, rfl⟩
abbrev main_v296 : Ref sig .tc := ⟨.hbm, 311, rfl⟩
abbrev main_v297 : Ref sig .tc := ⟨.hbm, 312, rfl⟩
abbrev main_v298 : Ref sig .tc := ⟨.hbm, 313, rfl⟩
abbrev main_v299 : Ref sig .tc := ⟨.hbm, 314, rfl⟩
abbrev main_v300 : Ref sig .tc := ⟨.hbm, 315, rfl⟩
abbrev main_v301 : Ref sig .tc := ⟨.hbm, 316, rfl⟩
abbrev main_v302 : Ref sig .tc := ⟨.hbm, 317, rfl⟩
abbrev main_v303 : Ref sig .tc := ⟨.hbm, 318, rfl⟩
abbrev main_cst_4 : Ref sig .tc := ⟨.hbm, 319, rfl⟩
abbrev main_v304 : Ref sig .tc := ⟨.hbm, 320, rfl⟩
abbrev main_v305 : Ref sig .tc := ⟨.hbm, 321, rfl⟩
abbrev main_v306 : Ref sig .tc := ⟨.hbm, 322, rfl⟩
abbrev main_cst_5 : Ref sig .tc := ⟨.hbm, 323, rfl⟩
abbrev main_v307 : Ref sig .tc := ⟨.hbm, 324, rfl⟩
abbrev main_v308 : Ref sig .tc := ⟨.hbm, 325, rfl⟩
abbrev main_cst_6 : Ref sig .tc := ⟨.hbm, 326, rfl⟩
abbrev main_v309 : Ref sig .tc := ⟨.hbm, 327, rfl⟩
abbrev main_v310 : Ref sig .tc := ⟨.hbm, 328, rfl⟩
abbrev main_v311 : Ref sig .tc := ⟨.hbm, 329, rfl⟩
abbrev main_v312 : Ref sig .tc := ⟨.hbm, 330, rfl⟩

abbrev nD : Nat := 1
abbrev τ : Topo := Topo.v7x

variable {F : FTy → Type} [FloatOps F]
-- ==== Readout.lean ====
abbrev S32x64x32x4x4 : Shape := ⟨5, ![32, 64, 32, 4, 4]⟩
abbrev S1x32768 : Shape := ⟨2, ![1, 32768]⟩
abbrev S64x1 : Shape := ⟨2, ![64, 1]⟩
abbrev S1 : Shape := ⟨1, ![1]⟩
abbrev S32768 : Shape := ⟨1, ![32768]⟩
abbrev S64x512 : Shape := ⟨2, ![64, 512]⟩
abbrev S_ : Shape := ⟨0, ![]⟩
abbrev S2 : Shape := ⟨1, ![2]⟩
abbrev S1x2 : Shape := ⟨2, ![1, 2]⟩
abbrev S32x64x512 : Shape := ⟨3, ![32, 64, 512]⟩
abbrev S32x1x1 : Shape := ⟨3, ![32, 1, 1]⟩
abbrev S1x64x512 : Shape := ⟨3, ![1, 64, 512]⟩
abbrev S1x1x1 : Shape := ⟨3, ![1, 1, 1]⟩
abbrev S1x1 : Shape := ⟨2, ![1, 1]⟩

abbrev nBuf : Space → Nat
  | .hbm => 18
  | .vmem => 10
  | .smem => 0
  | _ => 0

abbrev bufTy : (tb : Table) → Fin (tcTables nBuf tb) → BufTy
  | .hbm, ⟨0, _⟩ => ⟨S32x64x32x4x4, .f32⟩
  | .hbm, ⟨1, _⟩ => ⟨S32x64x32x4x4, .f32⟩
  | .hbm, ⟨2, _⟩ => ⟨S1x32768, .f32⟩
  | .hbm, ⟨3, _⟩ => ⟨S64x1, .f32⟩
  | .hbm, ⟨4, _⟩ => ⟨S64x1, .f32⟩
  | .hbm, ⟨5, _⟩ => ⟨S1, .f32⟩
  | .hbm, ⟨6, _⟩ => ⟨S1, .f32⟩
  | .hbm, ⟨7, _⟩ => ⟨S32768, .f32⟩
  | .hbm, ⟨8, _⟩ => ⟨S64x512, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S2, .f32⟩
  | .hbm, ⟨14, _⟩ => ⟨S1x2, .f32⟩
  | .hbm, ⟨15, _⟩ => ⟨S32x64x512, .f32⟩
  | .hbm, ⟨16, _⟩ => ⟨S32x64x512, .f32⟩
  | .hbm, ⟨17, _⟩ => ⟨S32x1x1, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S64x512, .f32⟩
  | .local _ .vmem, ⟨5, _⟩ => ⟨S64x1, .f32⟩
  | .local _ .vmem, ⟨6, _⟩ => ⟨S64x1, .f32⟩
  | .local _ .vmem, ⟨7, _⟩ => ⟨S1x2, .f32⟩
  | .local _ .vmem, ⟨8, _⟩ => ⟨S1x1x1, .f32⟩
  | .local _ .vmem, ⟨9, _⟩ => ⟨S1x1x1, .f32⟩
  | _, _ => ⟨S32x64x32x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefReadoutIdeal.lean ====
abbrev S32x64x32x4x4 : Shape := ⟨5, ![32, 64, 32, 4, 4]⟩
abbrev S1x32768 : Shape := ⟨2, ![1, 32768]⟩
abbrev S64x1 : Shape := ⟨2, ![64, 1]⟩
abbrev S1 : Shape := ⟨1, ![1]⟩
abbrev S_ : Shape := ⟨0, ![]⟩
abbrev S1x64x1x1x1 : Shape := ⟨5, ![1, 64, 1, 1, 1]⟩
abbrev S32x32768 : Shape := ⟨2, ![32, 32768]⟩
abbrev S32768x1 : Shape := ⟨2, ![32768, 1]⟩
abbrev S32x1 : Shape := ⟨2, ![32, 1]⟩
abbrev S1x1 : Shape := ⟨2, ![1, 1]⟩
abbrev S32x1x1 : Shape := ⟨3, ![32, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x64x32x4x4, .f32⟩
  | .hbm, ⟨1, _⟩ => ⟨S32x64x32x4x4, .f32⟩
  | .hbm, ⟨2, _⟩ => ⟨S1x32768, .f32⟩
  | .hbm, ⟨3, _⟩ => ⟨S64x1, .f32⟩
  | .hbm, ⟨4, _⟩ => ⟨S64x1, .f32⟩
  | .hbm, ⟨5, _⟩ => ⟨S1, .f32⟩
  | .hbm, ⟨6, _⟩ => ⟨S1, .f32⟩
  | .hbm, ⟨7, _⟩ => ⟨S32x64x32x4x4, .f32⟩
  | .hbm, ⟨8, _⟩ => ⟨S32x64x32x4x4, .f32⟩
  | .hbm, ⟨9, _⟩ => ⟨S32x64x32x4x4, .f32⟩
  | .hbm, ⟨10, _⟩ => ⟨S_, .f32⟩
  | .hbm, ⟨11, _⟩ => ⟨S32x64x32x4x4, .f32⟩
  | .hbm, ⟨12, _⟩ => ⟨S32x64x32x4x4, .f32⟩
  | .hbm, ⟨13, _⟩ => ⟨S32x64x32x4x4, .f32⟩
  | .hbm, ⟨14, _⟩ => ⟨S32x64x32x4x4, .f32⟩
  | .hbm, ⟨15, _⟩ => ⟨S1x64x1x1x1, .f32⟩
  | .hbm, ⟨16, _⟩ => ⟨S32x64x32x4x4, .f32⟩
  | .hbm, ⟨17, _⟩ => ⟨S32x64x32x4x4, .f32⟩
  | .hbm, ⟨18, _⟩ => ⟨S1x64x1x1x1, .f32⟩
  | .hbm, ⟨19, _⟩ => ⟨S32x64x32x4x4, .f32⟩
  | .hbm, ⟨20, _⟩ => ⟨S32x64x32x4x4, .f32⟩
  | .hbm, ⟨21, _⟩ => ⟨S_, .f32⟩
  | .hbm, ⟨22, _⟩ => ⟨S32x64x32x4x4, .f32⟩
  | .hbm, ⟨23, _⟩ => ⟨S32x64x32x4x4, .f32⟩
  | .hbm, ⟨24, _⟩ => ⟨S32x64x32x4x4, .f32⟩
  | .hbm, ⟨25, _⟩ => ⟨S32x64x32x4x4, .f32⟩
  | .hbm, ⟨26, _⟩ => ⟨S32x64x32x4x4, .f32⟩
  | .hbm, ⟨27, _⟩ => ⟨S32x64x32x4x4, .f32⟩
  | .hbm, ⟨28, _⟩ => ⟨S32x32768, .f32⟩
  | .hbm, ⟨29, _⟩ => ⟨S32768x1, .f32⟩
  | .hbm, ⟨30, _⟩ => ⟨S32x1, .f32⟩
  | .hbm, ⟨31, _⟩ => ⟨S1x1, .f32⟩
  | .hbm, ⟨32, _⟩ => ⟨S32x1, .f32⟩
  | .hbm, ⟨33, _⟩ => ⟨S32x1, .f32⟩
  | .hbm, ⟨34, _⟩ => ⟨S32x32768, .f32⟩
  | .hbm, ⟨35, _⟩ => ⟨S32768x1, .f32⟩
  | .hbm, ⟨36, _⟩ => ⟨S32x1, .f32⟩
  | .hbm, ⟨37, _⟩ => ⟨S1x1, .f32⟩
  | .hbm, ⟨38, _⟩ => ⟨S32x1, .f32⟩
  | .hbm, ⟨39, _⟩ => ⟨S32x1, .f32⟩
  | .hbm, ⟨40, _⟩ => ⟨S32x1, .f32⟩
  | .hbm, ⟨41, _⟩ => ⟨S32x1, .f32⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S32x1, .f32⟩
  | .hbm, ⟨47, _⟩ => ⟨S32x1x1, .f32⟩
  | _, _ => ⟨S32x64x32x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Oscillators.lean ====
abbrev S32x3x32x32x32 : Shape := ⟨5, ![32, 3, 32, 32, 32]⟩
abbrev S32x5x32x32x32 : Shape := ⟨5, ![32, 5, 32, 32, 32]⟩
abbrev S32x8x32x32 : Shape := ⟨4, ![32, 8, 32, 32]⟩
abbrev S8x3x3x3 : Shape := ⟨4, ![8, 3, 3, 3]⟩
abbrev S8x8x5x5 : Shape := ⟨4, ![8, 8, 5, 5]⟩
abbrev S_ : Shape := ⟨0, ![]⟩
abbrev S32x3x32x34x34 : Shape := ⟨5, ![32, 3, 32, 34, 34]⟩
abbrev S8x27 : Shape := ⟨2, ![8, 27]⟩
abbrev S1x1x5x5 : Shape := ⟨4, ![1, 1, 5, 5]⟩
abbrev S5x5 : Shape := ⟨2, ![5, 5]⟩
abbrev S32x8x32x32x32 : Shape := ⟨5, ![32, 8, 32, 32, 32]⟩
abbrev S32x32x1x1 : Shape := ⟨4, ![32, 32, 1, 1]⟩
abbrev S1x3x1x34x34 : Shape := ⟨5, ![1, 3, 1, 34, 34]⟩
abbrev S1x8x32x32 : Shape := ⟨4, ![1, 8, 32, 32]⟩
abbrev S1x5x1x32x32 : Shape := ⟨5, ![1, 5, 1, 32, 32]⟩
abbrev S1x8x1x32x32 : Shape := ⟨5, ![1, 8, 1, 32, 32]⟩
abbrev S1x1x1x1 : Shape := ⟨4, ![1, 1, 1, 1]⟩
abbrev S8x32x32 : Shape := ⟨3, ![8, 32, 32]⟩
abbrev S3x34x34 : Shape := ⟨3, ![3, 34, 34]⟩
abbrev S3x32x32 : Shape := ⟨3, ![3, 32, 32]⟩
abbrev S27x32x32 : Shape := ⟨3, ![27, 32, 32]⟩
abbrev S27x1024 : Shape := ⟨2, ![27, 1024]⟩
abbrev S8x1024 : Shape := ⟨2, ![8, 1024]⟩
abbrev S32x32 : Shape := ⟨2, ![32, 32]⟩
abbrev S1x32x32 : Shape := ⟨3, ![1, 32, 32]⟩
abbrev S1 : Shape := ⟨1, ![1]⟩
abbrev S1x1x1 : Shape := ⟨3, ![1, 1, 1]⟩
abbrev S2x32 : Shape := ⟨2, ![2, 32]⟩
abbrev S34x32 : Shape := ⟨2, ![34, 32]⟩
abbrev S36x32 : Shape := ⟨2, ![36, 32]⟩
abbrev S36x2 : Shape := ⟨2, ![36, 2]⟩
abbrev S36x34 : Shape := ⟨2, ![36, 34]⟩
abbrev S36x36 : Shape := ⟨2, ![36, 36]⟩
abbrev S1x1 : Shape := ⟨2, ![1, 1]⟩
abbrev S1x4x1x32x32 : Shape := ⟨5, ![1, 4, 1, 32, 32]⟩
abbrev S4x32x32 : Shape := ⟨3, ![4, 32, 32]⟩
abbrev S4x1024 : Shape := ⟨2, ![4, 1024]⟩
abbrev S1024x8 : Shape := ⟨2, ![1024, 8]⟩
abbrev S4x8 : Shape := ⟨2, ![4, 8]⟩
abbrev S4 : Shape := ⟨1, ![4]⟩
abbrev S4x1 : Shape := ⟨2, ![4, 1]⟩
abbrev S1x4 : Shape := ⟨2, ![1, 4]⟩

abbrev nBuf : Space → Nat
  | .hbm => 15
  | .vmem => 15
  | .smem => 0
  | _ => 0

abbrev bufTy : (tb : Table) → Fin (tcTables nBuf tb) → BufTy
  | .hbm, ⟨0, _⟩ => ⟨S32x3x32x32x32, .f32⟩
  | .hbm, ⟨1, _⟩ => ⟨S32x5x32x32x32, .i32⟩
  | .hbm, ⟨2, _⟩ => ⟨S32x8x32x32, .f32⟩
  | .hbm, ⟨3, _⟩ => ⟨S8x3x3x3, .f32⟩
  | .hbm, ⟨4, _⟩ => ⟨S8x8x5x5, .f32⟩
  | .hbm, ⟨5, _⟩ => ⟨S_, .i32⟩
  | .hbm, ⟨6, _⟩ => ⟨S_, .f32⟩
  | .hbm, ⟨7, _⟩ => ⟨S32x3x32x34x34, .f32⟩
  | .hbm, ⟨8, _⟩ => ⟨S8x3x3x3, .f32⟩
  | .hbm, ⟨9, _⟩ => ⟨S8x27, .f32⟩
  | .hbm, ⟨10, _⟩ => ⟨S1x1x5x5, .f32⟩
  | .hbm, ⟨11, _⟩ => ⟨S5x5, .f32⟩
  | .hbm, ⟨12, _⟩ => ⟨S32x8x32x32x32, .f32⟩
  | .hbm, ⟨13, _⟩ => ⟨S32x8x32x32x32, .f32⟩
  | .hbm, ⟨14, _⟩ => ⟨S32x32x1x1, .f32⟩
  | .local _ .vmem, ⟨0, _⟩ => ⟨S1x3x1x34x34, .f32⟩
  | .local _ .vmem, ⟨1, _⟩ => ⟨S1x3x1x34x34, .f32⟩
  | .local _ .vmem, ⟨2, _⟩ => ⟨S1x8x32x32, .f32⟩
  | .local _ .vmem, ⟨3, _⟩ => ⟨S1x8x32x32, .f32⟩
  | .local _ .vmem, ⟨4, _⟩ => ⟨S1x5x1x32x32, .i32⟩
  | .local _ .vmem, ⟨5, _⟩ => ⟨S1x5x1x32x32, .i32⟩
  | .local _ .vmem, ⟨6, _⟩ => ⟨S8x27, .f32⟩
  | .local _ .vmem, ⟨7, _⟩ => ⟨S5x5, .f32⟩
  | .local _ .vmem, ⟨8, _⟩ => ⟨S1x8x1x32x32, .f32⟩
  | .local _ .vmem, ⟨9, _⟩ => ⟨S1x8x1x32x32, .f32⟩
  | .local _ .vmem, ⟨10, _⟩ => ⟨S1x8x1x32x32, .f32⟩
  | .local _ .vmem, ⟨11, _⟩ => ⟨S1x8x1x32x32, .f32⟩
  | .local _ .vmem, ⟨12, _⟩ => ⟨S1x1x1x1, .f32⟩
  | .local _ .vmem, ⟨13, _⟩ => ⟨S1x1x1x1, .f32⟩
  | .local _ .vmem, ⟨14, _⟩ => ⟨S8x32x32, .f32⟩
  | _, _ => ⟨S32x3x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 32], ![false, false]⟩

def k0_cond1 (i : grid0.Coords) : BitVec 1 :=
  let arg1 : BitVec 32 := BitVec.ofNat 32 (i 1).val
  let c0_i32_29 : BitVec 32 := 0#32
  let v331 : BitVec 1 := Scalar.cmpi .eq arg1 c0_i32_29
  let v332 : BitVec 32 := Scalar.extui v331
  let c0_i32_30 : BitVec 32 := 0#32
  let v333 : BitVec 1 := Scalar.cmpi .ne v332 c0_i32_30
  v333

@[reducible] def k0_t1_loop : Scf.Loop 32 :=
  let c0_i32_78 : BitVec 32 := 0#32
  let c7_i32 : BitVec 32 := 7#32
  let v428 : BitVec 32 := Scalar.addi c0_i32_78 c7_i32
  let c1_i32 : BitVec 32 := 1#32
  ⟨c0_i32_78, v428, c1_i32⟩
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x1x34x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5x1x32x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S5x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Rows.lean ====
/-
  A two row buffer written and read row by row: what two row stores leave, and what a row load reads of it.
-/
module

public import Idealize.ShloMosaic.PureOps
public import Idealize.ShloMosaic.Lib.Pipeline.Value
public import Idealize.ShloMosaic.Lib.Pointwise

@[expose] public section

noncomputable section

open Idealize.ShloMosaic

namespace Cert.Proof.Rows

variable {Val : EltTy → Type} {e : EltTy} {N : ℕ}

/-- Row `k` of a two row array. -/
def row (k : Fin 2) (X : (⟨2, ![2, N]⟩ : Shape).Idx → Val e) : (⟨2, ![1, N]⟩ : Shape).Idx → Val e :=
  fun i => X (ix2 k (i 1))

/-- The two row array of two rows. -/
def rows (p0 p1 : (⟨2, ![1, N]⟩ : Shape).Idx → Val e) : (⟨2, ![2, N]⟩ : Shape).Idx → Val e :=
  fun i => if (i 0).val = 0 then p0 (ix2 0 (i 1)) else p1 (ix2 0 (i 1))

/-- The rectangle of the first row sends an index to the first row. -/
theorem emb_row0 (inb : ∀ a, (![0, 0] : Fin 2 → ℕ) a + (![1, N] : Fin 2 → ℕ) a ≤ (⟨2, ![2, N]⟩ : Shape).size a)
    (j : (⟨2, ![1, N]⟩ : Shape).Idx) :
    (Rect.unit (s := ⟨2, ![2, N]⟩) ![0, 0] ![1, N] inb).emb j = ix2 (0 : Fin 2) (j 1) := by
  have h0 : (j 0).val = 0 := by have := (j 0).isLt; simp at this; omega
  funext a; fin_cases a
  · apply Fin.ext; show 0 + 1 * (j 0).val = 0; omega
  · apply Fin.ext; show 0 + 1 * (j 1).val = (j 1).val; omega

/-- The rectangle of the second row sends an index to the second row. -/
theorem emb_row1 (inb : ∀ a, (![1, 0] : Fin 2 → ℕ) a + (![1, N] : Fin 2 → ℕ) a ≤ (⟨2, ![2, N]⟩ : Shape).size a)
    (j : (⟨2, ![1, N]⟩ : Shape).Idx) :
    (Rect.unit (s := ⟨2, ![2, N]⟩) ![1, 0] ![1, N] inb).emb j = ix2 (1 : Fin 2) (j 1) := by
  have h0 : (j 0).val = 0 := by have := (j 0).isLt; simp at this; omega
  funext a; fin_cases a
  · apply Fin.ext; show 1 + 1 * (j 0).val = 1; omega
  · apply Fin.ext; show 0 + 1 * (j 1).val = (j 1).val; omega

/-- A load of the first row. -/
theorem ld_row0 (inb : ∀ a, (![0, 0] : Fin 2 → ℕ) a + (![1, N] : Fin 2 → ℕ) a ≤ (⟨2, ![2, N]⟩ : Shape).size a)
    (X : (⟨2, ![2, N]⟩ : Shape).Idx → Val e) :
    View.ld (Val := Val) (e' := e) X (Rect.unit (s := ⟨2, ![2, N]⟩) ![0, 0] ![1, N] inb) = row 0 X :=
  funext fun j => congrArg X (emb_row0 inb j)

/-- A load of the second row. -/
theorem ld_row1 (inb : ∀ a, (![1, 0] : Fin 2 → ℕ) a + (![1, N] : Fin 2 → ℕ) a ≤ (⟨2, ![2, N]⟩ : Shape).size a)
    (X : (⟨2, ![2, N]⟩ : Shape).Idx → Val e) :
    View.ld (Val := Val) (e' := e) X (Rect.unit (s := ⟨2, ![2, N]⟩) ![1, 0] ![1, N] inb) = row 1 X :=
  funext fun j => congrArg X (emb_row1 inb j)

/-- No index of the second row lies in the first row's rectangle. -/
theorem row1_not_mem (inb : ∀ a, (![0, 0] : Fin 2 → ℕ) a + (![1, N] : Fin 2 → ℕ) a ≤ (⟨2, ![2, N]⟩ : Shape).size a)
    (k : Fin N) : ix2 (1 : Fin 2) k ∉ (Rect.unit (s := ⟨2, ![2, N]⟩) ![0, 0] ![1, N] inb).set := by
  intro hm
  obtain ⟨x, hx⟩ := LoadRect.exists_idx_of_mem _ hm
  replace hx := (emb_row0 inb x).symm.trans hx
  have := congrFun hx 0
  exact absurd (congrArg Fin.val this) (fun h => by cases h)

/-- No index of the first row lies in the second row's rectangle. -/
theorem row0_not_mem (inb : ∀ a, (![1, 0] : Fin 2 → ℕ) a + (![1, N] : Fin 2 → ℕ) a ≤ (⟨2, ![2, N]⟩ : Shape).size a)
    (k : Fin N) : ix2 (0 : Fin 2) k ∉ (Rect.unit (s := ⟨2, ![2, N]⟩) ![1, 0] ![1, N] inb).set := by
  intro hm
  obtain ⟨x, hx⟩ := LoadRect.exists_idx_of_mem _ hm
  replace hx := (emb_row1 inb x).symm.trans hx
  have := congrFun hx 0
  exact absurd (congrArg Fin.val this) (fun h => by cases h)

variable [∀ e, Nonempty (Val e)]

/-- The first row stored, then the second: the array of the two rows, whatever was stored before. -/
theorem canon_rows (inb0 : ∀ a, (![0, 0] : Fin 2 → ℕ) a + (![1, N] : Fin 2 → ℕ) a ≤ (⟨2, ![2, N]⟩ : Shape).size a)
    (inb1 : ∀ a, (![1, 0] : Fin 2 → ℕ) a + (![1, N] : Fin 2 → ℕ) a ≤ (⟨2, ![2, N]⟩ : Shape).size a)
    (p0 p1 : (⟨2, ![1, N]⟩ : Shape).Idx → Val e) (L : List (View.Piece Val (⟨2, ![2, N]⟩ : Shape) e)) :
    View.canon ((⟨Rect.unit (s := ⟨2, ![2, N]⟩) ![1, 0] ![1, N] inb1, p1⟩ : View.Piece Val (⟨2, ![2, N]⟩ : Shape) e) ::
        (⟨Rect.unit (s := ⟨2, ![2, N]⟩) ![0, 0] ![1, N] inb0, p0⟩ : View.Piece Val (⟨2, ![2, N]⟩ : Shape) e) :: L) = rows p0 p1 := by
  have k0 : ∀ k : Fin N, View.canon ((⟨Rect.unit (s := ⟨2, ![2, N]⟩) ![1, 0] ![1, N] inb1, p1⟩ : View.Piece Val (⟨2, ![2, N]⟩ : Shape) e) ::
      (⟨Rect.unit (s := ⟨2, ![2, N]⟩) ![0, 0] ![1, N] inb0, p0⟩ : View.Piece Val (⟨2, ![2, N]⟩ : Shape) e) :: L) (ix2 (0 : Fin 2) k) = p0 (ix2 0 k) := by
    intro k
    refine (View.canon_cons_of_not_mem (⟨Rect.unit (s := ⟨2, ![2, N]⟩) ![1, 0] ![1, N] inb1, p1⟩ : View.Piece Val (⟨2, ![2, N]⟩ : Shape) e) _
      (row0_not_mem inb1 k)).trans ?_
    have e0 := View.canon_cons_emb (Rect.unit (s := ⟨2, ![2, N]⟩) ![0, 0] ![1, N] inb0) p0 L (ix2 (0 : Fin 1) k)
    exact (congrArg _ (emb_row0 inb0 (ix2 (0 : Fin 1) k)).symm).trans e0
  have k1 : ∀ k : Fin N, View.canon ((⟨Rect.unit (s := ⟨2, ![2, N]⟩) ![1, 0] ![1, N] inb1, p1⟩ : View.Piece Val (⟨2, ![2, N]⟩ : Shape) e) ::
      (⟨Rect.unit (s := ⟨2, ![2, N]⟩) ![0, 0] ![1, N] inb0, p0⟩ : View.Piece Val (⟨2, ![2, N]⟩ : Shape) e) :: L) (ix2 (1 : Fin 2) k) = p1 (ix2 0 k) := by
    intro k
    have e1 := View.canon_cons_emb (Rect.unit (s := ⟨2, ![2, N]⟩) ![1, 0] ![1, N] inb1) p1
      ((⟨Rect.unit (s := ⟨2, ![2, N]⟩) ![0, 0] ![1, N] inb0, p0⟩ : View.Piece Val (⟨2, ![2, N]⟩ : Shape) e) :: L) (ix2 (0 : Fin 1) k)
    exact (congrArg _ (emb_row1 inb1 (ix2 (0 : Fin 1) k)).symm).trans e1
  funext i
  rcases Nat.eq_zero_or_pos (i 0).val with h | h
  · have hi : i = ix2 (0 : Fin 2) (i 1) := by
      funext a; fin_cases a
      · exact Fin.ext h
      · rfl
    have hr : rows p0 p1 i = p0 (ix2 0 (i 1)) := if_pos h
    exact (congrArg _ hi).trans ((k0 (i 1)).trans hr.symm)
  · have hi : i = ix2 (1 : Fin 2) (i 1) := by
      funext a; fin_cases a
      · apply Fin.ext; have := (i 0).isLt; show (i 0).val = 1; simp at this; omega
      · rfl
    have hr : rows p0 p1 i = p1 (ix2 0 (i 1)) := if_neg (by omega)
    exact (congrArg _ hi).trans ((k1 (i 1)).trans hr.symm)

/-- The first row read back after a store of the whole array. -/
theorem readCov_row0 {sig : RefSig} {κ : Kind} {sp : Space} (v : View sig κ sp (⟨2, ![2, N]⟩ : Shape) e)
    (inb : ∀ a, (![0, 0] : Fin 2 → ℕ) a + (![2, N] : Fin 2 → ℕ) a ≤ (⟨2, ![2, N]⟩ : Shape).size a)
    (inb0 : ∀ a, (![0, 0] : Fin 2 → ℕ) a + (![1, N] : Fin 2 → ℕ) a ≤ (⟨2, ![2, N]⟩ : Shape).size a)
    (z : (⟨2, ![2, N]⟩ : Shape).Idx → Val e) :
    v.readCov [(⟨Rect.unit (s := ⟨2, ![2, N]⟩) ![0, 0] ![2, N] inb, z⟩ : View.Piece Val (⟨2, ![2, N]⟩ : Shape) e)]
      (Rect.unit (s := ⟨2, ![2, N]⟩) ![0, 0] ![1, N] inb0).toLoadRect = row 0 z := by
  have hz : (![0, 0] : Fin 2 → ℕ) = fun _ => 0 := by funext a; fin_cases a <;> rfl
  rw [View.readCov_eq_canon']
  have hc := View.canon_unit_zero (Val := Val) (S := ⟨2, ![2, N]⟩) hz inb z
  funext j
  exact (congrFun hc _).trans (congrArg z (emb_row0 inb0 j))

/-- The second row read back after a store of the whole array and then one of the first row. -/
theorem readCov_row1 {sig : RefSig} {κ : Kind} {sp : Space} (v : View sig κ sp (⟨2, ![2, N]⟩ : Shape) e)
    (inb : ∀ a, (![0, 0] : Fin 2 → ℕ) a + (![2, N] : Fin 2 → ℕ) a ≤ (⟨2, ![2, N]⟩ : Shape).size a)
    (inb0 : ∀ a, (![0, 0] : Fin 2 → ℕ) a + (![1, N] : Fin 2 → ℕ) a ≤ (⟨2, ![2, N]⟩ : Shape).size a)
    (inb1 : ∀ a, (![1, 0] : Fin 2 → ℕ) a + (![1, N] : Fin 2 → ℕ) a ≤ (⟨2, ![2, N]⟩ : Shape).size a)
    (z : (⟨2, ![2, N]⟩ : Shape).Idx → Val e) (p0 : (⟨2, ![1, N]⟩ : Shape).Idx → Val e) :
    v.readCov [(⟨Rect.unit (s := ⟨2, ![2, N]⟩) ![0, 0] ![1, N] inb0, p0⟩ : View.Piece Val (⟨2, ![2, N]⟩ : Shape) e),
        (⟨Rect.unit (s := ⟨2, ![2, N]⟩) ![0, 0] ![2, N] inb, z⟩ : View.Piece Val (⟨2, ![2, N]⟩ : Shape) e)]
      (Rect.unit (s := ⟨2, ![2, N]⟩) ![1, 0] ![1, N] inb1).toLoadRect = row 1 z := by
  have hz : (![0, 0] : Fin 2 → ℕ) = fun _ => 0 := by funext a; fin_cases a <;> rfl
  rw [View.readCov_eq_canon']
  have hc := View.canon_unit_zero (Val := Val) (S := ⟨2, ![2, N]⟩) hz inb z
  funext j
  have hi : (Rect.unit (s := ⟨2, ![2, N]⟩) ![1, 0] ![1, N] inb1).toLoadRect.idx j = ix2 (1 : Fin 2) (j 1) :=
    emb_row1 inb1 j
  refine (congrArg _ hi).trans ?_
  refine (View.canon_cons_of_not_mem (⟨Rect.unit (s := ⟨2, ![2, N]⟩) ![0, 0] ![1, N] inb0, p0⟩ : View.Piece Val (⟨2, ![2, N]⟩ : Shape) e) _
    (row1_not_mem inb0 (j 1))).trans ?_
  exact congrFun hc (ix2 (1 : Fin 2) (j 1))

/-- The whole array read back after the two row stores. -/
theorem readCov_rows {sig : RefSig} {κ : Kind} {sp : Space} (v : View sig κ sp (⟨2, ![2, N]⟩ : Shape) e)
    (inb : ∀ a, (![0, 0] : Fin 2 → ℕ) a + (![2, N] : Fin 2 → ℕ) a ≤ (⟨2, ![2, N]⟩ : Shape).size a)
    (inb0 : ∀ a, (![0, 0] : Fin 2 → ℕ) a + (![1, N] : Fin 2 → ℕ) a ≤ (⟨2, ![2, N]⟩ : Shape).size a)
    (inb1 : ∀ a, (![1, 0] : Fin 2 → ℕ) a + (![1, N] : Fin 2 → ℕ) a ≤ (⟨2, ![2, N]⟩ : Shape).size a)
    (p0 p1 : (⟨2, ![1, N]⟩ : Shape).Idx → Val e) (L : List (View.Piece Val (⟨2, ![2, N]⟩ : Shape) e)) :
    v.readCov ((⟨Rect.unit (s := ⟨2, ![2, N]⟩) ![1, 0] ![1, N] inb1, p1⟩ : View.Piece Val (⟨2, ![2, N]⟩ : Shape) e) ::
        (⟨Rect.unit (s := ⟨2, ![2, N]⟩) ![0, 0] ![1, N] inb0, p0⟩ : View.Piece Val (⟨2, ![2, N]⟩ : Shape) e) :: L)
      (Rect.unit (s := ⟨2, ![2, N]⟩) ![0, 0] ![2, N] inb).toLoadRect = rows p0 p1 := by
  rw [View.readCov_eq_canon', canon_rows inb0 inb1 p0 p1 L]
  funext j
  have hi : (Rect.unit (s := ⟨2, ![2, N]⟩) ![0, 0] ![2, N] inb).toLoadRect.idx j = j := by
    funext a; fin_cases a
    · apply Fin.ext; show 0 + 1 * (j 0).val = (j 0).val; omega
    · apply Fin.ext; show 0 + 1 * (j 1).val = (j 1).val; omega
  rw [hi]

end Cert.Proof.Rows
-- ==== Proof.PreKernel.lean ====
/-
  What the call of the first layer leaves in its blocks at each grid point, as functions of
  the blocks it reads: the two convolution blocks at every depth step, the running sums of the magnitudes, and the
  block of sums at the last depth step.
-/
module

public import proofs.«01_k».proof.Proof.Gen.ConvPreIdeal.Value
public import proofs.«01_k».proof.Proof.Rows

@[expose] public section

noncomputable section

namespace Cert.Proof.Pre

open Cert.ConvPreIdeal Cert.ConvPreIdeal.Gen Cert.ConvPreIdeal.Value Idealize.ShloMosaic Idealize.ShloMosaic.TcCoe Idealize.SL.Sem

variable {F : FTy → Type} [FloatOps F]

/-- The zero offsets of a load of a whole block, at the ranks that occur. -/
theorem hz2 : (![0, 0] : Fin 2 → ℕ) = fun _ => 0 := by funext a; fin_cases a <;> rfl
/-- The same at rank three. -/
theorem hz3 : (![0, 0, 0] : Fin 3 → ℕ) = fun _ => 0 := by funext a; fin_cases a <;> rfl
/-- The same at rank five. -/
theorem hz5 : (![0, 0, 0, 0, 0] : Fin 5 → ℕ) = fun _ => 0 := by funext a; fin_cases a <;> rfl
/-- The same at rank seven. -/
theorem hz7 : (![0, 0, 0, 0, 0, 0, 0] : Fin 7 → ℕ) = fun _ => 0 := by funext a; fin_cases a <;> rfl

/-- The product's real half with its bias, from the six input blocks (real and imaginary, of the three depths). -/
def reOf (X0 Y0 X1 Y1 X2 Y2 : Vec F S1x8x1x2x2x17x17 .f32) (x6 : Vec F S32x216 .f32) (x7 : Vec F S32x1 .f32) : FVec F S32x256 .f32 :=
  k0_pay53 (k0_pay4 X2) (k0_pay7 Y2)
    (k0_pay8 X0) (k0_pay10 (k0_pay9 Y0)) (k0_pay11 (k0_pay2 X0)) (k0_pay12 (k0_pay5 Y0)) (k0_pay13 (k0_pay2 X0)) (k0_pay14 (k0_pay5 Y0)) (k0_pay15 (k0_pay2 X0))
    (k0_pay16 (k0_pay5 Y0)) (k0_pay17 (k0_pay2 X0)) (k0_pay18 (k0_pay5 Y0)) (k0_pay19 (k0_pay2 X0)) (k0_pay20 (k0_pay5 Y0)) (k0_pay21 (k0_pay2 X0)) (k0_pay22 (k0_pay5 Y0))
    (k0_pay23 (k0_pay2 X0)) (k0_pay24 (k0_pay5 Y0)) (k0_pay25 (k0_pay2 X0)) (k0_pay26 (k0_pay5 Y0)) (k0_pay27 (k0_pay3 X1)) (k0_pay28 (k0_pay6 Y1)) (k0_pay29 (k0_pay3 X1))
    (k0_pay31 (k0_pay30 (k0_pay6 Y1))) (k0_pay32 (k0_pay3 X1)) (k0_pay33 (k0_pay6 Y1)) (k0_pay34 (k0_pay3 X1)) (k0_pay35 (k0_pay6 Y1)) (k0_pay36 (k0_pay3 X1)) (k0_pay37 (k0_pay6 Y1))
    (k0_pay38 (k0_pay3 X1)) (k0_pay39 (k0_pay6 Y1)) (k0_pay40 (k0_pay3 X1)) (k0_pay41 (k0_pay6 Y1)) (k0_pay42 (k0_pay3 X1)) (k0_pay43 (k0_pay6 Y1)) (k0_pay44 (k0_pay3 X1))
    (k0_pay45 (k0_pay6 Y1)) (k0_pay46 (k0_pay4 X2)) (k0_pay47 (k0_pay7 Y2)) (k0_pay48 (k0_pay4 X2)) (k0_pay49 (k0_pay7 Y2)) (k0_pay50 (k0_pay4 X2)) (k0_pay51 (k0_pay7 Y2))
    x6 x7

/-- The product's imaginary half, before its bias. -/
def imOf (X0 Y0 X1 Y1 X2 Y2 : Vec F S1x8x1x2x2x17x17 .f32) (x6 : Vec F S32x216 .f32) : FVec F S32x256 .f32 :=
  k0_pay54 (k0_pay4 X2) (k0_pay7 Y2)
    (k0_pay8 X0) (k0_pay10 (k0_pay9 Y0)) (k0_pay11 (k0_pay2 X0)) (k0_pay12 (k0_pay5 Y0)) (k0_pay13 (k0_pay2 X0)) (k0_pay14 (k0_pay5 Y0)) (k0_pay15 (k0_pay2 X0))
    (k0_pay16 (k0_pay5 Y0)) (k0_pay17 (k0_pay2 X0)) (k0_pay18 (k0_pay5 Y0)) (k0_pay19 (k0_pay2 X0)) (k0_pay20 (k0_pay5 Y0)) (k0_pay21 (k0_pay2 X0)) (k0_pay22 (k0_pay5 Y0))
    (k0_pay23 (k0_pay2 X0)) (k0_pay24 (k0_pay5 Y0)) (k0_pay25 (k0_pay2 X0)) (k0_pay26 (k0_pay5 Y0)) (k0_pay27 (k0_pay3 X1)) (k0_pay28 (k0_pay6 Y1)) (k0_pay29 (k0_pay3 X1))
    (k0_pay31 (k0_pay30 (k0_pay6 Y1))) (k0_pay32 (k0_pay3 X1)) (k0_pay33 (k0_pay6 Y1)) (k0_pay34 (k0_pay3 X1)) (k0_pay35 (k0_pay6 Y1)) (k0_pay36 (k0_pay3 X1)) (k0_pay37 (k0_pay6 Y1))
    (k0_pay38 (k0_pay3 X1)) (k0_pay39 (k0_pay6 Y1)) (k0_pay40 (k0_pay3 X1)) (k0_pay41 (k0_pay6 Y1)) (k0_pay42 (k0_pay3 X1)) (k0_pay43 (k0_pay6 Y1)) (k0_pay44 (k0_pay3 X1))
    (k0_pay45 (k0_pay6 Y1)) (k0_pay46 (k0_pay4 X2)) (k0_pay47 (k0_pay7 Y2)) (k0_pay48 (k0_pay4 X2)) (k0_pay49 (k0_pay7 Y2)) (k0_pay50 (k0_pay4 X2)) (k0_pay51 (k0_pay7 Y2))
    x6

variable (m : (ℓ : Loc nD τ sig) → Buf (Elt F) ℓ)

/-- The real convolution block (with its bias) at a grid point, from the blocks read there. -/
def reAt (c : Dev nD) (t : Fin cfg0.N) : FVec F S32x256 .f32 :=
  reOf (iblk m c 0 t) (iblk m c 3 t) (iblk m c 1 t) (iblk m c 4 t) (iblk m c 2 t) (iblk m c 5 t) (iblk m c 6 t) (iblk m c 7 t)

/-- The imaginary convolution block (without its bias) at a grid point, from the blocks read there. -/
def imAt (c : Dev nD) (t : Fin cfg0.N) : FVec F S32x256 .f32 :=
  imOf (iblk m c 0 t) (iblk m c 3 t) (iblk m c 1 t) (iblk m c 4 t) (iblk m c 2 t) (iblk m c 5 t) (iblk m c 6 t)

/-- The imaginary bias, spread over a block, at a grid point. -/
def biasAt (c : Dev nD) (t : Fin cfg0.N) : FVec F S32x256 .f32 := k0_pay55 (iblk m c 8 t)

/-- One step of the two running sums: the magnitudes' row sums added to the first row, their squares' to the second. -/
def stepRows (c : Dev nD) (t : Fin cfg0.N) (prev : FVec F S2x32 .f32) : FVec F S2x32 .f32 :=
  Rows.rows (Val := Elt F) (e := .f32) (k0_pay61 (reAt m c t) (imAt m c t) (biasAt m c t) (Rows.row (Val := Elt F) (e := .f32) 0 prev))
    (k0_pay62 (reAt m c t) (imAt m c t) (biasAt m c t) (Rows.row (Val := Elt F) (e := .f32) 1 prev))

/-- The real block left at a first depth step. -/
theorem out11_A (c : Dev nD) (t : Fin cfg0.N) (h0 : t.val % 32 = 0) (h1 : ¬t.val % 32 = 31) :
    (outsAt0 m c t.val t.isLt).1 = k0_pay57 (reAt m c t) := by
  rw [outsAt0_A m c t h0 h1]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The imaginary block left at a first depth step. -/
theorem out12_A (c : Dev nD) (t : Fin cfg0.N) (h0 : t.val % 32 = 0) (h1 : ¬t.val % 32 = 31) :
    (outsAt0 m c t.val t.isLt).2.1 = k0_pay58 (imAt m c t) (biasAt m c t) := by
  rw [outsAt0_A m c t h0 h1]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The two running sums after the first depth step: one step from zero. -/
theorem scr_A (c : Dev nD) (t : Fin cfg0.N) (h0 : t.val % 32 = 0) (h1 : ¬t.val % 32 = 31) :
    (outsAt0 m c t.val t.isLt).2.2.2 = stepRows m c t k0_pay60 := by
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _)]
  unfold kernelRun0_A
  dsimp only
  sl_unfold_words
  refine (Rows.canon_rows inb_S2x32_S1x32_0_0 inb_S2x32_S1x32_1_0 _ _ _).trans ?_
  rw [Rows.readCov_row1 _ inb_S2x32_S2x32_0_0 inb_S2x32_S1x32_0_0 inb_S2x32_S1x32_1_0, Rows.readCov_row0 _ inb_S2x32_S2x32_0_0 inb_S2x32_S1x32_0_0]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The real block left at a middle depth step. -/
theorem out11_B (c : Dev nD) (t : Fin cfg0.N) (h0 : ¬t.val % 32 = 0) (h1 : ¬t.val % 32 = 31) :
    (outsAt0 m c t.val t.isLt).1 = k0_pay57 (reAt m c t) := by
  rw [outsAt0_B m c t h0 h1]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The imaginary block left at a middle depth step. -/
theorem out12_B (c : Dev nD) (t : Fin cfg0.N) (h0 : ¬t.val % 32 = 0) (h1 : ¬t.val % 32 = 31) :
    (outsAt0 m c t.val t.isLt).2.1 = k0_pay58 (imAt m c t) (biasAt m c t) := by
  rw [outsAt0_B m c t h0 h1]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The two running sums after a middle depth step: one step from the previous ones. -/
theorem scr_B (c : Dev nD) (t : Fin cfg0.N) (h0 : ¬t.val % 32 = 0) (h1 : ¬t.val % 32 = 31) :
    (outsAt0 m c t.val t.isLt).2.2.2 = stepRows m c t (outsAt0 m c (t.val - 1) (by omega)).2.2.2 := by
  rw [outsAt0_B m c t h0 h1]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (Rows.canon_rows inb_S2x32_S1x32_0_0 inb_S2x32_S1x32_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rw [Rows.ld_row0 inb_S2x32_S1x32_0_0, Rows.ld_row1 inb_S2x32_S1x32_1_0]
  rfl

/-- The real block left at a last depth step. -/
theorem out11_C (c : Dev nD) (t : Fin cfg0.N) (h0 : ¬t.val % 32 = 0) (h1 : t.val % 32 = 31) :
    (outsAt0 m c t.val t.isLt).1 = k0_pay57 (reAt m c t) := by
  rw [outsAt0_C m c t h0 h1]
  dsimp only
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The imaginary block left at a last depth step. -/
theorem out12_C (c : Dev nD) (t : Fin cfg0.N) (h0 : ¬t.val % 32 = 0) (h1 : t.val % 32 = 31) :
    (outsAt0 m c t.val t.isLt).2.1 = k0_pay58 (imAt m c t) (biasAt m c t) := by
  rw [outsAt0_C m c t h0 h1]
  dsimp only
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x32x1x16x16) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rfl

/-- The two running sums after a last depth step: one step from the previous ones. -/
theorem scr_C (c : Dev nD) (t : Fin cfg0.N) (h0 : ¬t.val % 32 = 0) (h1 : t.val % 32 = 31) :
    (outsAt0 m c t.val t.isLt).2.2.2 = stepRows m c t (outsAt0 m c (t.val - 1) (by omega)).2.2.2 := by
  rw [outsAt0_C m c t h0 h1]
  dsimp only
  unfold sout0_C_0
  rw [View.read_writes_eq_canon _ _ _ (scover0_C_0 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  refine (Rows.canon_rows inb_S2x32_S1x32_0_0 inb_S2x32_S1x32_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rw [Rows.ld_row0 inb_S2x32_S1x32_0_0, Rows.ld_row1 inb_S2x32_S1x32_1_0]
  rfl

/-- The block of sums left at the last depth step. -/
theorem out13_C (c : Dev nD) (t : Fin cfg0.N) (h0 : ¬t.val % 32 = 0) (h1 : t.val % 32 = 31) :
    (outsAt0 m c t.val t.isLt).2.2.1 = k0_pay1 (stepRows m c t (outsAt0 m c (t.val - 1) (by omega)).2.2.2) := by
  rw [outsAt0_C m c t h0 h1]
  dsimp only
  unfold out0_C_13
  rw [View.read_writes_eq_canon _ _ _ (cover0_C_13 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x2x32) hz3]
  refine congrArg k0_pay1 ((Rows.readCov_rows _ inb_S2x32_S2x32_0_0 inb_S2x32_S1x32_0_0 inb_S2x32_S1x32_1_0 _ _ _).trans ?_)
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x8x1x2x2x17x17) hz7, View.ld_unit_zero (S := S32x216) hz2,
    View.ld_unit_zero (S := S32x1) hz2, View.ld_unit_zero (S := S8x1) hz2]
  rw [Rows.ld_row0 inb_S2x32_S1x32_0_0, Rows.ld_row1 inb_S2x32_S1x32_1_0]
  rfl

end Cert.Proof.Pre
-- ==== Proof.PreHost.lean ====
/-
  The arrays that the call of the first layer reads, from the arguments: the padded inputs
  split by the parities of their plane coordinates, the flattened weights, the biases as columns.
-/
module

public import proofs.«01_k».proof.Proof.Gen.ConvPreIdeal.Frame
public import Idealize.ShloMosaic.Lib.StableHlo.ReadAt

@[expose] public section

noncomputable section

namespace Cert.Proof.Pre

open Cert.ConvPreIdeal Cert.ConvPreIdeal.Gen Idealize.ShloMosaic Idealize.ShloMosaic.TcCoe Idealize.SL.Sem

variable {F : FTy → Type} [FloatOps F] (m : (ℓ : Loc nD τ sig) → Buf (Elt F) ℓ)

/-- The real input as the call reads it: padded, and split by the parities of its plane coordinates. -/
theorem V_real (c : Dev nD) : V m c main_v2
    = transpose S32x8x34x2x2x17x17 [0, 1, 2, 4, 6, 3, 5] (shapeCast S32x8x34x17x2x17x2
        (pad S32x8x34x34x34 ![0, 0, 1, 1, 1] ![0, 0, 1, 1, 1] ![0, 0, 0, 0, 0] (m ((c : Thread nD τ).loc main_arg0))
          (sitofp (F := F) .f32 (constantI S_ 32 0#32)) pads_S32x8x32x32x32_S32x8x34x34x34_000_000_110_110_110 h_S_)
        shapeCasts_S32x8x34x34x34_S32x8x34x17x2x17x2) transposes_S32x8x34x17x2x17x2_S32x8x34x2x2x17x17_0_1_2_4_6_3_5 := by
  unfold V hostOps0 hostOps0_1 hostOps0_2 hostOps0_3 hostOps0_4
  simp only [List.flatten_cons, List.flatten_nil, List.append_nil, List.cons_append, List.nil_append]
  after_results
  rfl

/-- The imaginary input as the call reads it. -/
theorem V_imag (c : Dev nD) : V m c main_v5
    = transpose S32x8x34x2x2x17x17 [0, 1, 2, 4, 6, 3, 5] (shapeCast S32x8x34x17x2x17x2
        (pad S32x8x34x34x34 ![0, 0, 1, 1, 1] ![0, 0, 1, 1, 1] ![0, 0, 0, 0, 0] (m ((c : Thread nD τ).loc main_arg1))
          (sitofp (F := F) .f32 (constantI S_ 32 0#32)) pads_S32x8x32x32x32_S32x8x34x34x34_000_000_110_110_110 h_S_)
        shapeCasts_S32x8x34x34x34_S32x8x34x17x2x17x2) transposes_S32x8x34x17x2x17x2_S32x8x34x2x2x17x17_0_1_2_4_6_3_5 := by
  unfold V hostOps0 hostOps0_1 hostOps0_2 hostOps0_3 hostOps0_4
  simp only [List.flatten_cons, List.flatten_nil, List.append_nil, List.cons_append, List.nil_append]
  after_results
  rfl

/-- The flattened weights as the call reads them. -/
theorem V_weights (c : Dev nD) : V m c main_v7
    = shapeCast S32x216 (transpose S32x3x3x3x8 [0, 2, 3, 4, 1] (m ((c : Thread nD τ).loc main_arg2))
        transposes_S32x8x3x3x3_S32x3x3x3x8_0_2_3_4_1) shapeCasts_S32x3x3x3x8_S32x216 := by
  unfold V hostOps0 hostOps0_1 hostOps0_2 hostOps0_3 hostOps0_4
  simp only [List.flatten_cons, List.flatten_nil, List.append_nil, List.cons_append, List.nil_append]
  after_results
  rfl

/-- The real bias as the call reads it. -/
theorem V_biasR (c : Dev nD) : V m c main_v10 = shapeCast S32x1 (m ((c : Thread nD τ).loc main_arg3)) shapeCasts_S32_S32x1 := by
  unfold V hostOps0 hostOps0_1 hostOps0_2 hostOps0_3 hostOps0_4
  simp only [List.flatten_cons, List.flatten_nil, List.append_nil, List.cons_append, List.nil_append]
  after_results
  rfl

/-- The imaginary bias as the call reads it. -/
theorem V_biasI (c : Dev nD) : V m c main_v11 = shapeCast S32x1 (m ((c : Thread nD τ).loc main_arg4)) shapeCasts_S32_S32x1 := by
  unfold V hostOps0 hostOps0_1 hostOps0_2 hostOps0_3 hostOps0_4
  simp only [List.flatten_cons, List.flatten_nil, List.append_nil, List.cons_append, List.nil_append]
  after_results
  rfl

end Cert.Proof.Pre
-- ==== Proof.ConvMath.lean ====
/-
  The three dimensional convolution behind the complex layers, read at an index, at any channel counts and plane sizes.

  A layer's convolution is a 3×3×3 window, stride 1 along the depth and stride 2 along the plane's two axes, over an
  array padded by one element on each side of those three axes. `conv` below is its plain meaning: a double sum over
  the 27 window positions (numbered `q = 9·kd + 3·kh + kw`) and the input channels. This file shows that

    * the reference's sum of 27 contractions of strided slices of a padded array is `conv` (`refTerm_apply`,
      `sum27`), and
    * the kernel's product of the flattened weights by the stacked window pieces is the same double sum
      (`cat27_apply`, `tap_apply`, `product_left`, `product_right`).
-/
module

public import Idealize.ShloMosaic.PureOps
public import Idealize.ShloMosaic.Lib.Pipeline.Value
public import Idealize.ShloMosaic.Lib.Pointwise
public import Idealize.ShloMosaic.Lib.IdealHost

@[expose] public section

noncomputable section

open scoped BigOperators
open Idealize.ShloMosaic

namespace Cert.Proof.ConvMath

/-- The padded array: element `(b, c, i, j, k)` of `x` with one zero on each side of the last three axes, `0` also
    outside of the padded extents, so that it is defined at all naturals. -/
def padAt {B C D H W : ℕ} (x : (⟨5, ![B, C, D, H, W]⟩ : Shape).Idx → EReal) (b : Fin B) (c : Fin C) (i j k : ℕ) : EReal :=
  if h : (1 ≤ i ∧ i - 1 < D) ∧ (1 ≤ j ∧ j - 1 < H) ∧ (1 ≤ k ∧ k - 1 < W) then
    x (ix5 b c ⟨i - 1, h.1.2⟩ ⟨j - 1, h.2.1.2⟩ ⟨k - 1, h.2.2.2⟩)
  else 0

/-- The weight of output channel `o` and input channel `c` at window position `q = 9·kd + 3·kh + kw`. -/
def wAt {C O : ℕ} (w : (⟨5, ![O, C, 3, 3, 3]⟩ : Shape).Idx → EReal) (o : Fin O) (c : Fin C) (q : Fin 27) : EReal :=
  w (ix5 o c ⟨q.val / 9, by omega⟩ ⟨q.val / 3 % 3, by omega⟩ ⟨q.val % 3, by omega⟩)

/-- The convolution at output channel `o`, depth `d`, row `y`, column `x` of an array given at all naturals. -/
def conv {C O : ℕ} (A : Fin C → ℕ → ℕ → ℕ → EReal) (w : (⟨5, ![O, C, 3, 3, 3]⟩ : Shape).Idx → EReal) (o : Fin O)
    (d y x : ℕ) : EReal :=
  ∑ q : Fin 27, ∑ c : Fin C, wAt w o c q * A c (d + q.val / 9) (2 * y + q.val / 3 % 3) (2 * x + q.val % 3)

/-- A sum of 27 terms written first to last. -/
theorem sum27 (f : Fin 27 → EReal) :
    f 0 + f 1 + f 2 + f 3 + f 4 + f 5 + f 6 + f 7 + f 8 + f 9 + f 10 + f 11 + f 12 + f 13 + f 14 + f 15 + f 16 + f 17
      + f 18 + f 19 + f 20 + f 21 + f 22 + f 23 + f 24 + f 25 + f 26 = ∑ q, f q := by
  simp only [Fin.sum_univ_castSucc, Finset.univ_eq_empty, Finset.sum_empty, zero_add]
  rfl

/-- A host pad by one element on each side of the last three axes, read at an index. -/
theorem pad_apply {B C D H W D' H' W' : ℕ} (x : (⟨5, ![B, C, D, H, W]⟩ : Shape).Idx → EReal) {u : Shape} (v : u.Idx → EReal)
    (h : (⟨5, ![B, C, D, H, W]⟩ : Shape).Pads ![0, 0, 1, 1, 1] ![0, 0, 1, 1, 1] ![0, 0, 0, 0, 0] ⟨5, ![B, C, D', H', W']⟩)
    (hu : 0 < u.numel) (hv : v (Shape.Idx.first hu) = 0) (b : Fin B) (c : Fin C) (i : Fin D') (j : Fin H') (k : Fin W') :
    pad ⟨5, ![B, C, D', H', W']⟩ ![0, 0, 1, 1, 1] ![0, 0, 1, 1, 1] ![0, 0, 0, 0, 0] x v h hu (ix5 b c i j k)
      = padAt x b c i.val j.val k.val := by
  unfold pad padAt
  by_cases hin : (1 ≤ i.val ∧ i.val - 1 < D) ∧ (1 ≤ j.val ∧ j.val - 1 < H) ∧ (1 ≤ k.val ∧ k.val - 1 < W)
  · rw [dif_pos hin, dif_pos]
    · congr 1
      funext a
      apply Fin.ext
      match a with
      | ⟨0, _⟩ => show (b.val - 0) / (0 + 1) = b.val; simp
      | ⟨1, _⟩ => show (c.val - 0) / (0 + 1) = c.val; simp
      | ⟨2, _⟩ => show (i.val - 1) / (0 + 1) = i.val - 1; simp
      | ⟨3, _⟩ => show (j.val - 1) / (0 + 1) = j.val - 1; simp
      | ⟨4, _⟩ => show (k.val - 1) / (0 + 1) = k.val - 1; simp
    · intro a
      match a with
      | ⟨0, _⟩ => show 0 ≤ b.val ∧ (b.val - 0) % (0 + 1) = 0 ∧ (b.val - 0) / (0 + 1) < B; have := b.isLt; simp [Nat.mod_one]
      | ⟨1, _⟩ => show 0 ≤ c.val ∧ (c.val - 0) % (0 + 1) = 0 ∧ (c.val - 0) / (0 + 1) < C; have := c.isLt; simp [Nat.mod_one]
      | ⟨2, _⟩ => show 1 ≤ i.val ∧ (i.val - 1) % (0 + 1) = 0 ∧ (i.val - 1) / (0 + 1) < D; simp; omega
      | ⟨3, _⟩ => show 1 ≤ j.val ∧ (j.val - 1) % (0 + 1) = 0 ∧ (j.val - 1) / (0 + 1) < H; simp; omega
      | ⟨4, _⟩ => show 1 ≤ k.val ∧ (k.val - 1) % (0 + 1) = 0 ∧ (k.val - 1) / (0 + 1) < W; simp; omega
  · rw [dif_neg hin, dif_neg, hv]
    intro hall
    apply hin
    have h2 := hall ⟨2, (by decide : 2 < 5)⟩
    have h3 := hall ⟨3, (by decide : 3 < 5)⟩
    have h4 := hall ⟨4, (by decide : 4 < 5)⟩
    change 1 ≤ i.val ∧ (i.val - 1) % (0 + 1) = 0 ∧ (i.val - 1) / (0 + 1) < D at h2
    change 1 ≤ j.val ∧ (j.val - 1) % (0 + 1) = 0 ∧ (j.val - 1) / (0 + 1) < H at h3
    change 1 ≤ k.val ∧ (k.val - 1) % (0 + 1) = 0 ∧ (k.val - 1) / (0 + 1) < W at h4
    simp only [zero_add, Nat.div_one] at h2 h3 h4
    exact ⟨⟨h2.1, h2.2.2⟩, ⟨h3.1, h3.2.2⟩, ⟨h4.1, h4.2.2⟩⟩

/-- One weight position `[:, :, kd, kh, kw]` of the reference, read at `(o, c)`. -/
theorem refWeight_apply {C O : ℕ} (kd kh kw : ℕ) (w : (⟨5, ![O, C, 3, 3, 3]⟩ : Shape).Idx → EReal)
    (h : (⟨5, ![O, C, 3, 3, 3]⟩ : Shape).Slices ![0, 0, kd, kh, kw] ⟨5, ![O, C, 1, 1, 1]⟩)
    (h' : (⟨5, ![O, C, 1, 1, 1]⟩ : Shape).ShapeCasts ⟨2, ![O, C]⟩) (hd : kd < 3) (hh : kh < 3) (hw : kw < 3)
    (o : Fin O) (c : Fin C) :
    shapeCast ⟨2, ![O, C]⟩ (extractStridedSlice ⟨5, ![O, C, 1, 1, 1]⟩ ![0, 0, kd, kh, kw] w h) h' (ix2 o c)
      = w (ix5 o c ⟨kd, hd⟩ ⟨kh, hh⟩ ⟨kw, hw⟩) := by
  rw [shapeCast_apply _ h' (ix2 o c) (ix5 o c 0 0 0) (by
    rw [Shape.rowMajor_val_five, Shape.rowMajor_val_two]; simp)]
  exact extractStridedSlice_apply _ w h _ _ fun a => by
    match a with
    | ⟨0, _⟩ => show o.val = 0 + o.val; omega
    | ⟨1, _⟩ => show c.val = 0 + c.val; omega
    | ⟨2, _⟩ => rfl
    | ⟨3, _⟩ => rfl
    | ⟨4, _⟩ => rfl

/-- One term of the reference's convolution, read at an index: the contraction over the input channels of the strided
    slice of the array at window position `(kd, kh, kw)` with that position's weights. -/
theorem refTerm_apply {B C O D S D' H' : ℕ} {f : Fin B → Fin C → ℕ → ℕ → ℕ → EReal} (kd kh kw : ℕ)
    (d : DotDims ⟨5, ![B, C, D, S, S]⟩ ⟨2, ![O, C]⟩ ⟨5, ![B, D, S, S, O]⟩)
    (hlc : d.lhsContracting = [1]) (hrc : d.rhsContracting = [1]) (hln : d.lhsNonContracting = [0, 2, 3, 4])
    (hrn : d.rhsNonContracting = [0]) (hlb : d.lhsBatch = []) (hrb : d.rhsBatch = [])
    (X : (⟨5, ![B, C, D', H', H']⟩ : Shape).Idx → EReal)
    (hX : ∀ b c i j k, X (ix5 b c i j k) = f b c i.val j.val k.val)
    (hs : (⟨5, ![B, C, D', H', H']⟩ : Shape).SlicesBy ![0, 0, kd, kh, kw] ![1, 1, 1, 2, 2] ⟨5, ![B, C, D, S, S]⟩)
    (w : (⟨5, ![O, C, 3, 3, 3]⟩ : Shape).Idx → EReal)
    (hw : (⟨5, ![O, C, 3, 3, 3]⟩ : Shape).Slices ![0, 0, kd, kh, kw] ⟨5, ![O, C, 1, 1, 1]⟩)
    (hw' : (⟨5, ![O, C, 1, 1, 1]⟩ : Shape).ShapeCasts ⟨2, ![O, C]⟩) (hd3 : kd < 3) (hh3 : kh < 3) (hw3 : kw < 3)
    (b : Fin B) (i : Fin D) (y x : Fin S) (o : Fin O) :
    (Host.dotGeneral (F := Ideal) d none (Host.slice ⟨5, ![B, C, D, S, S]⟩ ![0, 0, kd, kh, kw] ![1, 1, 1, 2, 2] X hs : FVec Ideal _ .f32)
        (shapeCast ⟨2, ![O, C]⟩ (extractStridedSlice ⟨5, ![O, C, 1, 1, 1]⟩ ![0, 0, kd, kh, kw] w hw) hw' : FVec Ideal _ .f32) : FVec Ideal _ .f32)
        (ix5 b i y x o)
      = ∑ c : Fin C, w (ix5 o c ⟨kd, hd3⟩ ⟨kh, hh3⟩ ⟨kw, hw3⟩) * f b c (i.val + kd) (2 * y.val + kh) (2 * x.val + kw) := by
  obtain ⟨lc, rc, ln, rn, lb, rb, wf⟩ := d
  simp only at hlc hrc hln hrn hlb hrb
  subst hlc hrc hln hrn hlb hrb
  show Ideal.matmul _ _ _ (fun _ => 0) (ix5 b i y x o) = _
  rw [Ideal.matmul_apply₁_of _ (a := 1) rfl (K := C) rfl _ _ _ _ (fun c => ix5 b c i y x) (fun c => ix2 o c)
    (fun c => by
      funext a
      apply Fin.ext
      match a with
      | ⟨0, _⟩ => rfl
      | ⟨1, _⟩ => rfl
      | ⟨2, _⟩ => rfl
      | ⟨3, _⟩ => rfl
      | ⟨4, _⟩ => rfl)
    (fun c => by
      funext a
      apply Fin.ext
      match a with
      | ⟨0, _⟩ => rfl
      | ⟨1, _⟩ => rfl)]
  rw [zero_add]
  refine Finset.sum_congr rfl fun c _ => ?_
  rw [refWeight_apply kd kh kw w hw hw' hd3 hh3 hw3 o c, mul_comm]
  congr 1
  have hlt : kd + i.val < D' ∧ kh + 2 * y.val < H' ∧ kw + 2 * x.val < H' := by
    have e2 := (hs.2 2).2
    have e3 := (hs.2 3).2
    have e4 := (hs.2 4).2
    change D = 0 ∨ kd + 1 * (D - 1) < D' at e2
    change S = 0 ∨ kh + 2 * (S - 1) < H' at e3
    change S = 0 ∨ kw + 2 * (S - 1) < H' at e4
    have := i.isLt
    have := y.isLt
    have := x.isLt
    omega
  have e : Host.slice ⟨5, ![B, C, D, S, S]⟩ ![0, 0, kd, kh, kw] ![1, 1, 1, 2, 2] X hs (ix5 b c i y x)
      = X (ix5 b c ⟨kd + i.val, hlt.1⟩ ⟨kh + 2 * y.val, hlt.2.1⟩ ⟨kw + 2 * x.val, hlt.2.2⟩) := by
    unfold Host.slice
    congr 1
    funext a
    apply Fin.ext
    match a with
    | ⟨0, _⟩ => show 0 + 1 * b.val = b.val; omega
    | ⟨1, _⟩ => show 0 + 1 * c.val = c.val; omega
    | ⟨2, _⟩ => show kd + 1 * i.val = kd + i.val; omega
    | ⟨3, _⟩ => rfl
    | ⟨4, _⟩ => rfl
  rw [e, hX]
  show f b c (kd + i.val) (kh + 2 * y.val) (kw + 2 * x.val) = _
  rw [Nat.add_comm kd, Nat.add_comm kh, Nat.add_comm kw]

/-- A five-axis block at natural coordinates on its last four axes, `0` outside of its extents. -/
def at5 {C a b H W : ℕ} (v : (⟨5, ![C, a, b, H, W]⟩ : Shape).Idx → EReal) (c : Fin C) (i j y x : ℕ) : EReal :=
  if h : i < a ∧ j < b ∧ y < H ∧ x < W then v (ix5 c ⟨i, h.1⟩ ⟨j, h.2.1⟩ ⟨y, h.2.2.1⟩ ⟨x, h.2.2.2⟩) else 0

/-- One window piece of the kernel: the `S`×`S` corner at `(y₀, x₀)` of the parity plane `(i, j)`, flattened to one row
    per channel, read at channel `c` and flat position `p = S·y + x`. -/
theorem tap_apply {C n S P : ℕ} (i j y0 x0 : ℕ) (v : (⟨5, ![C, 2, 2, n, n]⟩ : Shape).Idx → EReal)
    (h : (⟨5, ![C, 2, 2, n, n]⟩ : Shape).Slices ![0, i, j, y0, x0] ⟨5, ![C, 1, 1, S, S]⟩)
    (h1 : (⟨5, ![C, 1, 1, S, S]⟩ : Shape).ShapeCasts ⟨3, ![C, S, S]⟩)
    (h2 : (⟨3, ![C, S, S]⟩ : Shape).ShapeCasts ⟨2, ![C, P]⟩) (c : Fin C) (y x : Fin S) (p : Fin P)
    (hp : p.val = S * y.val + x.val) (hP : P = S * S) :
    shapeCast ⟨2, ![C, P]⟩ (shapeCast ⟨3, ![C, S, S]⟩ (extractStridedSlice ⟨5, ![C, 1, 1, S, S]⟩ ![0, i, j, y0, x0] v h) h1) h2
        (ix2 c p)
      = at5 v c i j (y0 + y.val) (x0 + x.val) := by
  have hlt : i < 2 ∧ j < 2 ∧ y0 + y.val < n ∧ x0 + x.val < n := by
    have e1 := h.2 1
    have e2 := h.2 2
    have e3 := h.2 3
    have e4 := h.2 4
    change i + 1 ≤ 2 at e1
    change j + 1 ≤ 2 at e2
    change y0 + S ≤ n at e3
    change x0 + S ≤ n at e4
    have := y.isLt
    have := x.isLt
    omega
  rw [shapeCast_apply _ h2 (ix2 c p) (ix3 c y x) (by
      rw [Shape.rowMajor_val_three, Shape.rowMajor_val_two]
      show (c.val * S + y.val) * S + x.val = c.val * P + p.val
      rw [hp, hP]; ring),
    shapeCast_apply _ h1 (ix3 c y x) (ix5 c 0 0 y x) (by
      rw [Shape.rowMajor_val_five, Shape.rowMajor_val_three]
      show (((c.val * 1 + 0) * 1 + 0) * S + y.val) * S + x.val = (c.val * S + y.val) * S + x.val
      simp),
    at5, dif_pos hlt]
  exact extractStridedSlice_apply _ v h _ _ fun a => by
    match a with
    | ⟨0, _⟩ => show c.val = 0 + c.val; omega
    | ⟨1, _⟩ => rfl
    | ⟨2, _⟩ => rfl
    | ⟨3, _⟩ => rfl
    | ⟨4, _⟩ => rfl

/-- Twenty-seven blocks of `C` rows stacked, read at row `C·q + c`: block `q` at row `c`. -/
theorem cat27_apply {C P K : ℕ} (f : Fin 27 → (⟨2, ![C, P]⟩ : Shape).Idx → EReal)
    (l : List ((s : Shape) × (s.Idx → EReal))) (hl : l = List.ofFn fun n : Fin 27 => (⟨⟨2, ![C, P]⟩, f n⟩ : (s : Shape) × (s.Idx → EReal)))
    (h : Shape.Concatenates (l.map (·.1)) ⟨2, ![K, P]⟩ 0) (q : Fin 27) (c : Fin C) (k : Fin K)
    (hk : k.val = C * q.val + c.val) (p : Fin P) :
    concatenate ⟨2, ![K, P]⟩ 0 l h (ix2 k p) = f q (ix2 c p) := by
  subst hl
  have hC : 0 < C := Nat.lt_of_le_of_lt (Nat.zero_le _) c.isLt
  refine concatenate_ofFn_apply (t := ⟨2, ![K, P]⟩) (s₁ := ⟨2, ![C, P]⟩) 0 f h rfl C rfl (ix2 k p) q ?_ (ix2 c p) ?_ ?_
  · show k.val / C = q.val
    rw [hk, Nat.mul_add_div hC, Nat.div_eq_of_lt c.isLt, Nat.add_zero]
  · show c.val = k.val % C
    rw [hk, Nat.mul_add_mod, Nat.mod_eq_of_lt c.isLt]
  · intro b hb
    match b with
    | ⟨0, _⟩ => exact absurd rfl hb
    | ⟨1, _⟩ => rfl

/-- A sum over the stacked rows is the double sum over the window positions and the channels. -/
theorem sum_stacked {C K : ℕ} (hK : K = 27 * C) (F : Fin K → EReal) (g : Fin 27 → Fin C → EReal)
    (hg : ∀ q c (k : Fin K), k.val = C * q.val + c.val → F k = g q c) : ∑ k, F k = ∑ q, ∑ c, g q c := by
  subst hK
  rw [← Fintype.sum_prod_type', ← Equiv.sum_comp (finProdFinEquiv (m := 27) (n := C)) F]
  refine Finset.sum_congr rfl fun qc _ => hg qc.1 qc.2 _ ?_
  show qc.2.val + C * qc.1.val = _
  omega

/-- The kernel's product of the flattened weights by the two stacks of window pieces side by side (the real parts' in
    the left half of the columns, the imaginary parts' in the right half), read at output channel `o` and column `j`:
    the double sum over window positions and channels, with the pieces `f` that column `j` belongs to. -/
theorem product_apply {C O P K Q : ℕ} (D : DotDims ⟨2, ![O, K]⟩ ⟨2, ![K, Q]⟩ ⟨2, ![O, Q]⟩)
    (hlc : D.lhsContracting = [1]) (hrc : D.rhsContracting = [0]) (hln : D.lhsNonContracting = [0])
    (hrn : D.rhsNonContracting = [1]) (hlb : D.lhsBatch = []) (hrb : D.rhsBatch = []) (hK : K = 27 * C)
    (w : (⟨2, ![O, K]⟩ : Shape).Idx → EReal) (X : (⟨2, ![K, Q]⟩ : Shape).Idx → EReal)
    (f : Fin 27 → (⟨2, ![C, P]⟩ : Shape).Idx → EReal) (j : Fin Q) (p : Fin P)
    (hX : ∀ q c (k : Fin K), k.val = C * q.val + c.val → X (ix2 k j) = f q (ix2 c p))
    (W : Fin O → Fin C → Fin 27 → EReal) (hW : ∀ o q c (k : Fin K), k.val = C * q.val + c.val → w (ix2 o k) = W o c q)
    (o : Fin O) :
    (matmul (F := Ideal) (φ₁ := .f32) (φ₂ := .f32) D none w X (constant ⟨2, ![O, Q]⟩ .f32 0x00000000#32) : FVec Ideal _ .f32)
        (ix2 o j)
      = ∑ q : Fin 27, ∑ c : Fin C, W o c q * f q (ix2 c p) := by
  obtain ⟨lc, rc, ln, rn, lb, rb, wf⟩ := D
  simp only at hlc hrc hln hrn hlb hrb
  subst hlc hrc hln hrn hlb hrb
  show Ideal.matmul _ _ _ _ (ix2 o j) = _
  rw [Ideal.matmul_apply₁_of _ (a := 1) rfl (K := K) rfl _ _ _ _ (fun k => ix2 o k) (fun k => ix2 k j)
    (fun c => by
      funext a
      apply Fin.ext
      match a with
      | ⟨0, _⟩ => rfl
      | ⟨1, _⟩ => rfl)
    (fun c => by
      funext a
      apply Fin.ext
      match a with
      | ⟨0, _⟩ => rfl
      | ⟨1, _⟩ => rfl)]
  rw [show (constant (F := Ideal) ⟨2, ![O, Q]⟩ .f32 0x00000000#32 : FVec Ideal _ .f32) (ix2 o j) = 0 from Ideal.ofBits_zero_f32, zero_add]
  exact sum_stacked hK _ _ fun q c k hk => by rw [hX q c k hk, hW o q c k hk]

end Cert.Proof.ConvMath

end
-- ==== Proof.ConvHost.lean ====
/-
  What surrounds the convolution's product in the kernel, read at an index, at any channel counts and plane sizes: the
  padded array split by the parities of its plane coordinates, the flattened weights, the per channel columns, the
  activation, and the product itself once the blocks are known (`matmul_conv`).
-/
module

public import proofs.«01_k».proof.Proof.ConvMath
public import Idealize.ShloMosaic.Lib.Pointwise.Reshape

@[expose] public section

noncomputable section

open scoped BigOperators
open Idealize.ShloMosaic

namespace Cert.Proof.ConvMath

/-- The magnitude of a complex number `x + i·y`, with the small constant under the root. -/
def mag (x y : EReal) : EReal := Ideal.sqrt (x * x + y * y + Ideal.ofBits .f32 0x2B8CBCCC#32)

/-- The activated magnitude: scale, shift, cut off below at zero. -/
def actMag (s h x y : EReal) : EReal := max (mag x y * s + h) (Ideal.ofBits .f32 0x00000000#32)

/-- The real part after the activation: the activated magnitude at the old phase. -/
def actR (s h x y : EReal) : EReal := actMag s h x y * Ideal.cos (Ideal.atan2 y x)

/-- The imaginary part after the activation. -/
def actI (s h x y : EReal) : EReal := actMag s h x y * Ideal.sin (Ideal.atan2 y x)

section layout

variable {α : Type}

/-- The array split by the parities of its last two coordinates: element `(b, c, e, i, j, y, x)` of the split array is
    element `(b, c, e, 2y + i, 2x + j)` of the array. -/
theorem split_apply {B C D n H : ℕ} (hH : H = n * 2) (v : (⟨5, ![B, C, D, H, H]⟩ : Shape).Idx → α)
    (h1 : (⟨5, ![B, C, D, H, H]⟩ : Shape).ShapeCasts ⟨7, ![B, C, D, n, 2, n, 2]⟩)
    (h2 : (⟨7, ![B, C, D, n, 2, n, 2]⟩ : Shape).Transposes [0, 1, 2, 4, 6, 3, 5] ⟨7, ![B, C, D, 2, 2, n, n]⟩)
    (b : Fin B) (c : Fin C) (e : Fin D) (i j : Fin 2) (y x : Fin n) (k l : Fin H) (hk : k.val = 2 * y.val + i.val)
    (hl : l.val = 2 * x.val + j.val) :
    transpose ⟨7, ![B, C, D, 2, 2, n, n]⟩ [0, 1, 2, 4, 6, 3, 5] (shapeCast ⟨7, ![B, C, D, n, 2, n, 2]⟩ v h1) h2
        (ix7 b c e i j y x) = v (ix5 b c e k l) := by
  subst hH
  rw [transpose_apply _ _ h2 (ix7 b c e i j y x) (ix7 b c e y i x j) (fun a => by fin_cases a <;> rfl),
    shapeCast_apply _ h1 (ix7 b c e y i x j) (ix5 b c e k l)]
  rw [Shape.rowMajor_val_five, rowMajor_val7 _ _ _ _ _ _ _ rfl rfl rfl rfl rfl rfl]
  show (((b.val * C + c.val) * D + e.val) * (n * 2) + k.val) * (n * 2) + l.val
    = b.val * (C * (D * (n * (2 * (n * 2))))) + c.val * (D * (n * (2 * (n * 2)))) + e.val * (n * (2 * (n * 2)))
      + y.val * (2 * (n * 2)) + i.val * (n * 2) + x.val * 2 + j.val
  rw [hk, hl]; ring

/-- The weights with the input channels moved last and the four inner axes flattened: column `C·q + c` is window
    position `q` at input channel `c`. -/
theorem weights_apply {C O K : ℕ} (hK : K = 27 * C) (w : (⟨5, ![O, C, 3, 3, 3]⟩ : Shape).Idx → EReal)
    (h1 : (⟨5, ![O, C, 3, 3, 3]⟩ : Shape).Transposes [0, 2, 3, 4, 1] ⟨5, ![O, 3, 3, 3, C]⟩)
    (h2 : (⟨5, ![O, 3, 3, 3, C]⟩ : Shape).ShapeCasts ⟨2, ![O, K]⟩) (o : Fin O) (q : Fin 27) (c : Fin C) (k : Fin K)
    (hk : k.val = C * q.val + c.val) :
    shapeCast ⟨2, ![O, K]⟩ (transpose ⟨5, ![O, 3, 3, 3, C]⟩ [0, 2, 3, 4, 1] w h1) h2 (ix2 o k) = wAt w o c q := by
  subst hK
  have hq : q.val / 9 < 3 ∧ q.val / 3 % 3 < 3 ∧ q.val % 3 < 3 := by have := q.isLt; omega
  rw [shapeCast_apply _ h2 (ix2 o k) (ix5 o ⟨q.val / 9, hq.1⟩ ⟨q.val / 3 % 3, hq.2.1⟩ ⟨q.val % 3, hq.2.2⟩ c)]
  · exact transpose_apply _ _ h1 _ (ix5 o c ⟨q.val / 9, hq.1⟩ ⟨q.val / 3 % 3, hq.2.1⟩ ⟨q.val % 3, hq.2.2⟩)
      (fun a => by fin_cases a <;> rfl)
  · rw [Shape.rowMajor_val_five, Shape.rowMajor_val_two]
    show (((o.val * 3 + q.val / 9) * 3 + q.val / 3 % 3) * 3 + q.val % 3) * C + c.val = o.val * (27 * C) + k.val
    have e : q.val = (q.val / 9 * 3 + q.val / 3 % 3) * 3 + q.val % 3 := by omega
    have e2 : ((o.val * 3 + q.val / 9) * 3 + q.val / 3 % 3) * 3 + q.val % 3 = o.val * 27 + q.val := by omega
    rw [hk, e2]; ring

/-- A vector as a column. -/
theorem col_apply {O : ℕ} (v : (⟨1, ![O]⟩ : Shape).Idx → α) (h : (⟨1, ![O]⟩ : Shape).ShapeCasts ⟨2, ![O, 1]⟩) (o : Fin O) :
    shapeCast ⟨2, ![O, 1]⟩ v h (ix2 o 0) = v (ix1 o) :=
  shapeCast_apply _ h _ _ (by
    rw [Shape.rowMajor_val_two, Shape.rowMajor_val_one]
    show o.val = o.val * 1 + 0
    omega)

/-- The unit axes of a window's block dropped. -/
theorem dropUnits_apply {C n : ℕ} (v : (⟨7, ![1, C, 1, 2, 2, n, n]⟩ : Shape).Idx → α)
    (h : (⟨7, ![1, C, 1, 2, 2, n, n]⟩ : Shape).ShapeCasts ⟨5, ![C, 2, 2, n, n]⟩) (c : Fin C) (i j : Fin 2) (y x : Fin n) :
    shapeCast ⟨5, ![C, 2, 2, n, n]⟩ v h (ix5 c i j y x) = v (ix7 0 c 0 i j y x) :=
  shapeCast_apply _ h _ _ (by
    rw [Shape.rowMajor_val_five, rowMajor_val7 _ _ _ _ _ _ _ rfl rfl rfl rfl rfl rfl]
    show 0 * (C * (1 * (2 * (2 * (n * n))))) + c.val * (1 * (2 * (2 * (n * n)))) + 0 * (2 * (2 * (n * n)))
      + i.val * (2 * (n * n)) + j.val * (n * n) + y.val * n + x.val = (((c.val * 2 + i.val) * 2 + j.val) * n + y.val) * n + x.val
    ring)

/-- A column spread over a block. -/
theorem col5_apply {C n : ℕ} (v : (⟨2, ![C, 1]⟩ : Shape).Idx → α)
    (h : (⟨2, ![C, 1]⟩ : Shape).ShapeCasts ⟨5, ![C, 1, 1, 1, 1]⟩)
    (hb : (⟨5, ![C, 1, 1, 1, 1]⟩ : Shape).Broadcasts ⟨5, ![C, 2, 2, n, n]⟩) (c : Fin C) (i j : Fin 2) (y x : Fin n) :
    broadcastTo ⟨5, ![C, 2, 2, n, n]⟩ (shapeCast ⟨5, ![C, 1, 1, 1, 1]⟩ v h) hb (ix5 c i j y x) = v (ix2 c 0) := by
  rw [broadcastTo_apply _ hb (ix5 c i j y x) (ix5 c 0 0 0 0) (fun a => by
    fin_cases a
    · show c.val = if C = 1 then 0 else c.val
      split
      · have := c.isLt; omega
      · rfl
    · rfl
    · rfl
    · rfl
    · rfl)]
  exact shapeCast_apply _ h _ _ (by
    rw [Shape.rowMajor_val_five, Shape.rowMajor_val_two]
    show c.val * 1 + 0 = (((c.val * 1 + 0) * 1 + 0) * 1 + 0) * 1 + 0
    omega)

/-- A column spread along the rows. -/
theorem col2_apply {O P : ℕ} (v : (⟨2, ![O, 1]⟩ : Shape).Idx → α) (h : (⟨2, ![O, 1]⟩ : Shape).ShapeCasts ⟨2, ![O, 1]⟩)
    (hb : (⟨2, ![O, 1]⟩ : Shape).Broadcasts ⟨2, ![O, P]⟩) (o : Fin O) (p : Fin P) :
    broadcastTo ⟨2, ![O, P]⟩ (shapeCast ⟨2, ![O, 1]⟩ v h) hb (ix2 o p) = v (ix2 o 0) := by
  rw [broadcastTo_apply _ hb (ix2 o p) (ix2 o 0) (fun a => by
    fin_cases a
    · show o.val = if O = 1 then 0 else o.val
      split
      · have := o.isLt; omega
      · rfl
    · rfl)]
  exact shapeCast_apply _ h _ _ rfl

/-- A convolution block put in its place: rows split in two plane coordinates, unit axes added. -/
theorem outBlock_apply {O S P : ℕ} (hP : P = S * S) (v : (⟨2, ![O, P]⟩ : Shape).Idx → α)
    (h1 : (⟨2, ![O, P]⟩ : Shape).ShapeCasts ⟨3, ![O, S, S]⟩) (h2 : (⟨3, ![O, S, S]⟩ : Shape).ShapeCasts ⟨5, ![1, O, 1, S, S]⟩)
    (o : Fin O) (y x : Fin S) (p : Fin P) (hp : p.val = S * y.val + x.val) :
    shapeCast ⟨5, ![1, O, 1, S, S]⟩ (shapeCast ⟨3, ![O, S, S]⟩ v h1) h2 (ix5 0 o 0 y x) = v (ix2 o p) := by
  subst hP
  rw [shapeCast_apply _ h2 (ix5 0 o 0 y x) (ix3 o y x), shapeCast_apply _ h1 (ix3 o y x) (ix2 o p)]
  · rw [Shape.rowMajor_val_two, Shape.rowMajor_val_three]
    show o.val * (S * S) + p.val = (o.val * S + y.val) * S + x.val
    rw [hp]; ring
  · rw [Shape.rowMajor_val_three, Shape.rowMajor_val_five]
    show (o.val * S + y.val) * S + x.val = (((0 * O + o.val) * 1 + 0) * S + y.val) * S + x.val
    ring

end layout

/-- The window piece of plane position `q = 3·kh + kw` of a parity split block. -/
def tapq {C n S P : ℕ} (v : (⟨5, ![C, 2, 2, n, n]⟩ : Shape).Idx → EReal) (q : Fin 9)
    (h : (⟨5, ![C, 2, 2, n, n]⟩ : Shape).Slices ![0, q.val / 3 % 2, q.val % 3 % 2, q.val / 3 / 2, q.val % 3 / 2] ⟨5, ![C, 1, 1, S, S]⟩)
    (h1 : (⟨5, ![C, 1, 1, S, S]⟩ : Shape).ShapeCasts ⟨3, ![C, S, S]⟩)
    (h2 : (⟨3, ![C, S, S]⟩ : Shape).ShapeCasts ⟨2, ![C, P]⟩) : (⟨2, ![C, P]⟩ : Shape).Idx → EReal :=
  shapeCast ⟨2, ![C, P]⟩ (shapeCast ⟨3, ![C, S, S]⟩ (extractStridedSlice ⟨5, ![C, 1, 1, S, S]⟩
    ![0, q.val / 3 % 2, q.val % 3 % 2, q.val / 3 / 2, q.val % 3 / 2] v h) h1) h2

/-- The kernel's product is the convolution, once the three parity split blocks (of the depths `d`, `d + 1`, `d + 2`)
    hold the array's elements. -/
theorem matmul_conv {C O P K Q n S : ℕ} (D : DotDims ⟨2, ![O, K]⟩ ⟨2, ![K, Q]⟩ ⟨2, ![O, Q]⟩)
    (hlc : D.lhsContracting = [1]) (hrc : D.rhsContracting = [0]) (hln : D.lhsNonContracting = [0])
    (hrn : D.rhsNonContracting = [1]) (hlb : D.lhsBatch = []) (hrb : D.rhsBatch = []) (hK : K = 27 * C) (hP : P = S * S)
    (hn : n = S + 1)
    (w : (⟨2, ![O, K]⟩ : Shape).Idx → EReal) (X : (⟨2, ![K, Q]⟩ : Shape).Idx → EReal)
    (V : Fin 3 → (⟨5, ![C, 2, 2, n, n]⟩ : Shape).Idx → EReal)
    (h : ∀ q : Fin 9, (⟨5, ![C, 2, 2, n, n]⟩ : Shape).Slices ![0, q.val / 3 % 2, q.val % 3 % 2, q.val / 3 / 2, q.val % 3 / 2] ⟨5, ![C, 1, 1, S, S]⟩)
    (h1 : (⟨5, ![C, 1, 1, S, S]⟩ : Shape).ShapeCasts ⟨3, ![C, S, S]⟩)
    (h2 : (⟨3, ![C, S, S]⟩ : Shape).ShapeCasts ⟨2, ![C, P]⟩) (j : Fin Q) (y x : Fin S) (p : Fin P)
    (hp : p.val = S * y.val + x.val)
    (hX : ∀ (q : Fin 27) (c : Fin C) (k : Fin K), k.val = C * q.val + c.val →
      X (ix2 k j) = tapq (V ⟨q.val / 9, by omega⟩) ⟨q.val % 9, by omega⟩ (h _) h1 h2 (ix2 c p))
    (W : (⟨5, ![O, C, 3, 3, 3]⟩ : Shape).Idx → EReal)
    (hW : ∀ (o : Fin O) (q : Fin 27) (c : Fin C) (k : Fin K), k.val = C * q.val + c.val → w (ix2 o k) = wAt W o c q)
    (A : Fin C → ℕ → ℕ → ℕ → EReal) (d : ℕ)
    (hA : ∀ (kd : Fin 3) (c : Fin C) (i j : Fin 2) (y x : Fin n),
      V kd (ix5 c i j y x) = A c (d + kd.val) (2 * y.val + i.val) (2 * x.val + j.val)) (o : Fin O) :
    (matmul (F := Ideal) (φ₁ := .f32) (φ₂ := .f32) D none w X (constant ⟨2, ![O, Q]⟩ .f32 0x00000000#32) : FVec Ideal _ .f32)
        (ix2 o j)
      = conv A W o d y.val x.val := by
  rw [product_apply D hlc hrc hln hrn hlb hrb hK w X
    (fun q => tapq (V ⟨q.val / 9, by omega⟩) ⟨q.val % 9, by omega⟩ (h _) h1 h2) j p hX (fun o c q => wAt W o c q) hW o]
  unfold conv
  refine Finset.sum_congr rfl fun q _ => Finset.sum_congr rfl fun c _ => ?_
  congr 1
  rw [tapq, tap_apply _ _ _ _ _ (h _) h1 h2 c y x p hp hP]
  have hq := q.isLt
  have hy := y.isLt
  have hx := x.isLt
  have hlt : q.val % 9 / 3 % 2 < 2 ∧ q.val % 9 % 3 % 2 < 2 ∧ q.val % 9 / 3 / 2 + y.val < n ∧ q.val % 9 % 3 / 2 + x.val < n := by
    omega
  show at5 _ c (q.val % 9 / 3 % 2) (q.val % 9 % 3 % 2) (q.val % 9 / 3 / 2 + y.val) (q.val % 9 % 3 / 2 + x.val) = _
  rw [at5, dif_pos hlt, hA]
  show A c (d + q.val / 9) (2 * (q.val % 9 / 3 / 2 + y.val) + q.val % 9 / 3 % 2) (2 * (q.val % 9 % 3 / 2 + x.val) + q.val % 9 % 3 % 2) = _
  have e1 : 2 * (q.val % 9 / 3 / 2 + y.val) + q.val % 9 / 3 % 2 = 2 * y.val + q.val / 3 % 3 := by omega
  have e2 : 2 * (q.val % 9 % 3 / 2 + x.val) + q.val % 9 % 3 % 2 = 2 * x.val + q.val % 3 := by omega
  rw [e1, e2]

/-- Two stacks side by side, at a column of the left one. -/
theorem pair_left {K P Q : ℕ} (u v : (⟨2, ![K, P]⟩ : Shape).Idx → EReal)
    (h : Shape.Concatenates [(⟨2, ![K, P]⟩ : Shape), ⟨2, ![K, P]⟩] ⟨2, ![K, Q]⟩ 1) (k : Fin K) (p : Fin P) (j : Fin Q)
    (hj : j.val = p.val) :
    concatenate ⟨2, ![K, Q]⟩ 1 [⟨⟨2, ![K, P]⟩, u⟩, ⟨⟨2, ![K, P]⟩, v⟩] h (ix2 k j) = u (ix2 k p) := by
  exact concatenate_pair_apply_left _ _ _ h (ix2 k j) rfl (ix2 k p) fun a => by
    match a with
    | ⟨0, _⟩ => rfl
    | ⟨1, _⟩ => exact hj.symm

/-- Two stacks side by side, at a column of the right one. -/
theorem pair_right {K P Q : ℕ} (u v : (⟨2, ![K, P]⟩ : Shape).Idx → EReal)
    (h : Shape.Concatenates [(⟨2, ![K, P]⟩ : Shape), ⟨2, ![K, P]⟩] ⟨2, ![K, Q]⟩ 1) (k : Fin K) (p : Fin P) (j : Fin Q)
    (hj : j.val = P + p.val) :
    concatenate ⟨2, ![K, Q]⟩ 1 [⟨⟨2, ![K, P]⟩, u⟩, ⟨⟨2, ![K, P]⟩, v⟩] h (ix2 k j) = v (ix2 k p) := by
  refine concatenate_pair_apply_right _ _ _ h (ix2 k j) rfl rfl (ix2 k p) (fun a ha => ?_) ?_
  · match a with
    | ⟨0, _⟩ => rfl
    | ⟨1, _⟩ => exact absurd rfl ha
  · show p.val + P = j.val
    omega

end Cert.Proof.ConvMath

end
-- ==== Proof.PreBlocks.lean ====
/-
  The blocks that the call of the first layer reads at a grid point, at an index, from the
  arguments.
-/
module

public import proofs.«01_k».proof.Proof.PreHost
public import proofs.«01_k».proof.Proof.ConvHost

@[expose] public section

noncomputable section

namespace Cert.Proof.Pre

open Cert.ConvPreIdeal Cert.ConvPreIdeal.Gen Idealize.ShloMosaic Idealize.ShloMosaic.TcCoe Idealize.SL.Sem
open Cert.Proof.ConvMath

variable (m : (ℓ : Loc nD τ sig) → Buf (Elt Ideal) ℓ)

/-- The batch row of a grid point; its depth is the point's number modulo 32. -/
def batch (t : Fin cfg0.N) : Fin 32 := ⟨t.val / 32, by have h := lt_of_lt_of_eq t.isLt N_0; omega⟩

/-- The pad's value is zero. -/
theorem zero_pad : (sitofp (F := Ideal) .f32 (constantI S_ 32 0#32)) (Shape.Idx.first h_S_) = 0 := by
  show ((((0#32 : BitVec 32).toInt : ℤ) : ℝ) : EReal) = 0
  simp

/-- The real input padded and split, at an index. -/
theorem split_r (c : Dev nD) (b : Fin 32) (k : Fin 8) (e : Fin 34) (i j : Fin 2) (y x : Fin 17) (hy : 2 * y.val + i.val < 34) (hx : 2 * x.val + j.val < 34) :
    transpose S32x8x34x2x2x17x17 [0, 1, 2, 4, 6, 3, 5] (shapeCast S32x8x34x17x2x17x2
        (pad S32x8x34x34x34 ![0, 0, 1, 1, 1] ![0, 0, 1, 1, 1] ![0, 0, 0, 0, 0] (m ((c : Thread nD τ).loc main_arg0))
          (sitofp (F := Ideal) .f32 (constantI S_ 32 0#32)) pads_S32x8x32x32x32_S32x8x34x34x34_000_000_110_110_110 h_S_)
        shapeCasts_S32x8x34x34x34_S32x8x34x17x2x17x2) transposes_S32x8x34x17x2x17x2_S32x8x34x2x2x17x17_0_1_2_4_6_3_5 (ix7 b k e i j y x)
      = padAt (m ((c : Thread nD τ).loc main_arg0)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- The imaginary input padded and split, at an index. -/
theorem split_i (c : Dev nD) (b : Fin 32) (k : Fin 8) (e : Fin 34) (i j : Fin 2) (y x : Fin 17) (hy : 2 * y.val + i.val < 34) (hx : 2 * x.val + j.val < 34) :
    transpose S32x8x34x2x2x17x17 [0, 1, 2, 4, 6, 3, 5] (shapeCast S32x8x34x17x2x17x2
        (pad S32x8x34x34x34 ![0, 0, 1, 1, 1] ![0, 0, 1, 1, 1] ![0, 0, 0, 0, 0] (m ((c : Thread nD τ).loc main_arg1))
          (sitofp (F := Ideal) .f32 (constantI S_ 32 0#32)) pads_S32x8x32x32x32_S32x8x34x34x34_000_000_110_110_110 h_S_)
        shapeCasts_S32x8x34x34x34_S32x8x34x17x2x17x2) transposes_S32x8x34x17x2x17x2_S32x8x34x2x2x17x17_0_1_2_4_6_3_5 (ix7 b k e i j y x)
      = padAt (m ((c : Thread nD τ).loc main_arg1)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- Where window 0 reads, at a point. -/
theorem index0 : ∀ t : Fin cfg0.N, win0_0.index t 0 = t.val / 32 ∧ win0_0.index t 1 = 0 ∧ win0_0.index t 2 = t.val % 32 + 0
    ∧ win0_0.index t 3 = 0 ∧ win0_0.index t 4 = 0 ∧ win0_0.index t 5 = 0 ∧ win0_0.index t 6 = 0 :=
  (by decide +kernel : ∀ t : Fin grid0.N, _)

/-- What window 0 reads of any array contents, at an index. -/
theorem read0 (c : Dev nD) (f : (b : Ref sig .tc) → Buf (Elt Ideal) ((c : Thread nD τ).loc b)) (t : Fin cfg0.N) (z : S1x8x1x2x2x17x17.Idx) :
    (((cfg0.win 0).blk t).view.read (Elt Ideal) (f (Pipeline.arrRef spec0 0)) : Vec Ideal S1x8x1x2x2x17x17 .f32) z
      = (f main_v2 : Vec Ideal S32x8x34x2x2x17x17 .f32) (((cfg0.win 0).blk t).view.emb z) := rfl

/-- Window 0's block at a point: the padded real input at the point's batch row, the point's depth. -/
theorem block0 (c : Dev nD) (t : Fin cfg0.N) (k : Fin 8) (i j : Fin 2) (y x : Fin 17) :
    (iblk m c 0 t : Vec Ideal S1x8x1x2x2x17x17 .f32) (ix7 0 k 0 i j y x)
      = padAt (m ((c : Thread nD τ).loc main_arg0)) (batch t) k (t.val % 32 + 0) (2 * y.val + i.val) (2 * x.val + j.val) := by
  obtain ⟨h0, h1, h2, h3, h4, h5, h6⟩ := index0 t
  have hy : 2 * y.val + i.val < 34 := by omega
  have hx : 2 * x.val + j.val < 34 := by omega
  have e : (((cfg0.win 0).blk t).view.emb (ix7 0 k 0 i j y x) : S32x8x34x2x2x17x17.Idx)
      = ix7 (batch t) k ⟨t.val % 32 + 0, by omega⟩ i j y x := by
    funext a
    apply Fin.ext
    match a with
    | ⟨0, _⟩ => show win0_0.index t 0 * 1 + 1 * 0 = t.val / 32; omega
    | ⟨1, _⟩ => show win0_0.index t 1 * 8 + 1 * k.val = k.val; omega
    | ⟨2, _⟩ => show win0_0.index t 2 * 1 + 1 * 0 = t.val % 32 + 0; omega
    | ⟨3, _⟩ => show win0_0.index t 3 * 2 + 1 * i.val = i.val; omega
    | ⟨4, _⟩ => show win0_0.index t 4 * 2 + 1 * j.val = j.val; omega
    | ⟨5, _⟩ => show win0_0.index t 5 * 17 + 1 * y.val = y.val; omega
    | ⟨6, _⟩ => show win0_0.index t 6 * 17 + 1 * x.val = x.val; omega
  exact (read0 c (V m c) t _).trans ((congrArg _ e).trans ((congrFun (V_real m c) _).trans
    (split_r m c (batch t) k ⟨t.val % 32 + 0, by omega⟩ i j y x hy hx)))

/-- Where window 1 reads, at a point. -/
theorem index1 : ∀ t : Fin cfg0.N, win0_1.index t 0 = t.val / 32 ∧ win0_1.index t 1 = 0 ∧ win0_1.index t 2 = t.val % 32 + 1
    ∧ win0_1.index t 3 = 0 ∧ win0_1.index t 4 = 0 ∧ win0_1.index t 5 = 0 ∧ win0_1.index t 6 = 0 :=
  (by decide +kernel : ∀ t : Fin grid0.N, _)

/-- What window 1 reads of any array contents, at an index. -/
theorem read1 (c : Dev nD) (f : (b : Ref sig .tc) → Buf (Elt Ideal) ((c : Thread nD τ).loc b)) (t : Fin cfg0.N) (z : S1x8x1x2x2x17x17.Idx) :
    (((cfg0.win 1).blk t).view.read (Elt Ideal) (f (Pipeline.arrRef spec0 1)) : Vec Ideal S1x8x1x2x2x17x17 .f32) z
      = (f main_v2 : Vec Ideal S32x8x34x2x2x17x17 .f32) (((cfg0.win 1).blk t).view.emb z) := rfl

/-- Window 1's block at a point: the padded real input at the point's batch row, one past the point's depth. -/
theorem block1 (c : Dev nD) (t : Fin cfg0.N) (k : Fin 8) (i j : Fin 2) (y x : Fin 17) :
    (iblk m c 1 t : Vec Ideal S1x8x1x2x2x17x17 .f32) (ix7 0 k 0 i j y x)
      = padAt (m ((c : Thread nD τ).loc main_arg0)) (batch t) k (t.val % 32 + 1) (2 * y.val + i.val) (2 * x.val + j.val) := by
  obtain ⟨h0, h1, h2, h3, h4, h5, h6⟩ := index1 t
  have hy : 2 * y.val + i.val < 34 := by omega
  have hx : 2 * x.val + j.val < 34 := by omega
  have e : (((cfg0.win 1).blk t).view.emb (ix7 0 k 0 i j y x) : S32x8x34x2x2x17x17.Idx)
      = ix7 (batch t) k ⟨t.val % 32 + 1, by omega⟩ i j y x := by
    funext a
    apply Fin.ext
    match a with
    | ⟨0, _⟩ => show win0_1.index t 0 * 1 + 1 * 0 = t.val / 32; omega
    | ⟨1, _⟩ => show win0_1.index t 1 * 8 + 1 * k.val = k.val; omega
    | ⟨2, _⟩ => show win0_1.index t 2 * 1 + 1 * 0 = t.val % 32 + 1; omega
    | ⟨3, _⟩ => show win0_1.index t 3 * 2 + 1 * i.val = i.val; omega
    | ⟨4, _⟩ => show win0_1.index t 4 * 2 + 1 * j.val = j.val; omega
    | ⟨5, _⟩ => show win0_1.index t 5 * 17 + 1 * y.val = y.val; omega
    | ⟨6, _⟩ => show win0_1.index t 6 * 17 + 1 * x.val = x.val; omega
  exact (read1 c (V m c) t _).trans ((congrArg _ e).trans ((congrFun (V_real m c) _).trans
    (split_r m c (batch t) k ⟨t.val % 32 + 1, by omega⟩ i j y x hy hx)))

/-- Where window 2 reads, at a point. -/
theorem index2 : ∀ t : Fin cfg0.N, win0_2.index t 0 = t.val / 32 ∧ win0_2.index t 1 = 0 ∧ win0_2.index t 2 = t.val % 32 + 2
    ∧ win0_2.index t 3 = 0 ∧ win0_2.index t 4 = 0 ∧ win0_2.index t 5 = 0 ∧ win0_2.index t 6 = 0 :=
  (by decide +kernel : ∀ t : Fin grid0.N, _)

/-- What window 2 reads of any array contents, at an index. -/
theorem read2 (c : Dev nD) (f : (b : Ref sig .tc) → Buf (Elt Ideal) ((c : Thread nD τ).loc b)) (t : Fin cfg0.N) (z : S1x8x1x2x2x17x17.Idx) :
    (((cfg0.win 2).blk t).view.read (Elt Ideal) (f (Pipeline.arrRef spec0 2)) : Vec Ideal S1x8x1x2x2x17x17 .f32) z
      = (f main_v2 : Vec Ideal S32x8x34x2x2x17x17 .f32) (((cfg0.win 2).blk t).view.emb z) := rfl

/-- Window 2's block at a point: the padded real input at the point's batch row, two past the point's depth. -/
theorem block2 (c : Dev nD) (t : Fin cfg0.N) (k : Fin 8) (i j : Fin 2) (y x : Fin 17) :
    (iblk m c 2 t : Vec Ideal S1x8x1x2x2x17x17 .f32) (ix7 0 k 0 i j y x)
      = padAt (m ((c : Thread nD τ).loc main_arg0)) (batch t) k (t.val % 32 + 2) (2 * y.val + i.val) (2 * x.val + j.val) := by
  obtain ⟨h0, h1, h2, h3, h4, h5, h6⟩ := index2 t
  have hy : 2 * y.val + i.val < 34 := by omega
  have hx : 2 * x.val + j.val < 34 := by omega
  have e : (((cfg0.win 2).blk t).view.emb (ix7 0 k 0 i j y x) : S32x8x34x2x2x17x17.Idx)
      = ix7 (batch t) k ⟨t.val % 32 + 2, by omega⟩ i j y x := by
    funext a
    apply Fin.ext
    match a with
    | ⟨0, _⟩ => show win0_2.index t 0 * 1 + 1 * 0 = t.val / 32; omega
    | ⟨1, _⟩ => show win0_2.index t 1 * 8 + 1 * k.val = k.val; omega
    | ⟨2, _⟩ => show win0_2.index t 2 * 1 + 1 * 0 = t.val % 32 + 2; omega
    | ⟨3, _⟩ => show win0_2.index t 3 * 2 + 1 * i.val = i.val; omega
    | ⟨4, _⟩ => show win0_2.index t 4 * 2 + 1 * j.val = j.val; omega
    | ⟨5, _⟩ => show win0_2.index t 5 * 17 + 1 * y.val = y.val; omega
    | ⟨6, _⟩ => show win0_2.index t 6 * 17 + 1 * x.val = x.val; omega
  exact (read2 c (V m c) t _).trans ((congrArg _ e).trans ((congrFun (V_real m c) _).trans
    (split_r m c (batch t) k ⟨t.val % 32 + 2, by omega⟩ i j y x hy hx)))

/-- Where window 3 reads, at a point. -/
theorem index3 : ∀ t : Fin cfg0.N, win0_3.index t 0 = t.val / 32 ∧ win0_3.index t 1 = 0 ∧ win0_3.index t 2 = t.val % 32 + 0
    ∧ win0_3.index t 3 = 0 ∧ win0_3.index t 4 = 0 ∧ win0_3.index t 5 = 0 ∧ win0_3.index t 6 = 0 :=
  (by decide +kernel : ∀ t : Fin grid0.N, _)

/-- What window 3 reads of any array contents, at an index. -/
theorem read3 (c : Dev nD) (f : (b : Ref sig .tc) → Buf (Elt Ideal) ((c : Thread nD τ).loc b)) (t : Fin cfg0.N) (z : S1x8x1x2x2x17x17.Idx) :
    (((cfg0.win 3).blk t).view.read (Elt Ideal) (f (Pipeline.arrRef spec0 3)) : Vec Ideal S1x8x1x2x2x17x17 .f32) z
      = (f main_v5 : Vec Ideal S32x8x34x2x2x17x17 .f32) (((cfg0.win 3).blk t).view.emb z) := rfl

/-- Window 3's block at a point: the padded imaginary input at the point's batch row, the point's depth. -/
theorem block3 (c : Dev nD) (t : Fin cfg0.N) (k : Fin 8) (i j : Fin 2) (y x : Fin 17) :
    (iblk m c 3 t : Vec Ideal S1x8x1x2x2x17x17 .f32) (ix7 0 k 0 i j y x)
      = padAt (m ((c : Thread nD τ).loc main_arg1)) (batch t) k (t.val % 32 + 0) (2 * y.val + i.val) (2 * x.val + j.val) := by
  obtain ⟨h0, h1, h2, h3, h4, h5, h6⟩ := index3 t
  have hy : 2 * y.val + i.val < 34 := by omega
  have hx : 2 * x.val + j.val < 34 := by omega
  have e : (((cfg0.win 3).blk t).view.emb (ix7 0 k 0 i j y x) : S32x8x34x2x2x17x17.Idx)
      = ix7 (batch t) k ⟨t.val % 32 + 0, by omega⟩ i j y x := by
    funext a
    apply Fin.ext
    match a with
    | ⟨0, _⟩ => show win0_3.index t 0 * 1 + 1 * 0 = t.val / 32; omega
    | ⟨1, _⟩ => show win0_3.index t 1 * 8 + 1 * k.val = k.val; omega
    | ⟨2, _⟩ => show win0_3.index t 2 * 1 + 1 * 0 = t.val % 32 + 0; omega
    | ⟨3, _⟩ => show win0_3.index t 3 * 2 + 1 * i.val = i.val; omega
    | ⟨4, _⟩ => show win0_3.index t 4 * 2 + 1 * j.val = j.val; omega
    | ⟨5, _⟩ => show win0_3.index t 5 * 17 + 1 * y.val = y.val; omega
    | ⟨6, _⟩ => show win0_3.index t 6 * 17 + 1 * x.val = x.val; omega
  exact (read3 c (V m c) t _).trans ((congrArg _ e).trans ((congrFun (V_imag m c) _).trans
    (split_i m c (batch t) k ⟨t.val % 32 + 0, by omega⟩ i j y x hy hx)))

/-- Where window 4 reads, at a point. -/
theorem index4 : ∀ t : Fin cfg0.N, win0_4.index t 0 = t.val / 32 ∧ win0_4.index t 1 = 0 ∧ win0_4.index t 2 = t.val % 32 + 1
    ∧ win0_4.index t 3 = 0 ∧ win0_4.index t 4 = 0 ∧ win0_4.index t 5 = 0 ∧ win0_4.index t 6 = 0 :=
  (by decide +kernel : ∀ t : Fin grid0.N, _)

/-- What window 4 reads of any array contents, at an index. -/
theorem read4 (c : Dev nD) (f : (b : Ref sig .tc) → Buf (Elt Ideal) ((c : Thread nD τ).loc b)) (t : Fin cfg0.N) (z : S1x8x1x2x2x17x17.Idx) :
    (((cfg0.win 4).blk t).view.read (Elt Ideal) (f (Pipeline.arrRef spec0 4)) : Vec Ideal S1x8x1x2x2x17x17 .f32) z
      = (f main_v5 : Vec Ideal S32x8x34x2x2x17x17 .f32) (((cfg0.win 4).blk t).view.emb z) := rfl

/-- Window 4's block at a point: the padded imaginary input at the point's batch row, one past the point's depth. -/
theorem block4 (c : Dev nD) (t : Fin cfg0.N) (k : Fin 8) (i j : Fin 2) (y x : Fin 17) :
    (iblk m c 4 t : Vec Ideal S1x8x1x2x2x17x17 .f32) (ix7 0 k 0 i j y x)
      = padAt (m ((c : Thread nD τ).loc main_arg1)) (batch t) k (t.val % 32 + 1) (2 * y.val + i.val) (2 * x.val + j.val) := by
  obtain ⟨h0, h1, h2, h3, h4, h5, h6⟩ := index4 t
  have hy : 2 * y.val + i.val < 34 := by omega
  have hx : 2 * x.val + j.val < 34 := by omega
  have e : (((cfg0.win 4).blk t).view.emb (ix7 0 k 0 i j y x) : S32x8x34x2x2x17x17.Idx)
      = ix7 (batch t) k ⟨t.val % 32 + 1, by omega⟩ i j y x := by
    funext a
    apply Fin.ext
    match a with
    | ⟨0, _⟩ => show win0_4.index t 0 * 1 + 1 * 0 = t.val / 32; omega
    | ⟨1, _⟩ => show win0_4.index t 1 * 8 + 1 * k.val = k.val; omega
    | ⟨2, _⟩ => show win0_4.index t 2 * 1 + 1 * 0 = t.val % 32 + 1; omega
    | ⟨3, _⟩ => show win0_4.index t 3 * 2 + 1 * i.val = i.val; omega
    | ⟨4, _⟩ => show win0_4.index t 4 * 2 + 1 * j.val = j.val; omega
    | ⟨5, _⟩ => show win0_4.index t 5 * 17 + 1 * y.val = y.val; omega
    | ⟨6, _⟩ => show win0_4.index t 6 * 17 + 1 * x.val = x.val; omega
  exact (read4 c (V m c) t _).trans ((congrArg _ e).trans ((congrFun (V_imag m c) _).trans
    (split_i m c (batch t) k ⟨t.val % 32 + 1, by omega⟩ i j y x hy hx)))

/-- Where window 5 reads, at a point. -/
theorem index5 : ∀ t : Fin cfg0.N, win0_5.index t 0 = t.val / 32 ∧ win0_5.index t 1 = 0 ∧ win0_5.index t 2 = t.val % 32 + 2
    ∧ win0_5.index t 3 = 0 ∧ win0_5.index t 4 = 0 ∧ win0_5.index t 5 = 0 ∧ win0_5.index t 6 = 0 :=
  (by decide +kernel : ∀ t : Fin grid0.N, _)

/-- What window 5 reads of any array contents, at an index. -/
theorem read5 (c : Dev nD) (f : (b : Ref sig .tc) → Buf (Elt Ideal) ((c : Thread nD τ).loc b)) (t : Fin cfg0.N) (z : S1x8x1x2x2x17x17.Idx) :
    (((cfg0.win 5).blk t).view.read (Elt Ideal) (f (Pipeline.arrRef spec0 5)) : Vec Ideal S1x8x1x2x2x17x17 .f32) z
      = (f main_v5 : Vec Ideal S32x8x34x2x2x17x17 .f32) (((cfg0.win 5).blk t).view.emb z) := rfl

/-- Window 5's block at a point: the padded imaginary input at the point's batch row, two past the point's depth. -/
theorem block5 (c : Dev nD) (t : Fin cfg0.N) (k : Fin 8) (i j : Fin 2) (y x : Fin 17) :
    (iblk m c 5 t : Vec Ideal S1x8x1x2x2x17x17 .f32) (ix7 0 k 0 i j y x)
      = padAt (m ((c : Thread nD τ).loc main_arg1)) (batch t) k (t.val % 32 + 2) (2 * y.val + i.val) (2 * x.val + j.val) := by
  obtain ⟨h0, h1, h2, h3, h4, h5, h6⟩ := index5 t
  have hy : 2 * y.val + i.val < 34 := by omega
  have hx : 2 * x.val + j.val < 34 := by omega
  have e : (((cfg0.win 5).blk t).view.emb (ix7 0 k 0 i j y x) : S32x8x34x2x2x17x17.Idx)
      = ix7 (batch t) k ⟨t.val % 32 + 2, by omega⟩ i j y x := by
    funext a
    apply Fin.ext
    match a with
    | ⟨0, _⟩ => show win0_5.index t 0 * 1 + 1 * 0 = t.val / 32; omega
    | ⟨1, _⟩ => show win0_5.index t 1 * 8 + 1 * k.val = k.val; omega
    | ⟨2, _⟩ => show win0_5.index t 2 * 1 + 1 * 0 = t.val % 32 + 2; omega
    | ⟨3, _⟩ => show win0_5.index t 3 * 2 + 1 * i.val = i.val; omega
    | ⟨4, _⟩ => show win0_5.index t 4 * 2 + 1 * j.val = j.val; omega
    | ⟨5, _⟩ => show win0_5.index t 5 * 17 + 1 * y.val = y.val; omega
    | ⟨6, _⟩ => show win0_5.index t 6 * 17 + 1 * x.val = x.val; omega
  exact (read5 c (V m c) t _).trans ((congrArg _ e).trans ((congrFun (V_imag m c) _).trans
    (split_i m c (batch t) k ⟨t.val % 32 + 2, by omega⟩ i j y x hy hx)))

/-- Where window 6 reads. -/
theorem index6 : ∀ t : Fin cfg0.N, win0_6.index t 0 = 0 ∧ win0_6.index t 1 = 0 := (by decide +kernel : ∀ t : Fin grid0.N, _)

/-- What window 6 reads of any array contents, at an index. -/
theorem read6 (c : Dev nD) (f : (b : Ref sig .tc) → Buf (Elt Ideal) ((c : Thread nD τ).loc b)) (t : Fin cfg0.N) (z : S32x216.Idx) :
    (((cfg0.win 6).blk t).view.read (Elt Ideal) (f (Pipeline.arrRef spec0 6)) : Vec Ideal S32x216 .f32) z
      = (f main_v7 : Vec Ideal S32x216 .f32) (((cfg0.win 6).blk t).view.emb z) := rfl

/-- Window 6's block: the flattened weights. -/
theorem block6 (c : Dev nD) (t : Fin cfg0.N) (o : Fin 32) (q : Fin 27) (k : Fin 8) (l : Fin 216) (hl : l.val = 8 * q.val + k.val) :
    (iblk m c 6 t : Vec Ideal S32x216 .f32) (ix2 o l) = wAt (m ((c : Thread nD τ).loc main_arg2)) o k q := by
  obtain ⟨h0, h1⟩ := index6 t
  have e : (((cfg0.win 6).blk t).view.emb (ix2 o l) : S32x216.Idx) = ix2 o l := by
    funext a
    apply Fin.ext
    match a with
    | ⟨0, _⟩ => show win0_6.index t 0 * 32 + 1 * o.val = o.val; omega
    | ⟨1, _⟩ => show win0_6.index t 1 * 216 + 1 * l.val = l.val; omega
  exact (read6 c (V m c) t _).trans ((congrArg _ e).trans ((congrFun (V_weights m c) _).trans (weights_apply rfl _ _ _ o q k l hl)))

/-- Where window 7 reads. -/
theorem index7 : ∀ t : Fin cfg0.N, win0_7.index t 0 = 0 ∧ win0_7.index t 1 = 0 := (by decide +kernel : ∀ t : Fin grid0.N, _)

/-- What window 7 reads of any array contents, at an index. -/
theorem read7 (c : Dev nD) (f : (b : Ref sig .tc) → Buf (Elt Ideal) ((c : Thread nD τ).loc b)) (t : Fin cfg0.N) (z : S32x1.Idx) :
    (((cfg0.win 7).blk t).view.read (Elt Ideal) (f (Pipeline.arrRef spec0 7)) : Vec Ideal S32x1 .f32) z
      = (f main_v10 : Vec Ideal S32x1 .f32) (((cfg0.win 7).blk t).view.emb z) := rfl

/-- Window 7's block: the real bias. -/
theorem block7 (c : Dev nD) (t : Fin cfg0.N) (o : Fin 32) :
    (iblk m c 7 t : Vec Ideal S32x1 .f32) (ix2 o 0) = (m ((c : Thread nD τ).loc main_arg3) : Vec Ideal S32 .f32) (ix1 o) := by
  obtain ⟨h0, h1⟩ := index7 t
  have e : (((cfg0.win 7).blk t).view.emb (ix2 o 0) : S32x1.Idx) = ix2 o 0 := by
    funext a
    apply Fin.ext
    match a with
    | ⟨0, _⟩ => show win0_7.index t 0 * 32 + 1 * o.val = o.val; omega
    | ⟨1, _⟩ => show win0_7.index t 1 * 1 + 1 * 0 = 0; omega
  exact (read7 c (V m c) t _).trans ((congrArg _ e).trans ((congrFun (V_biasR m c) _).trans (col_apply _ _ o)))

/-- Where window 8 reads. -/
theorem index8 : ∀ t : Fin cfg0.N, win0_8.index t 0 = 0 ∧ win0_8.index t 1 = 0 := (by decide +kernel : ∀ t : Fin grid0.N, _)

/-- What window 8 reads of any array contents, at an index. -/
theorem read8 (c : Dev nD) (f : (b : Ref sig .tc) → Buf (Elt Ideal) ((c : Thread nD τ).loc b)) (t : Fin cfg0.N) (z : S32x1.Idx) :
    (((cfg0.win 8).blk t).view.read (Elt Ideal) (f (Pipeline.arrRef spec0 8)) : Vec Ideal S32x1 .f32) z
      = (f main_v11 : Vec Ideal S32x1 .f32) (((cfg0.win 8).blk t).view.emb z) := rfl

/-- Window 8's block: the imaginary bias. -/
theorem block8 (c : Dev nD) (t : Fin cfg0.N) (o : Fin 32) :
    (iblk m c 8 t : Vec Ideal S32x1 .f32) (ix2 o 0) = (m ((c : Thread nD τ).loc main_arg4) : Vec Ideal S32 .f32) (ix1 o) := by
  obtain ⟨h0, h1⟩ := index8 t
  have e : (((cfg0.win 8).blk t).view.emb (ix2 o 0) : S32x1.Idx) = ix2 o 0 := by
    funext a
    apply Fin.ext
    match a with
    | ⟨0, _⟩ => show win0_8.index t 0 * 32 + 1 * o.val = o.val; omega
    | ⟨1, _⟩ => show win0_8.index t 1 * 1 + 1 * 0 = 0; omega
  exact (read8 c (V m c) t _).trans ((congrArg _ e).trans ((congrFun (V_biasI m c) _).trans (col_apply _ _ o)))

/-- Where window 9 reads. -/
theorem index9 : ∀ t : Fin cfg0.N, win0_9.index t 0 = 0 ∧ win0_9.index t 1 = 0 := (by decide +kernel : ∀ t : Fin grid0.N, _)

end Cert.Proof.Pre
-- ==== Proof.PreProduct.lean ====
/-
  What the call of the first layer leaves in its blocks, at an index: the convolution of the
  padded input, its biases, and the sums of magnitudes.
-/
module

public import proofs.«01_k».proof.Proof.PreKernel
public import proofs.«01_k».proof.Proof.PreBlocks

@[expose] public section

noncomputable section

namespace Cert.Proof.Pre

open Cert.ConvPreIdeal Cert.ConvPreIdeal.Gen Cert.ConvPreIdeal.Value Idealize.ShloMosaic Idealize.ShloMosaic.TcCoe Idealize.SL.Sem
open Cert.Proof.ConvMath

/-- Twenty seven terms, as a list. -/
theorem ofFn27 {α : Type*} (f : Fin 27 → α) : List.ofFn f = [f 0, f 1, f 2, f 3, f 4, f 5, f 6, f 7, f 8, f 9, f 10, f 11, f 12, f 13, f 14, f 15, f 16, f 17, f 18, f 19, f 20, f 21, f 22, f 23, f 24, f 25, f 26] := by rfl

/-- The corner that a window piece takes lies in its parity plane. -/
theorem hsl : ∀ q : Fin 9, (⟨5, ![8, 2, 2, 17, 17]⟩ : Shape).Slices
    ![0, q.val / 3 % 2, q.val % 3 % 2, q.val / 3 / 2, q.val % 3 / 2] ⟨5, ![8, 1, 1, 16, 16]⟩ := by decide

/-- Piece `q` of the three blocks' pieces. -/
def tapAt (v : Fin 3 → FVec Ideal S8x2x2x17x17 .f32) (q : Fin 27) : (⟨2, ![8, 256]⟩ : Shape).Idx → EReal :=
  tapq (v ⟨q.val / 9, Nat.div_lt_of_lt_mul q.isLt⟩) ⟨q.val % 9, Nat.mod_lt _ (by decide)⟩ (hsl _) shapeCasts_S8x1x1x16x16_S8x16x16
    shapeCasts_S8x16x16_S8x256

/-- The blocks without their unit dimensions. -/
def drop3 (X0 X1 X2 : Vec Ideal S1x8x1x2x2x17x17 .f32) : Fin 3 → FVec Ideal S8x2x2x17x17 .f32 :=
  ![shapeCast S8x2x2x17x17 X0 shapeCasts_S1x8x1x2x2x17x17_S8x2x2x17x17, shapeCast S8x2x2x17x17 X1 shapeCasts_S1x8x1x2x2x17x17_S8x2x2x17x17,
    shapeCast S8x2x2x17x17 X2 shapeCasts_S1x8x1x2x2x17x17_S8x2x2x17x17]

/-- The blocks without their unit dimensions, at an index. -/
theorem drop3_apply (X0 X1 X2 : Vec Ideal S1x8x1x2x2x17x17 .f32) (k : Fin 8) (i j : Fin 2) (y x : Fin 17) (g : ℕ → EReal)
    (h0 : X0 (ix7 0 k 0 i j y x) = g 0) (h1 : X1 (ix7 0 k 0 i j y x) = g 1) (h2 : X2 (ix7 0 k 0 i j y x) = g 2) (kd : Fin 3) :
    drop3 X0 X1 X2 kd (ix5 k i j y x) = g kd.val := by
  match kd with
  | ⟨0, _⟩ => exact (dropUnits_apply X0 shapeCasts_S1x8x1x2x2x17x17_S8x2x2x17x17 k i j y x).trans h0
  | ⟨1, _⟩ => exact (dropUnits_apply X1 shapeCasts_S1x8x1x2x2x17x17_S8x2x2x17x17 k i j y x).trans h1
  | ⟨2, _⟩ => exact (dropUnits_apply X2 shapeCasts_S1x8x1x2x2x17x17_S8x2x2x17x17 k i j y x).trans h2

/-- The real half of the product is the convolution of the real parts, plus the bias. -/
theorem reOf_apply (X0 Y0 X1 Y1 X2 Y2 : Vec Ideal S1x8x1x2x2x17x17 .f32) (x6 : Vec Ideal S32x216 .f32) (x7 : Vec Ideal S32x1 .f32)
    (W : (⟨5, ![32, 8, 3, 3, 3]⟩ : Shape).Idx → EReal)
    (hW : ∀ (o : Fin 32) (q : Fin 27) (k : Fin 8) (l : Fin 216), l.val = 8 * q.val + k.val → x6 (ix2 o l) = wAt W o k q)
    (A : Fin 8 → ℕ → ℕ → ℕ → EReal) (d : ℕ)
    (hA : ∀ (kd : Fin 3) (k : Fin 8) (i j : Fin 2) (y x : Fin 17),
      drop3 X0 X1 X2 kd (ix5 k i j y x) = A k (d + kd.val) (2 * y.val + i.val) (2 * x.val + j.val))
    (o : Fin 32) (p : Fin 256) (y x : Fin 16) (hp : p.val = 16 * y.val + x.val) :
    reOf X0 Y0 X1 Y1 X2 Y2 x6 x7 (ix2 o p) = conv A W o d y.val x.val + x7 (ix2 o 0) := by
  unfold reOf k0_pay53
  refine congrArg₂ (· + ·) ?_ (col2_apply x7 shapeCasts_S32x1_S32x1 broadcasts_S32x1_S32x256 o p)
  rw [extractStridedSlice_apply _ _ slices_S32x512_o0_0_S32x256 (ix2 o p) (ix2 o (⟨p.val, by omega⟩ : Fin 512)) (fun a => by
    match a with
    | ⟨0, _⟩ => show o.val = 0 + o.val; omega
    | ⟨1, _⟩ => show p.val = 0 + p.val; omega)]
  unfold k0_pay52
  have hs : shapeCast S32x216 x6 shapeCasts_S32x216_S32x216 = x6 := funext fun z => shapeCast_apply _ _ _ _ rfl
  rw [hs]
  refine matmul_conv (C := 8) (n := 17) (S := 16) (P := 256) dot_S32x216_S216x512_S32x512_1_0_0_1_n_n rfl rfl rfl rfl rfl rfl rfl rfl rfl
    x6 _ (drop3 X0 X1 X2) hsl shapeCasts_S8x1x1x16x16_S8x16x16 shapeCasts_S8x16x16_S8x256 _ y x p hp (fun q k l hl => ?_) W hW A d hA o
  refine (pair_left (Q := 512) _ _ _ l p ⟨p.val, by omega⟩ rfl).trans ?_
  exact cat27_apply (C := 8) (tapAt (drop3 X0 X1 X2)) _ (ofFn27 _).symm _ q k l hl p

/-- The imaginary half of the product is the convolution of the imaginary parts. -/
theorem imOf_apply (X0 Y0 X1 Y1 X2 Y2 : Vec Ideal S1x8x1x2x2x17x17 .f32) (x6 : Vec Ideal S32x216 .f32)
    (W : (⟨5, ![32, 8, 3, 3, 3]⟩ : Shape).Idx → EReal)
    (hW : ∀ (o : Fin 32) (q : Fin 27) (k : Fin 8) (l : Fin 216), l.val = 8 * q.val + k.val → x6 (ix2 o l) = wAt W o k q)
    (A : Fin 8 → ℕ → ℕ → ℕ → EReal) (d : ℕ)
    (hA : ∀ (kd : Fin 3) (k : Fin 8) (i j : Fin 2) (y x : Fin 17),
      drop3 Y0 Y1 Y2 kd (ix5 k i j y x) = A k (d + kd.val) (2 * y.val + i.val) (2 * x.val + j.val))
    (o : Fin 32) (p : Fin 256) (y x : Fin 16) (hp : p.val = 16 * y.val + x.val) :
    imOf X0 Y0 X1 Y1 X2 Y2 x6 (ix2 o p) = conv A W o d y.val x.val := by
  unfold imOf k0_pay54
  rw [extractStridedSlice_apply _ _ slices_S32x512_o0_256_S32x256 (ix2 o p) (ix2 o (⟨256 + p.val, by omega⟩ : Fin 512)) (fun a => by
    match a with
    | ⟨0, _⟩ => show o.val = 0 + o.val; omega
    | ⟨1, _⟩ => show 256 + p.val = 256 + p.val; omega)]
  unfold k0_pay52
  have hs : shapeCast S32x216 x6 shapeCasts_S32x216_S32x216 = x6 := funext fun z => shapeCast_apply _ _ _ _ rfl
  rw [hs]
  refine matmul_conv (C := 8) (n := 17) (S := 16) (P := 256) dot_S32x216_S216x512_S32x512_1_0_0_1_n_n rfl rfl rfl rfl rfl rfl rfl rfl rfl
    x6 _ (drop3 Y0 Y1 Y2) hsl shapeCasts_S8x1x1x16x16_S8x16x16 shapeCasts_S8x16x16_S8x256 _ y x p hp (fun q k l hl => ?_) W hW A d hA o
  refine (pair_right _ _ _ l p _ rfl).trans ?_
  exact cat27_apply (C := 8) (tapAt (drop3 Y0 Y1 Y2)) _ (ofFn27 _).symm _ q k l hl p

end Cert.Proof.Pre
-- ==== Proof.PreFinal.lean ====
/-
  What the call of the first layer leaves in its three result arrays, at an index: the two
  convolutions of the padded input with their biases, and the sums of the magnitudes and of their squares.
-/
module

public import proofs.«01_k».proof.Proof.PreProduct
public import Idealize.ShloMosaic.Lib.Pointwise

@[expose] public section

noncomputable section

namespace Cert.Proof.Pre

open Cert.ConvPreIdeal Cert.ConvPreIdeal.Gen Cert.ConvPreIdeal.Value Idealize.ShloMosaic Idealize.ShloMosaic.TcCoe Idealize.SL.Sem
open Cert.Proof.ConvMath
open scoped BigOperators

variable (m : (ℓ : Loc nD τ sig) → Buf (Elt Ideal) ℓ)

/-- The padded real input, at all naturals. -/
def aR (c : Dev nD) (b : Fin 32) (k : Fin 8) (i j l : ℕ) : EReal := padAt (m ((c : Thread nD τ).loc main_arg0)) b k i j l

/-- The padded imaginary input, at all naturals. -/
def aI (c : Dev nD) (b : Fin 32) (k : Fin 8) (i j l : ℕ) : EReal := padAt (m ((c : Thread nD τ).loc main_arg1)) b k i j l

/-- The real result. -/
def fR (c : Dev nD) (b : Fin 32) (o : Fin 32) (d y x : ℕ) : EReal :=
  conv (aR m c b) (m ((c : Thread nD τ).loc main_arg2)) o d y x + (m ((c : Thread nD τ).loc main_arg3) : Vec Ideal S32 .f32) (ix1 o)

/-- The imaginary result. -/
def fI (c : Dev nD) (b : Fin 32) (o : Fin 32) (d y x : ℕ) : EReal :=
  conv (aI m c b) (m ((c : Thread nD τ).loc main_arg2)) o d y x + (m ((c : Thread nD τ).loc main_arg4) : Vec Ideal S32 .f32) (ix1 o)

/-- The result's magnitude. -/
def fM (c : Dev nD) (b : Fin 32) (o : Fin 32) (d y x : ℕ) : EReal := mag (fR m c b o d y x) (fI m c b o d y x)

/-- The real block at a point, at an index. -/
theorem reAt_apply (c : Dev nD) (t : Fin cfg0.N) (o : Fin 32) (p : Fin 256) (y x : Fin 16) (hp : p.val = 16 * y.val + x.val) :
    reAt m c t (ix2 o p) = fR m c (batch t) o (t.val % 32) y.val x.val := by
  unfold reAt fR
  refine (reOf_apply (iblk m c 0 t) (iblk m c 3 t) (iblk m c 1 t) (iblk m c 4 t) (iblk m c 2 t) (iblk m c 5 t) (iblk m c 6 t) (iblk m c 7 t)
    (m ((c : Thread nD τ).loc main_arg2)) (fun o q k l hl => block6 m c t o q k l hl) (aR m c (batch t)) (t.val % 32) ?_ o p y x hp).trans
    (congrArg _ (block7 m c t o))
  intro kd k i j y x
  exact drop3_apply _ _ _ k i j y x (fun e => aR m c (batch t) k (t.val % 32 + e) (2 * y.val + i.val) (2 * x.val + j.val))
    (block0 m c t k i j y x) (block1 m c t k i j y x) (block2 m c t k i j y x) kd

/-- The imaginary block at a point, with its bias, at an index. -/
theorem imAt_apply (c : Dev nD) (t : Fin cfg0.N) (o : Fin 32) (p : Fin 256) (y x : Fin 16) (hp : p.val = 16 * y.val + x.val) :
    k0_pay56 (imAt m c t) (biasAt m c t) (ix2 o p) = fI m c (batch t) o (t.val % 32) y.val x.val := by
  unfold fI k0_pay56 biasAt
  refine congrArg₂ (· + ·) ?_ ((col2_apply (iblk m c 8 t) shapeCasts_S32x1_S32x1 broadcasts_S32x1_S32x256 o p).trans (block8 m c t o))
  unfold imAt
  refine imOf_apply (iblk m c 0 t) (iblk m c 3 t) (iblk m c 1 t) (iblk m c 4 t) (iblk m c 2 t) (iblk m c 5 t) (iblk m c 6 t)
    (m ((c : Thread nD τ).loc main_arg2)) (fun o q k l hl => block6 m c t o q k l hl) (aI m c (batch t)) (t.val % 32) ?_ o p y x hp
  intro kd k i j y x
  exact drop3_apply _ _ _ k i j y x (fun e => aI m c (batch t) k (t.val % 32 + e) (2 * y.val + i.val) (2 * x.val + j.val))
    (block3 m c t k i j y x) (block4 m c t k i j y x) (block5 m c t k i j y x) kd

/-- The magnitudes at a point, at an index. -/
theorem magAt_apply (c : Dev nD) (t : Fin cfg0.N) (o : Fin 32) (p : Fin 256) (y x : Fin 16) (hp : p.val = 16 * y.val + x.val) :
    k0_pay59 (reAt m c t) (imAt m c t) (biasAt m c t) (ix2 o p) = fM m c (batch t) o (t.val % 32) y.val x.val := by
  unfold fM
  rw [← reAt_apply m c t o p y x hp, ← imAt_apply m c t o p y x hp]
  rfl

/-- A sum over a block's positions, row by row. -/
theorem sum_positions (f : Fin 256 → EReal) (g : ℕ → ℕ → EReal) (h : ∀ (p : Fin 256) (y x : Fin 16), p.val = 16 * y.val + x.val → f p = g y.val x.val) :
    ∑ p, f p = ∑ y : Fin 16, ∑ x : Fin 16, g y.val x.val := by
  rw [← (finProdFinEquiv (m := 16) (n := 16)).sum_comp f, Fintype.sum_prod_type]
  refine Finset.sum_congr rfl fun y _ => Finset.sum_congr rfl fun x _ => h _ y x ?_
  show x.val + 16 * y.val = _
  omega

/-- The first row's step adds the row sum of the magnitudes. -/
theorem step0_apply (u v : FVec Ideal S32x256 .f32) (w : FVec Ideal S32x256 .f32) (old : Vec Ideal S1x32 .f32) (o : Fin 32) :
    k0_pay61 u v w old (ix2 0 o) = old (ix2 0 o) + ∑ p : Fin 256, k0_pay59 u v w (ix2 o p) := by
  unfold k0_pay61
  pointwise

/-- The second row's step adds the row sum of the magnitudes' squares. -/
theorem step1_apply (u v : FVec Ideal S32x256 .f32) (w : FVec Ideal S32x256 .f32) (old : Vec Ideal S1x32 .f32) (o : Fin 32) :
    k0_pay62 u v w old (ix2 0 o) = old (ix2 0 o) + ∑ p : Fin 256, k0_pay59 u v w (ix2 o p) * k0_pay59 u v w (ix2 o p) := by
  unfold k0_pay62
  pointwise

end Cert.Proof.Pre
-- ==== Proof.PreOut.lean ====
/-
  The three result arrays of the call of the first layer, at an index.
-/
module

public import proofs.«01_k».proof.Proof.PreFinal

@[expose] public section

noncomputable section

namespace Cert.Proof.Pre

open Cert.ConvPreIdeal Cert.ConvPreIdeal.Gen Cert.ConvPreIdeal.Value Idealize.ShloMosaic Idealize.ShloMosaic.TcCoe Idealize.SL.Sem
open Cert.Proof.ConvMath
open scoped BigOperators

variable (m : (ℓ : Loc nD τ sig) → Buf (Elt Ideal) ℓ)

/-- What a depth adds to the two sums. -/
def part (c : Dev nD) (b : Fin 32) (r : Fin 2) (o : Fin 32) (d : ℕ) : EReal :=
  if r.val = 0 then ∑ y : Fin 16, ∑ x : Fin 16, fM m c b o d y.val x.val
  else ∑ y : Fin 16, ∑ x : Fin 16, fM m c b o d y.val x.val * fM m c b o d y.val x.val

/-- One step of the running sums, at an index. -/
theorem stepRows_apply (c : Dev nD) (t : Fin cfg0.N) (prev : FVec Ideal S2x32 .f32) (r : Fin 2) (o : Fin 32) :
    stepRows m c t prev (ix2 r o) = prev (ix2 r o) + part m c (batch t) r o (t.val % 32) := by
  unfold stepRows Rows.rows part
  show (if r.val = 0 then _ else _) = _
  by_cases h : r.val = 0
  · have e : r = 0 := Fin.ext h
    subst e
    rw [if_pos h, if_pos h]
    refine (step0_apply _ _ _ _ o).trans (congrArg₂ (· + ·) rfl ?_)
    exact sum_positions _ _ fun p y x hp => magAt_apply m c t o p y x hp
  · have e : r = 1 := Fin.ext (by have := r.isLt; show r.val = 1; omega)
    subst e
    rw [if_neg h, if_neg h]
    refine (step1_apply _ _ _ _ o).trans (congrArg₂ (· + ·) rfl ?_)
    refine sum_positions _ (fun y x => fM m c (batch t) o (t.val % 32) y x * fM m c (batch t) o (t.val % 32) y x) fun p y x hp => ?_
    rw [magAt_apply m c t o p y x hp]

/-- A point of the grid by its batch row and depth. -/
def point (b : Fin 32) (d : ℕ) (hd : d < 32) : Fin cfg0.N := ⟨32 * b.val + d, lt_of_lt_of_eq (by omega) N_0.symm⟩

/-- The batch row of a point. -/
theorem batch_point (b : Fin 32) (d : ℕ) (hd : d < 32) : batch (point b d hd) = b :=
  Fin.ext (by show (32 * b.val + d) / 32 = b.val; omega)

/-- The depth of a point. -/
theorem depth_point (b : Fin 32) (d : ℕ) (hd : d < 32) : (point b d hd).val % 32 = d := by
  show (32 * b.val + d) % 32 = d
  omega

/-- What the points leave depends on the point's number alone. -/
theorem outs_congr (c : Dev nD) (n : ℕ) (hn : n < cfg0.N) (t : Fin cfg0.N) (e : n = t.val) :
    outsAt0 m c n hn = outsAt0 m c t.val t.isLt := by
  subst e; rfl

/-- The running sums after a depth step: the sum of what the depths so far add. -/
theorem scratch_apply (c : Dev nD) (b : Fin 32) (r : Fin 2) (o : Fin 32) (d : ℕ) (hd : d < 32) :
    (outsAt0 m c (point b d hd).val (point b d hd).isLt).2.2.2 (ix2 r o) = ∑ e ∈ Finset.range (d + 1), part m c b r o e := by
  induction d with
  | zero =>
    rw [scr_A m c (point b 0 hd) (depth_point b 0 hd) (by rw [depth_point b 0 hd]; decide), stepRows_apply, batch_point, depth_point,
      Finset.sum_range_one]
    refine (congrArg (· + part m c b r o 0) ?_).trans (zero_add _)
    show shapeCast S2x32 (fun _ => Ideal.ofBits .f32 0x00000000#32) shapeCasts_S2x32_S2x32 (ix2 r o) = 0
    rw [shapeCast_self]
    exact Ideal.ofBits_zero_f32
  | succ d ih =>
    have hd' : d < 32 := by omega
    have h0 : ¬(point b (d + 1) hd).val % 32 = 0 := by rw [depth_point]; omega
    have hs : (outsAt0 m c (point b (d + 1) hd).val (point b (d + 1) hd).isLt).2.2.2
        = stepRows m c (point b (d + 1) hd) (outsAt0 m c (point b d hd').val (point b d hd').isLt).2.2.2 := by
      by_cases h1 : (point b (d + 1) hd).val % 32 = 31
      · exact (scr_C m c _ h0 h1).trans (congrArg (fun z => stepRows m c (point b (d + 1) hd) z.2.2.2) (outs_congr m c _ _ (point b d hd') rfl))
      · exact (scr_B m c _ h0 h1).trans (congrArg (fun z => stepRows m c (point b (d + 1) hd) z.2.2.2) (outs_congr m c _ _ (point b d hd') rfl))
    rw [hs, stepRows_apply, ih hd', batch_point, depth_point, Finset.sum_range_succ _ (d + 1)]

/-- The real block left at a point. -/
theorem out11 (c : Dev nD) (t : Fin cfg0.N) : (outsAt0 m c t.val t.isLt).1 = k0_pay57 (reAt m c t) := by
  by_cases h0 : t.val % 32 = 0
  · exact out11_A m c t h0 (by omega)
  · by_cases h1 : t.val % 32 = 31
    · exact out11_C m c t h0 h1
    · exact out11_B m c t h0 h1

/-- The imaginary block left at a point. -/
theorem out12 (c : Dev nD) (t : Fin cfg0.N) : (outsAt0 m c t.val t.isLt).2.1 = k0_pay58 (imAt m c t) (biasAt m c t) := by
  by_cases h0 : t.val % 32 = 0
  · exact out12_A m c t h0 (by omega)
  · by_cases h1 : t.val % 32 = 31
    · exact out12_C m c t h0 h1
    · exact out12_B m c t h0 h1

/-- A real block written out, at an index. -/
theorem pay57_apply (v : FVec Ideal S32x256 .f32) (o : Fin 32) (y x : Fin 16) (p : Fin 256) (hp : p.val = 16 * y.val + x.val) :
    k0_pay57 v (ix5 0 o 0 y x) = v (ix2 o p) := by
  unfold k0_pay57
  exact outBlock_apply (O := 32) (S := 16) (P := 256) (by decide) v _ _ o y x p hp

/-- An imaginary block written out, at an index. -/
theorem pay58_apply (v : FVec Ideal S32x256 .f32) (w : FVec Ideal S32x256 .f32) (o : Fin 32) (y x : Fin 16) (p : Fin 256) (hp : p.val = 16 * y.val + x.val) :
    k0_pay58 v w (ix5 0 o 0 y x) = k0_pay56 v w (ix2 o p) := by
  unfold k0_pay58
  exact outBlock_apply (O := 32) (S := 16) (P := 256) (by decide) (k0_pay56 v w) _ _ o y x p hp

/-- A place of the real result in its block. -/
theorem loc11 (b : Fin 32) (o : Fin 32) (d : Fin 32) (y x : Fin 16) : loc11Of (ix5 b o d y x) = ix5 0 o 0 y x := by
  funext a; apply Fin.ext
  match a with
  | ⟨0, _⟩ => show b.val % 1 = 0; omega
  | ⟨1, _⟩ => show o.val % 32 = o.val; omega
  | ⟨2, _⟩ => show d.val % 1 = 0; omega
  | ⟨3, _⟩ => show y.val % 16 = y.val; omega
  | ⟨4, _⟩ => show x.val % 16 = x.val; omega

/-- The point that writes a place of the real result. -/
theorem pt11 (b : Fin 32) (o : Fin 32) (d : Fin 32) (y x : Fin 16) : pt11Of (ix5 b o d y x) = (point b d.val d.isLt).val := by
  show 32 * (b.val / 1 - 0) + 32 * (o.val / 32 - 0) + 1 * (d.val / 1 - 0) + 1 * (y.val / 16 - 0) + 1 * (x.val / 16 - 0) = 32 * b.val + d.val
  omega

/-- A place of the imaginary result in its block. -/
theorem loc12 (b : Fin 32) (o : Fin 32) (d : Fin 32) (y x : Fin 16) : loc12Of (ix5 b o d y x) = ix5 0 o 0 y x := by
  funext a; apply Fin.ext
  match a with
  | ⟨0, _⟩ => show b.val % 1 = 0; omega
  | ⟨1, _⟩ => show o.val % 32 = o.val; omega
  | ⟨2, _⟩ => show d.val % 1 = 0; omega
  | ⟨3, _⟩ => show y.val % 16 = y.val; omega
  | ⟨4, _⟩ => show x.val % 16 = x.val; omega

/-- The point that writes a place of the imaginary result. -/
theorem pt12 (b : Fin 32) (o : Fin 32) (d : Fin 32) (y x : Fin 16) : pt12Of (ix5 b o d y x) = (point b d.val d.isLt).val := by
  show 32 * (b.val / 1 - 0) + 32 * (o.val / 32 - 0) + 1 * (d.val / 1 - 0) + 1 * (y.val / 16 - 0) + 1 * (x.val / 16 - 0) = 32 * b.val + d.val
  omega

/-- The real result array, from what the writing point leaves. -/
theorem at11 (c : Dev nD) (i : S32x32x32x16x16.Idx) (h : pt11Of i < cfg0.N) :
    G11 m c i = (outsAt0 m c (pt11Of i) h).1 (loc11Of i) := by
  unfold G11
  rw [dif_pos h, outsAt0_sweep]

/-- The real result array. -/
theorem G11_apply (c : Dev nD) (b : Fin 32) (o : Fin 32) (d : Fin 32) (y x : Fin 16) :
    (G11 m c : Vec Ideal S32x32x32x16x16 .f32) (ix5 b o d y x) = fR m c b o d.val y.val x.val := by
  have hp := pt11 b o d y x
  have hlt : pt11Of (ix5 b o d y x) < cfg0.N := lt_of_eq_of_lt hp (point b d.val d.isLt).isLt
  rw [at11 m c (ix5 b o d y x) hlt, outs_congr m c _ hlt _ hp, out11, loc11]
  refine (pay57_apply _ o y x ⟨16 * y.val + x.val, by omega⟩ rfl).trans ?_
  rw [reAt_apply m c _ o _ y x rfl, batch_point, depth_point]

/-- The imaginary result array, from what the writing point leaves. -/
theorem at12 (c : Dev nD) (i : S32x32x32x16x16.Idx) (h : pt12Of i < cfg0.N) :
    G12 m c i = (outsAt0 m c (pt12Of i) h).2.1 (loc12Of i) := by
  unfold G12
  rw [dif_pos h, outsAt0_sweep]

/-- The imaginary result array. -/
theorem G12_apply (c : Dev nD) (b : Fin 32) (o : Fin 32) (d : Fin 32) (y x : Fin 16) :
    (G12 m c : Vec Ideal S32x32x32x16x16 .f32) (ix5 b o d y x) = fI m c b o d.val y.val x.val := by
  have hp := pt12 b o d y x
  have hlt : pt12Of (ix5 b o d y x) < cfg0.N := lt_of_eq_of_lt hp (point b d.val d.isLt).isLt
  rw [at12 m c (ix5 b o d y x) hlt, outs_congr m c _ hlt _ hp, out12, loc12]
  refine (pay58_apply _ _ o y x ⟨16 * y.val + x.val, by omega⟩ rfl).trans ?_
  rw [imAt_apply m c _ o _ y x rfl, batch_point, depth_point]

/-- A place of the sums in their block. -/
theorem loc13 (b : Fin 32) (r : Fin 2) (o : Fin 32) : loc13Of (ix3 b r o) = ix3 0 r o := by
  funext a; apply Fin.ext
  match a with
  | ⟨0, _⟩ => show b.val % 1 = 0; omega
  | ⟨1, _⟩ => show r.val % 2 = r.val; omega
  | ⟨2, _⟩ => show o.val % 32 = o.val; omega

/-- The point that writes a place of the sums. -/
theorem pt13 (b : Fin 32) (r : Fin 2) (o : Fin 32) : pt13Of (ix3 b r o) = (point b 31 (by decide)).val := by
  show 32 * (1 * (b.val / 1 - 0) + 1 * (r.val / 2 - 0) + 1 * (o.val / 32 - 0)) + 31 = 32 * b.val + 31
  omega

/-- The array of sums, from what the writing point leaves. -/
theorem at13 (c : Dev nD) (i : S32x2x32.Idx) (h : pt13Of i < cfg0.N) :
    G13 m c i = (outsAt0 m c (pt13Of i) h).2.2.1 (loc13Of i) := by
  unfold G13
  rw [dif_pos h, outsAt0_sweep]

/-- The array of sums. -/
theorem G13_apply (c : Dev nD) (b : Fin 32) (r : Fin 2) (o : Fin 32) :
    (G13 m c : Vec Ideal S32x2x32 .f32) (ix3 b r o) = ∑ d : Fin 32, part m c b r o d.val := by
  have hp := pt13 b r o
  have h0 : ¬(point b 31 (by decide)).val % 32 = 0 := by rw [depth_point]; decide
  have h1 : (point b 31 (by decide)).val % 32 = 31 := depth_point b 31 (by decide)
  have hlt : pt13Of (ix3 b r o) < cfg0.N := lt_of_eq_of_lt hp (point b 31 (by decide)).isLt
  rw [at13 m c (ix3 b r o) hlt, outs_congr m c _ hlt _ hp, out13_C m c _ h0 h1, loc13, ← scr_C m c _ h0 h1]
  unfold k0_pay1
  refine (shapeCast_apply _ shapeCasts_S2x32_S1x2x32 (ix3 0 r o) (ix2 r o) ?_).trans ?_
  · rw [Shape.rowMajor_val_two, Shape.rowMajor_val_three]
    show r.val * 32 + o.val = (0 * 2 + r.val) * 32 + o.val
    omega
  · rw [scratch_apply m c b r o 31 (by decide), Finset.sum_range]

end Cert.Proof.Pre
-- ==== Proof.ConvRef.lean ====
/-
  The reference's side of a convolution layer: a term of the convolution, a channel's constant and a bias spread over an
  array, the channels moved to the second axis, and the two sums over depth, row and column.
-/
module

public import proofs.«01_k».proof.Proof.ConvMath
public import Idealize.ShloMosaic.Lib.IdealHost

@[expose] public section

noncomputable section

namespace Cert.Proof.ConvMath

open Idealize.ShloMosaic
open scoped BigOperators

/-- Term `q` of the convolution. -/
def refT {B C O : ℕ} (f : Fin B → Fin C → ℕ → ℕ → ℕ → EReal) (b : Fin B) (w : (⟨5, ![O, C, 3, 3, 3]⟩ : Shape).Idx → EReal) (o : Fin O)
    (d y x : ℕ) (q : Fin 27) : EReal :=
  ∑ c : Fin C, wAt w o c q * f b c (d + q.val / 9) (2 * y + q.val / 3 % 3) (2 * x + q.val % 3)

/-- The terms added to zero one after the other are the convolution. -/
theorem refT_sum {B C O : ℕ} (f : Fin B → Fin C → ℕ → ℕ → ℕ → EReal) (b : Fin B) (w : (⟨5, ![O, C, 3, 3, 3]⟩ : Shape).Idx → EReal)
    (o : Fin O) (d y x : ℕ) :
    (0 : EReal) + refT f b w o d y x 0 + refT f b w o d y x 1 + refT f b w o d y x 2 + refT f b w o d y x 3 + refT f b w o d y x 4
      + refT f b w o d y x 5 + refT f b w o d y x 6 + refT f b w o d y x 7 + refT f b w o d y x 8 + refT f b w o d y x 9
      + refT f b w o d y x 10 + refT f b w o d y x 11 + refT f b w o d y x 12 + refT f b w o d y x 13 + refT f b w o d y x 14
      + refT f b w o d y x 15 + refT f b w o d y x 16 + refT f b w o d y x 17 + refT f b w o d y x 18 + refT f b w o d y x 19
      + refT f b w o d y x 20 + refT f b w o d y x 21 + refT f b w o d y x 22 + refT f b w o d y x 23 + refT f b w o d y x 24
      + refT f b w o d y x 25 + refT f b w o d y x 26 = conv (f b) w o d y x := by
  rw [zero_add]
  exact sum27 fun q => refT f b w o d y x q

/-- A channel's constant spread over an array of five axes, at an index. -/
theorem chan_apply {B C D H : ℕ} (v : (⟨2, ![C, 1]⟩ : Shape).Idx → EReal)
    (h1 : (⟨2, ![C, 1]⟩ : Shape).BroadcastsInDim ⟨5, ![1, C, 1, 1, 1]⟩ (![1, 2] : Fin 2 → Fin 5))
    (h2 : (⟨5, ![1, C, 1, 1, 1]⟩ : Shape).BroadcastsInDim ⟨5, ![B, C, D, H, H]⟩ (![0, 1, 2, 3, 4] : Fin 5 → Fin 5))
    (b : Fin B) (k : Fin C) (i : Fin D) (j l : Fin H) :
    broadcastInDim ⟨5, ![B, C, D, H, H]⟩ ![0, 1, 2, 3, 4] h2 (broadcastInDim ⟨5, ![1, C, 1, 1, 1]⟩ ![1, 2] h1 v) (ix5 b k i j l)
      = v (ix2 k 0) := by
  have h1' : ∀ n : ℕ, n = 1 → ∀ i : Fin n, i.val = 0 := fun n hn i => by have := i.isLt; omega
  rw [broadcastInDim_apply _ h2 _ (ix5 b k i j l) (ix5 0 k 0 0 0) (fun a => by
      match a with
      | ⟨0, _⟩ => rfl
      | ⟨1, _⟩ =>
        show k.val = if C = 1 then 0 else k.val
        split
        · exact h1' C ‹_› k
        · rfl
      | ⟨2, _⟩ => rfl
      | ⟨3, _⟩ => rfl
      | ⟨4, _⟩ => rfl),
    broadcastInDim_apply _ h1 _ (ix5 0 k 0 0 0) (ix2 k 0) (fun a => by
      match a with
      | ⟨0, _⟩ =>
        show k.val = if C = 1 then 0 else k.val
        split
        · exact h1' C ‹_› k
        · rfl
      | ⟨1, _⟩ => rfl)]

/-- A bias spread over an array of five axes, at an index. -/
theorem bias_apply {B O D S : ℕ} (v : (⟨1, ![O]⟩ : Shape).Idx → EReal)
    (h1 : (⟨1, ![O]⟩ : Shape).BroadcastsInDim ⟨5, ![1, O, 1, 1, 1]⟩ (![1] : Fin 1 → Fin 5))
    (h2 : (⟨5, ![1, O, 1, 1, 1]⟩ : Shape).BroadcastsInDim ⟨5, ![B, O, D, S, S]⟩ (![0, 1, 2, 3, 4] : Fin 5 → Fin 5))
    (b : Fin B) (o : Fin O) (d : Fin D) (y x : Fin S) :
    broadcastInDim ⟨5, ![B, O, D, S, S]⟩ ![0, 1, 2, 3, 4] h2 (broadcastInDim ⟨5, ![1, O, 1, 1, 1]⟩ ![1] h1 v) (ix5 b o d y x)
      = v (ix1 o) := by
  have h1' : ∀ n : ℕ, n = 1 → ∀ i : Fin n, i.val = 0 := fun n hn i => by have := i.isLt; omega
  rw [broadcastInDim_apply _ h2 _ (ix5 b o d y x) (ix5 0 o 0 0 0) (fun a => by
      match a with
      | ⟨0, _⟩ => rfl
      | ⟨1, _⟩ =>
        show o.val = if O = 1 then 0 else o.val
        split
        · exact h1' O ‹_› o
        · rfl
      | ⟨2, _⟩ => rfl
      | ⟨3, _⟩ => rfl
      | ⟨4, _⟩ => rfl),
    broadcastInDim_apply _ h1 _ (ix5 0 o 0 0 0) (ix1 o) (fun a => by
      match a with
      | ⟨0, _⟩ =>
        show o.val = if O = 1 then 0 else o.val
        split
        · exact h1' O ‹_› o
        · rfl)]

/-- The channels moved from the last axis to the second, at an index. -/
theorem toFront_apply {B O D S : ℕ} (v : (⟨5, ![B, D, S, S, O]⟩ : Shape).Idx → EReal)
    (h : (⟨5, ![B, D, S, S, O]⟩ : Shape).Transposes [0, 4, 1, 2, 3] ⟨5, ![B, O, D, S, S]⟩)
    (b : Fin B) (o : Fin O) (d : Fin D) (y x : Fin S) :
    transpose ⟨5, ![B, O, D, S, S]⟩ [0, 4, 1, 2, 3] v h (ix5 b o d y x) = v (ix5 b d y x o) := by
  exact transpose_apply _ v h _ _ fun a => by
    match a with
    | ⟨0, _⟩ => rfl
    | ⟨1, _⟩ => rfl
    | ⟨2, _⟩ => rfl
    | ⟨3, _⟩ => rfl
    | ⟨4, _⟩ => rfl

/-- The total over depth, row and column, at an index. -/
theorem total_apply {B O D S : ℕ} {u : Shape} (v : FVec Ideal ⟨5, ![B, O, D, S, S]⟩ .f32)
    (h : (⟨5, ![B, O, D, S, S]⟩ : Shape).ReducesTo [2, 3, 4] ⟨2, ![B, O]⟩) (hu : 0 < u.numel) (b : Fin B) (o : Fin O) :
    (Host.reduceAdd v (constant u .f32 0x00000000#32) h hu : FVec Ideal ⟨2, ![B, O]⟩ .f32) (ix2 b o)
      = ∑ d : Fin D, ∑ y : Fin S, ∑ x : Fin S, v (ix5 b o d y x) := by
  pointwise

/-- Two arrays stacked along a new middle axis, at an index. -/
theorem stack_apply {B O : ℕ} (u v : (⟨2, ![B, O]⟩ : Shape).Idx → EReal)
    (h1 : (⟨2, ![B, O]⟩ : Shape).BroadcastsInDim ⟨3, ![B, 1, O]⟩ (![0, 2] : Fin 2 → Fin 3))
    (h : Shape.Concatenates [(⟨3, ![B, 1, O]⟩ : Shape), ⟨3, ![B, 1, O]⟩] ⟨3, ![B, 2, O]⟩ 1) (b : Fin B) (r : Fin 2) (o : Fin O) :
    concatenate ⟨3, ![B, 2, O]⟩ 1 [⟨⟨3, ![B, 1, O]⟩, broadcastInDim ⟨3, ![B, 1, O]⟩ ![0, 2] h1 u⟩, ⟨⟨3, ![B, 1, O]⟩, broadcastInDim ⟨3, ![B, 1, O]⟩ ![0, 2] h1 v⟩] h (ix3 b r o)
      = if r.val = 0 then u (ix2 b o) else v (ix2 b o) := by
  have h1' : ∀ n : ℕ, n = 1 → ∀ i : Fin n, i.val = 0 := fun n hn i => by have := i.isLt; omega
  have hb : ∀ w : (⟨2, ![B, O]⟩ : Shape).Idx → EReal, broadcastInDim ⟨3, ![B, 1, O]⟩ ![0, 2] h1 w (ix3 b 0 o) = w (ix2 b o) := fun w =>
    broadcastInDim_apply _ h1 w (ix3 b 0 o) (ix2 b o) fun a => by
      match a with
      | ⟨0, _⟩ =>
        show b.val = if B = 1 then 0 else b.val
        split
        · exact h1' B ‹_› b
        · rfl
      | ⟨1, _⟩ =>
        show o.val = if O = 1 then 0 else o.val
        split
        · exact h1' O ‹_› o
        · rfl
  by_cases hr : r.val = 0
  · rw [if_pos hr, ← hb u]
    exact concatenate_pair_apply_left _ _ _ h (ix3 b r o) rfl (ix3 b 0 o) fun a => by
      match a with
      | ⟨0, _⟩ => rfl
      | ⟨1, _⟩ => exact hr.symm
      | ⟨2, _⟩ => rfl
  · rw [if_neg hr, ← hb v]
    exact concatenate_pair_apply_right _ _ _ h (ix3 b r o) rfl rfl (ix3 b 0 o) (fun a ha => by
      match a with
      | ⟨0, _⟩ => rfl
      | ⟨1, _⟩ => exact absurd rfl ha
      | ⟨2, _⟩ => rfl) (by show 0 + 1 = r.val; have := r.isLt; omega)

end Cert.Proof.ConvMath
-- ==== Proof.PreRef.lean ====
/-
  What the reference of the first layer computes, at an index: the convolution of the padded
  input as one sum over window positions and input channels, its bias, the magnitudes and their sums.
-/
module

public import proofs.«01_k».proof.Proof.Gen.RefPreIdeal.Run
public import proofs.«01_k».proof.Proof.ConvHost
public import proofs.«01_k».proof.Proof.ConvRef

@[expose] public section

noncomputable section

namespace Cert.Proof.PreRef

open Cert.RefPreIdeal Cert.RefPreIdeal.Gen Cert.RefPreIdeal.Value Idealize.ShloMosaic Idealize.ShloMosaic.TcCoe Idealize.SL.Sem
open Cert.Proof.ConvMath
open scoped BigOperators

variable (V0 : Valuation τ sig (Elt Ideal))

/-- The pad's value is zero. -/
theorem refZero : (sitofp (F := Ideal) .f32 (constantI S_ 32 0#32)) (Shape.Idx.first h_S_) = 0 := by
  show ((((0#32 : BitVec 32).toInt : ℤ) : ℝ) : EReal) = 0
  simp

/-- The padded real input of the convolution, at an index. -/
theorem padR_apply (b : Fin 32) (k : Fin 8) (i : Fin 34) (j l : Fin 34) :
    (res_main_v0 V0 : FVec Ideal S32x8x34x34x34 .f32) (ix5 b k i j l) = padAt (V0 (Proc.devRef .tc main_arg0) : FVec Ideal S32x8x32x32x32 .f32) b k i.val j.val l.val :=
  pad_apply (V0 (Proc.devRef .tc main_arg0) : FVec Ideal S32x8x32x32x32 .f32) _ _ _ refZero b k i j l

/-- The sum of the first 10 terms of the real convolution, at an index. -/
theorem sumR10 (b : Fin 32) (d : Fin 32) (y x : Fin 16) (o : Fin 32) :
    (res_main_v51 V0 : FVec Ideal S32x32x16x16x32 .f32) (ix5 b d y x o)
      = (0 : EReal) + refT (padAt (V0 (Proc.devRef .tc main_arg0) : FVec Ideal S32x8x32x32x32 .f32)) b (V0 (Proc.devRef .tc main_arg2)) o d.val y.val x.val 0 + refT (padAt (V0 (Proc.devRef .tc main_arg0) : FVec Ideal S32x8x32x32x32 .f32)) b (V0 (Proc.devRef .tc main_arg2)) o d.val y.val x.val 1 + refT (padAt (V0 (Proc.devRef .tc main_arg0) : FVec Ideal S32x8x32x32x32 .f32)) b (V0 (Proc.devRef .tc main_arg2)) o d.val y.val x.val 2 + refT (padAt (V0 (Proc.devRef .tc main_arg0) : FVec Ideal S32x8x32x32x32 .f32)) b (V0 (Proc.devRef .tc main_arg2)) o d.val y.val x.val 3 + refT (padAt (V0 (Proc.devRef .tc main_arg0) : FVec Ideal S32x8x32x32x32 .f32)) b (V0 (Proc.devRef .tc main_arg2)) o d.val y.val x.val 4 + refT (padAt (V0 (Proc.devRef .tc main_arg0) : FVec Ideal S32x8x32x32x32 .f32)) b (V0 (Proc.devRef .tc main_arg2)) o d.val y.val x.val 5 + refT (padAt (V0 (Proc.devRef .tc main_arg0) : FVec Ideal S32x8x32x32x32 .f32)) b (V0 (Proc.devRef .tc main_arg2)) o d.val y.val x.val 6 + refT (padAt (V0 (Proc.devRef .tc main_arg0) : FVec Ideal S32x8x32x32x32 .f32)) b (V0 (Proc.devRef .tc main_arg2)) o d.val y.val x.val 7 + refT (padAt (V0 (Proc.devRef .tc main_arg0) : FVec Ideal S32x8x32x32x32 .f32)) b (V0 (Proc.devRef .tc main_arg2)) o d.val y.val x.val 8 + refT (padAt (V0 (Proc.devRef .tc main_arg0) : FVec Ideal S32x8x32x32x32 .f32)) b (V0 (Proc.devRef .tc main_arg2)) o d.val y.val x.val 9 := by
  unfold res_main_v51
  refine congrArg₂ (· + ·) ?_ (refTerm_apply (f := padAt (V0 (Proc.devRef .tc main_arg0) : FVec Ideal S32x8x32x32x32 .f32)) 1 0 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 2 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 2 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 2 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 1 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 1 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 1 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 0 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 0 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 0 0 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  exact Ideal.ofBits_zero_f32

/-- The sum of the first 21 terms of the real convolution, at an index. -/
theorem sumR21 (b : Fin 32) (d : Fin 32) (y x : Fin 16) (o : Fin 32) :
    (res_main_v106 V0 : FVec Ideal S32x32x16x16x32 .f32) (ix5 b d y x o)
      = (0 : EReal) + refT (padAt (V0 (Proc.devRef .tc main_arg0) : FVec Ideal S32x8x32x32x32 .f32)) b (V0 (Proc.devRef .tc main_arg2)) o d.val y.val x.val 0 + refT (padAt (V0 (Proc.devRef .tc main_arg0) : FVec Ideal S32x8x32x32x32 .f32)) b (V0 (Proc.devRef .tc main_arg2)) o d.val y.val x.val 1 + refT (padAt (V0 (Proc.devRef .tc main_arg0) : FVec Ideal S32x8x32x32x32 .f32)) b (V0 (Proc.devRef .tc main_arg2)) o d.val y.val x.val 2 + refT (padAt (V0 (Proc.devRef .tc main_arg0) : FVec Ideal S32x8x32x32x32 .f32)) b (V0 (Proc.devRef .tc main_arg2)) o d.val y.val x.val 3 + refT (padAt (V0 (Proc.devRef .tc main_arg0) : FVec Ideal S32x8x32x32x32 .f32)) b (V0 (Proc.devRef .tc main_arg2)) o d.val y.val x.val 4 + refT (padAt (V0 (Proc.devRef .tc main_arg0) : FVec Ideal S32x8x32x32x32 .f32)) b (V0 (Proc.devRef .tc main_arg2)) o d.val y.val x.val 5 + refT (padAt (V0 (Proc.devRef .tc main_arg0) : FVec Ideal S32x8x32x32x32 .f32)) b (V0 (Proc.devRef .tc main_arg2)) o d.val y.val x.val 6 + refT (padAt (V0 (Proc.devRef .tc main_arg0) : FVec Ideal S32x8x32x32x32 .f32)) b (V0 (Proc.devRef .tc main_arg2)) o d.val y.val x.val 7 + refT (padAt (V0 (Proc.devRef .tc main_arg0) : FVec Ideal S32x8x32x32x32 .f32)) b (V0 (Proc.devRef .tc main_arg2)) o d.val y.val x.val 8 + refT (padAt (V0 (Proc.devRef .tc main_arg0) : FVec Ideal S32x8x32x32x32 .f32)) b (V0 (Proc.devRef .tc main_arg2)) o d.val y.val x.val 9 + refT (padAt (V0 (Proc.devRef .tc main_arg0) : FVec Ideal S32x8x32x32x32 .f32)) b (V0 (Proc.devRef .tc main_arg2)) o d.val y.val x.val 10 + refT (padAt (V0 (Proc.devRef .tc main_arg0) : FVec Ideal S32x8x32x32x32 .f32)) b (V0 (Proc.devRef .tc main_arg2)) o d.val y.val x.val 11 + refT (padAt (V0 (Proc.devRef .tc main_arg0) : FVec Ideal S32x8x32x32x32 .f32)) b (V0 (Proc.devRef .tc main_arg2)) o d.val y.val x.val 12 + refT (padAt (V0 (Proc.devRef .tc main_arg0) : FVec Ideal S32x8x32x32x32 .f32)) b (V0 (Proc.devRef .tc main_arg2)) o d.val y.val x.val 13 + refT (padAt (V0 (Proc.devRef .tc main_arg0) : FVec Ideal S32x8x32x32x32 .f32)) b (V0 (Proc.devRef .tc main_arg2)) o d.val y.val x.val 14 + refT (padAt (V0 (Proc.devRef .tc main_arg0) : FVec Ideal S32x8x32x32x32 .f32)) b (V0 (Proc.devRef .tc main_arg2)) o d.val y.val x.val 15 + refT (padAt (V0 (Proc.devRef .tc main_arg0) : FVec Ideal S32x8x32x32x32 .f32)) b (V0 (Proc.devRef .tc main_arg2)) o d.val y.val x.val 16 + refT (padAt (V0 (Proc.devRef .tc main_arg0) : FVec Ideal S32x8x32x32x32 .f32)) b (V0 (Proc.devRef .tc main_arg2)) o d.val y.val x.val 17 + refT (padAt (V0 (Proc.devRef .tc main_arg0) : FVec Ideal S32x8x32x32x32 .f32)) b (V0 (Proc.devRef .tc main_arg2)) o d.val y.val x.val 18 + refT (padAt (V0 (Proc.devRef .tc main_arg0) : FVec Ideal S32x8x32x32x32 .f32)) b (V0 (Proc.devRef .tc main_arg2)) o d.val y.val x.val 19 + refT (padAt (V0 (Proc.devRef .tc main_arg0) : FVec Ideal S32x8x32x32x32 .f32)) b (V0 (Proc.devRef .tc main_arg2)) o d.val y.val x.val 20 := by
  unfold res_main_v106
  refine congrArg₂ (· + ·) ?_ (refTerm_apply (f := padAt (V0 (Proc.devRef .tc main_arg0) : FVec Ideal S32x8x32x32x32 .f32)) 2 0 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 0 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 0 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 2 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 2 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 2 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 1 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 1 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 1 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 0 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 1 0 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  exact sumR10 V0 b d y x o

/-- The real convolution with its bias, at an index. -/
theorem resR_apply (b : Fin 32) (o : Fin 32) (d : Fin 32) (y x : Fin 16) :
    (res_main_v140 V0 : FVec Ideal S32x32x32x16x16 .f32) (ix5 b o d y x)
      = conv (padAt (V0 (Proc.devRef .tc main_arg0) : FVec Ideal S32x8x32x32x32 .f32) b) (V0 (Proc.devRef .tc main_arg2)) o d.val y.val x.val + (V0 (Proc.devRef .tc main_arg3) : FVec Ideal S32 .f32) (ix1 o) := by
  unfold res_main_v140
  refine congrArg₂ (· + ·) ?_ (bias_apply (V0 (Proc.devRef .tc main_arg3)) _ _ b o d y x)
  refine (toFront_apply _ _ b o d y x).trans ?_
  rw [← refT_sum]
  refine congrArg₂ (· + ·) ?_ (refTerm_apply (f := padAt (V0 (Proc.devRef .tc main_arg0) : FVec Ideal S32x8x32x32x32 .f32)) 2 2 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 2 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 2 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 1 2 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 1 1 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  refine congrArg₂ (· + ·) ?_ (refTerm_apply (f := padAt (V0 (Proc.devRef .tc main_arg0) : FVec Ideal S32x8x32x32x32 .f32)) 2 1 0 dot_S32x8x32x16x16_S32x8_S32x32x16x16x32_1_1_0234_0_n_n rfl rfl rfl rfl rfl rfl
    (res_main_v0 V0) (padR_apply V0) _ (V0 (Proc.devRef .tc main_arg2)) _ _ (by decide) (by decide) (by decide) b d y x o)
  exact sumR21 V0 b d y x o

/-- The padded imaginary input of the convolution, at an index. -/
theorem padI_apply (b : Fin 32) (k : Fin 8) (i : Fin 34) (j l : Fin 34) :
    (res_main_v141 V0 : FVec Ideal S32x8x34x34x34 .f32) (ix5 b k i j l) = padAt (V0 (Proc.devRef .tc main_arg1) : FVec Ideal S32x8x32x32x32 .f32) b k i.val j.val l.val :=
  pad_apply (V0 (Proc.devRef .tc main_arg1) : FVec Ideal S32x8x32x32x32 .f32) _ _ _ refZero b k i j l

/-- The sum of the first 10 terms of the imaginary convolution, at an index. -/
theorem sumI10 (b : Fin 32) (d : Fin 32) (y x : Fin 16) (o : Fin 32) :
    (res_main_v192 V0 : FVec Ideal S32x32x16x16x32 .f32) (ix5 b d y x o)
      = (0 : EReal) + refT (padAt (V0 (Proc.devRef .tc main_arg1) : FVec Ideal S32x8x32x32x32 .f32)) b (V0 (Proc.devRef .tc main_arg2)) o d.val y.val x.val 0 + refT (padAt (V0 (Proc.devRef .tc main_arg1) : FVec Ideal S32x8x32x32x32 .f32)) b (V0 (Proc.devRef .tc main_arg2)) o d.val y.val x.val 1 + refT (padAt (V0 (Proc.devRef .tc main_arg1) : FVec Ideal S32x8x32x32x32 .f32)) b (V0 (Proc.devRef .tc main_arg2)) o d.val y.val x.val 2 + refT (padAt (V0 (Proc.devRef .tc main_arg1) : FVec Ideal S32x8x32x32x32 .f32)) b (V0 (Proc.devRef .tc main_arg2)) o d.val y.val x.val 3 + refT (padAt (V0 (Proc.devRef .tc main_arg1) : FVec Ideal S32x8x32x32x32 .f32)) b (V0 (Proc.devRef .tc main_arg2)) o d.val y.val x.val 4 + refT (padAt (V0 (Proc.devRef .tc main_arg1) : FVec Ideal S32x8x32x32x32 .f32)) b (V0 (Proc.devRef .tc main_arg2)) o d.val y.val x.val 5 + refT (padAt (V0 (Proc.devRef .tc main_arg1) : FVec Ideal S32x8x32x32x32 .f32)) b (V0 (Proc.devRef .tc main_arg2)) o d.val y.val x.val 6 + refT (padAt (V0 (Proc.devRef .tc main_arg1) : FVec Ideal S32x8x32x32x32 .f32)) b (V0 (Proc.devRef .tc main_arg2)) o d.val y.val x.val 7 + refT (padAt (V0 (Proc.devRef .tc main_arg1) : FVec Ideal S32x8x32x32x32 .f32)) b (V0 (Proc.devRef .tc main_arg2)) o d.val y.val x.val 8 + refT (padAt (V0 (Proc.devRef .tc main_arg1) : FVec Ideal S32x8x32x32x32 .f32)) b (V0 (Proc.devRef .tc main_arg2)) o d.val y.val x.val 9 := by
  unfold res_main_v192
  refine congrArg₂ (· + ·) ?_ (refTerm_apply (f := padAt (V0 (Proc.devRef .tc main_arg1) : FVec Ideal S32x8x32x32x32 .f32)) 1 0 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 2 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 2 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 2 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 1 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 1 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 1 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 0 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 0 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 0 0 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  exact Ideal.ofBits_zero_f32

/-- The sum of the first 21 terms of the imaginary convolution, at an index. -/
theorem sumI21 (b : Fin 32) (d : Fin 32) (y x : Fin 16) (o : Fin 32) :
    (res_main_v247 V0 : FVec Ideal S32x32x16x16x32 .f32) (ix5 b d y x o)
      = (0 : EReal) + refT (padAt (V0 (Proc.devRef .tc main_arg1) : FVec Ideal S32x8x32x32x32 .f32)) b (V0 (Proc.devRef .tc main_arg2)) o d.val y.val x.val 0 + refT (padAt (V0 (Proc.devRef .tc main_arg1) : FVec Ideal S32x8x32x32x32 .f32)) b (V0 (Proc.devRef .tc main_arg2)) o d.val y.val x.val 1 + refT (padAt (V0 (Proc.devRef .tc main_arg1) : FVec Ideal S32x8x32x32x32 .f32)) b (V0 (Proc.devRef .tc main_arg2)) o d.val y.val x.val 2 + refT (padAt (V0 (Proc.devRef .tc main_arg1) : FVec Ideal S32x8x32x32x32 .f32)) b (V0 (Proc.devRef .tc main_arg2)) o d.val y.val x.val 3 + refT (padAt (V0 (Proc.devRef .tc main_arg1) : FVec Ideal S32x8x32x32x32 .f32)) b (V0 (Proc.devRef .tc main_arg2)) o d.val y.val x.val 4 + refT (padAt (V0 (Proc.devRef .tc main_arg1) : FVec Ideal S32x8x32x32x32 .f32)) b (V0 (Proc.devRef .tc main_arg2)) o d.val y.val x.val 5 + refT (padAt (V0 (Proc.devRef .tc main_arg1) : FVec Ideal S32x8x32x32x32 .f32)) b (V0 (Proc.devRef .tc main_arg2)) o d.val y.val x.val 6 + refT (padAt (V0 (Proc.devRef .tc main_arg1) : FVec Ideal S32x8x32x32x32 .f32)) b (V0 (Proc.devRef .tc main_arg2)) o d.val y.val x.val 7 + refT (padAt (V0 (Proc.devRef .tc main_arg1) : FVec Ideal S32x8x32x32x32 .f32)) b (V0 (Proc.devRef .tc main_arg2)) o d.val y.val x.val 8 + refT (padAt (V0 (Proc.devRef .tc main_arg1) : FVec Ideal S32x8x32x32x32 .f32)) b (V0 (Proc.devRef .tc main_arg2)) o d.val y.val x.val 9 + refT (padAt (V0 (Proc.devRef .tc main_arg1) : FVec Ideal S32x8x32x32x32 .f32)) b (V0 (Proc.devRef .tc main_arg2)) o d.val y.val x.val 10 + refT (padAt (V0 (Proc.devRef .tc main_arg1) : FVec Ideal S32x8x32x32x32 .f32)) b (V0 (Proc.devRef .tc main_arg2)) o d.val y.val x.val 11 + refT (padAt (V0 (Proc.devRef .tc main_arg1) : FVec Ideal S32x8x32x32x32 .f32)) b (V0 (Proc.devRef .tc main_arg2)) o d.val y.val x.val 12 + refT (padAt (V0 (Proc.devRef .tc main_arg1) : FVec Ideal S32x8x32x32x32 .f32)) b (V0 (Proc.devRef .tc main_arg2)) o d.val y.val x.val 13 + refT (padAt (V0 (Proc.devRef .tc main_arg1) : FVec Ideal S32x8x32x32x32 .f32)) b (V0 (Proc.devRef .tc main_arg2)) o d.val y.val x.val 14 + refT (padAt (V0 (Proc.devRef .tc main_arg1) : FVec Ideal S32x8x32x32x32 .f32)) b (V0 (Proc.devRef .tc main_arg2)) o d.val y.val x.val 15 + refT (padAt (V0 (Proc.devRef .tc main_arg1) : FVec Ideal S32x8x32x32x32 .f32)) b (V0 (Proc.devRef .tc main_arg2)) o d.val y.val x.val 16 + refT (padAt (V0 (Proc.devRef .tc main_arg1) : FVec Ideal S32x8x32x32x32 .f32)) b (V0 (Proc.devRef .tc main_arg2)) o d.val y.val x.val 17 + refT (padAt (V0 (Proc.devRef .tc main_arg1) : FVec Ideal S32x8x32x32x32 .f32)) b (V0 (Proc.devRef .tc main_arg2)) o d.val y.val x.val 18 + refT (padAt (V0 (Proc.devRef .tc main_arg1) : FVec Ideal S32x8x32x32x32 .f32)) b (V0 (Proc.devRef .tc main_arg2)) o d.val y.val x.val 19 + refT (padAt (V0 (Proc.devRef .tc main_arg1) : FVec Ideal S32x8x32x32x32 .f32)) b (V0 (Proc.devRef .tc main_arg2)) o d.val y.val x.val 20 := by
  unfold res_main_v247
  refine congrArg₂ (· + ·) ?_ (refTerm_apply (f := padAt (V0 (Proc.devRef .tc main_arg1) : FVec Ideal S32x8x32x32x32 .f32)) 2 0 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 0 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 0 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 2 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 2 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 2 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 1 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 1 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 1 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 0 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 1 0 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  exact sumI10 V0 b d y x o

/-- The imaginary convolution with its bias, at an index. -/
theorem resI_apply (b : Fin 32) (o : Fin 32) (d : Fin 32) (y x : Fin 16) :
    (res_main_v281 V0 : FVec Ideal S32x32x32x16x16 .f32) (ix5 b o d y x)
      = conv (padAt (V0 (Proc.devRef .tc main_arg1) : FVec Ideal S32x8x32x32x32 .f32) b) (V0 (Proc.devRef .tc main_arg2)) o d.val y.val x.val + (V0 (Proc.devRef .tc main_arg4) : FVec Ideal S32 .f32) (ix1 o) := by
  unfold res_main_v281
  refine congrArg₂ (· + ·) ?_ (bias_apply (V0 (Proc.devRef .tc main_arg4)) _ _ b o d y x)
  refine (toFront_apply _ _ b o d y x).trans ?_
  rw [← refT_sum]
  refine congrArg₂ (· + ·) ?_ (refTerm_apply (f := padAt (V0 (Proc.devRef .tc main_arg1) : FVec Ideal S32x8x32x32x32 .f32)) 2 2 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 2 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 2 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 1 2 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 1 1 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  refine congrArg₂ (· + ·) ?_ (refTerm_apply (f := padAt (V0 (Proc.devRef .tc main_arg1) : FVec Ideal S32x8x32x32x32 .f32)) 2 1 0 dot_S32x8x32x16x16_S32x8_S32x32x16x16x32_1_1_0234_0_n_n rfl rfl rfl rfl rfl rfl
    (res_main_v141 V0) (padI_apply V0) _ (V0 (Proc.devRef .tc main_arg2)) _ _ (by decide) (by decide) (by decide) b d y x o)
  exact sumI21 V0 b d y x o

/-- The magnitudes of the result. -/
def arrM : FVec Ideal S32x32x32x16x16 .f32 := res_main_v287 V0

/-- The magnitude of the result, at an index. -/
theorem resM_apply (b : Fin 32) (o : Fin 32) (d : Fin 32) (y x : Fin 16) :
    arrM V0 (ix5 b o d y x)
      = mag ((res_main_v140 V0 : FVec Ideal S32x32x32x16x16 .f32) (ix5 b o d y x))
        ((res_main_v281 V0 : FVec Ideal S32x32x32x16x16 .f32) (ix5 b o d y x)) := by
  unfold arrM res_main_v287 mag
  generalize res_main_v140 V0 = u
  generalize res_main_v281 V0 = v
  rfl

/-- The array of the two sums, at an index. -/
theorem resS_apply (b : Fin 32) (r : Fin 2) (o : Fin 32) :
    (concatenate S32x2x32 1 [⟨S32x1x32, (broadcastInDim S32x1x32 ![0, 2] bcast_S32x32_S32x1x32_0_2 (Host.reduceAdd (res_main_v287 V0) (constant S_ .f32 0x00000000#32) reducesTo_S32x32x32x16x16_S32x32_d2_3_4 h_S_))⟩,
        ⟨S32x1x32, (broadcastInDim S32x1x32 ![0, 2] bcast_S32x32_S32x1x32_0_2 (Host.reduceAdd (mulf (res_main_v287 V0) (res_main_v287 V0)) (constant S_ .f32 0x00000000#32) reducesTo_S32x32x32x16x16_S32x32_d2_3_4 h_S_))⟩]
        concatenates_S32x1x32_S32x1x32_S32x2x32_d1 : FVec Ideal S32x2x32 .f32) (ix3 b r o)
      = if r.val = 0 then ∑ d : Fin 32, ∑ y : Fin 16, ∑ x : Fin 16, arrM V0 (ix5 b o d y x)
        else ∑ d : Fin 32, ∑ y : Fin 16, ∑ x : Fin 16, arrM V0 (ix5 b o d y x) * arrM V0 (ix5 b o d y x) := by
  refine (stack_apply _ _ _ _ b r o).trans ?_
  refine ite_congr rfl (fun _ => total_apply (arrM V0) _ _ b o) (fun _ => total_apply (mulf (arrM V0) (arrM V0)) _ _ b o)

end Cert.Proof.PreRef
-- ==== Proof.Padding.lean ====
/-
  Padding an input with zeros before the activation, and padding the activated input with zeros, give the same array
  where the activation of zero is zero.
-/
module

public import proofs.«01_k».proof.Proof.ConvHost

@[expose] public section

noncomputable section

namespace Cert.Proof.ConvMath

open Idealize.ShloMosaic Idealize.ShloMosaic.TcCoe

/-- An index of five axes is the tuple of its coordinates. -/
theorem exists_ix5 {n0 n1 n2 n3 n4 : ℕ} (j : (⟨5, ![n0, n1, n2, n3, n4]⟩ : Shape).Idx) :
    ∃ a b c d e, j = ix5 a b c d e := ⟨j 0, j 1, j 2, j 3, j 4, eq_ix5 j⟩

/-- An index of three axes is the triple of its coordinates. -/
theorem exists_ix3 {n0 n1 n2 : ℕ} (j : (⟨3, ![n0, n1, n2]⟩ : Shape).Idx) :
    ∃ a b c, j = ix3 a b c := ⟨j 0, j 1, j 2, eq_ix3 j⟩

/-- The activation leaves zero at zero: `√ε·scale + shift` is not above zero. -/
def Inactive (s h : EReal) : Prop := Ideal.sqrt (Ideal.ofBits .f32 0x2B8CBCCC#32) * s + h ≤ 0

/-- The activated magnitude of zero. -/
theorem actMag_zero {s h : EReal} (hsh : Inactive s h) : actMag s h 0 0 = 0 := by
  unfold actMag mag
  rw [Ideal.ofBits_zero_f32, mul_zero, add_zero, zero_add]
  exact max_eq_right hsh

/-- A comparison that yields one says what it compares. -/
theorem le_of_cmp {x y : EReal} (h : Ideal.cmp .ole x y = 1#1) : x ≤ y := by
  unfold Ideal.cmp at h
  by_contra hn
  simp [hn] at h

/-- The activated real part of the padded input is the padded activated real part. -/
theorem actR_pad {B C D H W : ℕ} (x y A : (⟨5, ![B, C, D, H, W]⟩ : Shape).Idx → EReal) (s h : Fin C → EReal)
    (hsh : ∀ k, Inactive (s k) (h k)) (b : Fin B)
    (hA : ∀ k i j l, A (ix5 b k i j l) = actR (s k) (h k) (x (ix5 b k i j l)) (y (ix5 b k i j l))) (k : Fin C) (i j l : ℕ) :
    actR (s k) (h k) (padAt x b k i j l) (padAt y b k i j l) = padAt A b k i j l := by
  unfold padAt
  split
  · exact (hA _ _ _ _).symm
  · unfold actR
    rw [actMag_zero (hsh k), zero_mul]

/-- The activated imaginary part of the padded input is the padded activated imaginary part. -/
theorem actI_pad {B C D H W : ℕ} (x y A : (⟨5, ![B, C, D, H, W]⟩ : Shape).Idx → EReal) (s h : Fin C → EReal)
    (hsh : ∀ k, Inactive (s k) (h k)) (b : Fin B)
    (hA : ∀ k i j l, A (ix5 b k i j l) = actI (s k) (h k) (x (ix5 b k i j l)) (y (ix5 b k i j l))) (k : Fin C) (i j l : ℕ) :
    actI (s k) (h k) (padAt x b k i j l) (padAt y b k i j l) = padAt A b k i j l := by
  unfold padAt
  split
  · exact (hA _ _ _ _).symm
  · unfold actI
    rw [actMag_zero (hsh k), zero_mul]

end Cert.Proof.ConvMath
-- ==== Proof.Pre.lean ====
/-
  The call of the first layer against its reference: equal results from equal arguments.
-/
module

public import proofs.«01_k».proof.Defs
public import proofs.«01_k».proof.Proof.PreOut
public import proofs.«01_k».proof.Proof.PreRef
public import proofs.«01_k».proof.Proof.Padding

@[expose] public section

noncomputable section

namespace Cert.Proof.Pre

open Cert.ConvPreIdeal Cert.ConvPreIdeal.Gen Cert.ConvPreIdeal.Value Idealize.ShloMosaic Idealize.ShloMosaic.TcCoe Idealize.SL.Sem
open Idealize.ShloMosaic.StableHlo
open Cert.Proof.ConvMath
open scoped BigOperators

variable (m : (ℓ : Loc nD τ sig) → Buf (Elt Ideal) ℓ)

section agree

variable (V0 : Valuation Cert.RefPreIdeal.τ Cert.RefPreIdeal.sig (Elt Ideal)) (c : Dev nD)

/-- The reference's arguments are the kernel's. -/
structure Same : Prop where
  h0 : V0 (Proc.devRef .tc Cert.RefPreIdeal.main_arg0) = m ((c : Thread nD τ).loc main_arg0)
  h1 : V0 (Proc.devRef .tc Cert.RefPreIdeal.main_arg1) = m ((c : Thread nD τ).loc main_arg1)
  h2 : V0 (Proc.devRef .tc Cert.RefPreIdeal.main_arg2) = m ((c : Thread nD τ).loc main_arg2)
  h3 : V0 (Proc.devRef .tc Cert.RefPreIdeal.main_arg3) = m ((c : Thread nD τ).loc main_arg3)
  h4 : V0 (Proc.devRef .tc Cert.RefPreIdeal.main_arg4) = m ((c : Thread nD τ).loc main_arg4)

variable {V0} {c} {m}
variable (hV : Same m V0 c)

include hV

/-- The kernel's padded real part is the reference's. -/
theorem aR_eq (b : Fin 32) : aR m c b = padAt (V0 (Proc.devRef .tc Cert.RefPreIdeal.main_arg0) : FVec Ideal S32x8x32x32x32 .f32) b := by
  rw [hV.h0]
  rfl

/-- The kernel's padded imaginary part is the reference's. -/
theorem aI_eq (b : Fin 32) : aI m c b = padAt (V0 (Proc.devRef .tc Cert.RefPreIdeal.main_arg1) : FVec Ideal S32x8x32x32x32 .f32) b := by
  rw [hV.h1]
  rfl

/-- The real results, at an index. -/
theorem fR_eq (b : Fin 32) (o : Fin 32) (d : Fin 32) (y x : Fin 16) :
    (Cert.RefPreIdeal.Value.res_main_v140 V0 : FVec Ideal S32x32x32x16x16 .f32) (ix5 b o d y x) = fR m c b o d.val y.val x.val := by
  refine (PreRef.resR_apply V0 b o d y x).trans ?_
  unfold fR
  rw [aR_eq hV b, hV.h2, hV.h3]

/-- The imaginary results, at an index. -/
theorem fI_eq (b : Fin 32) (o : Fin 32) (d : Fin 32) (y x : Fin 16) :
    (Cert.RefPreIdeal.Value.res_main_v281 V0 : FVec Ideal S32x32x32x16x16 .f32) (ix5 b o d y x) = fI m c b o d.val y.val x.val := by
  refine (PreRef.resI_apply V0 b o d y x).trans ?_
  unfold fI
  rw [aI_eq hV b, hV.h2, hV.h4]

/-- The magnitudes of the results, at an index. -/
theorem fM_eq (b : Fin 32) (o : Fin 32) (d : Fin 32) (y x : Fin 16) :
    PreRef.arrM V0 (ix5 b o d y x) = fM m c b o d.val y.val x.val := by
  refine (PreRef.resM_apply V0 b o d y x).trans ?_
  unfold fM
  rw [fR_eq hV, fI_eq hV]

/-- The real result arrays are equal. -/
theorem out0 : (Cert.RefPreIdeal.Value.res_main_v140 V0 : FVec Ideal S32x32x32x16x16 .f32) = G11 m c := by
  funext i
  obtain ⟨b, o, d, y, x, rfl⟩ := exists_ix5 i
  exact (fR_eq hV b o d y x).trans (G11_apply m c b o d y x).symm

/-- The imaginary result arrays are equal. -/
theorem out1 : (Cert.RefPreIdeal.Value.res_main_v281 V0 : FVec Ideal S32x32x32x16x16 .f32) = G12 m c := by
  funext i
  obtain ⟨b, o, d, y, x, rfl⟩ := exists_ix5 i
  exact (fI_eq hV b o d y x).trans (G12_apply m c b o d y x).symm

/-- The sums of the magnitudes and of their squares, at an index. -/
theorem sums_eq (b : Fin 32) (r : Fin 2) (o : Fin 32) :
    (if r.val = 0 then ∑ d : Fin 32, ∑ y : Fin 16, ∑ x : Fin 16, PreRef.arrM V0 (ix5 b o d y x)
      else ∑ d : Fin 32, ∑ y : Fin 16, ∑ x : Fin 16, PreRef.arrM V0 (ix5 b o d y x) * PreRef.arrM V0 (ix5 b o d y x))
      = ∑ d : Fin 32, part m c b r o d.val := by
  unfold part
  split
  · refine Finset.sum_congr rfl fun d _ => Finset.sum_congr rfl fun y _ => Finset.sum_congr rfl fun x _ => ?_
    rw [fM_eq hV]
  · refine Finset.sum_congr rfl fun d _ => Finset.sum_congr rfl fun y _ => Finset.sum_congr rfl fun x _ => ?_
    rw [fM_eq hV]

end agree

/-- The reference runs to an end and leaves its arguments unchanged. -/
theorem frame_ref : Cert.quiescent_RefPreIdeal (hRefPreIdeal := Cert.RefPreIdeal.Gen.facts) := fun m g _ =>
  (θ_run (Cert.RefPreIdeal.defs (F := Ideal)) _ _).mono
    (fun r h => ⟨fun c => (h c).2.2.2, sem_eq_zero_of_no_sems (by decide) r.2⟩) (Cert.RefPreIdeal.Value.run (F := Ideal) m g)

/-- The claim about the call: its results are the reference's. -/
theorem algebraic : Cert.algebraic_ConvPreIdeal_RefPreIdeal (hConvPreIdeal := Cert.ConvPreIdeal.Gen.facts)
    (hRefPreIdeal := Cert.RefPreIdeal.Gen.facts) := by
  intro m g m' g' _ hargs
  refine ⟨fun c => G11 m c, fun c => G12 m c, fun c => G13 m c, run m g, ?_⟩
  refine (θ_run (Cert.RefPreIdeal.defs (F := Ideal)) _ _).mono (fun r h c => ?_) (Cert.RefPreIdeal.Value.run (F := Ideal) m' g')
  obtain ⟨a0, a1, a2, a3, a4⟩ := hargs c
  have hV : Same m (launchContents m' c) c := ⟨a0, a1, a2, a3, a4⟩
  obtain ⟨h0, h1, h2, hk⟩ := h c
  refine ⟨h0.trans (out0 hV), h1.trans (out1 hV), h2.trans ?_, hk⟩
  funext i
  obtain ⟨b, r, o, rfl⟩ := exists_ix3 i
  refine (PreRef.resS_apply (launchContents m' c) b r o).trans ?_
  exact (sums_eq hV b r o).trans (G13_apply m c b r o).symm

end Cert.Proof.Pre
-- ==== Proof.C1Kernel.lean ====
/-
  What the call of the layer between the first and the last leaves in its blocks at each grid point, as functions of
  the blocks it reads: the two convolution blocks at every depth step, the running sums of the magnitudes, and the
  block of sums at the last depth step.
-/
module

public import proofs.«01_k».proof.Proof.Gen.ConvC1Ideal.Value
public import proofs.«01_k».proof.Proof.Rows

@[expose] public section

noncomputable section

namespace Cert.Proof.C1

open Cert.ConvC1Ideal Cert.ConvC1Ideal.Gen Cert.ConvC1Ideal.Value Idealize.ShloMosaic Idealize.ShloMosaic.TcCoe Idealize.SL.Sem

variable {F : FTy → Type} [FloatOps F]

/-- The zero offsets of a load of a whole block, at the ranks that occur. -/
theorem hz2 : (![0, 0] : Fin 2 → ℕ) = fun _ => 0 := by funext a; fin_cases a <;> rfl
/-- The same at rank three. -/
theorem hz3 : (![0, 0, 0] : Fin 3 → ℕ) = fun _ => 0 := by funext a; fin_cases a <;> rfl
/-- The same at rank five. -/
theorem hz5 : (![0, 0, 0, 0, 0] : Fin 5 → ℕ) = fun _ => 0 := by funext a; fin_cases a <;> rfl
/-- The same at rank seven. -/
theorem hz7 : (![0, 0, 0, 0, 0, 0, 0] : Fin 7 → ℕ) = fun _ => 0 := by funext a; fin_cases a <;> rfl

/-- The product's real half, from the six activated input blocks (real and imaginary, of the three depths). -/
def reOf (r0 i0 r1 i1 r2 i2 : FVec F S32x2x2x9x9 .f32) (x6 : FVec F S64x864 .f32) (x7 : FVec F S64x1 .f32) : FVec F S64x64 .f32 :=
  k0_pay66
    r2 i2 (k0_pay24 r0) (k0_pay25 i0) (k0_pay26 r0) (k0_pay27 i0) (k0_pay28 r0) (k0_pay29 i0) (k0_pay30 r0)
    (k0_pay31 i0) (k0_pay32 r0) (k0_pay33 i0) (k0_pay34 r0) (k0_pay35 i0) (k0_pay36 r0) (k0_pay37 i0) (k0_pay38 r0)
    (k0_pay39 i0) (k0_pay40 r0) (k0_pay41 i0) (k0_pay42 r1) (k0_pay44 (k0_pay43 i1)) (k0_pay45 r1) (k0_pay46 i1)
    (k0_pay47 r1) (k0_pay48 i1) (k0_pay49 r1) (k0_pay50 i1) (k0_pay51 r1) (k0_pay52 i1) (k0_pay53 r1) (k0_pay54 i1)
    (k0_pay55 r1) (k0_pay56 i1) (k0_pay57 r1) (k0_pay58 i1) (k0_pay59 r1) (k0_pay60 i1) (k0_pay61 r2) (k0_pay62 i2)
    (k0_pay63 r2) (k0_pay64 i2)
    x6 x7

/-- The product's imaginary half, before its bias. -/
def imOf (r0 i0 r1 i1 r2 i2 : FVec F S32x2x2x9x9 .f32) (x6 : FVec F S64x864 .f32) : FVec F S64x64 .f32 :=
  k0_pay67
    r2 i2 (k0_pay24 r0) (k0_pay25 i0) (k0_pay26 r0) (k0_pay27 i0) (k0_pay28 r0) (k0_pay29 i0) (k0_pay30 r0)
    (k0_pay31 i0) (k0_pay32 r0) (k0_pay33 i0) (k0_pay34 r0) (k0_pay35 i0) (k0_pay36 r0) (k0_pay37 i0) (k0_pay38 r0)
    (k0_pay39 i0) (k0_pay40 r0) (k0_pay41 i0) (k0_pay42 r1) (k0_pay44 (k0_pay43 i1)) (k0_pay45 r1) (k0_pay46 i1)
    (k0_pay47 r1) (k0_pay48 i1) (k0_pay49 r1) (k0_pay50 i1) (k0_pay51 r1) (k0_pay52 i1) (k0_pay53 r1) (k0_pay54 i1)
    (k0_pay55 r1) (k0_pay56 i1) (k0_pay57 r1) (k0_pay58 i1) (k0_pay59 r1) (k0_pay60 i1) (k0_pay61 r2) (k0_pay62 i2)
    (k0_pay63 r2) (k0_pay64 i2)
    x6

variable (m : (ℓ : Loc nD τ sig) → Buf (Elt F) ℓ)

/-- The real convolution block (with its bias) at a grid point, from the blocks read there. -/
def reAt (c : Dev nD) (t : Fin cfg0.N) : FVec F S64x64 .f32 :=
  let x0 := iblk m c 0 t; let x1 := iblk m c 1 t; let x2 := iblk m c 2 t; let x3 := iblk m c 3 t; let x4 := iblk m c 4 t
  let x5 := iblk m c 5 t; let x6 := iblk m c 6 t; let x7 := iblk m c 7 t; let x9 := iblk m c 9 t; let x10 := iblk m c 10 t
  reOf (k0_pay13 (k0_pay3 x0) (k0_pay6 x3) (k0_pay9 x9) x10) (k0_pay14 (k0_pay3 x0) (k0_pay6 x3) (k0_pay9 x9) x10)
    (k0_pay17 (k0_pay4 x1) (k0_pay7 x4) (k0_pay9 x9) x10) (k0_pay18 (k0_pay4 x1) (k0_pay7 x4) (k0_pay9 x9) x10)
    (k0_pay21 (k0_pay5 x2) (k0_pay8 x5) (k0_pay9 x9) x10)
    (k0_pay23 (k0_pay19 (k0_pay5 x2) (k0_pay8 x5) (k0_pay9 x9) x10) (k0_pay22 (k0_pay5 x2) (k0_pay8 x5)))
    x6 x7

/-- The imaginary convolution block (without its bias) at a grid point, from the blocks read there. -/
def imAt (c : Dev nD) (t : Fin cfg0.N) : FVec F S64x64 .f32 :=
  let x0 := iblk m c 0 t; let x1 := iblk m c 1 t; let x2 := iblk m c 2 t; let x3 := iblk m c 3 t; let x4 := iblk m c 4 t
  let x5 := iblk m c 5 t; let x6 := iblk m c 6 t; let x9 := iblk m c 9 t; let x10 := iblk m c 10 t
  imOf (k0_pay13 (k0_pay3 x0) (k0_pay6 x3) (k0_pay9 x9) x10) (k0_pay14 (k0_pay3 x0) (k0_pay6 x3) (k0_pay9 x9) x10)
    (k0_pay17 (k0_pay4 x1) (k0_pay7 x4) (k0_pay9 x9) x10) (k0_pay18 (k0_pay4 x1) (k0_pay7 x4) (k0_pay9 x9) x10)
    (k0_pay21 (k0_pay5 x2) (k0_pay8 x5) (k0_pay9 x9) x10)
    (k0_pay23 (k0_pay19 (k0_pay5 x2) (k0_pay8 x5) (k0_pay9 x9) x10) (k0_pay22 (k0_pay5 x2) (k0_pay8 x5)))
    x6

/-- One step of the two running sums: the magnitudes' row sums added to the first row, their squares' to the second. -/
def stepRows (c : Dev nD) (t : Fin cfg0.N) (prev : FVec F S2x64 .f32) : FVec F S2x64 .f32 :=
  Rows.rows (Val := Elt F) (e := .f32) (k0_pay73 (reAt m c t) (imAt m c t) (iblk m c 8 t) (Rows.row (Val := Elt F) (e := .f32) 0 prev))
    (k0_pay1 (k0_pay74 (reAt m c t) (imAt m c t) (iblk m c 8 t) (Rows.row (Val := Elt F) (e := .f32) 1 prev)))

/-- The real block left at a first depth step. -/
theorem out11_A (c : Dev nD) (t : Fin cfg0.N) (h0 : t.val % 32 = 0) (h1 : ¬t.val % 32 = 31) :
    (outsAt0 m c t.val t.isLt).1 = k0_pay69 (reAt m c t) := by
  rw [outsAt0_A m c t h0 h1]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The imaginary block left at a first depth step. -/
theorem out12_A (c : Dev nD) (t : Fin cfg0.N) (h0 : t.val % 32 = 0) (h1 : ¬t.val % 32 = 31) :
    (outsAt0 m c t.val t.isLt).2.1 = k0_pay70 (imAt m c t) (iblk m c 8 t) := by
  rw [outsAt0_A m c t h0 h1]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The two running sums after the first depth step: one step from zero. -/
theorem scr_A (c : Dev nD) (t : Fin cfg0.N) (h0 : t.val % 32 = 0) (h1 : ¬t.val % 32 = 31) :
    (outsAt0 m c t.val t.isLt).2.2.2 = stepRows m c t k0_pay72 := by
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _)]
  unfold kernelRun0_A
  dsimp only
  sl_unfold_words
  refine (Rows.canon_rows inb_S2x64_S1x64_0_0 inb_S2x64_S1x64_1_0 _ _ _).trans ?_
  rw [Rows.readCov_row1 _ inb_S2x64_S2x64_0_0 inb_S2x64_S1x64_0_0 inb_S2x64_S1x64_1_0, Rows.readCov_row0 _ inb_S2x64_S2x64_0_0 inb_S2x64_S1x64_0_0]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The real block left at a middle depth step. -/
theorem out11_B (c : Dev nD) (t : Fin cfg0.N) (h0 : ¬t.val % 32 = 0) (h1 : ¬t.val % 32 = 31) :
    (outsAt0 m c t.val t.isLt).1 = k0_pay69 (reAt m c t) := by
  rw [outsAt0_B m c t h0 h1]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The imaginary block left at a middle depth step. -/
theorem out12_B (c : Dev nD) (t : Fin cfg0.N) (h0 : ¬t.val % 32 = 0) (h1 : ¬t.val % 32 = 31) :
    (outsAt0 m c t.val t.isLt).2.1 = k0_pay70 (imAt m c t) (iblk m c 8 t) := by
  rw [outsAt0_B m c t h0 h1]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The two running sums after a middle depth step: one step from the previous ones. -/
theorem scr_B (c : Dev nD) (t : Fin cfg0.N) (h0 : ¬t.val % 32 = 0) (h1 : ¬t.val % 32 = 31) :
    (outsAt0 m c t.val t.isLt).2.2.2 = stepRows m c t (outsAt0 m c (t.val - 1) (by omega)).2.2.2 := by
  rw [outsAt0_B m c t h0 h1]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (Rows.canon_rows inb_S2x64_S1x64_0_0 inb_S2x64_S1x64_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rw [Rows.ld_row0 inb_S2x64_S1x64_0_0, Rows.ld_row1 inb_S2x64_S1x64_1_0]
  rfl

/-- The real block left at a last depth step. -/
theorem out11_C (c : Dev nD) (t : Fin cfg0.N) (h0 : ¬t.val % 32 = 0) (h1 : t.val % 32 = 31) :
    (outsAt0 m c t.val t.isLt).1 = k0_pay69 (reAt m c t) := by
  rw [outsAt0_C m c t h0 h1]
  dsimp only
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The imaginary block left at a last depth step. -/
theorem out12_C (c : Dev nD) (t : Fin cfg0.N) (h0 : ¬t.val % 32 = 0) (h1 : t.val % 32 = 31) :
    (outsAt0 m c t.val t.isLt).2.1 = k0_pay70 (imAt m c t) (iblk m c 8 t) := by
  rw [outsAt0_C m c t h0 h1]
  dsimp only
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x64x1x8x8) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rfl

/-- The two running sums after a last depth step: one step from the previous ones. -/
theorem scr_C (c : Dev nD) (t : Fin cfg0.N) (h0 : ¬t.val % 32 = 0) (h1 : t.val % 32 = 31) :
    (outsAt0 m c t.val t.isLt).2.2.2 = stepRows m c t (outsAt0 m c (t.val - 1) (by omega)).2.2.2 := by
  rw [outsAt0_C m c t h0 h1]
  dsimp only
  unfold sout0_C_0
  rw [View.read_writes_eq_canon _ _ _ (scover0_C_0 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  refine (Rows.canon_rows inb_S2x64_S1x64_0_0 inb_S2x64_S1x64_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rw [Rows.ld_row0 inb_S2x64_S1x64_0_0, Rows.ld_row1 inb_S2x64_S1x64_1_0]
  rfl

/-- The block of sums left at the last depth step. -/
theorem out13_C (c : Dev nD) (t : Fin cfg0.N) (h0 : ¬t.val % 32 = 0) (h1 : t.val % 32 = 31) :
    (outsAt0 m c t.val t.isLt).2.2.1 = k0_pay2 (stepRows m c t (outsAt0 m c (t.val - 1) (by omega)).2.2.2) := by
  rw [outsAt0_C m c t h0 h1]
  dsimp only
  unfold out0_C_13
  rw [View.read_writes_eq_canon _ _ _ (cover0_C_13 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x2x64) hz3]
  refine congrArg k0_pay2 ((Rows.readCov_rows _ inb_S2x64_S2x64_0_0 inb_S2x64_S1x64_0_0 inb_S2x64_S1x64_1_0 _ _ _).trans ?_)
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x32x1x2x2x9x9) hz7, View.ld_unit_zero (S := S64x864) hz2,
    View.ld_unit_zero (S := S64x1) hz2, View.ld_unit_zero (S := S32x1) hz2]
  rw [Rows.ld_row0 inb_S2x64_S1x64_0_0, Rows.ld_row1 inb_S2x64_S1x64_1_0]
  rfl

end Cert.Proof.C1
-- ==== Proof.C1Host.lean ====
/-
  The arrays that the call of the layer between the first and the last reads, from the arguments: the padded inputs
  split by the parities of their plane coordinates, the flattened weights, the biases as columns.
-/
module

public import proofs.«01_k».proof.Proof.Gen.ConvC1Ideal.Frame
public import Idealize.ShloMosaic.Lib.StableHlo.ReadAt

@[expose] public section

noncomputable section

namespace Cert.Proof.C1

open Cert.ConvC1Ideal Cert.ConvC1Ideal.Gen Idealize.ShloMosaic Idealize.ShloMosaic.TcCoe Idealize.SL.Sem

variable {F : FTy → Type} [FloatOps F] (m : (ℓ : Loc nD τ sig) → Buf (Elt F) ℓ)

/-- The real input as the call reads it: padded, and split by the parities of its plane coordinates. -/
theorem V_real (c : Dev nD) : V m c main_v2
    = transpose S32x32x34x2x2x9x9 [0, 1, 2, 4, 6, 3, 5] (shapeCast S32x32x34x9x2x9x2
        (pad S32x32x34x18x18 ![0, 0, 1, 1, 1] ![0, 0, 1, 1, 1] ![0, 0, 0, 0, 0] (m ((c : Thread nD τ).loc main_arg0))
          (sitofp (F := F) .f32 (constantI S_ 32 0#32)) pads_S32x32x32x16x16_S32x32x34x18x18_000_000_110_110_110 h_S_)
        shapeCasts_S32x32x34x18x18_S32x32x34x9x2x9x2) transposes_S32x32x34x9x2x9x2_S32x32x34x2x2x9x9_0_1_2_4_6_3_5 := by
  unfold V hostOps0 hostOps0_1 hostOps0_2 hostOps0_3 hostOps0_4
  simp only [List.flatten_cons, List.flatten_nil, List.append_nil, List.cons_append, List.nil_append]
  after_results
  rfl

/-- The imaginary input as the call reads it. -/
theorem V_imag (c : Dev nD) : V m c main_v5
    = transpose S32x32x34x2x2x9x9 [0, 1, 2, 4, 6, 3, 5] (shapeCast S32x32x34x9x2x9x2
        (pad S32x32x34x18x18 ![0, 0, 1, 1, 1] ![0, 0, 1, 1, 1] ![0, 0, 0, 0, 0] (m ((c : Thread nD τ).loc main_arg1))
          (sitofp (F := F) .f32 (constantI S_ 32 0#32)) pads_S32x32x32x16x16_S32x32x34x18x18_000_000_110_110_110 h_S_)
        shapeCasts_S32x32x34x18x18_S32x32x34x9x2x9x2) transposes_S32x32x34x9x2x9x2_S32x32x34x2x2x9x9_0_1_2_4_6_3_5 := by
  unfold V hostOps0 hostOps0_1 hostOps0_2 hostOps0_3 hostOps0_4
  simp only [List.flatten_cons, List.flatten_nil, List.append_nil, List.cons_append, List.nil_append]
  after_results
  rfl

/-- The flattened weights as the call reads them. -/
theorem V_weights (c : Dev nD) : V m c main_v7
    = shapeCast S64x864 (transpose S64x3x3x3x32 [0, 2, 3, 4, 1] (m ((c : Thread nD τ).loc main_arg2))
        transposes_S64x32x3x3x3_S64x3x3x3x32_0_2_3_4_1) shapeCasts_S64x3x3x3x32_S64x864 := by
  unfold V hostOps0 hostOps0_1 hostOps0_2 hostOps0_3 hostOps0_4
  simp only [List.flatten_cons, List.flatten_nil, List.append_nil, List.cons_append, List.nil_append]
  after_results
  rfl

/-- The real bias as the call reads it. -/
theorem V_biasR (c : Dev nD) : V m c main_v8 = shapeCast S64x1 (m ((c : Thread nD τ).loc main_arg3)) shapeCasts_S64_S64x1 := by
  unfold V hostOps0 hostOps0_1 hostOps0_2 hostOps0_3 hostOps0_4
  simp only [List.flatten_cons, List.flatten_nil, List.append_nil, List.cons_append, List.nil_append]
  after_results
  rfl

/-- The imaginary bias as the call reads it. -/
theorem V_biasI (c : Dev nD) : V m c main_v9 = shapeCast S64x1 (m ((c : Thread nD τ).loc main_arg4)) shapeCasts_S64_S64x1 := by
  unfold V hostOps0 hostOps0_1 hostOps0_2 hostOps0_3 hostOps0_4
  simp only [List.flatten_cons, List.flatten_nil, List.append_nil, List.cons_append, List.nil_append]
  after_results
  rfl

end Cert.Proof.C1
-- ==== Proof.C1Blocks.lean ====
/-
  The blocks that the call of the layer between the first and the last reads at a grid point, at an index, from the
  arguments.
-/
module

public import proofs.«01_k».proof.Proof.C1Host
public import proofs.«01_k».proof.Proof.ConvHost

@[expose] public section

noncomputable section

namespace Cert.Proof.C1

open Cert.ConvC1Ideal Cert.ConvC1Ideal.Gen Idealize.ShloMosaic Idealize.ShloMosaic.TcCoe Idealize.SL.Sem
open Cert.Proof.ConvMath

variable (m : (ℓ : Loc nD τ sig) → Buf (Elt Ideal) ℓ)

/-- The batch row of a grid point; its depth is the point's number modulo 32. -/
def batch (t : Fin cfg0.N) : Fin 32 := ⟨t.val / 32, by have h := lt_of_lt_of_eq t.isLt N_0; omega⟩

/-- The pad's value is zero. -/
theorem zero_pad : (sitofp (F := Ideal) .f32 (constantI S_ 32 0#32)) (Shape.Idx.first h_S_) = 0 := by
  show ((((0#32 : BitVec 32).toInt : ℤ) : ℝ) : EReal) = 0
  simp

/-- The real input padded and split, at an index. -/
theorem split_r (c : Dev nD) (b k : Fin 32) (e : Fin 34) (i j : Fin 2) (y x : Fin 9) (hy : 2 * y.val + i.val < 18) (hx : 2 * x.val + j.val < 18) :
    transpose S32x32x34x2x2x9x9 [0, 1, 2, 4, 6, 3, 5] (shapeCast S32x32x34x9x2x9x2
        (pad S32x32x34x18x18 ![0, 0, 1, 1, 1] ![0, 0, 1, 1, 1] ![0, 0, 0, 0, 0] (m ((c : Thread nD τ).loc main_arg0))
          (sitofp (F := Ideal) .f32 (constantI S_ 32 0#32)) pads_S32x32x32x16x16_S32x32x34x18x18_000_000_110_110_110 h_S_)
        shapeCasts_S32x32x34x18x18_S32x32x34x9x2x9x2) transposes_S32x32x34x9x2x9x2_S32x32x34x2x2x9x9_0_1_2_4_6_3_5 (ix7 b k e i j y x)
      = padAt (m ((c : Thread nD τ).loc main_arg0)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- The imaginary input padded and split, at an index. -/
theorem split_i (c : Dev nD) (b k : Fin 32) (e : Fin 34) (i j : Fin 2) (y x : Fin 9) (hy : 2 * y.val + i.val < 18) (hx : 2 * x.val + j.val < 18) :
    transpose S32x32x34x2x2x9x9 [0, 1, 2, 4, 6, 3, 5] (shapeCast S32x32x34x9x2x9x2
        (pad S32x32x34x18x18 ![0, 0, 1, 1, 1] ![0, 0, 1, 1, 1] ![0, 0, 0, 0, 0] (m ((c : Thread nD τ).loc main_arg1))
          (sitofp (F := Ideal) .f32 (constantI S_ 32 0#32)) pads_S32x32x32x16x16_S32x32x34x18x18_000_000_110_110_110 h_S_)
        shapeCasts_S32x32x34x18x18_S32x32x34x9x2x9x2) transposes_S32x32x34x9x2x9x2_S32x32x34x2x2x9x9_0_1_2_4_6_3_5 (ix7 b k e i j y x)
      = padAt (m ((c : Thread nD τ).loc main_arg1)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- Where window 0 reads, at a point. -/
theorem index0 : ∀ t : Fin cfg0.N, win0_0.index t 0 = t.val / 32 ∧ win0_0.index t 1 = 0 ∧ win0_0.index t 2 = t.val % 32 + 0
    ∧ win0_0.index t 3 = 0 ∧ win0_0.index t 4 = 0 ∧ win0_0.index t 5 = 0 ∧ win0_0.index t 6 = 0 :=
  (by decide +kernel : ∀ t : Fin grid0.N, _)

/-- What window 0 reads of any array contents, at an index. -/
theorem read0 (c : Dev nD) (f : (b : Ref sig .tc) → Buf (Elt Ideal) ((c : Thread nD τ).loc b)) (t : Fin cfg0.N) (z : S1x32x1x2x2x9x9.Idx) :
    (((cfg0.win 0).blk t).view.read (Elt Ideal) (f (Pipeline.arrRef spec0 0)) : Vec Ideal S1x32x1x2x2x9x9 .f32) z
      = (f main_v2 : Vec Ideal S32x32x34x2x2x9x9 .f32) (((cfg0.win 0).blk t).view.emb z) := rfl

/-- Window 0's block at a point: the padded real input at the point's batch row, the point's depth. -/
theorem block0 (c : Dev nD) (t : Fin cfg0.N) (k : Fin 32) (i j : Fin 2) (y x : Fin 9) :
    (iblk m c 0 t : Vec Ideal S1x32x1x2x2x9x9 .f32) (ix7 0 k 0 i j y x)
      = padAt (m ((c : Thread nD τ).loc main_arg0)) (batch t) k (t.val % 32 + 0) (2 * y.val + i.val) (2 * x.val + j.val) := by
  obtain ⟨h0, h1, h2, h3, h4, h5, h6⟩ := index0 t
  have hy : 2 * y.val + i.val < 18 := by omega
  have hx : 2 * x.val + j.val < 18 := by omega
  have e : (((cfg0.win 0).blk t).view.emb (ix7 0 k 0 i j y x) : S32x32x34x2x2x9x9.Idx)
      = ix7 (batch t) k ⟨t.val % 32 + 0, by omega⟩ i j y x := by
    funext a
    apply Fin.ext
    match a with
    | ⟨0, _⟩ => show win0_0.index t 0 * 1 + 1 * 0 = t.val / 32; omega
    | ⟨1, _⟩ => show win0_0.index t 1 * 32 + 1 * k.val = k.val; omega
    | ⟨2, _⟩ => show win0_0.index t 2 * 1 + 1 * 0 = t.val % 32 + 0; omega
    | ⟨3, _⟩ => show win0_0.index t 3 * 2 + 1 * i.val = i.val; omega
    | ⟨4, _⟩ => show win0_0.index t 4 * 2 + 1 * j.val = j.val; omega
    | ⟨5, _⟩ => show win0_0.index t 5 * 9 + 1 * y.val = y.val; omega
    | ⟨6, _⟩ => show win0_0.index t 6 * 9 + 1 * x.val = x.val; omega
  exact (read0 c (V m c) t _).trans ((congrArg _ e).trans ((congrFun (V_real m c) _).trans
    (split_r m c (batch t) k ⟨t.val % 32 + 0, by omega⟩ i j y x hy hx)))

/-- Where window 1 reads, at a point. -/
theorem index1 : ∀ t : Fin cfg0.N, win0_1.index t 0 = t.val / 32 ∧ win0_1.index t 1 = 0 ∧ win0_1.index t 2 = t.val % 32 + 1
    ∧ win0_1.index t 3 = 0 ∧ win0_1.index t 4 = 0 ∧ win0_1.index t 5 = 0 ∧ win0_1.index t 6 = 0 :=
  (by decide +kernel : ∀ t : Fin grid0.N, _)

/-- What window 1 reads of any array contents, at an index. -/
theorem read1 (c : Dev nD) (f : (b : Ref sig .tc) → Buf (Elt Ideal) ((c : Thread nD τ).loc b)) (t : Fin cfg0.N) (z : S1x32x1x2x2x9x9.Idx) :
    (((cfg0.win 1).blk t).view.read (Elt Ideal) (f (Pipeline.arrRef spec0 1)) : Vec Ideal S1x32x1x2x2x9x9 .f32) z
      = (f main_v2 : Vec Ideal S32x32x34x2x2x9x9 .f32) (((cfg0.win 1).blk t).view.emb z) := rfl

/-- Window 1's block at a point: the padded real input at the point's batch row, one past the point's depth. -/
theorem block1 (c : Dev nD) (t : Fin cfg0.N) (k : Fin 32) (i j : Fin 2) (y x : Fin 9) :
    (iblk m c 1 t : Vec Ideal S1x32x1x2x2x9x9 .f32) (ix7 0 k 0 i j y x)
      = padAt (m ((c : Thread nD τ).loc main_arg0)) (batch t) k (t.val % 32 + 1) (2 * y.val + i.val) (2 * x.val + j.val) := by
  obtain ⟨h0, h1, h2, h3, h4, h5, h6⟩ := index1 t
  have hy : 2 * y.val + i.val < 18 := by omega
  have hx : 2 * x.val + j.val < 18 := by omega
  have e : (((cfg0.win 1).blk t).view.emb (ix7 0 k 0 i j y x) : S32x32x34x2x2x9x9.Idx)
      = ix7 (batch t) k ⟨t.val % 32 + 1, by omega⟩ i j y x := by
    funext a
    apply Fin.ext
    match a with
    | ⟨0, _⟩ => show win0_1.index t 0 * 1 + 1 * 0 = t.val / 32; omega
    | ⟨1, _⟩ => show win0_1.index t 1 * 32 + 1 * k.val = k.val; omega
    | ⟨2, _⟩ => show win0_1.index t 2 * 1 + 1 * 0 = t.val % 32 + 1; omega
    | ⟨3, _⟩ => show win0_1.index t 3 * 2 + 1 * i.val = i.val; omega
    | ⟨4, _⟩ => show win0_1.index t 4 * 2 + 1 * j.val = j.val; omega
    | ⟨5, _⟩ => show win0_1.index t 5 * 9 + 1 * y.val = y.val; omega
    | ⟨6, _⟩ => show win0_1.index t 6 * 9 + 1 * x.val = x.val; omega
  exact (read1 c (V m c) t _).trans ((congrArg _ e).trans ((congrFun (V_real m c) _).trans
    (split_r m c (batch t) k ⟨t.val % 32 + 1, by omega⟩ i j y x hy hx)))

/-- Where window 2 reads, at a point. -/
theorem index2 : ∀ t : Fin cfg0.N, win0_2.index t 0 = t.val / 32 ∧ win0_2.index t 1 = 0 ∧ win0_2.index t 2 = t.val % 32 + 2
    ∧ win0_2.index t 3 = 0 ∧ win0_2.index t 4 = 0 ∧ win0_2.index t 5 = 0 ∧ win0_2.index t 6 = 0 :=
  (by decide +kernel : ∀ t : Fin grid0.N, _)

/-- What window 2 reads of any array contents, at an index. -/
theorem read2 (c : Dev nD) (f : (b : Ref sig .tc) → Buf (Elt Ideal) ((c : Thread nD τ).loc b)) (t : Fin cfg0.N) (z : S1x32x1x2x2x9x9.Idx) :
    (((cfg0.win 2).blk t).view.read (Elt Ideal) (f (Pipeline.arrRef spec0 2)) : Vec Ideal S1x32x1x2x2x9x9 .f32) z
      = (f main_v2 : Vec Ideal S32x32x34x2x2x9x9 .f32) (((cfg0.win 2).blk t).view.emb z) := rfl

/-- Window 2's block at a point: the padded real input at the point's batch row, two past the point's depth. -/
theorem block2 (c : Dev nD) (t : Fin cfg0.N) (k : Fin 32) (i j : Fin 2) (y x : Fin 9) :
    (iblk m c 2 t : Vec Ideal S1x32x1x2x2x9x9 .f32) (ix7 0 k 0 i j y x)
      = padAt (m ((c : Thread nD τ).loc main_arg0)) (batch t) k (t.val % 32 + 2) (2 * y.val + i.val) (2 * x.val + j.val) := by
  obtain ⟨h0, h1, h2, h3, h4, h5, h6⟩ := index2 t
  have hy : 2 * y.val + i.val < 18 := by omega
  have hx : 2 * x.val + j.val < 18 := by omega
  have e : (((cfg0.win 2).blk t).view.emb (ix7 0 k 0 i j y x) : S32x32x34x2x2x9x9.Idx)
      = ix7 (batch t) k ⟨t.val % 32 + 2, by omega⟩ i j y x := by
    funext a
    apply Fin.ext
    match a with
    | ⟨0, _⟩ => show win0_2.index t 0 * 1 + 1 * 0 = t.val / 32; omega
    | ⟨1, _⟩ => show win0_2.index t 1 * 32 + 1 * k.val = k.val; omega
    | ⟨2, _⟩ => show win0_2.index t 2 * 1 + 1 * 0 = t.val % 32 + 2; omega
    | ⟨3, _⟩ => show win0_2.index t 3 * 2 + 1 * i.val = i.val; omega
    | ⟨4, _⟩ => show win0_2.index t 4 * 2 + 1 * j.val = j.val; omega
    | ⟨5, _⟩ => show win0_2.index t 5 * 9 + 1 * y.val = y.val; omega
    | ⟨6, _⟩ => show win0_2.index t 6 * 9 + 1 * x.val = x.val; omega
  exact (read2 c (V m c) t _).trans ((congrArg _ e).trans ((congrFun (V_real m c) _).trans
    (split_r m c (batch t) k ⟨t.val % 32 + 2, by omega⟩ i j y x hy hx)))

/-- Where window 3 reads, at a point. -/
theorem index3 : ∀ t : Fin cfg0.N, win0_3.index t 0 = t.val / 32 ∧ win0_3.index t 1 = 0 ∧ win0_3.index t 2 = t.val % 32 + 0
    ∧ win0_3.index t 3 = 0 ∧ win0_3.index t 4 = 0 ∧ win0_3.index t 5 = 0 ∧ win0_3.index t 6 = 0 :=
  (by decide +kernel : ∀ t : Fin grid0.N, _)

/-- What window 3 reads of any array contents, at an index. -/
theorem read3 (c : Dev nD) (f : (b : Ref sig .tc) → Buf (Elt Ideal) ((c : Thread nD τ).loc b)) (t : Fin cfg0.N) (z : S1x32x1x2x2x9x9.Idx) :
    (((cfg0.win 3).blk t).view.read (Elt Ideal) (f (Pipeline.arrRef spec0 3)) : Vec Ideal S1x32x1x2x2x9x9 .f32) z
      = (f main_v5 : Vec Ideal S32x32x34x2x2x9x9 .f32) (((cfg0.win 3).blk t).view.emb z) := rfl

/-- Window 3's block at a point: the padded imaginary input at the point's batch row, the point's depth. -/
theorem block3 (c : Dev nD) (t : Fin cfg0.N) (k : Fin 32) (i j : Fin 2) (y x : Fin 9) :
    (iblk m c 3 t : Vec Ideal S1x32x1x2x2x9x9 .f32) (ix7 0 k 0 i j y x)
      = padAt (m ((c : Thread nD τ).loc main_arg1)) (batch t) k (t.val % 32 + 0) (2 * y.val + i.val) (2 * x.val + j.val) := by
  obtain ⟨h0, h1, h2, h3, h4, h5, h6⟩ := index3 t
  have hy : 2 * y.val + i.val < 18 := by omega
  have hx : 2 * x.val + j.val < 18 := by omega
  have e : (((cfg0.win 3).blk t).view.emb (ix7 0 k 0 i j y x) : S32x32x34x2x2x9x9.Idx)
      = ix7 (batch t) k ⟨t.val % 32 + 0, by omega⟩ i j y x := by
    funext a
    apply Fin.ext
    match a with
    | ⟨0, _⟩ => show win0_3.index t 0 * 1 + 1 * 0 = t.val / 32; omega
    | ⟨1, _⟩ => show win0_3.index t 1 * 32 + 1 * k.val = k.val; omega
    | ⟨2, _⟩ => show win0_3.index t 2 * 1 + 1 * 0 = t.val % 32 + 0; omega
    | ⟨3, _⟩ => show win0_3.index t 3 * 2 + 1 * i.val = i.val; omega
    | ⟨4, _⟩ => show win0_3.index t 4 * 2 + 1 * j.val = j.val; omega
    | ⟨5, _⟩ => show win0_3.index t 5 * 9 + 1 * y.val = y.val; omega
    | ⟨6, _⟩ => show win0_3.index t 6 * 9 + 1 * x.val = x.val; omega
  exact (read3 c (V m c) t _).trans ((congrArg _ e).trans ((congrFun (V_imag m c) _).trans
    (split_i m c (batch t) k ⟨t.val % 32 + 0, by omega⟩ i j y x hy hx)))

/-- Where window 4 reads, at a point. -/
theorem index4 : ∀ t : Fin cfg0.N, win0_4.index t 0 = t.val / 32 ∧ win0_4.index t 1 = 0 ∧ win0_4.index t 2 = t.val % 32 + 1
    ∧ win0_4.index t 3 = 0 ∧ win0_4.index t 4 = 0 ∧ win0_4.index t 5 = 0 ∧ win0_4.index t 6 = 0 :=
  (by decide +kernel : ∀ t : Fin grid0.N, _)

/-- What window 4 reads of any array contents, at an index. -/
theorem read4 (c : Dev nD) (f : (b : Ref sig .tc) → Buf (Elt Ideal) ((c : Thread nD τ).loc b)) (t : Fin cfg0.N) (z : S1x32x1x2x2x9x9.Idx) :
    (((cfg0.win 4).blk t).view.read (Elt Ideal) (f (Pipeline.arrRef spec0 4)) : Vec Ideal S1x32x1x2x2x9x9 .f32) z
      = (f main_v5 : Vec Ideal S32x32x34x2x2x9x9 .f32) (((cfg0.win 4).blk t).view.emb z) := rfl

/-- Window 4's block at a point: the padded imaginary input at the point's batch row, one past the point's depth. -/
theorem block4 (c : Dev nD) (t : Fin cfg0.N) (k : Fin 32) (i j : Fin 2) (y x : Fin 9) :
    (iblk m c 4 t : Vec Ideal S1x32x1x2x2x9x9 .f32) (ix7 0 k 0 i j y x)
      = padAt (m ((c : Thread nD τ).loc main_arg1)) (batch t) k (t.val % 32 + 1) (2 * y.val + i.val) (2 * x.val + j.val) := by
  obtain ⟨h0, h1, h2, h3, h4, h5, h6⟩ := index4 t
  have hy : 2 * y.val + i.val < 18 := by omega
  have hx : 2 * x.val + j.val < 18 := by omega
  have e : (((cfg0.win 4).blk t).view.emb (ix7 0 k 0 i j y x) : S32x32x34x2x2x9x9.Idx)
      = ix7 (batch t) k ⟨t.val % 32 + 1, by omega⟩ i j y x := by
    funext a
    apply Fin.ext
    match a with
    | ⟨0, _⟩ => show win0_4.index t 0 * 1 + 1 * 0 = t.val / 32; omega
    | ⟨1, _⟩ => show win0_4.index t 1 * 32 + 1 * k.val = k.val; omega
    | ⟨2, _⟩ => show win0_4.index t 2 * 1 + 1 * 0 = t.val % 32 + 1; omega
    | ⟨3, _⟩ => show win0_4.index t 3 * 2 + 1 * i.val = i.val; omega
    | ⟨4, _⟩ => show win0_4.index t 4 * 2 + 1 * j.val = j.val; omega
    | ⟨5, _⟩ => show win0_4.index t 5 * 9 + 1 * y.val = y.val; omega
    | ⟨6, _⟩ => show win0_4.index t 6 * 9 + 1 * x.val = x.val; omega
  exact (read4 c (V m c) t _).trans ((congrArg _ e).trans ((congrFun (V_imag m c) _).trans
    (split_i m c (batch t) k ⟨t.val % 32 + 1, by omega⟩ i j y x hy hx)))

/-- Where window 5 reads, at a point. -/
theorem index5 : ∀ t : Fin cfg0.N, win0_5.index t 0 = t.val / 32 ∧ win0_5.index t 1 = 0 ∧ win0_5.index t 2 = t.val % 32 + 2
    ∧ win0_5.index t 3 = 0 ∧ win0_5.index t 4 = 0 ∧ win0_5.index t 5 = 0 ∧ win0_5.index t 6 = 0 :=
  (by decide +kernel : ∀ t : Fin grid0.N, _)

/-- What window 5 reads of any array contents, at an index. -/
theorem read5 (c : Dev nD) (f : (b : Ref sig .tc) → Buf (Elt Ideal) ((c : Thread nD τ).loc b)) (t : Fin cfg0.N) (z : S1x32x1x2x2x9x9.Idx) :
    (((cfg0.win 5).blk t).view.read (Elt Ideal) (f (Pipeline.arrRef spec0 5)) : Vec Ideal S1x32x1x2x2x9x9 .f32) z
      = (f main_v5 : Vec Ideal S32x32x34x2x2x9x9 .f32) (((cfg0.win 5).blk t).view.emb z) := rfl

/-- Window 5's block at a point: the padded imaginary input at the point's batch row, two past the point's depth. -/
theorem block5 (c : Dev nD) (t : Fin cfg0.N) (k : Fin 32) (i j : Fin 2) (y x : Fin 9) :
    (iblk m c 5 t : Vec Ideal S1x32x1x2x2x9x9 .f32) (ix7 0 k 0 i j y x)
      = padAt (m ((c : Thread nD τ).loc main_arg1)) (batch t) k (t.val % 32 + 2) (2 * y.val + i.val) (2 * x.val + j.val) := by
  obtain ⟨h0, h1, h2, h3, h4, h5, h6⟩ := index5 t
  have hy : 2 * y.val + i.val < 18 := by omega
  have hx : 2 * x.val + j.val < 18 := by omega
  have e : (((cfg0.win 5).blk t).view.emb (ix7 0 k 0 i j y x) : S32x32x34x2x2x9x9.Idx)
      = ix7 (batch t) k ⟨t.val % 32 + 2, by omega⟩ i j y x := by
    funext a
    apply Fin.ext
    match a with
    | ⟨0, _⟩ => show win0_5.index t 0 * 1 + 1 * 0 = t.val / 32; omega
    | ⟨1, _⟩ => show win0_5.index t 1 * 32 + 1 * k.val = k.val; omega
    | ⟨2, _⟩ => show win0_5.index t 2 * 1 + 1 * 0 = t.val % 32 + 2; omega
    | ⟨3, _⟩ => show win0_5.index t 3 * 2 + 1 * i.val = i.val; omega
    | ⟨4, _⟩ => show win0_5.index t 4 * 2 + 1 * j.val = j.val; omega
    | ⟨5, _⟩ => show win0_5.index t 5 * 9 + 1 * y.val = y.val; omega
    | ⟨6, _⟩ => show win0_5.index t 6 * 9 + 1 * x.val = x.val; omega
  exact (read5 c (V m c) t _).trans ((congrArg _ e).trans ((congrFun (V_imag m c) _).trans
    (split_i m c (batch t) k ⟨t.val % 32 + 2, by omega⟩ i j y x hy hx)))

/-- Where window 6 reads. -/
theorem index6 : ∀ t : Fin cfg0.N, win0_6.index t 0 = 0 ∧ win0_6.index t 1 = 0 := (by decide +kernel : ∀ t : Fin grid0.N, _)

/-- What window 6 reads of any array contents, at an index. -/
theorem read6 (c : Dev nD) (f : (b : Ref sig .tc) → Buf (Elt Ideal) ((c : Thread nD τ).loc b)) (t : Fin cfg0.N) (z : S64x864.Idx) :
    (((cfg0.win 6).blk t).view.read (Elt Ideal) (f (Pipeline.arrRef spec0 6)) : Vec Ideal S64x864 .f32) z
      = (f main_v7 : Vec Ideal S64x864 .f32) (((cfg0.win 6).blk t).view.emb z) := rfl

/-- Window 6's block: the flattened weights. -/
theorem block6 (c : Dev nD) (t : Fin cfg0.N) (o : Fin 64) (q : Fin 27) (k : Fin 32) (l : Fin 864) (hl : l.val = 32 * q.val + k.val) :
    (iblk m c 6 t : Vec Ideal S64x864 .f32) (ix2 o l) = wAt (m ((c : Thread nD τ).loc main_arg2)) o k q := by
  obtain ⟨h0, h1⟩ := index6 t
  have e : (((cfg0.win 6).blk t).view.emb (ix2 o l) : S64x864.Idx) = ix2 o l := by
    funext a
    apply Fin.ext
    match a with
    | ⟨0, _⟩ => show win0_6.index t 0 * 64 + 1 * o.val = o.val; omega
    | ⟨1, _⟩ => show win0_6.index t 1 * 864 + 1 * l.val = l.val; omega
  exact (read6 c (V m c) t _).trans ((congrArg _ e).trans ((congrFun (V_weights m c) _).trans (weights_apply rfl _ _ _ o q k l hl)))

/-- Where window 7 reads. -/
theorem index7 : ∀ t : Fin cfg0.N, win0_7.index t 0 = 0 ∧ win0_7.index t 1 = 0 := (by decide +kernel : ∀ t : Fin grid0.N, _)

/-- What window 7 reads of any array contents, at an index. -/
theorem read7 (c : Dev nD) (f : (b : Ref sig .tc) → Buf (Elt Ideal) ((c : Thread nD τ).loc b)) (t : Fin cfg0.N) (z : S64x1.Idx) :
    (((cfg0.win 7).blk t).view.read (Elt Ideal) (f (Pipeline.arrRef spec0 7)) : Vec Ideal S64x1 .f32) z
      = (f main_v8 : Vec Ideal S64x1 .f32) (((cfg0.win 7).blk t).view.emb z) := rfl

/-- Window 7's block: the real bias. -/
theorem block7 (c : Dev nD) (t : Fin cfg0.N) (o : Fin 64) :
    (iblk m c 7 t : Vec Ideal S64x1 .f32) (ix2 o 0) = (m ((c : Thread nD τ).loc main_arg3) : Vec Ideal S64 .f32) (ix1 o) := by
  obtain ⟨h0, h1⟩ := index7 t
  have e : (((cfg0.win 7).blk t).view.emb (ix2 o 0) : S64x1.Idx) = ix2 o 0 := by
    funext a
    apply Fin.ext
    match a with
    | ⟨0, _⟩ => show win0_7.index t 0 * 64 + 1 * o.val = o.val; omega
    | ⟨1, _⟩ => show win0_7.index t 1 * 1 + 1 * 0 = 0; omega
  exact (read7 c (V m c) t _).trans ((congrArg _ e).trans ((congrFun (V_biasR m c) _).trans (col_apply _ _ o)))

/-- Where window 8 reads. -/
theorem index8 : ∀ t : Fin cfg0.N, win0_8.index t 0 = 0 ∧ win0_8.index t 1 = 0 := (by decide +kernel : ∀ t : Fin grid0.N, _)

/-- What window 8 reads of any array contents, at an index. -/
theorem read8 (c : Dev nD) (f : (b : Ref sig .tc) → Buf (Elt Ideal) ((c : Thread nD τ).loc b)) (t : Fin cfg0.N) (z : S64x1.Idx) :
    (((cfg0.win 8).blk t).view.read (Elt Ideal) (f (Pipeline.arrRef spec0 8)) : Vec Ideal S64x1 .f32) z
      = (f main_v9 : Vec Ideal S64x1 .f32) (((cfg0.win 8).blk t).view.emb z) := rfl

/-- Window 8's block: the imaginary bias. -/
theorem block8 (c : Dev nD) (t : Fin cfg0.N) (o : Fin 64) :
    (iblk m c 8 t : Vec Ideal S64x1 .f32) (ix2 o 0) = (m ((c : Thread nD τ).loc main_arg4) : Vec Ideal S64 .f32) (ix1 o) := by
  obtain ⟨h0, h1⟩ := index8 t
  have e : (((cfg0.win 8).blk t).view.emb (ix2 o 0) : S64x1.Idx) = ix2 o 0 := by
    funext a
    apply Fin.ext
    match a with
    | ⟨0, _⟩ => show win0_8.index t 0 * 64 + 1 * o.val = o.val; omega
    | ⟨1, _⟩ => show win0_8.index t 1 * 1 + 1 * 0 = 0; omega
  exact (read8 c (V m c) t _).trans ((congrArg _ e).trans ((congrFun (V_biasI m c) _).trans (col_apply _ _ o)))

/-- Where window 9 reads. -/
theorem index9 : ∀ t : Fin cfg0.N, win0_9.index t 0 = 0 ∧ win0_9.index t 1 = 0 := (by decide +kernel : ∀ t : Fin grid0.N, _)

/-- What window 9 reads of any array contents, at an index. -/
theorem read9 (c : Dev nD) (f : (b : Ref sig .tc) → Buf (Elt Ideal) ((c : Thread nD τ).loc b)) (t : Fin cfg0.N) (z : S32x1.Idx) :
    (((cfg0.win 9).blk t).view.read (Elt Ideal) (f (Pipeline.arrRef spec0 9)) : Vec Ideal S32x1 .f32) z
      = (f main_arg5 : Vec Ideal S32x1 .f32) (((cfg0.win 9).blk t).view.emb z) := rfl

/-- Window 9's block: the scale. -/
theorem block9 (c : Dev nD) (t : Fin cfg0.N) (o : Fin 32) :
    (iblk m c 9 t : Vec Ideal S32x1 .f32) (ix2 o 0) = (m ((c : Thread nD τ).loc main_arg5) : Vec Ideal S32x1 .f32) (ix2 o 0) := by
  obtain ⟨h0, h1⟩ := index9 t
  have e : (((cfg0.win 9).blk t).view.emb (ix2 o 0) : S32x1.Idx) = ix2 o 0 := by
    funext a
    apply Fin.ext
    match a with
    | ⟨0, _⟩ => show win0_9.index t 0 * 32 + 1 * o.val = o.val; omega
    | ⟨1, _⟩ => show win0_9.index t 1 * 1 + 1 * 0 = 0; omega
  exact (read9 c (V m c) t _).trans ((congrArg _ e).trans (congrFun (V_main_arg5 m c) _))

/-- Where window 10 reads. -/
theorem index10 : ∀ t : Fin cfg0.N, win0_10.index t 0 = 0 ∧ win0_10.index t 1 = 0 := (by decide +kernel : ∀ t : Fin grid0.N, _)

/-- What window 10 reads of any array contents, at an index. -/
theorem read10 (c : Dev nD) (f : (b : Ref sig .tc) → Buf (Elt Ideal) ((c : Thread nD τ).loc b)) (t : Fin cfg0.N) (z : S32x1.Idx) :
    (((cfg0.win 10).blk t).view.read (Elt Ideal) (f (Pipeline.arrRef spec0 10)) : Vec Ideal S32x1 .f32) z
      = (f main_arg6 : Vec Ideal S32x1 .f32) (((cfg0.win 10).blk t).view.emb z) := rfl

/-- Window 10's block: the shift. -/
theorem block10 (c : Dev nD) (t : Fin cfg0.N) (o : Fin 32) :
    (iblk m c 10 t : Vec Ideal S32x1 .f32) (ix2 o 0) = (m ((c : Thread nD τ).loc main_arg6) : Vec Ideal S32x1 .f32) (ix2 o 0) := by
  obtain ⟨h0, h1⟩ := index10 t
  have e : (((cfg0.win 10).blk t).view.emb (ix2 o 0) : S32x1.Idx) = ix2 o 0 := by
    funext a
    apply Fin.ext
    match a with
    | ⟨0, _⟩ => show win0_10.index t 0 * 32 + 1 * o.val = o.val; omega
    | ⟨1, _⟩ => show win0_10.index t 1 * 1 + 1 * 0 = 0; omega
  exact (read10 c (V m c) t _).trans ((congrArg _ e).trans (congrFun (V_main_arg6 m c) _))

end Cert.Proof.C1
-- ==== Proof.C1Product.lean ====
/-
  What the call of the layer between the first and the last leaves in its blocks, at an index: the convolution of the
  activated padded input, its biases, and the sums of magnitudes.
-/
module

public import proofs.«01_k».proof.Proof.C1Kernel
public import proofs.«01_k».proof.Proof.C1Blocks

@[expose] public section

noncomputable section

namespace Cert.Proof.C1

open Cert.ConvC1Ideal Cert.ConvC1Ideal.Gen Cert.ConvC1Ideal.Value Idealize.ShloMosaic Idealize.ShloMosaic.TcCoe Idealize.SL.Sem
open Cert.Proof.ConvMath

/-- Twenty seven terms, as a list. -/
theorem ofFn27 {α : Type*} (f : Fin 27 → α) : List.ofFn f = [f 0, f 1, f 2, f 3, f 4, f 5, f 6, f 7, f 8, f 9, f 10, f 11, f 12, f 13, f 14, f 15, f 16, f 17, f 18, f 19, f 20, f 21, f 22, f 23, f 24, f 25, f 26] := by rfl

/-- The corner that a window piece takes lies in its parity plane. -/
theorem hsl : ∀ q : Fin 9, (⟨5, ![32, 2, 2, 9, 9]⟩ : Shape).Slices
    ![0, q.val / 3 % 2, q.val % 3 % 2, q.val / 3 / 2, q.val % 3 / 2] ⟨5, ![32, 1, 1, 8, 8]⟩ := by decide

/-- Piece `q` of the three blocks' pieces. -/
def tapAt (v : Fin 3 → FVec Ideal S32x2x2x9x9 .f32) (q : Fin 27) : (⟨2, ![32, 64]⟩ : Shape).Idx → EReal :=
  tapq (v ⟨q.val / 9, Nat.div_lt_of_lt_mul q.isLt⟩) ⟨q.val % 9, Nat.mod_lt _ (by decide)⟩ (hsl _) shapeCasts_S32x1x1x8x8_S32x8x8
    shapeCasts_S32x8x8_S32x64

/-- The activated real block of depth offset 0, at an index. -/
theorem act_re0 (X Y : Vec Ideal S1x32x1x2x2x9x9 .f32) (x9 x10 : Vec Ideal S32x1 .f32) (k : Fin 32) (i j : Fin 2) (y x : Fin 9) :
    k0_pay13 (k0_pay3 X) (k0_pay6 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The activated imaginary block of depth offset 0, at an index. -/
theorem act_im0 (X Y : Vec Ideal S1x32x1x2x2x9x9 .f32) (x9 x10 : Vec Ideal S32x1 .f32) (k : Fin 32) (i j : Fin 2) (y x : Fin 9) :
    k0_pay14 (k0_pay3 X) (k0_pay6 Y) (k0_pay9 x9) x10 (ix5 k i j y x)
      = actI (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The activated real block of depth offset 1, at an index. -/
theorem act_re1 (X Y : Vec Ideal S1x32x1x2x2x9x9 .f32) (x9 x10 : Vec Ideal S32x1 .f32) (k : Fin 32) (i j : Fin 2) (y x : Fin 9) :
    k0_pay17 (k0_pay4 X) (k0_pay7 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The activated imaginary block of depth offset 1, at an index. -/
theorem act_im1 (X Y : Vec Ideal S1x32x1x2x2x9x9 .f32) (x9 x10 : Vec Ideal S32x1 .f32) (k : Fin 32) (i j : Fin 2) (y x : Fin 9) :
    k0_pay18 (k0_pay4 X) (k0_pay7 Y) (k0_pay9 x9) x10 (ix5 k i j y x)
      = actI (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The activated real block of depth offset 2, at an index. -/
theorem act_re2 (X Y : Vec Ideal S1x32x1x2x2x9x9 .f32) (x9 x10 : Vec Ideal S32x1 .f32) (k : Fin 32) (i j : Fin 2) (y x : Fin 9) :
    k0_pay21 (k0_pay5 X) (k0_pay8 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The activated imaginary block of depth offset 2, at an index. -/
theorem act_im2 (X Y : Vec Ideal S1x32x1x2x2x9x9 .f32) (x9 x10 : Vec Ideal S32x1 .f32) (k : Fin 32) (i j : Fin 2) (y x : Fin 9) :
    k0_pay23 (k0_pay19 (k0_pay5 X) (k0_pay8 Y) (k0_pay9 x9) x10) (k0_pay22 (k0_pay5 X) (k0_pay8 Y)) (ix5 k i j y x)
      = actI (x9 (ix2 k 0)) (x10 (ix2 k 0)) (X (ix7 0 k 0 i j y x)) (Y (ix7 0 k 0 i j y x)) := by
  rw [← dropUnits_apply X shapeCasts_S1x32x1x2x2x9x9_S32x2x2x9x9, ← dropUnits_apply Y shapeCasts_S1x32x1x2x2x9x9_S32x2x2x9x9,
    ← col5_apply x9 shapeCasts_S32x1_S32x1x1x1x1 broadcasts_S32x1x1x1x1_S32x2x2x9x9 k i j y x,
    ← col5_apply x10 shapeCasts_S32x1_S32x1x1x1x1 broadcasts_S32x1x1x1x1_S32x2x2x9x9 k i j y x]
  rfl

/-- The real half of the product is the convolution of the real parts, plus the bias. -/
theorem reOf_apply (r0 i0 r1 i1 r2 i2 : FVec Ideal S32x2x2x9x9 .f32) (x6 : FVec Ideal S64x864 .f32) (x7 : FVec Ideal S64x1 .f32)
    (W : (⟨5, ![64, 32, 3, 3, 3]⟩ : Shape).Idx → EReal)
    (hW : ∀ (o : Fin 64) (q : Fin 27) (k : Fin 32) (l : Fin 864), l.val = 32 * q.val + k.val → x6 (ix2 o l) = wAt W o k q)
    (A : Fin 32 → ℕ → ℕ → ℕ → EReal) (d : ℕ)
    (hA : ∀ (kd : Fin 3) (k : Fin 32) (i j : Fin 2) (y x : Fin 9),
      (![r0, r1, r2] : Fin 3 → FVec Ideal S32x2x2x9x9 .f32) kd (ix5 k i j y x) = A k (d + kd.val) (2 * y.val + i.val) (2 * x.val + j.val))
    (o p : Fin 64) (y x : Fin 8) (hp : p.val = 8 * y.val + x.val) :
    reOf r0 i0 r1 i1 r2 i2 x6 x7 (ix2 o p) = conv A W o d y.val x.val + x7 (ix2 o 0) := by
  unfold reOf k0_pay66
  refine congrArg₂ (· + ·) ?_ (col2_apply x7 shapeCasts_S64x1_S64x1 broadcasts_S64x1_S64x64 o p)
  rw [extractStridedSlice_apply _ _ slices_S64x128_o0_0_S64x64 (ix2 o p) (ix2 o (⟨p.val, by omega⟩ : Fin 128)) (fun a => by
    match a with
    | ⟨0, _⟩ => show o.val = 0 + o.val; omega
    | ⟨1, _⟩ => show p.val = 0 + p.val; omega)]
  unfold k0_pay65
  have hs : shapeCast S64x864 x6 shapeCasts_S64x864_S64x864 = x6 := funext fun z => shapeCast_apply _ _ _ _ rfl
  rw [hs]
  refine matmul_conv (C := 32) (n := 9) (S := 8) (P := 64) dot_S64x864_S864x128_S64x128_1_0_0_1_n_n rfl rfl rfl rfl rfl rfl rfl rfl rfl
    x6 _ ![r0, r1, r2] hsl shapeCasts_S32x1x1x8x8_S32x8x8 shapeCasts_S32x8x8_S32x64 _ y x p hp (fun q k l hl => ?_) W hW A d hA o
  refine (pair_left (Q := 128) _ _ _ l p ⟨p.val, by omega⟩ rfl).trans ?_
  exact cat27_apply (C := 32) (tapAt ![r0, r1, r2]) _ (ofFn27 _).symm _ q k l hl p

/-- The imaginary half of the product is the convolution of the imaginary parts. -/
theorem imOf_apply (r0 i0 r1 i1 r2 i2 : FVec Ideal S32x2x2x9x9 .f32) (x6 : FVec Ideal S64x864 .f32)
    (W : (⟨5, ![64, 32, 3, 3, 3]⟩ : Shape).Idx → EReal)
    (hW : ∀ (o : Fin 64) (q : Fin 27) (k : Fin 32) (l : Fin 864), l.val = 32 * q.val + k.val → x6 (ix2 o l) = wAt W o k q)
    (A : Fin 32 → ℕ → ℕ → ℕ → EReal) (d : ℕ)
    (hA : ∀ (kd : Fin 3) (k : Fin 32) (i j : Fin 2) (y x : Fin 9),
      (![i0, i1, i2] : Fin 3 → FVec Ideal S32x2x2x9x9 .f32) kd (ix5 k i j y x) = A k (d + kd.val) (2 * y.val + i.val) (2 * x.val + j.val))
    (o p : Fin 64) (y x : Fin 8) (hp : p.val = 8 * y.val + x.val) :
    imOf r0 i0 r1 i1 r2 i2 x6 (ix2 o p) = conv A W o d y.val x.val := by
  unfold imOf k0_pay67
  rw [extractStridedSlice_apply _ _ slices_S64x128_o0_64_S64x64 (ix2 o p) (ix2 o (⟨64 + p.val, by omega⟩ : Fin 128)) (fun a => by
    match a with
    | ⟨0, _⟩ => show o.val = 0 + o.val; omega
    | ⟨1, _⟩ => show 64 + p.val = 64 + p.val; omega)]
  unfold k0_pay65
  have hs : shapeCast S64x864 x6 shapeCasts_S64x864_S64x864 = x6 := funext fun z => shapeCast_apply _ _ _ _ rfl
  rw [hs]
  refine matmul_conv (C := 32) (n := 9) (S := 8) (P := 64) dot_S64x864_S864x128_S64x128_1_0_0_1_n_n rfl rfl rfl rfl rfl rfl rfl rfl rfl
    x6 _ ![i0, i1, i2] hsl shapeCasts_S32x1x1x8x8_S32x8x8 shapeCasts_S32x8x8_S32x64 _ y x p hp (fun q k l hl => ?_) W hW A d hA o
  refine (pair_right _ _ _ l p _ rfl).trans ?_
  exact cat27_apply (C := 32) (tapAt ![i0, i1, i2]) _ (ofFn27 _).symm _ q k l hl p

end Cert.Proof.C1
-- ==== Proof.C1Final.lean ====
/-
  What the call of the layer between the first and the last leaves in its three result arrays, at an index: the two
  convolutions of the activated padded input with their biases, and the sums of the magnitudes and of their squares.
-/
module

public import proofs.«01_k».proof.Proof.C1Product
public import Idealize.ShloMosaic.Lib.Pointwise

@[expose] public section

noncomputable section

namespace Cert.Proof.C1

open Cert.ConvC1Ideal Cert.ConvC1Ideal.Gen Cert.ConvC1Ideal.Value Idealize.ShloMosaic Idealize.ShloMosaic.TcCoe Idealize.SL.Sem
open Cert.Proof.ConvMath
open scoped BigOperators

variable (m : (ℓ : Loc nD τ sig) → Buf (Elt Ideal) ℓ)

/-- The real part after the activation of the padded input, at all naturals. -/
def aR (c : Dev nD) (b : Fin 32) (k : Fin 32) (i j l : ℕ) : EReal :=
  actR ((m ((c : Thread nD τ).loc main_arg5) : Vec Ideal S32x1 .f32) (ix2 k 0)) ((m ((c : Thread nD τ).loc main_arg6) : Vec Ideal S32x1 .f32) (ix2 k 0))
    (padAt (m ((c : Thread nD τ).loc main_arg0)) b k i j l) (padAt (m ((c : Thread nD τ).loc main_arg1)) b k i j l)

/-- The imaginary part after the activation of the padded input, at all naturals. -/
def aI (c : Dev nD) (b : Fin 32) (k : Fin 32) (i j l : ℕ) : EReal :=
  actI ((m ((c : Thread nD τ).loc main_arg5) : Vec Ideal S32x1 .f32) (ix2 k 0)) ((m ((c : Thread nD τ).loc main_arg6) : Vec Ideal S32x1 .f32) (ix2 k 0))
    (padAt (m ((c : Thread nD τ).loc main_arg0)) b k i j l) (padAt (m ((c : Thread nD τ).loc main_arg1)) b k i j l)

/-- The real result. -/
def fR (c : Dev nD) (b : Fin 32) (o : Fin 64) (d y x : ℕ) : EReal :=
  conv (aR m c b) (m ((c : Thread nD τ).loc main_arg2)) o d y x + (m ((c : Thread nD τ).loc main_arg3) : Vec Ideal S64 .f32) (ix1 o)

/-- The imaginary result. -/
def fI (c : Dev nD) (b : Fin 32) (o : Fin 64) (d y x : ℕ) : EReal :=
  conv (aI m c b) (m ((c : Thread nD τ).loc main_arg2)) o d y x + (m ((c : Thread nD τ).loc main_arg4) : Vec Ideal S64 .f32) (ix1 o)

/-- The result's magnitude. -/
def fM (c : Dev nD) (b : Fin 32) (o : Fin 64) (d y x : ℕ) : EReal := mag (fR m c b o d y x) (fI m c b o d y x)

/-- The real block at a point, at an index. -/
theorem reAt_apply (c : Dev nD) (t : Fin cfg0.N) (o p : Fin 64) (y x : Fin 8) (hp : p.val = 8 * y.val + x.val) :
    reAt m c t (ix2 o p) = fR m c (batch t) o (t.val % 32) y.val x.val := by
  unfold reAt fR
  refine (reOf_apply _ _ _ _ _ _ _ _ (m ((c : Thread nD τ).loc main_arg2)) (fun o q k l hl => block6 m c t o q k l hl) (aR m c (batch t)) (t.val % 32) ?_ o p y x hp).trans
    (congrArg _ (block7 m c t o))
  intro kd k i j y x
  unfold aR
  fin_cases kd
  · refine (act_re0 _ _ _ _ k i j y x).trans ?_
    rw [block0 m c t k i j y x, block3 m c t k i j y x, block9 m c t k, block10 m c t k]
  · refine (act_re1 _ _ _ _ k i j y x).trans ?_
    rw [block1 m c t k i j y x, block4 m c t k i j y x, block9 m c t k, block10 m c t k]
  · refine (act_re2 _ _ _ _ k i j y x).trans ?_
    rw [block2 m c t k i j y x, block5 m c t k i j y x, block9 m c t k, block10 m c t k]

/-- The imaginary block at a point, with its bias, at an index. -/
theorem imAt_apply (c : Dev nD) (t : Fin cfg0.N) (o p : Fin 64) (y x : Fin 8) (hp : p.val = 8 * y.val + x.val) :
    k0_pay68 (imAt m c t) (iblk m c 8 t) (ix2 o p) = fI m c (batch t) o (t.val % 32) y.val x.val := by
  unfold fI k0_pay68
  refine congrArg₂ (· + ·) ?_ ((col2_apply (iblk m c 8 t) shapeCasts_S64x1_S64x1 broadcasts_S64x1_S64x64 o p).trans (block8 m c t o))
  unfold imAt
  refine imOf_apply _ _ _ _ _ _ _ (m ((c : Thread nD τ).loc main_arg2)) (fun o q k l hl => block6 m c t o q k l hl) (aI m c (batch t)) (t.val % 32) ?_ o p y x hp
  intro kd k i j y x
  unfold aI
  fin_cases kd
  · refine (act_im0 _ _ _ _ k i j y x).trans ?_
    rw [block0 m c t k i j y x, block3 m c t k i j y x, block9 m c t k, block10 m c t k]
  · refine (act_im1 _ _ _ _ k i j y x).trans ?_
    rw [block1 m c t k i j y x, block4 m c t k i j y x, block9 m c t k, block10 m c t k]
  · refine (act_im2 _ _ _ _ k i j y x).trans ?_
    rw [block2 m c t k i j y x, block5 m c t k i j y x, block9 m c t k, block10 m c t k]

/-- The magnitudes at a point, at an index. -/
theorem magAt_apply (c : Dev nD) (t : Fin cfg0.N) (o p : Fin 64) (y x : Fin 8) (hp : p.val = 8 * y.val + x.val) :
    k0_pay71 (reAt m c t) (imAt m c t) (iblk m c 8 t) (ix2 o p) = fM m c (batch t) o (t.val % 32) y.val x.val := by
  unfold fM
  rw [← reAt_apply m c t o p y x hp, ← imAt_apply m c t o p y x hp]
  rfl

/-- A sum over a block's positions, row by row. -/
theorem sum_positions (f : Fin 64 → EReal) (g : ℕ → ℕ → EReal) (h : ∀ (p : Fin 64) (y x : Fin 8), p.val = 8 * y.val + x.val → f p = g y.val x.val) :
    ∑ p, f p = ∑ y : Fin 8, ∑ x : Fin 8, g y.val x.val := by
  rw [← (finProdFinEquiv (m := 8) (n := 8)).sum_comp f, Fintype.sum_prod_type]
  refine Finset.sum_congr rfl fun y _ => Finset.sum_congr rfl fun x _ => h _ y x ?_
  show x.val + 8 * y.val = _
  omega

/-- The first row's step adds the row sum of the magnitudes. -/
theorem step0_apply (u v : FVec Ideal S64x64 .f32) (w : Vec Ideal S64x1 .f32) (old : Vec Ideal S1x64 .f32) (o : Fin 64) :
    k0_pay73 u v w old (ix2 0 o) = old (ix2 0 o) + ∑ p : Fin 64, k0_pay71 u v w (ix2 o p) := by
  unfold k0_pay73
  pointwise

/-- The second row's step adds the row sum of the magnitudes' squares. -/
theorem step1_apply (u v : FVec Ideal S64x64 .f32) (w : Vec Ideal S64x1 .f32) (old : Vec Ideal S1x64 .f32) (o : Fin 64) :
    k0_pay1 (k0_pay74 u v w old) (ix2 0 o) = old (ix2 0 o) + ∑ p : Fin 64, k0_pay71 u v w (ix2 o p) * k0_pay71 u v w (ix2 o p) := by
  unfold k0_pay1 k0_pay74
  pointwise

end Cert.Proof.C1
-- ==== Proof.C1Out.lean ====
/-
  The three result arrays of the call of the layer between the first and the last, at an index.
-/
module

public import proofs.«01_k».proof.Proof.C1Final

@[expose] public section

noncomputable section

namespace Cert.Proof.C1

open Cert.ConvC1Ideal Cert.ConvC1Ideal.Gen Cert.ConvC1Ideal.Value Idealize.ShloMosaic Idealize.ShloMosaic.TcCoe Idealize.SL.Sem
open Cert.Proof.ConvMath
open scoped BigOperators

variable (m : (ℓ : Loc nD τ sig) → Buf (Elt Ideal) ℓ)

/-- What a depth adds to the two sums. -/
def part (c : Dev nD) (b : Fin 32) (r : Fin 2) (o : Fin 64) (d : ℕ) : EReal :=
  if r.val = 0 then ∑ y : Fin 8, ∑ x : Fin 8, fM m c b o d y.val x.val
  else ∑ y : Fin 8, ∑ x : Fin 8, fM m c b o d y.val x.val * fM m c b o d y.val x.val

/-- One step of the running sums, at an index. -/
theorem stepRows_apply (c : Dev nD) (t : Fin cfg0.N) (prev : FVec Ideal S2x64 .f32) (r : Fin 2) (o : Fin 64) :
    stepRows m c t prev (ix2 r o) = prev (ix2 r o) + part m c (batch t) r o (t.val % 32) := by
  unfold stepRows Rows.rows part
  show (if r.val = 0 then _ else _) = _
  by_cases h : r.val = 0
  · have e : r = 0 := Fin.ext h
    subst e
    rw [if_pos h, if_pos h]
    refine (step0_apply _ _ _ _ o).trans (congrArg₂ (· + ·) rfl ?_)
    exact sum_positions _ _ fun p y x hp => magAt_apply m c t o p y x hp
  · have e : r = 1 := Fin.ext (by have := r.isLt; show r.val = 1; omega)
    subst e
    rw [if_neg h, if_neg h]
    refine (step1_apply _ _ _ _ o).trans (congrArg₂ (· + ·) rfl ?_)
    refine sum_positions _ (fun y x => fM m c (batch t) o (t.val % 32) y x * fM m c (batch t) o (t.val % 32) y x) fun p y x hp => ?_
    rw [magAt_apply m c t o p y x hp]

/-- A point of the grid by its batch row and depth. -/
def point (b : Fin 32) (d : ℕ) (hd : d < 32) : Fin cfg0.N := ⟨32 * b.val + d, lt_of_lt_of_eq (by omega) N_0.symm⟩

/-- The batch row of a point. -/
theorem batch_point (b : Fin 32) (d : ℕ) (hd : d < 32) : batch (point b d hd) = b :=
  Fin.ext (by show (32 * b.val + d) / 32 = b.val; omega)

/-- The depth of a point. -/
theorem depth_point (b : Fin 32) (d : ℕ) (hd : d < 32) : (point b d hd).val % 32 = d := by
  show (32 * b.val + d) % 32 = d
  omega

/-- What the points leave depends on the point's number alone. -/
theorem outs_congr (c : Dev nD) (n : ℕ) (hn : n < cfg0.N) (t : Fin cfg0.N) (e : n = t.val) :
    outsAt0 m c n hn = outsAt0 m c t.val t.isLt := by
  subst e; rfl

/-- The running sums after a depth step: the sum of what the depths so far add. -/
theorem scratch_apply (c : Dev nD) (b : Fin 32) (r : Fin 2) (o : Fin 64) (d : ℕ) (hd : d < 32) :
    (outsAt0 m c (point b d hd).val (point b d hd).isLt).2.2.2 (ix2 r o) = ∑ e ∈ Finset.range (d + 1), part m c b r o e := by
  induction d with
  | zero =>
    rw [scr_A m c (point b 0 hd) (depth_point b 0 hd) (by rw [depth_point b 0 hd]; decide), stepRows_apply, batch_point, depth_point,
      Finset.sum_range_one]
    refine (congrArg (· + part m c b r o 0) ?_).trans (zero_add _)
    show shapeCast S2x64 (fun _ => Ideal.ofBits .f32 0x00000000#32) shapeCasts_S2x64_S2x64 (ix2 r o) = 0
    rw [shapeCast_self]
    exact Ideal.ofBits_zero_f32
  | succ d ih =>
    have hd' : d < 32 := by omega
    have h0 : ¬(point b (d + 1) hd).val % 32 = 0 := by rw [depth_point]; omega
    have hs : (outsAt0 m c (point b (d + 1) hd).val (point b (d + 1) hd).isLt).2.2.2
        = stepRows m c (point b (d + 1) hd) (outsAt0 m c (point b d hd').val (point b d hd').isLt).2.2.2 := by
      by_cases h1 : (point b (d + 1) hd).val % 32 = 31
      · exact (scr_C m c _ h0 h1).trans (congrArg (fun z => stepRows m c (point b (d + 1) hd) z.2.2.2) (outs_congr m c _ _ (point b d hd') rfl))
      · exact (scr_B m c _ h0 h1).trans (congrArg (fun z => stepRows m c (point b (d + 1) hd) z.2.2.2) (outs_congr m c _ _ (point b d hd') rfl))
    rw [hs, stepRows_apply, ih hd', batch_point, depth_point, Finset.sum_range_succ _ (d + 1)]

/-- The real block left at a point. -/
theorem out11 (c : Dev nD) (t : Fin cfg0.N) : (outsAt0 m c t.val t.isLt).1 = k0_pay69 (reAt m c t) := by
  by_cases h0 : t.val % 32 = 0
  · exact out11_A m c t h0 (by omega)
  · by_cases h1 : t.val % 32 = 31
    · exact out11_C m c t h0 h1
    · exact out11_B m c t h0 h1

/-- The imaginary block left at a point. -/
theorem out12 (c : Dev nD) (t : Fin cfg0.N) : (outsAt0 m c t.val t.isLt).2.1 = k0_pay70 (imAt m c t) (iblk m c 8 t) := by
  by_cases h0 : t.val % 32 = 0
  · exact out12_A m c t h0 (by omega)
  · by_cases h1 : t.val % 32 = 31
    · exact out12_C m c t h0 h1
    · exact out12_B m c t h0 h1

/-- A real block written out, at an index. -/
theorem pay69_apply (v : FVec Ideal S64x64 .f32) (o : Fin 64) (y x : Fin 8) (p : Fin 64) (hp : p.val = 8 * y.val + x.val) :
    k0_pay69 v (ix5 0 o 0 y x) = v (ix2 o p) := by
  unfold k0_pay69
  exact outBlock_apply (O := 64) (S := 8) (P := 64) (by decide) v _ _ o y x p hp

/-- An imaginary block written out, at an index. -/
theorem pay70_apply (v : FVec Ideal S64x64 .f32) (w : Vec Ideal S64x1 .f32) (o : Fin 64) (y x : Fin 8) (p : Fin 64) (hp : p.val = 8 * y.val + x.val) :
    k0_pay70 v w (ix5 0 o 0 y x) = k0_pay68 v w (ix2 o p) := by
  unfold k0_pay70
  exact outBlock_apply (O := 64) (S := 8) (P := 64) (by decide) (k0_pay68 v w) _ _ o y x p hp

/-- A place of the real result in its block. -/
theorem loc11 (b : Fin 32) (o : Fin 64) (d : Fin 32) (y x : Fin 8) : loc11Of (ix5 b o d y x) = ix5 0 o 0 y x := by
  funext a; apply Fin.ext
  match a with
  | ⟨0, _⟩ => show b.val % 1 = 0; omega
  | ⟨1, _⟩ => show o.val % 64 = o.val; omega
  | ⟨2, _⟩ => show d.val % 1 = 0; omega
  | ⟨3, _⟩ => show y.val % 8 = y.val; omega
  | ⟨4, _⟩ => show x.val % 8 = x.val; omega

/-- The point that writes a place of the real result. -/
theorem pt11 (b : Fin 32) (o : Fin 64) (d : Fin 32) (y x : Fin 8) : pt11Of (ix5 b o d y x) = (point b d.val d.isLt).val := by
  show 32 * (b.val / 1 - 0) + 32 * (o.val / 64 - 0) + 1 * (d.val / 1 - 0) + 1 * (y.val / 8 - 0) + 1 * (x.val / 8 - 0) = 32 * b.val + d.val
  omega

/-- A place of the imaginary result in its block. -/
theorem loc12 (b : Fin 32) (o : Fin 64) (d : Fin 32) (y x : Fin 8) : loc12Of (ix5 b o d y x) = ix5 0 o 0 y x := by
  funext a; apply Fin.ext
  match a with
  | ⟨0, _⟩ => show b.val % 1 = 0; omega
  | ⟨1, _⟩ => show o.val % 64 = o.val; omega
  | ⟨2, _⟩ => show d.val % 1 = 0; omega
  | ⟨3, _⟩ => show y.val % 8 = y.val; omega
  | ⟨4, _⟩ => show x.val % 8 = x.val; omega

/-- The point that writes a place of the imaginary result. -/
theorem pt12 (b : Fin 32) (o : Fin 64) (d : Fin 32) (y x : Fin 8) : pt12Of (ix5 b o d y x) = (point b d.val d.isLt).val := by
  show 32 * (b.val / 1 - 0) + 32 * (o.val / 64 - 0) + 1 * (d.val / 1 - 0) + 1 * (y.val / 8 - 0) + 1 * (x.val / 8 - 0) = 32 * b.val + d.val
  omega

/-- The real result array, from what the writing point leaves. -/
theorem at11 (c : Dev nD) (i : S32x64x32x8x8.Idx) (h : pt11Of i < cfg0.N) :
    G11 m c i = (outsAt0 m c (pt11Of i) h).1 (loc11Of i) := by
  unfold G11
  rw [dif_pos h, outsAt0_sweep]

/-- The real result array. -/
theorem G11_apply (c : Dev nD) (b : Fin 32) (o : Fin 64) (d : Fin 32) (y x : Fin 8) :
    (G11 m c : Vec Ideal S32x64x32x8x8 .f32) (ix5 b o d y x) = fR m c b o d.val y.val x.val := by
  have hp := pt11 b o d y x
  have hlt : pt11Of (ix5 b o d y x) < cfg0.N := lt_of_eq_of_lt hp (point b d.val d.isLt).isLt
  rw [at11 m c (ix5 b o d y x) hlt, outs_congr m c _ hlt _ hp, out11, loc11]
  refine (pay69_apply _ o y x ⟨8 * y.val + x.val, by omega⟩ rfl).trans ?_
  rw [reAt_apply m c _ o _ y x rfl, batch_point, depth_point]

/-- The imaginary result array, from what the writing point leaves. -/
theorem at12 (c : Dev nD) (i : S32x64x32x8x8.Idx) (h : pt12Of i < cfg0.N) :
    G12 m c i = (outsAt0 m c (pt12Of i) h).2.1 (loc12Of i) := by
  unfold G12
  rw [dif_pos h, outsAt0_sweep]

/-- The imaginary result array. -/
theorem G12_apply (c : Dev nD) (b : Fin 32) (o : Fin 64) (d : Fin 32) (y x : Fin 8) :
    (G12 m c : Vec Ideal S32x64x32x8x8 .f32) (ix5 b o d y x) = fI m c b o d.val y.val x.val := by
  have hp := pt12 b o d y x
  have hlt : pt12Of (ix5 b o d y x) < cfg0.N := lt_of_eq_of_lt hp (point b d.val d.isLt).isLt
  rw [at12 m c (ix5 b o d y x) hlt, outs_congr m c _ hlt _ hp, out12, loc12]
  refine (pay70_apply _ _ o y x ⟨8 * y.val + x.val, by omega⟩ rfl).trans ?_
  rw [imAt_apply m c _ o _ y x rfl, batch_point, depth_point]

/-- A place of the sums in their block. -/
theorem loc13 (b : Fin 32) (r : Fin 2) (o : Fin 64) : loc13Of (ix3 b r o) = ix3 0 r o := by
  funext a; apply Fin.ext
  match a with
  | ⟨0, _⟩ => show b.val % 1 = 0; omega
  | ⟨1, _⟩ => show r.val % 2 = r.val; omega
  | ⟨2, _⟩ => show o.val % 64 = o.val; omega

/-- The point that writes a place of the sums. -/
theorem pt13 (b : Fin 32) (r : Fin 2) (o : Fin 64) : pt13Of (ix3 b r o) = (point b 31 (by decide)).val := by
  show 32 * (1 * (b.val / 1 - 0) + 1 * (r.val / 2 - 0) + 1 * (o.val / 64 - 0)) + 31 = 32 * b.val + 31
  omega

/-- The array of sums, from what the writing point leaves. -/
theorem at13 (c : Dev nD) (i : S32x2x64.Idx) (h : pt13Of i < cfg0.N) :
    G13 m c i = (outsAt0 m c (pt13Of i) h).2.2.1 (loc13Of i) := by
  unfold G13
  rw [dif_pos h, outsAt0_sweep]

/-- The array of sums. -/
theorem G13_apply (c : Dev nD) (b : Fin 32) (r : Fin 2) (o : Fin 64) :
    (G13 m c : Vec Ideal S32x2x64 .f32) (ix3 b r o) = ∑ d : Fin 32, part m c b r o d.val := by
  have hp := pt13 b r o
  have h0 : ¬(point b 31 (by decide)).val % 32 = 0 := by rw [depth_point]; decide
  have h1 : (point b 31 (by decide)).val % 32 = 31 := depth_point b 31 (by decide)
  have hlt : pt13Of (ix3 b r o) < cfg0.N := lt_of_eq_of_lt hp (point b 31 (by decide)).isLt
  rw [at13 m c (ix3 b r o) hlt, outs_congr m c _ hlt _ hp, out13_C m c _ h0 h1, loc13, ← scr_C m c _ h0 h1]
  unfold k0_pay2
  refine (shapeCast_apply _ shapeCasts_S2x64_S1x2x64 (ix3 0 r o) (ix2 r o) ?_).trans ?_
  · rw [Shape.rowMajor_val_two, Shape.rowMajor_val_three]
    show r.val * 64 + o.val = (0 * 2 + r.val) * 64 + o.val
    omega
  · rw [scratch_apply m c b r o 31 (by decide), Finset.sum_range]

end Cert.Proof.C1
-- ==== Proof.C1Ref.lean ====
/-
  What the reference of the layer between the first and the last computes, at an index: the convolution of the padded
  activated input as one sum over window positions and input channels, its bias, the magnitudes and their sums.
-/
module

public import proofs.«01_k».proof.Proof.Gen.RefC1Ideal.Run
public import proofs.«01_k».proof.Proof.ConvHost
public import proofs.«01_k».proof.Proof.ConvRef

@[expose] public section

noncomputable section

namespace Cert.Proof.C1Ref

open Cert.RefC1Ideal Cert.RefC1Ideal.Gen Cert.RefC1Ideal.Value Idealize.ShloMosaic Idealize.ShloMosaic.TcCoe Idealize.SL.Sem
open Cert.Proof.ConvMath
open scoped BigOperators

variable (V0 : Valuation τ sig (Elt Ideal))

/-- The activated real input. -/
def actArrR : FVec Ideal S32x32x32x16x16 .f32 := mulf (res_main_v14 V0) (Host.cos (res_main_v6 V0))

/-- The activated imaginary input. -/
def actArrI : FVec Ideal S32x32x32x16x16 .f32 := mulf (res_main_v14 V0) (Host.sin (res_main_v6 V0))

/-- The activated magnitude of the input, at an index. -/
theorem actMag_apply (b : Fin 32) (k : Fin 32) (i : Fin 32) (j l : Fin 16) :
    (res_main_v14 V0 : FVec Ideal S32x32x32x16x16 .f32) (ix5 b k i j l)
      = actMag ((V0 (Proc.devRef .tc main_arg5) : FVec Ideal S32x1 .f32) (ix2 k 0)) ((V0 (Proc.devRef .tc main_arg6) : FVec Ideal S32x1 .f32) (ix2 k 0))
        ((V0 (Proc.devRef .tc main_arg0) : FVec Ideal S32x32x32x16x16 .f32) (ix5 b k i j l)) ((V0 (Proc.devRef .tc main_arg1) : FVec Ideal S32x32x32x16x16 .f32) (ix5 b k i j l)) := by
  unfold res_main_v14 actMag
  refine congrArg₂ (max : EReal → EReal → EReal) (congrArg₂ (· + ·) (congrArg₂ (· * ·) rfl ?_) ?_) rfl
  · exact chan_apply (V0 (Proc.devRef .tc main_arg5)) _ _ b k i j l
  · exact chan_apply (V0 (Proc.devRef .tc main_arg6)) _ _ b k i j l

/-- The activated real input, at an index. -/
theorem actArrR_apply (b : Fin 32) (k : Fin 32) (i : Fin 32) (j l : Fin 16) :
    actArrR V0 (ix5 b k i j l)
      = actR ((V0 (Proc.devRef .tc main_arg5) : FVec Ideal S32x1 .f32) (ix2 k 0)) ((V0 (Proc.devRef .tc main_arg6) : FVec Ideal S32x1 .f32) (ix2 k 0))
        ((V0 (Proc.devRef .tc main_arg0) : FVec Ideal S32x32x32x16x16 .f32) (ix5 b k i j l)) ((V0 (Proc.devRef .tc main_arg1) : FVec Ideal S32x32x32x16x16 .f32) (ix5 b k i j l)) :=
  congrArg₂ (· * ·) (actMag_apply V0 b k i j l) rfl

/-- The activated imaginary input, at an index. -/
theorem actArrI_apply (b : Fin 32) (k : Fin 32) (i : Fin 32) (j l : Fin 16) :
    actArrI V0 (ix5 b k i j l)
      = actI ((V0 (Proc.devRef .tc main_arg5) : FVec Ideal S32x1 .f32) (ix2 k 0)) ((V0 (Proc.devRef .tc main_arg6) : FVec Ideal S32x1 .f32) (ix2 k 0))
        ((V0 (Proc.devRef .tc main_arg0) : FVec Ideal S32x32x32x16x16 .f32) (ix5 b k i j l)) ((V0 (Proc.devRef .tc main_arg1) : FVec Ideal S32x32x32x16x16 .f32) (ix5 b k i j l)) :=
  congrArg₂ (· * ·) (actMag_apply V0 b k i j l) rfl

/-- The pad's value is zero. -/
theorem refZero : (sitofp (F := Ideal) .f32 (constantI S_ 32 0#32)) (Shape.Idx.first h_S_) = 0 := by
  show ((((0#32 : BitVec 32).toInt : ℤ) : ℝ) : EReal) = 0
  simp

/-- The padded real input of the convolution, at an index. -/
theorem padR_apply (b : Fin 32) (k : Fin 32) (i : Fin 34) (j l : Fin 18) :
    (res_main_v19 V0 : FVec Ideal S32x32x34x18x18 .f32) (ix5 b k i j l) = padAt (actArrR V0) b k i.val j.val l.val :=
  pad_apply (actArrR V0) _ _ _ refZero b k i j l

/-- The sum of the first 10 terms of the real convolution, at an index. -/
theorem sumR10 (b : Fin 32) (d : Fin 32) (y x : Fin 8) (o : Fin 64) :
    (res_main_v70 V0 : FVec Ideal S32x32x8x8x64 .f32) (ix5 b d y x o)
      = (0 : EReal) + refT (padAt (actArrR V0)) b (V0 (Proc.devRef .tc main_arg2)) o d.val y.val x.val 0 + refT (padAt (actArrR V0)) b (V0 (Proc.devRef .tc main_arg2)) o d.val y.val x.val 1 + refT (padAt (actArrR V0)) b (V0 (Proc.devRef .tc main_arg2)) o d.val y.val x.val 2 + refT (padAt (actArrR V0)) b (V0 (Proc.devRef .tc main_arg2)) o d.val y.val x.val 3 + refT (padAt (actArrR V0)) b (V0 (Proc.devRef .tc main_arg2)) o d.val y.val x.val 4 + refT (padAt (actArrR V0)) b (V0 (Proc.devRef .tc main_arg2)) o d.val y.val x.val 5 + refT (padAt (actArrR V0)) b (V0 (Proc.devRef .tc main_arg2)) o d.val y.val x.val 6 + refT (padAt (actArrR V0)) b (V0 (Proc.devRef .tc main_arg2)) o d.val y.val x.val 7 + refT (padAt (actArrR V0)) b (V0 (Proc.devRef .tc main_arg2)) o d.val y.val x.val 8 + refT (padAt (actArrR V0)) b (V0 (Proc.devRef .tc main_arg2)) o d.val y.val x.val 9 := by
  unfold res_main_v70
  refine congrArg₂ (· + ·) ?_ (refTerm_apply (f := padAt (actArrR V0)) 1 0 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  exact Ideal.ofBits_zero_f32

/-- The sum of the first 21 terms of the real convolution, at an index. -/
theorem sumR21 (b : Fin 32) (d : Fin 32) (y x : Fin 8) (o : Fin 64) :
    (res_main_v125 V0 : FVec Ideal S32x32x8x8x64 .f32) (ix5 b d y x o)
      = (0 : EReal) + refT (padAt (actArrR V0)) b (V0 (Proc.devRef .tc main_arg2)) o d.val y.val x.val 0 + refT (padAt (actArrR V0)) b (V0 (Proc.devRef .tc main_arg2)) o d.val y.val x.val 1 + refT (padAt (actArrR V0)) b (V0 (Proc.devRef .tc main_arg2)) o d.val y.val x.val 2 + refT (padAt (actArrR V0)) b (V0 (Proc.devRef .tc main_arg2)) o d.val y.val x.val 3 + refT (padAt (actArrR V0)) b (V0 (Proc.devRef .tc main_arg2)) o d.val y.val x.val 4 + refT (padAt (actArrR V0)) b (V0 (Proc.devRef .tc main_arg2)) o d.val y.val x.val 5 + refT (padAt (actArrR V0)) b (V0 (Proc.devRef .tc main_arg2)) o d.val y.val x.val 6 + refT (padAt (actArrR V0)) b (V0 (Proc.devRef .tc main_arg2)) o d.val y.val x.val 7 + refT (padAt (actArrR V0)) b (V0 (Proc.devRef .tc main_arg2)) o d.val y.val x.val 8 + refT (padAt (actArrR V0)) b (V0 (Proc.devRef .tc main_arg2)) o d.val y.val x.val 9 + refT (padAt (actArrR V0)) b (V0 (Proc.devRef .tc main_arg2)) o d.val y.val x.val 10 + refT (padAt (actArrR V0)) b (V0 (Proc.devRef .tc main_arg2)) o d.val y.val x.val 11 + refT (padAt (actArrR V0)) b (V0 (Proc.devRef .tc main_arg2)) o d.val y.val x.val 12 + refT (padAt (actArrR V0)) b (V0 (Proc.devRef .tc main_arg2)) o d.val y.val x.val 13 + refT (padAt (actArrR V0)) b (V0 (Proc.devRef .tc main_arg2)) o d.val y.val x.val 14 + refT (padAt (actArrR V0)) b (V0 (Proc.devRef .tc main_arg2)) o d.val y.val x.val 15 + refT (padAt (actArrR V0)) b (V0 (Proc.devRef .tc main_arg2)) o d.val y.val x.val 16 + refT (padAt (actArrR V0)) b (V0 (Proc.devRef .tc main_arg2)) o d.val y.val x.val 17 + refT (padAt (actArrR V0)) b (V0 (Proc.devRef .tc main_arg2)) o d.val y.val x.val 18 + refT (padAt (actArrR V0)) b (V0 (Proc.devRef .tc main_arg2)) o d.val y.val x.val 19 + refT (padAt (actArrR V0)) b (V0 (Proc.devRef .tc main_arg2)) o d.val y.val x.val 20 := by
  unfold res_main_v125
  refine congrArg₂ (· + ·) ?_ (refTerm_apply (f := padAt (actArrR V0)) 2 0 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 0 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 0 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 0 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 0 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  exact sumR10 V0 b d y x o

/-- The real convolution with its bias, at an index. -/
theorem resR_apply (b : Fin 32) (o : Fin 64) (d : Fin 32) (y x : Fin 8) :
    (res_main_v159 V0 : FVec Ideal S32x64x32x8x8 .f32) (ix5 b o d y x)
      = conv (padAt (actArrR V0) b) (V0 (Proc.devRef .tc main_arg2)) o d.val y.val x.val + (V0 (Proc.devRef .tc main_arg3) : FVec Ideal S64 .f32) (ix1 o) := by
  unfold res_main_v159
  refine congrArg₂ (· + ·) ?_ (bias_apply (V0 (Proc.devRef .tc main_arg3)) _ _ b o d y x)
  refine (toFront_apply _ _ b o d y x).trans ?_
  rw [← refT_sum]
  refine congrArg₂ (· + ·) ?_ (refTerm_apply (f := padAt (actArrR V0)) 2 2 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 2 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 2 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 2 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 1 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 0 dot_S32x32x32x8x8_S64x32_S32x32x8x8x64_1_1_0234_0_n_n rfl rfl rfl rfl rfl rfl
    (res_main_v19 V0) (padR_apply V0) _ (V0 (Proc.devRef .tc main_arg2)) _ _ (by decide) (by decide) (by decide) b d y x o)
  exact sumR21 V0 b d y x o

/-- The padded imaginary input of the convolution, at an index. -/
theorem padI_apply (b : Fin 32) (k : Fin 32) (i : Fin 34) (j l : Fin 18) :
    (res_main_v160 V0 : FVec Ideal S32x32x34x18x18 .f32) (ix5 b k i j l) = padAt (actArrI V0) b k i.val j.val l.val :=
  pad_apply (actArrI V0) _ _ _ refZero b k i j l

/-- The sum of the first 10 terms of the imaginary convolution, at an index. -/
theorem sumI10 (b : Fin 32) (d : Fin 32) (y x : Fin 8) (o : Fin 64) :
    (res_main_v211 V0 : FVec Ideal S32x32x8x8x64 .f32) (ix5 b d y x o)
      = (0 : EReal) + refT (padAt (actArrI V0)) b (V0 (Proc.devRef .tc main_arg2)) o d.val y.val x.val 0 + refT (padAt (actArrI V0)) b (V0 (Proc.devRef .tc main_arg2)) o d.val y.val x.val 1 + refT (padAt (actArrI V0)) b (V0 (Proc.devRef .tc main_arg2)) o d.val y.val x.val 2 + refT (padAt (actArrI V0)) b (V0 (Proc.devRef .tc main_arg2)) o d.val y.val x.val 3 + refT (padAt (actArrI V0)) b (V0 (Proc.devRef .tc main_arg2)) o d.val y.val x.val 4 + refT (padAt (actArrI V0)) b (V0 (Proc.devRef .tc main_arg2)) o d.val y.val x.val 5 + refT (padAt (actArrI V0)) b (V0 (Proc.devRef .tc main_arg2)) o d.val y.val x.val 6 + refT (padAt (actArrI V0)) b (V0 (Proc.devRef .tc main_arg2)) o d.val y.val x.val 7 + refT (padAt (actArrI V0)) b (V0 (Proc.devRef .tc main_arg2)) o d.val y.val x.val 8 + refT (padAt (actArrI V0)) b (V0 (Proc.devRef .tc main_arg2)) o d.val y.val x.val 9 := by
  unfold res_main_v211
  refine congrArg₂ (· + ·) ?_ (refTerm_apply (f := padAt (actArrI V0)) 1 0 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  exact Ideal.ofBits_zero_f32

/-- The sum of the first 21 terms of the imaginary convolution, at an index. -/
theorem sumI21 (b : Fin 32) (d : Fin 32) (y x : Fin 8) (o : Fin 64) :
    (res_main_v266 V0 : FVec Ideal S32x32x8x8x64 .f32) (ix5 b d y x o)
      = (0 : EReal) + refT (padAt (actArrI V0)) b (V0 (Proc.devRef .tc main_arg2)) o d.val y.val x.val 0 + refT (padAt (actArrI V0)) b (V0 (Proc.devRef .tc main_arg2)) o d.val y.val x.val 1 + refT (padAt (actArrI V0)) b (V0 (Proc.devRef .tc main_arg2)) o d.val y.val x.val 2 + refT (padAt (actArrI V0)) b (V0 (Proc.devRef .tc main_arg2)) o d.val y.val x.val 3 + refT (padAt (actArrI V0)) b (V0 (Proc.devRef .tc main_arg2)) o d.val y.val x.val 4 + refT (padAt (actArrI V0)) b (V0 (Proc.devRef .tc main_arg2)) o d.val y.val x.val 5 + refT (padAt (actArrI V0)) b (V0 (Proc.devRef .tc main_arg2)) o d.val y.val x.val 6 + refT (padAt (actArrI V0)) b (V0 (Proc.devRef .tc main_arg2)) o d.val y.val x.val 7 + refT (padAt (actArrI V0)) b (V0 (Proc.devRef .tc main_arg2)) o d.val y.val x.val 8 + refT (padAt (actArrI V0)) b (V0 (Proc.devRef .tc main_arg2)) o d.val y.val x.val 9 + refT (padAt (actArrI V0)) b (V0 (Proc.devRef .tc main_arg2)) o d.val y.val x.val 10 + refT (padAt (actArrI V0)) b (V0 (Proc.devRef .tc main_arg2)) o d.val y.val x.val 11 + refT (padAt (actArrI V0)) b (V0 (Proc.devRef .tc main_arg2)) o d.val y.val x.val 12 + refT (padAt (actArrI V0)) b (V0 (Proc.devRef .tc main_arg2)) o d.val y.val x.val 13 + refT (padAt (actArrI V0)) b (V0 (Proc.devRef .tc main_arg2)) o d.val y.val x.val 14 + refT (padAt (actArrI V0)) b (V0 (Proc.devRef .tc main_arg2)) o d.val y.val x.val 15 + refT (padAt (actArrI V0)) b (V0 (Proc.devRef .tc main_arg2)) o d.val y.val x.val 16 + refT (padAt (actArrI V0)) b (V0 (Proc.devRef .tc main_arg2)) o d.val y.val x.val 17 + refT (padAt (actArrI V0)) b (V0 (Proc.devRef .tc main_arg2)) o d.val y.val x.val 18 + refT (padAt (actArrI V0)) b (V0 (Proc.devRef .tc main_arg2)) o d.val y.val x.val 19 + refT (padAt (actArrI V0)) b (V0 (Proc.devRef .tc main_arg2)) o d.val y.val x.val 20 := by
  unfold res_main_v266
  refine congrArg₂ (· + ·) ?_ (refTerm_apply (f := padAt (actArrI V0)) 2 0 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 0 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 0 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 0 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 0 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  exact sumI10 V0 b d y x o

/-- The imaginary convolution with its bias, at an index. -/
theorem resI_apply (b : Fin 32) (o : Fin 64) (d : Fin 32) (y x : Fin 8) :
    (res_main_v300 V0 : FVec Ideal S32x64x32x8x8 .f32) (ix5 b o d y x)
      = conv (padAt (actArrI V0) b) (V0 (Proc.devRef .tc main_arg2)) o d.val y.val x.val + (V0 (Proc.devRef .tc main_arg4) : FVec Ideal S64 .f32) (ix1 o) := by
  unfold res_main_v300
  refine congrArg₂ (· + ·) ?_ (bias_apply (V0 (Proc.devRef .tc main_arg4)) _ _ b o d y x)
  refine (toFront_apply _ _ b o d y x).trans ?_
  rw [← refT_sum]
  refine congrArg₂ (· + ·) ?_ (refTerm_apply (f := padAt (actArrI V0)) 2 2 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 2 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 2 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 2 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 1 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 0 dot_S32x32x32x8x8_S64x32_S32x32x8x8x64_1_1_0234_0_n_n rfl rfl rfl rfl rfl rfl
    (res_main_v160 V0) (padI_apply V0) _ (V0 (Proc.devRef .tc main_arg2)) _ _ (by decide) (by decide) (by decide) b d y x o)
  exact sumI21 V0 b d y x o

/-- The magnitudes of the result. -/
def arrM : FVec Ideal S32x64x32x8x8 .f32 := res_main_v306 V0

/-- The magnitude of the result, at an index. -/
theorem resM_apply (b : Fin 32) (o : Fin 64) (d : Fin 32) (y x : Fin 8) :
    arrM V0 (ix5 b o d y x)
      = mag ((res_main_v159 V0 : FVec Ideal S32x64x32x8x8 .f32) (ix5 b o d y x))
        ((res_main_v300 V0 : FVec Ideal S32x64x32x8x8 .f32) (ix5 b o d y x)) := by
  unfold arrM res_main_v306 mag
  generalize res_main_v159 V0 = u
  generalize res_main_v300 V0 = v
  rfl

/-- The array of the two sums, at an index. -/
theorem resS_apply (b : Fin 32) (r : Fin 2) (o : Fin 64) :
    (concatenate S32x2x64 1 [⟨S32x1x64, (broadcastInDim S32x1x64 ![0, 2] bcast_S32x64_S32x1x64_0_2 (Host.reduceAdd (res_main_v306 V0) (constant S_ .f32 0x00000000#32) reducesTo_S32x64x32x8x8_S32x64_d2_3_4 h_S_))⟩,
        ⟨S32x1x64, (broadcastInDim S32x1x64 ![0, 2] bcast_S32x64_S32x1x64_0_2 (Host.reduceAdd (mulf (res_main_v306 V0) (res_main_v306 V0)) (constant S_ .f32 0x00000000#32) reducesTo_S32x64x32x8x8_S32x64_d2_3_4 h_S_))⟩]
        concatenates_S32x1x64_S32x1x64_S32x2x64_d1 : FVec Ideal S32x2x64 .f32) (ix3 b r o)
      = if r.val = 0 then ∑ d : Fin 32, ∑ y : Fin 8, ∑ x : Fin 8, arrM V0 (ix5 b o d y x)
        else ∑ d : Fin 32, ∑ y : Fin 8, ∑ x : Fin 8, arrM V0 (ix5 b o d y x) * arrM V0 (ix5 b o d y x) := by
  refine (stack_apply _ _ _ _ b r o).trans ?_
  refine ite_congr rfl (fun _ => total_apply (arrM V0) _ _ b o) (fun _ => total_apply (mulf (arrM V0) (arrM V0)) _ _ b o)

end Cert.Proof.C1Ref
-- ==== Proof.C1.lean ====
/-
  The call of the layer between the first and the last against its reference: equal results from equal arguments, where
  the activation leaves zero at zero.
-/
module

public import proofs.«01_k».proof.Defs
public import proofs.«01_k».proof.Proof.C1Out
public import proofs.«01_k».proof.Proof.C1Ref
public import proofs.«01_k».proof.Proof.Padding
public import proofs.«01_k».proof.Proof.Gen.Pre_padding_inactive

@[expose] public section

noncomputable section

namespace Cert.Proof.C1

open Cert.ConvC1Ideal Cert.ConvC1Ideal.Gen Cert.ConvC1Ideal.Value Idealize.ShloMosaic Idealize.ShloMosaic.TcCoe Idealize.SL.Sem
open Idealize.ShloMosaic.StableHlo
open Cert.Proof.ConvMath
open scoped BigOperators

variable (m : (ℓ : Loc nD τ sig) → Buf (Elt Ideal) ℓ)

/-- What the precondition says of a channel's scale and shift. -/
theorem inactive (hpre : Cert.Pre_ConvC1Ideal_padding_inactive (hPre_padding_inactive := Cert.Pre_padding_inactive.Gen.facts) m)
    (c : Dev nD) (k : Fin 32) :
    Inactive ((m ((c : Thread nD τ).loc main_arg5) : Vec Ideal S32x1 .f32) (ix2 k 0))
      ((m ((c : Thread nD τ).loc main_arg6) : Vec Ideal S32x1 .f32) (ix2 k 0)) := by
  have h := le_of_cmp (congrFun (hpre c) (ix2 k 0))
  exact h.trans_eq Ideal.ofBits_zero_f32

section agree

variable (V0 : Valuation Cert.RefC1Ideal.τ Cert.RefC1Ideal.sig (Elt Ideal)) (c : Dev nD)

/-- The reference's arguments are the kernel's. -/
structure Same : Prop where
  h0 : V0 (Proc.devRef .tc Cert.RefC1Ideal.main_arg0) = m ((c : Thread nD τ).loc main_arg0)
  h1 : V0 (Proc.devRef .tc Cert.RefC1Ideal.main_arg1) = m ((c : Thread nD τ).loc main_arg1)
  h2 : V0 (Proc.devRef .tc Cert.RefC1Ideal.main_arg2) = m ((c : Thread nD τ).loc main_arg2)
  h3 : V0 (Proc.devRef .tc Cert.RefC1Ideal.main_arg3) = m ((c : Thread nD τ).loc main_arg3)
  h4 : V0 (Proc.devRef .tc Cert.RefC1Ideal.main_arg4) = m ((c : Thread nD τ).loc main_arg4)
  h5 : V0 (Proc.devRef .tc Cert.RefC1Ideal.main_arg5) = m ((c : Thread nD τ).loc main_arg5)
  h6 : V0 (Proc.devRef .tc Cert.RefC1Ideal.main_arg6) = m ((c : Thread nD τ).loc main_arg6)

variable {V0} {c} {m}
variable (hV : Same m V0 c)
variable (hin : ∀ k : Fin 32, Inactive ((m ((c : Thread nD τ).loc main_arg5) : Vec Ideal S32x1 .f32) (ix2 k 0))
      ((m ((c : Thread nD τ).loc main_arg6) : Vec Ideal S32x1 .f32) (ix2 k 0)))

include hV hin

/-- The kernel's activated real part is the reference's. -/
theorem aR_eq (b : Fin 32) : aR m c b = padAt (C1Ref.actArrR V0) b := by
  funext k i j l
  refine actR_pad _ _ (C1Ref.actArrR V0) (fun k => (m ((c : Thread nD τ).loc main_arg5) : Vec Ideal S32x1 .f32) (ix2 k 0))
    (fun k => (m ((c : Thread nD τ).loc main_arg6) : Vec Ideal S32x1 .f32) (ix2 k 0)) hin b (fun k i j l => ?_) k i j l
  refine (C1Ref.actArrR_apply V0 b k i j l).trans ?_
  rw [hV.h0, hV.h1, hV.h5, hV.h6]

/-- The kernel's activated imaginary part is the reference's. -/
theorem aI_eq (b : Fin 32) : aI m c b = padAt (C1Ref.actArrI V0) b := by
  funext k i j l
  refine actI_pad _ _ (C1Ref.actArrI V0) (fun k => (m ((c : Thread nD τ).loc main_arg5) : Vec Ideal S32x1 .f32) (ix2 k 0))
    (fun k => (m ((c : Thread nD τ).loc main_arg6) : Vec Ideal S32x1 .f32) (ix2 k 0)) hin b (fun k i j l => ?_) k i j l
  refine (C1Ref.actArrI_apply V0 b k i j l).trans ?_
  rw [hV.h0, hV.h1, hV.h5, hV.h6]

/-- The real results, at an index. -/
theorem fR_eq (b : Fin 32) (o : Fin 64) (d : Fin 32) (y x : Fin 8) :
    (Cert.RefC1Ideal.Value.res_main_v159 V0 : FVec Ideal S32x64x32x8x8 .f32) (ix5 b o d y x) = fR m c b o d.val y.val x.val := by
  refine (C1Ref.resR_apply V0 b o d y x).trans ?_
  unfold fR
  rw [aR_eq hV hin b, hV.h2, hV.h3]

/-- The imaginary results, at an index. -/
theorem fI_eq (b : Fin 32) (o : Fin 64) (d : Fin 32) (y x : Fin 8) :
    (Cert.RefC1Ideal.Value.res_main_v300 V0 : FVec Ideal S32x64x32x8x8 .f32) (ix5 b o d y x) = fI m c b o d.val y.val x.val := by
  refine (C1Ref.resI_apply V0 b o d y x).trans ?_
  unfold fI
  rw [aI_eq hV hin b, hV.h2, hV.h4]

/-- The magnitudes of the results, at an index. -/
theorem fM_eq (b : Fin 32) (o : Fin 64) (d : Fin 32) (y x : Fin 8) :
    C1Ref.arrM V0 (ix5 b o d y x) = fM m c b o d.val y.val x.val := by
  refine (C1Ref.resM_apply V0 b o d y x).trans ?_
  unfold fM
  rw [fR_eq hV hin, fI_eq hV hin]

/-- The real result arrays are equal. -/
theorem out0 : (Cert.RefC1Ideal.Value.res_main_v159 V0 : FVec Ideal S32x64x32x8x8 .f32) = G11 m c := by
  funext i
  obtain ⟨b, o, d, y, x, rfl⟩ := exists_ix5 i
  exact (fR_eq hV hin b o d y x).trans (G11_apply m c b o d y x).symm

/-- The imaginary result arrays are equal. -/
theorem out1 : (Cert.RefC1Ideal.Value.res_main_v300 V0 : FVec Ideal S32x64x32x8x8 .f32) = G12 m c := by
  funext i
  obtain ⟨b, o, d, y, x, rfl⟩ := exists_ix5 i
  exact (fI_eq hV hin b o d y x).trans (G12_apply m c b o d y x).symm

/-- The sums of the magnitudes and of their squares, at an index. -/
theorem sums_eq (b : Fin 32) (r : Fin 2) (o : Fin 64) :
    (if r.val = 0 then ∑ d : Fin 32, ∑ y : Fin 8, ∑ x : Fin 8, C1Ref.arrM V0 (ix5 b o d y x)
      else ∑ d : Fin 32, ∑ y : Fin 8, ∑ x : Fin 8, C1Ref.arrM V0 (ix5 b o d y x) * C1Ref.arrM V0 (ix5 b o d y x))
      = ∑ d : Fin 32, part m c b r o d.val := by
  unfold part
  split
  · refine Finset.sum_congr rfl fun d _ => Finset.sum_congr rfl fun y _ => Finset.sum_congr rfl fun x _ => ?_
    rw [fM_eq hV hin]
  · refine Finset.sum_congr rfl fun d _ => Finset.sum_congr rfl fun y _ => Finset.sum_congr rfl fun x _ => ?_
    rw [fM_eq hV hin]

end agree

/-- The reference runs to an end and leaves its arguments unchanged. -/
theorem frame_ref : Cert.quiescent_RefC1Ideal (hRefC1Ideal := Cert.RefC1Ideal.Gen.facts) := fun m g _ =>
  (θ_run (Cert.RefC1Ideal.defs (F := Ideal)) _ _).mono
    (fun r h => ⟨fun c => (h c).2.2.2, sem_eq_zero_of_no_sems (by decide) r.2⟩) (Cert.RefC1Ideal.Value.run (F := Ideal) m g)

/-- The claim about the call: its results are the reference's. -/
theorem algebraic : Cert.algebraic_ConvC1Ideal_RefC1Ideal_pre_padding_inactive (hConvC1Ideal := Cert.ConvC1Ideal.Gen.facts)
    (hRefC1Ideal := Cert.RefC1Ideal.Gen.facts) (hPre_padding_inactive := Cert.Pre_padding_inactive.Gen.facts) := by
  intro m g m' g' hpre hargs
  refine ⟨fun c => G11 m c, fun c => G12 m c, fun c => G13 m c, run m g, ?_⟩
  refine (θ_run (Cert.RefC1Ideal.defs (F := Ideal)) _ _).mono (fun r h c => ?_) (Cert.RefC1Ideal.Value.run (F := Ideal) m' g')
  obtain ⟨a0, a1, a2, a3, a4, a5, a6⟩ := hargs c
  have hV : Same m (launchContents m' c) c := ⟨a0, a1, a2, a3, a4, a5, a6⟩
  have hin := inactive m hpre c
  obtain ⟨h0, h1, h2, hk⟩ := h c
  refine ⟨h0.trans (out0 hV hin), h1.trans (out1 hV hin), h2.trans ?_, hk⟩
  funext i
  obtain ⟨b, r, o, rfl⟩ := exists_ix3 i
  refine (C1Ref.resS_apply (launchContents m' c) b r o).trans ?_
  exact (sums_eq hV hin b r o).trans (G13_apply m c b r o).symm

end Cert.Proof.C1
-- ==== Proof.C2Kernel.lean ====
/-
  What the call of the last layer leaves in its blocks at each grid point, as functions of
  the blocks it reads: the two convolution blocks at every depth step, the running sums of the magnitudes, and the
  block of sums at the last depth step.
-/
module

public import proofs.«01_k».proof.Proof.Gen.ConvC2Ideal.Value
public import proofs.«01_k».proof.Proof.Rows

@[expose] public section

noncomputable section

namespace Cert.Proof.C2

open Cert.ConvC2Ideal Cert.ConvC2Ideal.Gen Cert.ConvC2Ideal.Value Idealize.ShloMosaic Idealize.ShloMosaic.TcCoe Idealize.SL.Sem

variable {F : FTy → Type} [FloatOps F]

/-- The zero offsets of a load of a whole block, at the ranks that occur. -/
theorem hz2 : (![0, 0] : Fin 2 → ℕ) = fun _ => 0 := by funext a; fin_cases a <;> rfl
/-- The same at rank three. -/
theorem hz3 : (![0, 0, 0] : Fin 3 → ℕ) = fun _ => 0 := by funext a; fin_cases a <;> rfl
/-- The same at rank five. -/
theorem hz5 : (![0, 0, 0, 0, 0] : Fin 5 → ℕ) = fun _ => 0 := by funext a; fin_cases a <;> rfl
/-- The same at rank seven. -/
theorem hz7 : (![0, 0, 0, 0, 0, 0, 0] : Fin 7 → ℕ) = fun _ => 0 := by funext a; fin_cases a <;> rfl

/-- The product's real half, from the six activated input blocks (real and imaginary, of the three depths). -/
def reOf (r0 i0 r1 i1 r2 i2 : FVec F S64x2x2x5x5 .f32) (x6 : FVec F S64x1728 .f32) (x7 : FVec F S64x1 .f32) : FVec F S64x16 .f32 :=
  k0_pay66
    r2 i2 (k0_pay24 r0) (k0_pay25 i0) (k0_pay26 r0) (k0_pay27 i0) (k0_pay28 r0) (k0_pay29 i0) (k0_pay30 r0)
    (k0_pay31 i0) (k0_pay32 r0) (k0_pay33 i0) (k0_pay34 r0) (k0_pay35 i0) (k0_pay36 r0) (k0_pay37 i0) (k0_pay38 r0)
    (k0_pay39 i0) (k0_pay40 r0) (k0_pay41 i0) (k0_pay42 r1) (k0_pay44 (k0_pay43 i1)) (k0_pay45 r1) (k0_pay46 i1)
    (k0_pay47 r1) (k0_pay48 i1) (k0_pay49 r1) (k0_pay50 i1) (k0_pay51 r1) (k0_pay52 i1) (k0_pay53 r1) (k0_pay54 i1)
    (k0_pay55 r1) (k0_pay56 i1) (k0_pay57 r1) (k0_pay58 i1) (k0_pay59 r1) (k0_pay60 i1) (k0_pay61 r2) (k0_pay62 i2)
    (k0_pay63 r2) (k0_pay64 i2)
    x6 x7

/-- The product's imaginary half, before its bias. -/
def imOf (r0 i0 r1 i1 r2 i2 : FVec F S64x2x2x5x5 .f32) (x6 : FVec F S64x1728 .f32) : FVec F S64x16 .f32 :=
  k0_pay67
    r2 i2 (k0_pay24 r0) (k0_pay25 i0) (k0_pay26 r0) (k0_pay27 i0) (k0_pay28 r0) (k0_pay29 i0) (k0_pay30 r0)
    (k0_pay31 i0) (k0_pay32 r0) (k0_pay33 i0) (k0_pay34 r0) (k0_pay35 i0) (k0_pay36 r0) (k0_pay37 i0) (k0_pay38 r0)
    (k0_pay39 i0) (k0_pay40 r0) (k0_pay41 i0) (k0_pay42 r1) (k0_pay44 (k0_pay43 i1)) (k0_pay45 r1) (k0_pay46 i1)
    (k0_pay47 r1) (k0_pay48 i1) (k0_pay49 r1) (k0_pay50 i1) (k0_pay51 r1) (k0_pay52 i1) (k0_pay53 r1) (k0_pay54 i1)
    (k0_pay55 r1) (k0_pay56 i1) (k0_pay57 r1) (k0_pay58 i1) (k0_pay59 r1) (k0_pay60 i1) (k0_pay61 r2) (k0_pay62 i2)
    (k0_pay63 r2) (k0_pay64 i2)
    x6

variable (m : (ℓ : Loc nD τ sig) → Buf (Elt F) ℓ)

/-- The real convolution block (with its bias) at a grid point, from the blocks read there. -/
def reAt (c : Dev nD) (t : Fin cfg0.N) : FVec F S64x16 .f32 :=
  let x0 := iblk m c 0 t; let x1 := iblk m c 1 t; let x2 := iblk m c 2 t; let x3 := iblk m c 3 t; let x4 := iblk m c 4 t
  let x5 := iblk m c 5 t; let x6 := iblk m c 6 t; let x7 := iblk m c 7 t; let x9 := iblk m c 9 t; let x10 := iblk m c 10 t
  reOf (k0_pay13 (k0_pay3 x0) (k0_pay6 x3) (k0_pay9 x9) x10) (k0_pay14 (k0_pay3 x0) (k0_pay6 x3) (k0_pay9 x9) x10)
    (k0_pay17 (k0_pay4 x1) (k0_pay7 x4) (k0_pay9 x9) x10) (k0_pay18 (k0_pay4 x1) (k0_pay7 x4) (k0_pay9 x9) x10)
    (k0_pay21 (k0_pay5 x2) (k0_pay8 x5) (k0_pay9 x9) x10)
    (k0_pay23 (k0_pay19 (k0_pay5 x2) (k0_pay8 x5) (k0_pay9 x9) x10) (k0_pay22 (k0_pay5 x2) (k0_pay8 x5)))
    x6 x7

/-- The imaginary convolution block (without its bias) at a grid point, from the blocks read there. -/
def imAt (c : Dev nD) (t : Fin cfg0.N) : FVec F S64x16 .f32 :=
  let x0 := iblk m c 0 t; let x1 := iblk m c 1 t; let x2 := iblk m c 2 t; let x3 := iblk m c 3 t; let x4 := iblk m c 4 t
  let x5 := iblk m c 5 t; let x6 := iblk m c 6 t; let x9 := iblk m c 9 t; let x10 := iblk m c 10 t
  imOf (k0_pay13 (k0_pay3 x0) (k0_pay6 x3) (k0_pay9 x9) x10) (k0_pay14 (k0_pay3 x0) (k0_pay6 x3) (k0_pay9 x9) x10)
    (k0_pay17 (k0_pay4 x1) (k0_pay7 x4) (k0_pay9 x9) x10) (k0_pay18 (k0_pay4 x1) (k0_pay7 x4) (k0_pay9 x9) x10)
    (k0_pay21 (k0_pay5 x2) (k0_pay8 x5) (k0_pay9 x9) x10)
    (k0_pay23 (k0_pay19 (k0_pay5 x2) (k0_pay8 x5) (k0_pay9 x9) x10) (k0_pay22 (k0_pay5 x2) (k0_pay8 x5)))
    x6

/-- One step of the two running sums: the magnitudes' row sums added to the first row, their squares' to the second. -/
def stepRows (c : Dev nD) (t : Fin cfg0.N) (prev : FVec F S2x64 .f32) : FVec F S2x64 .f32 :=
  Rows.rows (Val := Elt F) (e := .f32) (k0_pay73 (reAt m c t) (imAt m c t) (iblk m c 8 t) (Rows.row (Val := Elt F) (e := .f32) 0 prev))
    (k0_pay1 (k0_pay74 (reAt m c t) (imAt m c t) (iblk m c 8 t) (Rows.row (Val := Elt F) (e := .f32) 1 prev)))

/-- The real block left at a first depth step. -/
theorem out11_A (c : Dev nD) (t : Fin cfg0.N) (h0 : t.val % 32 = 0) (h1 : ¬t.val % 32 = 31) :
    (outsAt0 m c t.val t.isLt).1 = k0_pay69 (reAt m c t) := by
  rw [outsAt0_A m c t h0 h1]
  dsimp only
  unfold out0_A_11
  rw [View.read_writes_eq_canon _ _ _ (cover0_A_11 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The imaginary block left at a first depth step. -/
theorem out12_A (c : Dev nD) (t : Fin cfg0.N) (h0 : t.val % 32 = 0) (h1 : ¬t.val % 32 = 31) :
    (outsAt0 m c t.val t.isLt).2.1 = k0_pay70 (imAt m c t) (iblk m c 8 t) := by
  rw [outsAt0_A m c t h0 h1]
  dsimp only
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The two running sums after the first depth step: one step from zero. -/
theorem scr_A (c : Dev nD) (t : Fin cfg0.N) (h0 : t.val % 32 = 0) (h1 : ¬t.val % 32 = 31) :
    (outsAt0 m c t.val t.isLt).2.2.2 = stepRows m c t k0_pay72 := by
  rw [outsAt0_A m c t h0 h1]
  dsimp only
  unfold sout0_A_0
  rw [View.read_writes_eq_canon _ _ _ (scover0_A_0 c _ _ _ _ _ _ _ _ _ _ _ _ _ _ _ _ _ _ _ _ _ _ _ _ _ _ _ _ _ _ _ _ _ _ _ _ _ _ _ _ _ _ _ _)]
  unfold kernelRun0_A
  dsimp only
  sl_unfold_words
  refine (Rows.canon_rows inb_S2x64_S1x64_0_0 inb_S2x64_S1x64_1_0 _ _ _).trans ?_
  rw [Rows.readCov_row1 _ inb_S2x64_S2x64_0_0 inb_S2x64_S1x64_0_0 inb_S2x64_S1x64_1_0, Rows.readCov_row0 _ inb_S2x64_S2x64_0_0 inb_S2x64_S1x64_0_0]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The real block left at a middle depth step. -/
theorem out11_B (c : Dev nD) (t : Fin cfg0.N) (h0 : ¬t.val % 32 = 0) (h1 : ¬t.val % 32 = 31) :
    (outsAt0 m c t.val t.isLt).1 = k0_pay69 (reAt m c t) := by
  rw [outsAt0_B m c t h0 h1]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The imaginary block left at a middle depth step. -/
theorem out12_B (c : Dev nD) (t : Fin cfg0.N) (h0 : ¬t.val % 32 = 0) (h1 : ¬t.val % 32 = 31) :
    (outsAt0 m c t.val t.isLt).2.1 = k0_pay70 (imAt m c t) (iblk m c 8 t) := by
  rw [outsAt0_B m c t h0 h1]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The two running sums after a middle depth step: one step from the previous ones. -/
theorem scr_B (c : Dev nD) (t : Fin cfg0.N) (h0 : ¬t.val % 32 = 0) (h1 : ¬t.val % 32 = 31) :
    (outsAt0 m c t.val t.isLt).2.2.2 = stepRows m c t (outsAt0 m c (t.val - 1) (by omega)).2.2.2 := by
  rw [outsAt0_B m c t h0 h1]
  dsimp only
  unfold sout0_B_0
  rw [View.read_writes_eq_canon _ _ _ (scover0_B_0 c _ _ _ _ _ _ _ _ _ _ _ _ _ _ _ _ _ _ _ _ _ _ _ _ _ _ _ _ _ _ _ _ _ _ _ _ _ _ _ _ _ _ _ _ _)]
  unfold kernelRun0_B
  dsimp only
  sl_unfold_words
  refine (Rows.canon_rows inb_S2x64_S1x64_0_0 inb_S2x64_S1x64_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rw [Rows.ld_row0 inb_S2x64_S1x64_0_0, Rows.ld_row1 inb_S2x64_S1x64_1_0]
  rfl

/-- The real block left at a last depth step. -/
theorem out11_C (c : Dev nD) (t : Fin cfg0.N) (h0 : ¬t.val % 32 = 0) (h1 : t.val % 32 = 31) :
    (outsAt0 m c t.val t.isLt).1 = k0_pay69 (reAt m c t) := by
  rw [outsAt0_C m c t h0 h1]
  dsimp only
  unfold out0_C_11
  rw [View.read_writes_eq_canon _ _ _ (cover0_C_11 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The imaginary block left at a last depth step. -/
theorem out12_C (c : Dev nD) (t : Fin cfg0.N) (h0 : ¬t.val % 32 = 0) (h1 : t.val % 32 = 31) :
    (outsAt0 m c t.val t.isLt).2.1 = k0_pay70 (imAt m c t) (iblk m c 8 t) := by
  rw [outsAt0_C m c t h0 h1]
  dsimp only
  unfold out0_C_12
  rw [View.read_writes_eq_canon _ _ _ (cover0_C_12 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x64x1x4x4) hz5]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rfl

/-- The two running sums after a last depth step: one step from the previous ones. -/
theorem scr_C (c : Dev nD) (t : Fin cfg0.N) (h0 : ¬t.val % 32 = 0) (h1 : t.val % 32 = 31) :
    (outsAt0 m c t.val t.isLt).2.2.2 = stepRows m c t (outsAt0 m c (t.val - 1) (by omega)).2.2.2 := by
  rw [outsAt0_C m c t h0 h1]
  dsimp only
  unfold sout0_C_0
  rw [View.read_writes_eq_canon _ _ _ (scover0_C_0 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  refine (Rows.canon_rows inb_S2x64_S1x64_0_0 inb_S2x64_S1x64_1_0 _ _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rw [Rows.ld_row0 inb_S2x64_S1x64_0_0, Rows.ld_row1 inb_S2x64_S1x64_1_0]
  rfl

/-- The block of sums left at the last depth step. -/
theorem out13_C (c : Dev nD) (t : Fin cfg0.N) (h0 : ¬t.val % 32 = 0) (h1 : t.val % 32 = 31) :
    (outsAt0 m c t.val t.isLt).2.2.1 = k0_pay2 (stepRows m c t (outsAt0 m c (t.val - 1) (by omega)).2.2.2) := by
  rw [outsAt0_C m c t h0 h1]
  dsimp only
  unfold out0_C_13
  rw [View.read_writes_eq_canon _ _ _ (cover0_C_13 c _ _ _ _ _ _ _ _ _ _ _ _ _ _ _ _ _ _ _ _ _ _ _ _ _ _ _ _ _ _ _ _ _ _ _ _ _ _ _ _ _ _ _ _ _)]
  unfold kernelRun0_C
  dsimp only
  sl_unfold_words
  rw [View.canon_unit_zero (S := S1x2x64) hz3]
  refine congrArg k0_pay2 ((Rows.readCov_rows _ inb_S2x64_S2x64_0_0 inb_S2x64_S1x64_0_0 inb_S2x64_S1x64_1_0 _ _ _).trans ?_)
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread,
    (hs0_8 t).read_unread, (hs0_9 t).read_unread, (hs0_10 t).read_unread, (Memref.isWhole_whole _).read_unread]
  simp only [View.ld_unit_zero (S := S1x64x1x2x2x5x5) hz7, View.ld_unit_zero (S := S64x1728) hz2,
    View.ld_unit_zero (S := S64x1) hz2, View.ld_unit_zero (S := S64x1) hz2]
  rw [Rows.ld_row0 inb_S2x64_S1x64_0_0, Rows.ld_row1 inb_S2x64_S1x64_1_0]
  rfl

end Cert.Proof.C2
-- ==== Proof.C2Host.lean ====
/-
  The arrays that the call of the last layer reads, from the arguments: the padded inputs
  split by the parities of their plane coordinates, the flattened weights, the biases as columns.
-/
module

public import proofs.«01_k».proof.Proof.Gen.ConvC2Ideal.Frame
public import Idealize.ShloMosaic.Lib.StableHlo.ReadAt

@[expose] public section

noncomputable section

namespace Cert.Proof.C2

open Cert.ConvC2Ideal Cert.ConvC2Ideal.Gen Idealize.ShloMosaic Idealize.ShloMosaic.TcCoe Idealize.SL.Sem

variable {F : FTy → Type} [FloatOps F] (m : (ℓ : Loc nD τ sig) → Buf (Elt F) ℓ)

/-- The real input as the call reads it: padded, and split by the parities of its plane coordinates. -/
theorem V_real (c : Dev nD) : V m c main_v2
    = transpose S32x64x34x2x2x5x5 [0, 1, 2, 4, 6, 3, 5] (shapeCast S32x64x34x5x2x5x2
        (pad S32x64x34x10x10 ![0, 0, 1, 1, 1] ![0, 0, 1, 1, 1] ![0, 0, 0, 0, 0] (m ((c : Thread nD τ).loc main_arg0))
          (sitofp (F := F) .f32 (constantI S_ 32 0#32)) pads_S32x64x32x8x8_S32x64x34x10x10_000_000_110_110_110 h_S_)
        shapeCasts_S32x64x34x10x10_S32x64x34x5x2x5x2) transposes_S32x64x34x5x2x5x2_S32x64x34x2x2x5x5_0_1_2_4_6_3_5 := by
  unfold V hostOps0 hostOps0_1 hostOps0_2 hostOps0_3 hostOps0_4
  simp only [List.flatten_cons, List.flatten_nil, List.append_nil, List.cons_append, List.nil_append]
  after_results
  rfl

/-- The imaginary input as the call reads it. -/
theorem V_imag (c : Dev nD) : V m c main_v5
    = transpose S32x64x34x2x2x5x5 [0, 1, 2, 4, 6, 3, 5] (shapeCast S32x64x34x5x2x5x2
        (pad S32x64x34x10x10 ![0, 0, 1, 1, 1] ![0, 0, 1, 1, 1] ![0, 0, 0, 0, 0] (m ((c : Thread nD τ).loc main_arg1))
          (sitofp (F := F) .f32 (constantI S_ 32 0#32)) pads_S32x64x32x8x8_S32x64x34x10x10_000_000_110_110_110 h_S_)
        shapeCasts_S32x64x34x10x10_S32x64x34x5x2x5x2) transposes_S32x64x34x5x2x5x2_S32x64x34x2x2x5x5_0_1_2_4_6_3_5 := by
  unfold V hostOps0 hostOps0_1 hostOps0_2 hostOps0_3 hostOps0_4
  simp only [List.flatten_cons, List.flatten_nil, List.append_nil, List.cons_append, List.nil_append]
  after_results
  rfl

/-- The flattened weights as the call reads them. -/
theorem V_weights (c : Dev nD) : V m c main_v7
    = shapeCast S64x1728 (transpose S64x3x3x3x64 [0, 2, 3, 4, 1] (m ((c : Thread nD τ).loc main_arg2))
        transposes_S64x64x3x3x3_S64x3x3x3x64_0_2_3_4_1) shapeCasts_S64x3x3x3x64_S64x1728 := by
  unfold V hostOps0 hostOps0_1 hostOps0_2 hostOps0_3 hostOps0_4
  simp only [List.flatten_cons, List.flatten_nil, List.append_nil, List.cons_append, List.nil_append]
  after_results
  rfl

/-- The real bias as the call reads it. -/
theorem V_biasR (c : Dev nD) : V m c main_v8 = shapeCast S64x1 (m ((c : Thread nD τ).loc main_arg3)) shapeCasts_S64_S64x1 := by
  unfold V hostOps0 hostOps0_1 hostOps0_2 hostOps0_3 hostOps0_4
  simp only [List.flatten_cons, List.flatten_nil, List.append_nil, List.cons_append, List.nil_append]
  after_results
  rfl

/-- The imaginary bias as the call reads it. -/
theorem V_biasI (c : Dev nD) : V m c main_v9 = shapeCast S64x1 (m ((c : Thread nD τ).loc main_arg4)) shapeCasts_S64_S64x1 := by
  unfold V hostOps0 hostOps0_1 hostOps0_2 hostOps0_3 hostOps0_4
  simp only [List.flatten_cons, List.flatten_nil, List.append_nil, List.cons_append, List.nil_append]
  after_results
  rfl

end Cert.Proof.C2
-- ==== Proof.C2Blocks.lean ====
/-
  The blocks that the call of the last layer reads at a grid point, at an index, from the
  arguments.
-/
module

public import proofs.«01_k».proof.Proof.C2Host
public import proofs.«01_k».proof.Proof.ConvHost

@[expose] public section

noncomputable section

namespace Cert.Proof.C2

open Cert.ConvC2Ideal Cert.ConvC2Ideal.Gen Idealize.ShloMosaic Idealize.ShloMosaic.TcCoe Idealize.SL.Sem
open Cert.Proof.ConvMath

variable (m : (ℓ : Loc nD τ sig) → Buf (Elt Ideal) ℓ)

/-- The batch row of a grid point; its depth is the point's number modulo 32. -/
def batch (t : Fin cfg0.N) : Fin 32 := ⟨t.val / 32, by have h := lt_of_lt_of_eq t.isLt N_0; omega⟩

/-- The pad's value is zero. -/
theorem zero_pad : (sitofp (F := Ideal) .f32 (constantI S_ 32 0#32)) (Shape.Idx.first h_S_) = 0 := by
  show ((((0#32 : BitVec 32).toInt : ℤ) : ℝ) : EReal) = 0
  simp

/-- The real input padded and split, at an index. -/
theorem split_r (c : Dev nD) (b : Fin 32) (k : Fin 64) (e : Fin 34) (i j : Fin 2) (y x : Fin 5) (hy : 2 * y.val + i.val < 10) (hx : 2 * x.val + j.val < 10) :
    transpose S32x64x34x2x2x5x5 [0, 1, 2, 4, 6, 3, 5] (shapeCast S32x64x34x5x2x5x2
        (pad S32x64x34x10x10 ![0, 0, 1, 1, 1] ![0, 0, 1, 1, 1] ![0, 0, 0, 0, 0] (m ((c : Thread nD τ).loc main_arg0))
          (sitofp (F := Ideal) .f32 (constantI S_ 32 0#32)) pads_S32x64x32x8x8_S32x64x34x10x10_000_000_110_110_110 h_S_)
        shapeCasts_S32x64x34x10x10_S32x64x34x5x2x5x2) transposes_S32x64x34x5x2x5x2_S32x64x34x2x2x5x5_0_1_2_4_6_3_5 (ix7 b k e i j y x)
      = padAt (m ((c : Thread nD τ).loc main_arg0)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- The imaginary input padded and split, at an index. -/
theorem split_i (c : Dev nD) (b : Fin 32) (k : Fin 64) (e : Fin 34) (i j : Fin 2) (y x : Fin 5) (hy : 2 * y.val + i.val < 10) (hx : 2 * x.val + j.val < 10) :
    transpose S32x64x34x2x2x5x5 [0, 1, 2, 4, 6, 3, 5] (shapeCast S32x64x34x5x2x5x2
        (pad S32x64x34x10x10 ![0, 0, 1, 1, 1] ![0, 0, 1, 1, 1] ![0, 0, 0, 0, 0] (m ((c : Thread nD τ).loc main_arg1))
          (sitofp (F := Ideal) .f32 (constantI S_ 32 0#32)) pads_S32x64x32x8x8_S32x64x34x10x10_000_000_110_110_110 h_S_)
        shapeCasts_S32x64x34x10x10_S32x64x34x5x2x5x2) transposes_S32x64x34x5x2x5x2_S32x64x34x2x2x5x5_0_1_2_4_6_3_5 (ix7 b k e i j y x)
      = padAt (m ((c : Thread nD τ).loc main_arg1)) b k e.val (2 * y.val + i.val) (2 * x.val + j.val) := by
  rw [split_apply rfl _ _ _ b k e i j y x ⟨2 * y.val + i.val, hy⟩ ⟨2 * x.val + j.val, hx⟩ rfl rfl]
  exact pad_apply _ _ _ _ zero_pad b k e _ _

/-- Where window 0 reads, at a point. -/
theorem index0 : ∀ t : Fin cfg0.N, win0_0.index t 0 = t.val / 32 ∧ win0_0.index t 1 = 0 ∧ win0_0.index t 2 = t.val % 32 + 0
    ∧ win0_0.index t 3 = 0 ∧ win0_0.index t 4 = 0 ∧ win0_0.index t 5 = 0 ∧ win0_0.index t 6 = 0 :=
  (by decide +kernel : ∀ t : Fin grid0.N, _)

/-- What window 0 reads of any array contents, at an index. -/
theorem read0 (c : Dev nD) (f : (b : Ref sig .tc) → Buf (Elt Ideal) ((c : Thread nD τ).loc b)) (t : Fin cfg0.N) (z : S1x64x1x2x2x5x5.Idx) :
    (((cfg0.win 0).blk t).view.read (Elt Ideal) (f (Pipeline.arrRef spec0 0)) : Vec Ideal S1x64x1x2x2x5x5 .f32) z
      = (f main_v2 : Vec Ideal S32x64x34x2x2x5x5 .f32) (((cfg0.win 0).blk t).view.emb z) := rfl

/-- Window 0's block at a point: the padded real input at the point's batch row, the point's depth. -/
theorem block0 (c : Dev nD) (t : Fin cfg0.N) (k : Fin 64) (i j : Fin 2) (y x : Fin 5) :
    (iblk m c 0 t : Vec Ideal S1x64x1x2x2x5x5 .f32) (ix7 0 k 0 i j y x)
      = padAt (m ((c : Thread nD τ).loc main_arg0)) (batch t) k (t.val % 32 + 0) (2 * y.val + i.val) (2 * x.val + j.val) := by
  obtain ⟨h0, h1, h2, h3, h4, h5, h6⟩ := index0 t
  have hy : 2 * y.val + i.val < 10 := by omega
  have hx : 2 * x.val + j.val < 10 := by omega
  have e : (((cfg0.win 0).blk t).view.emb (ix7 0 k 0 i j y x) : S32x64x34x2x2x5x5.Idx)
      = ix7 (batch t) k ⟨t.val % 32 + 0, by omega⟩ i j y x := by
    funext a
    apply Fin.ext
    match a with
    | ⟨0, _⟩ => show win0_0.index t 0 * 1 + 1 * 0 = t.val / 32; omega
    | ⟨1, _⟩ => show win0_0.index t 1 * 64 + 1 * k.val = k.val; omega
    | ⟨2, _⟩ => show win0_0.index t 2 * 1 + 1 * 0 = t.val % 32 + 0; omega
    | ⟨3, _⟩ => show win0_0.index t 3 * 2 + 1 * i.val = i.val; omega
    | ⟨4, _⟩ => show win0_0.index t 4 * 2 + 1 * j.val = j.val; omega
    | ⟨5, _⟩ => show win0_0.index t 5 * 5 + 1 * y.val = y.val; omega
    | ⟨6, _⟩ => show win0_0.index t 6 * 5 + 1 * x.val = x.val; omega
  exact (read0 c (V m c) t _).trans ((congrArg _ e).trans ((congrFun (V_real m c) _).trans
    (split_r m c (batch t) k ⟨t.val % 32 + 0, by omega⟩ i j y x hy hx)))

/-- Where window 1 reads, at a point. -/
theorem index1 : ∀ t : Fin cfg0.N, win0_1.index t 0 = t.val / 32 ∧ win0_1.index t 1 = 0 ∧ win0_1.index t 2 = t.val % 32 + 1
    ∧ win0_1.index t 3 = 0 ∧ win0_1.index t 4 = 0 ∧ win0_1.index t 5 = 0 ∧ win0_1.index t 6 = 0 :=
  (by decide +kernel : ∀ t : Fin grid0.N, _)

/-- What window 1 reads of any array contents, at an index. -/
theorem read1 (c : Dev nD) (f : (b : Ref sig .tc) → Buf (Elt Ideal) ((c : Thread nD τ).loc b)) (t : Fin cfg0.N) (z : S1x64x1x2x2x5x5.Idx) :
    (((cfg0.win 1).blk t).view.read (Elt Ideal) (f (Pipeline.arrRef spec0 1)) : Vec Ideal S1x64x1x2x2x5x5 .f32) z
      = (f main_v2 : Vec Ideal S32x64x34x2x2x5x5 .f32) (((cfg0.win 1).blk t).view.emb z) := rfl

/-- Window 1's block at a point: the padded real input at the point's batch row, one past the point's depth. -/
theorem block1 (c : Dev nD) (t : Fin cfg0.N) (k : Fin 64) (i j : Fin 2) (y x : Fin 5) :
    (iblk m c 1 t : Vec Ideal S1x64x1x2x2x5x5 .f32) (ix7 0 k 0 i j y x)
      = padAt (m ((c : Thread nD τ).loc main_arg0)) (batch t) k (t.val % 32 + 1) (2 * y.val + i.val) (2 * x.val + j.val) := by
  obtain ⟨h0, h1, h2, h3, h4, h5, h6⟩ := index1 t
  have hy : 2 * y.val + i.val < 10 := by omega
  have hx : 2 * x.val + j.val < 10 := by omega
  have e : (((cfg0.win 1).blk t).view.emb (ix7 0 k 0 i j y x) : S32x64x34x2x2x5x5.Idx)
      = ix7 (batch t) k ⟨t.val % 32 + 1, by omega⟩ i j y x := by
    funext a
    apply Fin.ext
    match a with
    | ⟨0, _⟩ => show win0_1.index t 0 * 1 + 1 * 0 = t.val / 32; omega
    | ⟨1, _⟩ => show win0_1.index t 1 * 64 + 1 * k.val = k.val; omega
    | ⟨2, _⟩ => show win0_1.index t 2 * 1 + 1 * 0 = t.val % 32 + 1; omega
    | ⟨3, _⟩ => show win0_1.index t 3 * 2 + 1 * i.val = i.val; omega
    | ⟨4, _⟩ => show win0_1.index t 4 * 2 + 1 * j.val = j.val; omega
    | ⟨5, _⟩ => show win0_1.index t 5 * 5 + 1 * y.val = y.val; omega
    | ⟨6, _⟩ => show win0_1.index t 6 * 5 + 1 * x.val = x.val; omega
  exact (read1 c (V m c) t _).trans ((congrArg _ e).trans ((congrFun (V_real m c) _).trans
    (split_r m c (batch t) k ⟨t.val % 32 + 1, by omega⟩ i j y x hy hx)))

/-- Where window 2 reads, at a point. -/
theorem index2 : ∀ t : Fin cfg0.N, win0_2.index t 0 = t.val / 32 ∧ win0_2.index t 1 = 0 ∧ win0_2.index t 2 = t.val % 32 + 2
    ∧ win0_2.index t 3 = 0 ∧ win0_2.index t 4 = 0 ∧ win0_2.index t 5 = 0 ∧ win0_2.index t 6 = 0 :=
  (by decide +kernel : ∀ t : Fin grid0.N, _)

/-- What window 2 reads of any array contents, at an index. -/
theorem read2 (c : Dev nD) (f : (b : Ref sig .tc) → Buf (Elt Ideal) ((c : Thread nD τ).loc b)) (t : Fin cfg0.N) (z : S1x64x1x2x2x5x5.Idx) :
    (((cfg0.win 2).blk t).view.read (Elt Ideal) (f (Pipeline.arrRef spec0 2)) : Vec Ideal S1x64x1x2x2x5x5 .f32) z
      = (f main_v2 : Vec Ideal S32x64x34x2x2x5x5 .f32) (((cfg0.win 2).blk t).view.emb z) := rfl

/-- Window 2's block at a point: the padded real input at the point's batch row, two past the point's depth. -/
theorem block2 (c : Dev nD) (t : Fin cfg0.N) (k : Fin 64) (i j : Fin 2) (y x : Fin 5) :
    (iblk m c 2 t : Vec Ideal S1x64x1x2x2x5x5 .f32) (ix7 0 k 0 i j y x)
      = padAt (m ((c : Thread nD τ).loc main_arg0)) (batch t) k (t.val % 32 + 2) (2 * y.val + i.val) (2 * x.val + j.val) := by
  obtain ⟨h0, h1, h2, h3, h4, h5, h6⟩ := index2 t
  have hy : 2 * y.val + i.val < 10 := by omega
  have hx : 2 * x.val + j.val < 10 := by omega
  have e : (((cfg0.win 2).blk t).view.emb (ix7 0 k 0 i j y x) : S32x64x34x2x2x5x5.Idx)
      = ix7 (batch t) k ⟨t.val % 32 + 2, by omega⟩ i j y x := by
    funext a
    apply Fin.ext
    match a with
    | ⟨0, _⟩ => show win0_2.index t 0 * 1 + 1 * 0 = t.val / 32; omega
    | ⟨1, _⟩ => show win0_2.index t 1 * 64 + 1 * k.val = k.val; omega
    | ⟨2, _⟩ => show win0_2.index t 2 * 1 + 1 * 0 = t.val % 32 + 2; omega
    | ⟨3, _⟩ => show win0_2.index t 3 * 2 + 1 * i.val = i.val; omega
    | ⟨4, _⟩ => show win0_2.index t 4 * 2 + 1 * j.val = j.val; omega
    | ⟨5, _⟩ => show win0_2.index t 5 * 5 + 1 * y.val = y.val; omega
    | ⟨6, _⟩ => show win0_2.index t 6 * 5 + 1 * x.val = x.val; omega
  exact (read2 c (V m c) t _).trans ((congrArg _ e).trans ((congrFun (V_real m c) _).trans
    (split_r m c (batch t) k ⟨t.val % 32 + 2, by omega⟩ i j y x hy hx)))

/-- Where window 3 reads, at a point. -/
theorem index3 : ∀ t : Fin cfg0.N, win0_3.index t 0 = t.val / 32 ∧ win0_3.index t 1 = 0 ∧ win0_3.index t 2 = t.val % 32 + 0
    ∧ win0_3.index t 3 = 0 ∧ win0_3.index t 4 = 0 ∧ win0_3.index t 5 = 0 ∧ win0_3.index t 6 = 0 :=
  (by decide +kernel : ∀ t : Fin grid0.N, _)

/-- What window 3 reads of any array contents, at an index. -/
theorem read3 (c : Dev nD) (f : (b : Ref sig .tc) → Buf (Elt Ideal) ((c : Thread nD τ).loc b)) (t : Fin cfg0.N) (z : S1x64x1x2x2x5x5.Idx) :
    (((cfg0.win 3).blk t).view.read (Elt Ideal) (f (Pipeline.arrRef spec0 3)) : Vec Ideal S1x64x1x2x2x5x5 .f32) z
      = (f main_v5 : Vec Ideal S32x64x34x2x2x5x5 .f32) (((cfg0.win 3).blk t).view.emb z) := rfl

/-- Window 3's block at a point: the padded imaginary input at the point's batch row, the point's depth. -/
theorem block3 (c : Dev nD) (t : Fin cfg0.N) (k : Fin 64) (i j : Fin 2) (y x : Fin 5) :
    (iblk m c 3 t : Vec Ideal S1x64x1x2x2x5x5 .f32) (ix7 0 k 0 i j y x)
      = padAt (m ((c : Thread nD τ).loc main_arg1)) (batch t) k (t.val % 32 + 0) (2 * y.val + i.val) (2 * x.val + j.val) := by
  obtain ⟨h0, h1, h2, h3, h4, h5, h6⟩ := index3 t
  have hy : 2 * y.val + i.val < 10 := by omega
  have hx : 2 * x.val + j.val < 10 := by omega
  have e : (((cfg0.win 3).blk t).view.emb (ix7 0 k 0 i j y x) : S32x64x34x2x2x5x5.Idx)
      = ix7 (batch t) k ⟨t.val % 32 + 0, by omega⟩ i j y x := by
    funext a
    apply Fin.ext
    match a with
    | ⟨0, _⟩ => show win0_3.index t 0 * 1 + 1 * 0 = t.val / 32; omega
    | ⟨1, _⟩ => show win0_3.index t 1 * 64 + 1 * k.val = k.val; omega
    | ⟨2, _⟩ => show win0_3.index t 2 * 1 + 1 * 0 = t.val % 32 + 0; omega
    | ⟨3, _⟩ => show win0_3.index t 3 * 2 + 1 * i.val = i.val; omega
    | ⟨4, _⟩ => show win0_3.index t 4 * 2 + 1 * j.val = j.val; omega
    | ⟨5, _⟩ => show win0_3.index t 5 * 5 + 1 * y.val = y.val; omega
    | ⟨6, _⟩ => show win0_3.index t 6 * 5 + 1 * x.val = x.val; omega
  exact (read3 c (V m c) t _).trans ((congrArg _ e).trans ((congrFun (V_imag m c) _).trans
    (split_i m c (batch t) k ⟨t.val % 32 + 0, by omega⟩ i j y x hy hx)))

/-- Where window 4 reads, at a point. -/
theorem index4 : ∀ t : Fin cfg0.N, win0_4.index t 0 = t.val / 32 ∧ win0_4.index t 1 = 0 ∧ win0_4.index t 2 = t.val % 32 + 1
    ∧ win0_4.index t 3 = 0 ∧ win0_4.index t 4 = 0 ∧ win0_4.index t 5 = 0 ∧ win0_4.index t 6 = 0 :=
  (by decide +kernel : ∀ t : Fin grid0.N, _)

/-- What window 4 reads of any array contents, at an index. -/
theorem read4 (c : Dev nD) (f : (b : Ref sig .tc) → Buf (Elt Ideal) ((c : Thread nD τ).loc b)) (t : Fin cfg0.N) (z : S1x64x1x2x2x5x5.Idx) :
    (((cfg0.win 4).blk t).view.read (Elt Ideal) (f (Pipeline.arrRef spec0 4)) : Vec Ideal S1x64x1x2x2x5x5 .f32) z
      = (f main_v5 : Vec Ideal S32x64x34x2x2x5x5 .f32) (((cfg0.win 4).blk t).view.emb z) := rfl

/-- Window 4's block at a point: the padded imaginary input at the point's batch row, one past the point's depth. -/
theorem block4 (c : Dev nD) (t : Fin cfg0.N) (k : Fin 64) (i j : Fin 2) (y x : Fin 5) :
    (iblk m c 4 t : Vec Ideal S1x64x1x2x2x5x5 .f32) (ix7 0 k 0 i j y x)
      = padAt (m ((c : Thread nD τ).loc main_arg1)) (batch t) k (t.val % 32 + 1) (2 * y.val + i.val) (2 * x.val + j.val) := by
  obtain ⟨h0, h1, h2, h3, h4, h5, h6⟩ := index4 t
  have hy : 2 * y.val + i.val < 10 := by omega
  have hx : 2 * x.val + j.val < 10 := by omega
  have e : (((cfg0.win 4).blk t).view.emb (ix7 0 k 0 i j y x) : S32x64x34x2x2x5x5.Idx)
      = ix7 (batch t) k ⟨t.val % 32 + 1, by omega⟩ i j y x := by
    funext a
    apply Fin.ext
    match a with
    | ⟨0, _⟩ => show win0_4.index t 0 * 1 + 1 * 0 = t.val / 32; omega
    | ⟨1, _⟩ => show win0_4.index t 1 * 64 + 1 * k.val = k.val; omega
    | ⟨2, _⟩ => show win0_4.index t 2 * 1 + 1 * 0 = t.val % 32 + 1; omega
    | ⟨3, _⟩ => show win0_4.index t 3 * 2 + 1 * i.val = i.val; omega
    | ⟨4, _⟩ => show win0_4.index t 4 * 2 + 1 * j.val = j.val; omega
    | ⟨5, _⟩ => show win0_4.index t 5 * 5 + 1 * y.val = y.val; omega
    | ⟨6, _⟩ => show win0_4.index t 6 * 5 + 1 * x.val = x.val; omega
  exact (read4 c (V m c) t _).trans ((congrArg _ e).trans ((congrFun (V_imag m c) _).trans
    (split_i m c (batch t) k ⟨t.val % 32 + 1, by omega⟩ i j y x hy hx)))

/-- Where window 5 reads, at a point. -/
theorem index5 : ∀ t : Fin cfg0.N, win0_5.index t 0 = t.val / 32 ∧ win0_5.index t 1 = 0 ∧ win0_5.index t 2 = t.val % 32 + 2
    ∧ win0_5.index t 3 = 0 ∧ win0_5.index t 4 = 0 ∧ win0_5.index t 5 = 0 ∧ win0_5.index t 6 = 0 :=
  (by decide +kernel : ∀ t : Fin grid0.N, _)

/-- What window 5 reads of any array contents, at an index. -/
theorem read5 (c : Dev nD) (f : (b : Ref sig .tc) → Buf (Elt Ideal) ((c : Thread nD τ).loc b)) (t : Fin cfg0.N) (z : S1x64x1x2x2x5x5.Idx) :
    (((cfg0.win 5).blk t).view.read (Elt Ideal) (f (Pipeline.arrRef spec0 5)) : Vec Ideal S1x64x1x2x2x5x5 .f32) z
      = (f main_v5 : Vec Ideal S32x64x34x2x2x5x5 .f32) (((cfg0.win 5).blk t).view.emb z) := rfl

/-- Window 5's block at a point: the padded imaginary input at the point's batch row, two past the point's depth. -/
theorem block5 (c : Dev nD) (t : Fin cfg0.N) (k : Fin 64) (i j : Fin 2) (y x : Fin 5) :
    (iblk m c 5 t : Vec Ideal S1x64x1x2x2x5x5 .f32) (ix7 0 k 0 i j y x)
      = padAt (m ((c : Thread nD τ).loc main_arg1)) (batch t) k (t.val % 32 + 2) (2 * y.val + i.val) (2 * x.val + j.val) := by
  obtain ⟨h0, h1, h2, h3, h4, h5, h6⟩ := index5 t
  have hy : 2 * y.val + i.val < 10 := by omega
  have hx : 2 * x.val + j.val < 10 := by omega
  have e : (((cfg0.win 5).blk t).view.emb (ix7 0 k 0 i j y x) : S32x64x34x2x2x5x5.Idx)
      = ix7 (batch t) k ⟨t.val % 32 + 2, by omega⟩ i j y x := by
    funext a
    apply Fin.ext
    match a with
    | ⟨0, _⟩ => show win0_5.index t 0 * 1 + 1 * 0 = t.val / 32; omega
    | ⟨1, _⟩ => show win0_5.index t 1 * 64 + 1 * k.val = k.val; omega
    | ⟨2, _⟩ => show win0_5.index t 2 * 1 + 1 * 0 = t.val % 32 + 2; omega
    | ⟨3, _⟩ => show win0_5.index t 3 * 2 + 1 * i.val = i.val; omega
    | ⟨4, _⟩ => show win0_5.index t 4 * 2 + 1 * j.val = j.val; omega
    | ⟨5, _⟩ => show win0_5.index t 5 * 5 + 1 * y.val = y.val; omega
    | ⟨6, _⟩ => show win0_5.index t 6 * 5 + 1 * x.val = x.val; omega
  exact (read5 c (V m c) t _).trans ((congrArg _ e).trans ((congrFun (V_imag m c) _).trans
    (split_i m c (batch t) k ⟨t.val % 32 + 2, by omega⟩ i j y x hy hx)))

/-- Where window 6 reads. -/
theorem index6 : ∀ t : Fin cfg0.N, win0_6.index t 0 = 0 ∧ win0_6.index t 1 = 0 := (by decide +kernel : ∀ t : Fin grid0.N, _)

/-- What window 6 reads of any array contents, at an index. -/
theorem read6 (c : Dev nD) (f : (b : Ref sig .tc) → Buf (Elt Ideal) ((c : Thread nD τ).loc b)) (t : Fin cfg0.N) (z : S64x1728.Idx) :
    (((cfg0.win 6).blk t).view.read (Elt Ideal) (f (Pipeline.arrRef spec0 6)) : Vec Ideal S64x1728 .f32) z
      = (f main_v7 : Vec Ideal S64x1728 .f32) (((cfg0.win 6).blk t).view.emb z) := rfl

/-- Window 6's block: the flattened weights. -/
theorem block6 (c : Dev nD) (t : Fin cfg0.N) (o : Fin 64) (q : Fin 27) (k : Fin 64) (l : Fin 1728) (hl : l.val = 64 * q.val + k.val) :
    (iblk m c 6 t : Vec Ideal S64x1728 .f32) (ix2 o l) = wAt (m ((c : Thread nD τ).loc main_arg2)) o k q := by
  obtain ⟨h0, h1⟩ := index6 t
  have e : (((cfg0.win 6).blk t).view.emb (ix2 o l) : S64x1728.Idx) = ix2 o l := by
    funext a
    apply Fin.ext
    match a with
    | ⟨0, _⟩ => show win0_6.index t 0 * 64 + 1 * o.val = o.val; omega
    | ⟨1, _⟩ => show win0_6.index t 1 * 1728 + 1 * l.val = l.val; omega
  exact (read6 c (V m c) t _).trans ((congrArg _ e).trans ((congrFun (V_weights m c) _).trans (weights_apply rfl _ _ _ o q k l hl)))

/-- Where window 7 reads. -/
theorem index7 : ∀ t : Fin cfg0.N, win0_7.index t 0 = 0 ∧ win0_7.index t 1 = 0 := (by decide +kernel : ∀ t : Fin grid0.N, _)

/-- What window 7 reads of any array contents, at an index. -/
theorem read7 (c : Dev nD) (f : (b : Ref sig .tc) → Buf (Elt Ideal) ((c : Thread nD τ).loc b)) (t : Fin cfg0.N) (z : S64x1.Idx) :
    (((cfg0.win 7).blk t).view.read (Elt Ideal) (f (Pipeline.arrRef spec0 7)) : Vec Ideal S64x1 .f32) z
      = (f main_v8 : Vec Ideal S64x1 .f32) (((cfg0.win 7).blk t).view.emb z) := rfl

/-- Window 7's block: the real bias. -/
theorem block7 (c : Dev nD) (t : Fin cfg0.N) (o : Fin 64) :
    (iblk m c 7 t : Vec Ideal S64x1 .f32) (ix2 o 0) = (m ((c : Thread nD τ).loc main_arg3) : Vec Ideal S64 .f32) (ix1 o) := by
  obtain ⟨h0, h1⟩ := index7 t
  have e : (((cfg0.win 7).blk t).view.emb (ix2 o 0) : S64x1.Idx) = ix2 o 0 := by
    funext a
    apply Fin.ext
    match a with
    | ⟨0, _⟩ => show win0_7.index t 0 * 64 + 1 * o.val = o.val; omega
    | ⟨1, _⟩ => show win0_7.index t 1 * 1 + 1 * 0 = 0; omega
  exact (read7 c (V m c) t _).trans ((congrArg _ e).trans ((congrFun (V_biasR m c) _).trans (col_apply _ _ o)))

/-- Where window 8 reads. -/
theorem index8 : ∀ t : Fin cfg0.N, win0_8.index t 0 = 0 ∧ win0_8.index t 1 = 0 := (by decide +kernel : ∀ t : Fin grid0.N, _)

/-- What window 8 reads of any array contents, at an index. -/
theorem read8 (c : Dev nD) (f : (b : Ref sig .tc) → Buf (Elt Ideal) ((c : Thread nD τ).loc b)) (t : Fin cfg0.N) (z : S64x1.Idx) :
    (((cfg0.win 8).blk t).view.read (Elt Ideal) (f (Pipeline.arrRef spec0 8)) : Vec Ideal S64x1 .f32) z
      = (f main_v9 : Vec Ideal S64x1 .f32) (((cfg0.win 8).blk t).view.emb z) := rfl

/-- Window 8's block: the imaginary bias. -/
theorem block8 (c : Dev nD) (t : Fin cfg0.N) (o : Fin 64) :
    (iblk m c 8 t : Vec Ideal S64x1 .f32) (ix2 o 0) = (m ((c : Thread nD τ).loc main_arg4) : Vec Ideal S64 .f32) (ix1 o) := by
  obtain ⟨h0, h1⟩ := index8 t
  have e : (((cfg0.win 8).blk t).view.emb (ix2 o 0) : S64x1.Idx) = ix2 o 0 := by
    funext a
    apply Fin.ext
    match a with
    | ⟨0, _⟩ => show win0_8.index t 0 * 64 + 1 * o.val = o.val; omega
    | ⟨1, _⟩ => show win0_8.index t 1 * 1 + 1 * 0 = 0; omega
  exact (read8 c (V m c) t _).trans ((congrArg _ e).trans ((congrFun (V_biasI m c) _).trans (col_apply _ _ o)))

/-- Where window 9 reads. -/
theorem index9 : ∀ t : Fin cfg0.N, win0_9.index t 0 = 0 ∧ win0_9.index t 1 = 0 := (by decide +kernel : ∀ t : Fin grid0.N, _)

/-- What window 9 reads of any array contents, at an index. -/
theorem read9 (c : Dev nD) (f : (b : Ref sig .tc) → Buf (Elt Ideal) ((c : Thread nD τ).loc b)) (t : Fin cfg0.N) (z : S64x1.Idx) :
    (((cfg0.win 9).blk t).view.read (Elt Ideal) (f (Pipeline.arrRef spec0 9)) : Vec Ideal S64x1 .f32) z
      = (f main_arg5 : Vec Ideal S64x1 .f32) (((cfg0.win 9).blk t).view.emb z) := rfl

/-- Window 9's block: the scale. -/
theorem block9 (c : Dev nD) (t : Fin cfg0.N) (o : Fin 64) :
    (iblk m c 9 t : Vec Ideal S64x1 .f32) (ix2 o 0) = (m ((c : Thread nD τ).loc main_arg5) : Vec Ideal S64x1 .f32) (ix2 o 0) := by
  obtain ⟨h0, h1⟩ := index9 t
  have e : (((cfg0.win 9).blk t).view.emb (ix2 o 0) : S64x1.Idx) = ix2 o 0 := by
    funext a
    apply Fin.ext
    match a with
    | ⟨0, _⟩ => show win0_9.index t 0 * 64 + 1 * o.val = o.val; omega
    | ⟨1, _⟩ => show win0_9.index t 1 * 1 + 1 * 0 = 0; omega
  exact (read9 c (V m c) t _).trans ((congrArg _ e).trans (congrFun (V_main_arg5 m c) _))

/-- Where window 10 reads. -/
theorem index10 : ∀ t : Fin cfg0.N, win0_10.index t 0 = 0 ∧ win0_10.index t 1 = 0 := (by decide +kernel : ∀ t : Fin grid0.N, _)

/-- What window 10 reads of any array contents, at an index. -/
theorem read10 (c : Dev nD) (f : (b : Ref sig .tc) → Buf (Elt Ideal) ((c : Thread nD τ).loc b)) (t : Fin cfg0.N) (z : S64x1.Idx) :
    (((cfg0.win 10).blk t).view.read (Elt Ideal) (f (Pipeline.arrRef spec0 10)) : Vec Ideal S64x1 .f32) z
      = (f main_arg6 : Vec Ideal S64x1 .f32) (((cfg0.win 10).blk t).view.emb z) := rfl

/-- Window 10's block: the shift. -/
theorem block10 (c : Dev nD) (t : Fin cfg0.N) (o : Fin 64) :
    (iblk m c 10 t : Vec Ideal S64x1 .f32) (ix2 o 0) = (m ((c : Thread nD τ).loc main_arg6) : Vec Ideal S64x1 .f32) (ix2 o 0) := by
  obtain ⟨h0, h1⟩ := index10 t
  have e : (((cfg0.win 10).blk t).view.emb (ix2 o 0) : S64x1.Idx) = ix2 o 0 := by
    funext a
    apply Fin.ext
    match a with
    | ⟨0, _⟩ => show win0_10.index t 0 * 64 + 1 * o.val = o.val; omega
    | ⟨1, _⟩ => show win0_10.index t 1 * 1 + 1 * 0 = 0; omega
  exact (read10 c (V m c) t _).trans ((congrArg _ e).trans (congrFun (V_main_arg6 m c) _))

end Cert.Proof.C2
-- ==== Proof.C2Product.lean ====
/-
  What the call of the last layer leaves in its blocks, at an index: the convolution of the
  activated padded input, its biases, and the sums of magnitudes.
-/
module

public import proofs.«01_k».proof.Proof.C2Kernel
public import proofs.«01_k».proof.Proof.C2Blocks

@[expose] public section

noncomputable section

namespace Cert.Proof.C2

open Cert.ConvC2Ideal Cert.ConvC2Ideal.Gen Cert.ConvC2Ideal.Value Idealize.ShloMosaic Idealize.ShloMosaic.TcCoe Idealize.SL.Sem
open Cert.Proof.ConvMath

/-- Twenty seven terms, as a list. -/
theorem ofFn27 {α : Type*} (f : Fin 27 → α) : List.ofFn f = [f 0, f 1, f 2, f 3, f 4, f 5, f 6, f 7, f 8, f 9, f 10, f 11, f 12, f 13, f 14, f 15, f 16, f 17, f 18, f 19, f 20, f 21, f 22, f 23, f 24, f 25, f 26] := by rfl

/-- The corner that a window piece takes lies in its parity plane. -/
theorem hsl : ∀ q : Fin 9, (⟨5, ![64, 2, 2, 5, 5]⟩ : Shape).Slices
    ![0, q.val / 3 % 2, q.val % 3 % 2, q.val / 3 / 2, q.val % 3 / 2] ⟨5, ![64, 1, 1, 4, 4]⟩ := by decide

/-- Piece `q` of the three blocks' pieces. -/
def tapAt (v : Fin 3 → FVec Ideal S64x2x2x5x5 .f32) (q : Fin 27) : (⟨2, ![64, 16]⟩ : Shape).Idx → EReal :=
  tapq (v ⟨q.val / 9, Nat.div_lt_of_lt_mul q.isLt⟩) ⟨q.val % 9, Nat.mod_lt _ (by decide)⟩ (hsl _) shapeCasts_S64x1x1x4x4_S64x4x4
    shapeCasts_S64x4x4_S64x16

/-- The activated real block of depth offset 0, at an index. -/
theorem act_re0 (X Y : Vec Ideal S1x64x1x2x2x5x5 .f32) (x9 x10 : Vec Ideal S64x1 .f32) (k : Fin 64) (i j : Fin 2) (y x : Fin 5) :
    k0_pay13 (k0_pay3 X) (k0_pay6 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The activated imaginary block of depth offset 0, at an index. -/
theorem act_im0 (X Y : Vec Ideal S1x64x1x2x2x5x5 .f32) (x9 x10 : Vec Ideal S64x1 .f32) (k : Fin 64) (i j : Fin 2) (y x : Fin 5) :
    k0_pay14 (k0_pay3 X) (k0_pay6 Y) (k0_pay9 x9) x10 (ix5 k i j y x)
      = actI (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The activated real block of depth offset 1, at an index. -/
theorem act_re1 (X Y : Vec Ideal S1x64x1x2x2x5x5 .f32) (x9 x10 : Vec Ideal S64x1 .f32) (k : Fin 64) (i j : Fin 2) (y x : Fin 5) :
    k0_pay17 (k0_pay4 X) (k0_pay7 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The activated imaginary block of depth offset 1, at an index. -/
theorem act_im1 (X Y : Vec Ideal S1x64x1x2x2x5x5 .f32) (x9 x10 : Vec Ideal S64x1 .f32) (k : Fin 64) (i j : Fin 2) (y x : Fin 5) :
    k0_pay18 (k0_pay4 X) (k0_pay7 Y) (k0_pay9 x9) x10 (ix5 k i j y x)
      = actI (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The activated real block of depth offset 2, at an index. -/
theorem act_re2 (X Y : Vec Ideal S1x64x1x2x2x5x5 .f32) (x9 x10 : Vec Ideal S64x1 .f32) (k : Fin 64) (i j : Fin 2) (y x : Fin 5) :
    k0_pay21 (k0_pay5 X) (k0_pay8 Y) (k0_pay9 x9) x10 (ix5 k i j y x)
      = actR (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The activated imaginary block of depth offset 2, at an index. -/
theorem act_im2 (X Y : Vec Ideal S1x64x1x2x2x5x5 .f32) (x9 x10 : Vec Ideal S64x1 .f32) (k : Fin 64) (i j : Fin 2) (y x : Fin 5) :
    k0_pay23 (k0_pay19 (k0_pay5 X) (k0_pay8 Y) (k0_pay9 x9) x10) (k0_pay22 (k0_pay5 X) (k0_pay8 Y)) (ix5 k i j y x)
      = actI (x9 (ix2 k 0)) (x10 (ix2 k 0)) (X (ix7 0 k 0 i j y x)) (Y (ix7 0 k 0 i j y x)) := by
  rw [← dropUnits_apply X shapeCasts_S1x64x1x2x2x5x5_S64x2x2x5x5, ← dropUnits_apply Y shapeCasts_S1x64x1x2x2x5x5_S64x2x2x5x5,
    ← col5_apply x9 shapeCasts_S64x1_S64x1x1x1x1 broadcasts_S64x1x1x1x1_S64x2x2x5x5 k i j y x,
    ← col5_apply x10 shapeCasts_S64x1_S64x1x1x1x1 broadcasts_S64x1x1x1x1_S64x2x2x5x5 k i j y x]
  rfl

/-- The real half of the product is the convolution of the real parts, plus the bias. -/
theorem reOf_apply (r0 i0 r1 i1 r2 i2 : FVec Ideal S64x2x2x5x5 .f32) (x6 : FVec Ideal S64x1728 .f32) (x7 : FVec Ideal S64x1 .f32)
    (W : (⟨5, ![64, 64, 3, 3, 3]⟩ : Shape).Idx → EReal)
    (hW : ∀ (o : Fin 64) (q : Fin 27) (k : Fin 64) (l : Fin 1728), l.val = 64 * q.val + k.val → x6 (ix2 o l) = wAt W o k q)
    (A : Fin 64 → ℕ → ℕ → ℕ → EReal) (d : ℕ)
    (hA : ∀ (kd : Fin 3) (k : Fin 64) (i j : Fin 2) (y x : Fin 5),
      (![r0, r1, r2] : Fin 3 → FVec Ideal S64x2x2x5x5 .f32) kd (ix5 k i j y x) = A k (d + kd.val) (2 * y.val + i.val) (2 * x.val + j.val))
    (o : Fin 64) (p : Fin 16) (y x : Fin 4) (hp : p.val = 4 * y.val + x.val) :
    reOf r0 i0 r1 i1 r2 i2 x6 x7 (ix2 o p) = conv A W o d y.val x.val + x7 (ix2 o 0) := by
  unfold reOf k0_pay66
  refine congrArg₂ (· + ·) ?_ (col2_apply x7 shapeCasts_S64x1_S64x1 broadcasts_S64x1_S64x16 o p)
  rw [extractStridedSlice_apply _ _ slices_S64x32_o0_0_S64x16 (ix2 o p) (ix2 o (⟨p.val, by omega⟩ : Fin 32)) (fun a => by
    match a with
    | ⟨0, _⟩ => show o.val = 0 + o.val; omega
    | ⟨1, _⟩ => show p.val = 0 + p.val; omega)]
  unfold k0_pay65
  have hs : shapeCast S64x1728 x6 shapeCasts_S64x1728_S64x1728 = x6 := funext fun z => shapeCast_apply _ _ _ _ rfl
  rw [hs]
  refine matmul_conv (C := 64) (n := 5) (S := 4) (P := 16) dot_S64x1728_S1728x32_S64x32_1_0_0_1_n_n rfl rfl rfl rfl rfl rfl rfl rfl rfl
    x6 _ ![r0, r1, r2] hsl shapeCasts_S64x1x1x4x4_S64x4x4 shapeCasts_S64x4x4_S64x16 _ y x p hp (fun q k l hl => ?_) W hW A d hA o
  refine (pair_left (Q := 32) _ _ _ l p ⟨p.val, by omega⟩ rfl).trans ?_
  exact cat27_apply (C := 64) (tapAt ![r0, r1, r2]) _ (ofFn27 _).symm _ q k l hl p

/-- The imaginary half of the product is the convolution of the imaginary parts. -/
theorem imOf_apply (r0 i0 r1 i1 r2 i2 : FVec Ideal S64x2x2x5x5 .f32) (x6 : FVec Ideal S64x1728 .f32)
    (W : (⟨5, ![64, 64, 3, 3, 3]⟩ : Shape).Idx → EReal)
    (hW : ∀ (o : Fin 64) (q : Fin 27) (k : Fin 64) (l : Fin 1728), l.val = 64 * q.val + k.val → x6 (ix2 o l) = wAt W o k q)
    (A : Fin 64 → ℕ → ℕ → ℕ → EReal) (d : ℕ)
    (hA : ∀ (kd : Fin 3) (k : Fin 64) (i j : Fin 2) (y x : Fin 5),
      (![i0, i1, i2] : Fin 3 → FVec Ideal S64x2x2x5x5 .f32) kd (ix5 k i j y x) = A k (d + kd.val) (2 * y.val + i.val) (2 * x.val + j.val))
    (o : Fin 64) (p : Fin 16) (y x : Fin 4) (hp : p.val = 4 * y.val + x.val) :
    imOf r0 i0 r1 i1 r2 i2 x6 (ix2 o p) = conv A W o d y.val x.val := by
  unfold imOf k0_pay67
  rw [extractStridedSlice_apply _ _ slices_S64x32_o0_16_S64x16 (ix2 o p) (ix2 o (⟨16 + p.val, by omega⟩ : Fin 32)) (fun a => by
    match a with
    | ⟨0, _⟩ => show o.val = 0 + o.val; omega
    | ⟨1, _⟩ => show 16 + p.val = 16 + p.val; omega)]
  unfold k0_pay65
  have hs : shapeCast S64x1728 x6 shapeCasts_S64x1728_S64x1728 = x6 := funext fun z => shapeCast_apply _ _ _ _ rfl
  rw [hs]
  refine matmul_conv (C := 64) (n := 5) (S := 4) (P := 16) dot_S64x1728_S1728x32_S64x32_1_0_0_1_n_n rfl rfl rfl rfl rfl rfl rfl rfl rfl
    x6 _ ![i0, i1, i2] hsl shapeCasts_S64x1x1x4x4_S64x4x4 shapeCasts_S64x4x4_S64x16 _ y x p hp (fun q k l hl => ?_) W hW A d hA o
  refine (pair_right _ _ _ l p _ rfl).trans ?_
  exact cat27_apply (C := 64) (tapAt ![i0, i1, i2]) _ (ofFn27 _).symm _ q k l hl p

end Cert.Proof.C2
-- ==== Proof.C2Final.lean ====
/-
  What the call of the last layer leaves in its three result arrays, at an index: the two
  convolutions of the activated padded input with their biases, and the sums of the magnitudes and of their squares.
-/
module

public import proofs.«01_k».proof.Proof.C2Product
public import Idealize.ShloMosaic.Lib.Pointwise

@[expose] public section

noncomputable section

namespace Cert.Proof.C2

open Cert.ConvC2Ideal Cert.ConvC2Ideal.Gen Cert.ConvC2Ideal.Value Idealize.ShloMosaic Idealize.ShloMosaic.TcCoe Idealize.SL.Sem
open Cert.Proof.ConvMath
open scoped BigOperators

variable (m : (ℓ : Loc nD τ sig) → Buf (Elt Ideal) ℓ)

/-- The real part after the activation of the padded input, at all naturals. -/
def aR (c : Dev nD) (b : Fin 32) (k : Fin 64) (i j l : ℕ) : EReal :=
  actR ((m ((c : Thread nD τ).loc main_arg5) : Vec Ideal S64x1 .f32) (ix2 k 0)) ((m ((c : Thread nD τ).loc main_arg6) : Vec Ideal S64x1 .f32) (ix2 k 0))
    (padAt (m ((c : Thread nD τ).loc main_arg0)) b k i j l) (padAt (m ((c : Thread nD τ).loc main_arg1)) b k i j l)

/-- The imaginary part after the activation of the padded input, at all naturals. -/
def aI (c : Dev nD) (b : Fin 32) (k : Fin 64) (i j l : ℕ) : EReal :=
  actI ((m ((c : Thread nD τ).loc main_arg5) : Vec Ideal S64x1 .f32) (ix2 k 0)) ((m ((c : Thread nD τ).loc main_arg6) : Vec Ideal S64x1 .f32) (ix2 k 0))
    (padAt (m ((c : Thread nD τ).loc main_arg0)) b k i j l) (padAt (m ((c : Thread nD τ).loc main_arg1)) b k i j l)

/-- The real result. -/
def fR (c : Dev nD) (b : Fin 32) (o : Fin 64) (d y x : ℕ) : EReal :=
  conv (aR m c b) (m ((c : Thread nD τ).loc main_arg2)) o d y x + (m ((c : Thread nD τ).loc main_arg3) : Vec Ideal S64 .f32) (ix1 o)

/-- The imaginary result. -/
def fI (c : Dev nD) (b : Fin 32) (o : Fin 64) (d y x : ℕ) : EReal :=
  conv (aI m c b) (m ((c : Thread nD τ).loc main_arg2)) o d y x + (m ((c : Thread nD τ).loc main_arg4) : Vec Ideal S64 .f32) (ix1 o)

/-- The result's magnitude. -/
def fM (c : Dev nD) (b : Fin 32) (o : Fin 64) (d y x : ℕ) : EReal := mag (fR m c b o d y x) (fI m c b o d y x)

/-- The real block at a point, at an index. -/
theorem reAt_apply (c : Dev nD) (t : Fin cfg0.N) (o : Fin 64) (p : Fin 16) (y x : Fin 4) (hp : p.val = 4 * y.val + x.val) :
    reAt m c t (ix2 o p) = fR m c (batch t) o (t.val % 32) y.val x.val := by
  unfold reAt fR
  refine (reOf_apply _ _ _ _ _ _ _ _ (m ((c : Thread nD τ).loc main_arg2)) (fun o q k l hl => block6 m c t o q k l hl) (aR m c (batch t)) (t.val % 32) ?_ o p y x hp).trans
    (congrArg _ (block7 m c t o))
  intro kd k i j y x
  unfold aR
  fin_cases kd
  · refine (act_re0 _ _ _ _ k i j y x).trans ?_
    rw [block0 m c t k i j y x, block3 m c t k i j y x, block9 m c t k, block10 m c t k]
  · refine (act_re1 _ _ _ _ k i j y x).trans ?_
    rw [block1 m c t k i j y x, block4 m c t k i j y x, block9 m c t k, block10 m c t k]
  · refine (act_re2 _ _ _ _ k i j y x).trans ?_
    rw [block2 m c t k i j y x, block5 m c t k i j y x, block9 m c t k, block10 m c t k]

/-- The imaginary block at a point, with its bias, at an index. -/
theorem imAt_apply (c : Dev nD) (t : Fin cfg0.N) (o : Fin 64) (p : Fin 16) (y x : Fin 4) (hp : p.val = 4 * y.val + x.val) :
    k0_pay68 (imAt m c t) (iblk m c 8 t) (ix2 o p) = fI m c (batch t) o (t.val % 32) y.val x.val := by
  unfold fI k0_pay68
  refine congrArg₂ (· + ·) ?_ ((col2_apply (iblk m c 8 t) shapeCasts_S64x1_S64x1 broadcasts_S64x1_S64x16 o p).trans (block8 m c t o))
  unfold imAt
  refine imOf_apply _ _ _ _ _ _ _ (m ((c : Thread nD τ).loc main_arg2)) (fun o q k l hl => block6 m c t o q k l hl) (aI m c (batch t)) (t.val % 32) ?_ o p y x hp
  intro kd k i j y x
  unfold aI
  fin_cases kd
  · refine (act_im0 _ _ _ _ k i j y x).trans ?_
    rw [block0 m c t k i j y x, block3 m c t k i j y x, block9 m c t k, block10 m c t k]
  · refine (act_im1 _ _ _ _ k i j y x).trans ?_
    rw [block1 m c t k i j y x, block4 m c t k i j y x, block9 m c t k, block10 m c t k]
  · refine (act_im2 _ _ _ _ k i j y x).trans ?_
    rw [block2 m c t k i j y x, block5 m c t k i j y x, block9 m c t k, block10 m c t k]

/-- The magnitudes at a point, at an index. -/
theorem magAt_apply (c : Dev nD) (t : Fin cfg0.N) (o : Fin 64) (p : Fin 16) (y x : Fin 4) (hp : p.val = 4 * y.val + x.val) :
    k0_pay71 (reAt m c t) (imAt m c t) (iblk m c 8 t) (ix2 o p) = fM m c (batch t) o (t.val % 32) y.val x.val := by
  unfold fM
  rw [← reAt_apply m c t o p y x hp, ← imAt_apply m c t o p y x hp]
  rfl

/-- A sum over a block's positions, row by row. -/
theorem sum_positions (f : Fin 16 → EReal) (g : ℕ → ℕ → EReal) (h : ∀ (p : Fin 16) (y x : Fin 4), p.val = 4 * y.val + x.val → f p = g y.val x.val) :
    ∑ p, f p = ∑ y : Fin 4, ∑ x : Fin 4, g y.val x.val := by
  rw [← (finProdFinEquiv (m := 4) (n := 4)).sum_comp f, Fintype.sum_prod_type]
  refine Finset.sum_congr rfl fun y _ => Finset.sum_congr rfl fun x _ => h _ y x ?_
  show x.val + 4 * y.val = _
  omega

/-- The first row's step adds the row sum of the magnitudes. -/
theorem step0_apply (u v : FVec Ideal S64x16 .f32) (w : Vec Ideal S64x1 .f32) (old : Vec Ideal S1x64 .f32) (o : Fin 64) :
    k0_pay73 u v w old (ix2 0 o) = old (ix2 0 o) + ∑ p : Fin 16, k0_pay71 u v w (ix2 o p) := by
  unfold k0_pay73
  pointwise

/-- The second row's step adds the row sum of the magnitudes' squares. -/
theorem step1_apply (u v : FVec Ideal S64x16 .f32) (w : Vec Ideal S64x1 .f32) (old : Vec Ideal S1x64 .f32) (o : Fin 64) :
    k0_pay1 (k0_pay74 u v w old) (ix2 0 o) = old (ix2 0 o) + ∑ p : Fin 16, k0_pay71 u v w (ix2 o p) * k0_pay71 u v w (ix2 o p) := by
  unfold k0_pay1 k0_pay74
  pointwise

end Cert.Proof.C2
-- ==== Proof.C2Out.lean ====
/-
  The three result arrays of the call of the last layer, at an index.
-/
module

public import proofs.«01_k».proof.Proof.C2Final

@[expose] public section

noncomputable section

namespace Cert.Proof.C2

open Cert.ConvC2Ideal Cert.ConvC2Ideal.Gen Cert.ConvC2Ideal.Value Idealize.ShloMosaic Idealize.ShloMosaic.TcCoe Idealize.SL.Sem
open Cert.Proof.ConvMath
open scoped BigOperators

variable (m : (ℓ : Loc nD τ sig) → Buf (Elt Ideal) ℓ)

/-- What a depth adds to the two sums. -/
def part (c : Dev nD) (b : Fin 32) (r : Fin 2) (o : Fin 64) (d : ℕ) : EReal :=
  if r.val = 0 then ∑ y : Fin 4, ∑ x : Fin 4, fM m c b o d y.val x.val
  else ∑ y : Fin 4, ∑ x : Fin 4, fM m c b o d y.val x.val * fM m c b o d y.val x.val

/-- One step of the running sums, at an index. -/
theorem stepRows_apply (c : Dev nD) (t : Fin cfg0.N) (prev : FVec Ideal S2x64 .f32) (r : Fin 2) (o : Fin 64) :
    stepRows m c t prev (ix2 r o) = prev (ix2 r o) + part m c (batch t) r o (t.val % 32) := by
  unfold stepRows Rows.rows part
  show (if r.val = 0 then _ else _) = _
  by_cases h : r.val = 0
  · have e : r = 0 := Fin.ext h
    subst e
    rw [if_pos h, if_pos h]
    refine (step0_apply _ _ _ _ o).trans (congrArg₂ (· + ·) rfl ?_)
    exact sum_positions _ _ fun p y x hp => magAt_apply m c t o p y x hp
  · have e : r = 1 := Fin.ext (by have := r.isLt; show r.val = 1; omega)
    subst e
    rw [if_neg h, if_neg h]
    refine (step1_apply _ _ _ _ o).trans (congrArg₂ (· + ·) rfl ?_)
    refine sum_positions _ (fun y x => fM m c (batch t) o (t.val % 32) y x * fM m c (batch t) o (t.val % 32) y x) fun p y x hp => ?_
    rw [magAt_apply m c t o p y x hp]

/-- A point of the grid by its batch row and depth. -/
def point (b : Fin 32) (d : ℕ) (hd : d < 32) : Fin cfg0.N := ⟨32 * b.val + d, lt_of_lt_of_eq (by omega) N_0.symm⟩

/-- The batch row of a point. -/
theorem batch_point (b : Fin 32) (d : ℕ) (hd : d < 32) : batch (point b d hd) = b :=
  Fin.ext (by show (32 * b.val + d) / 32 = b.val; omega)

/-- The depth of a point. -/
theorem depth_point (b : Fin 32) (d : ℕ) (hd : d < 32) : (point b d hd).val % 32 = d := by
  show (32 * b.val + d) % 32 = d
  omega

/-- What the points leave depends on the point's number alone. -/
theorem outs_congr (c : Dev nD) (n : ℕ) (hn : n < cfg0.N) (t : Fin cfg0.N) (e : n = t.val) :
    outsAt0 m c n hn = outsAt0 m c t.val t.isLt := by
  subst e; rfl

/-- The running sums after a depth step: the sum of what the depths so far add. -/
theorem scratch_apply (c : Dev nD) (b : Fin 32) (r : Fin 2) (o : Fin 64) (d : ℕ) (hd : d < 32) :
    (outsAt0 m c (point b d hd).val (point b d hd).isLt).2.2.2 (ix2 r o) = ∑ e ∈ Finset.range (d + 1), part m c b r o e := by
  induction d with
  | zero =>
    rw [scr_A m c (point b 0 hd) (depth_point b 0 hd) (by rw [depth_point b 0 hd]; decide), stepRows_apply, batch_point, depth_point,
      Finset.sum_range_one]
    refine (congrArg (· + part m c b r o 0) ?_).trans (zero_add _)
    show shapeCast S2x64 (fun _ => Ideal.ofBits .f32 0x00000000#32) shapeCasts_S2x64_S2x64 (ix2 r o) = 0
    rw [shapeCast_self]
    exact Ideal.ofBits_zero_f32
  | succ d ih =>
    have hd' : d < 32 := by omega
    have h0 : ¬(point b (d + 1) hd).val % 32 = 0 := by rw [depth_point]; omega
    have hs : (outsAt0 m c (point b (d + 1) hd).val (point b (d + 1) hd).isLt).2.2.2
        = stepRows m c (point b (d + 1) hd) (outsAt0 m c (point b d hd').val (point b d hd').isLt).2.2.2 := by
      by_cases h1 : (point b (d + 1) hd).val % 32 = 31
      · exact (scr_C m c _ h0 h1).trans (congrArg (fun z => stepRows m c (point b (d + 1) hd) z.2.2.2) (outs_congr m c _ _ (point b d hd') rfl))
      · exact (scr_B m c _ h0 h1).trans (congrArg (fun z => stepRows m c (point b (d + 1) hd) z.2.2.2) (outs_congr m c _ _ (point b d hd') rfl))
    rw [hs, stepRows_apply, ih hd', batch_point, depth_point, Finset.sum_range_succ _ (d + 1)]

/-- The real block left at a point. -/
theorem out11 (c : Dev nD) (t : Fin cfg0.N) : (outsAt0 m c t.val t.isLt).1 = k0_pay69 (reAt m c t) := by
  by_cases h0 : t.val % 32 = 0
  · exact out11_A m c t h0 (by omega)
  · by_cases h1 : t.val % 32 = 31
    · exact out11_C m c t h0 h1
    · exact out11_B m c t h0 h1

/-- The imaginary block left at a point. -/
theorem out12 (c : Dev nD) (t : Fin cfg0.N) : (outsAt0 m c t.val t.isLt).2.1 = k0_pay70 (imAt m c t) (iblk m c 8 t) := by
  by_cases h0 : t.val % 32 = 0
  · exact out12_A m c t h0 (by omega)
  · by_cases h1 : t.val % 32 = 31
    · exact out12_C m c t h0 h1
    · exact out12_B m c t h0 h1

/-- A real block written out, at an index. -/
theorem pay69_apply (v : FVec Ideal S64x16 .f32) (o : Fin 64) (y x : Fin 4) (p : Fin 16) (hp : p.val = 4 * y.val + x.val) :
    k0_pay69 v (ix5 0 o 0 y x) = v (ix2 o p) := by
  unfold k0_pay69
  exact outBlock_apply (O := 64) (S := 4) (P := 16) (by decide) v _ _ o y x p hp

/-- An imaginary block written out, at an index. -/
theorem pay70_apply (v : FVec Ideal S64x16 .f32) (w : Vec Ideal S64x1 .f32) (o : Fin 64) (y x : Fin 4) (p : Fin 16) (hp : p.val = 4 * y.val + x.val) :
    k0_pay70 v w (ix5 0 o 0 y x) = k0_pay68 v w (ix2 o p) := by
  unfold k0_pay70
  exact outBlock_apply (O := 64) (S := 4) (P := 16) (by decide) (k0_pay68 v w) _ _ o y x p hp

/-- A place of the real result in its block. -/
theorem loc11 (b : Fin 32) (o : Fin 64) (d : Fin 32) (y x : Fin 4) : loc11Of (ix5 b o d y x) = ix5 0 o 0 y x := by
  funext a; apply Fin.ext
  match a with
  | ⟨0, _⟩ => show b.val % 1 = 0; omega
  | ⟨1, _⟩ => show o.val % 64 = o.val; omega
  | ⟨2, _⟩ => show d.val % 1 = 0; omega
  | ⟨3, _⟩ => show y.val % 4 = y.val; omega
  | ⟨4, _⟩ => show x.val % 4 = x.val; omega

/-- The point that writes a place of the real result. -/
theorem pt11 (b : Fin 32) (o : Fin 64) (d : Fin 32) (y x : Fin 4) : pt11Of (ix5 b o d y x) = (point b d.val d.isLt).val := by
  show 32 * (b.val / 1 - 0) + 32 * (o.val / 64 - 0) + 1 * (d.val / 1 - 0) + 1 * (y.val / 4 - 0) + 1 * (x.val / 4 - 0) = 32 * b.val + d.val
  omega

/-- A place of the imaginary result in its block. -/
theorem loc12 (b : Fin 32) (o : Fin 64) (d : Fin 32) (y x : Fin 4) : loc12Of (ix5 b o d y x) = ix5 0 o 0 y x := by
  funext a; apply Fin.ext
  match a with
  | ⟨0, _⟩ => show b.val % 1 = 0; omega
  | ⟨1, _⟩ => show o.val % 64 = o.val; omega
  | ⟨2, _⟩ => show d.val % 1 = 0; omega
  | ⟨3, _⟩ => show y.val % 4 = y.val; omega
  | ⟨4, _⟩ => show x.val % 4 = x.val; omega

/-- The point that writes a place of the imaginary result. -/
theorem pt12 (b : Fin 32) (o : Fin 64) (d : Fin 32) (y x : Fin 4) : pt12Of (ix5 b o d y x) = (point b d.val d.isLt).val := by
  show 32 * (b.val / 1 - 0) + 32 * (o.val / 64 - 0) + 1 * (d.val / 1 - 0) + 1 * (y.val / 4 - 0) + 1 * (x.val / 4 - 0) = 32 * b.val + d.val
  omega

/-- The real result array, from what the writing point leaves. -/
theorem at11 (c : Dev nD) (i : S32x64x32x4x4.Idx) (h : pt11Of i < cfg0.N) :
    G11 m c i = (outsAt0 m c (pt11Of i) h).1 (loc11Of i) := by
  unfold G11
  rw [dif_pos h, outsAt0_sweep]

/-- The real result array. -/
theorem G11_apply (c : Dev nD) (b : Fin 32) (o : Fin 64) (d : Fin 32) (y x : Fin 4) :
    (G11 m c : Vec Ideal S32x64x32x4x4 .f32) (ix5 b o d y x) = fR m c b o d.val y.val x.val := by
  have hp := pt11 b o d y x
  have hlt : pt11Of (ix5 b o d y x) < cfg0.N := lt_of_eq_of_lt hp (point b d.val d.isLt).isLt
  rw [at11 m c (ix5 b o d y x) hlt, outs_congr m c _ hlt _ hp, out11, loc11]
  refine (pay69_apply _ o y x ⟨4 * y.val + x.val, by omega⟩ rfl).trans ?_
  rw [reAt_apply m c _ o _ y x rfl, batch_point, depth_point]

/-- The imaginary result array, from what the writing point leaves. -/
theorem at12 (c : Dev nD) (i : S32x64x32x4x4.Idx) (h : pt12Of i < cfg0.N) :
    G12 m c i = (outsAt0 m c (pt12Of i) h).2.1 (loc12Of i) := by
  unfold G12
  rw [dif_pos h, outsAt0_sweep]

/-- The imaginary result array. -/
theorem G12_apply (c : Dev nD) (b : Fin 32) (o : Fin 64) (d : Fin 32) (y x : Fin 4) :
    (G12 m c : Vec Ideal S32x64x32x4x4 .f32) (ix5 b o d y x) = fI m c b o d.val y.val x.val := by
  have hp := pt12 b o d y x
  have hlt : pt12Of (ix5 b o d y x) < cfg0.N := lt_of_eq_of_lt hp (point b d.val d.isLt).isLt
  rw [at12 m c (ix5 b o d y x) hlt, outs_congr m c _ hlt _ hp, out12, loc12]
  refine (pay70_apply _ _ o y x ⟨4 * y.val + x.val, by omega⟩ rfl).trans ?_
  rw [imAt_apply m c _ o _ y x rfl, batch_point, depth_point]

/-- A place of the sums in their block. -/
theorem loc13 (b : Fin 32) (r : Fin 2) (o : Fin 64) : loc13Of (ix3 b r o) = ix3 0 r o := by
  funext a; apply Fin.ext
  match a with
  | ⟨0, _⟩ => show b.val % 1 = 0; omega
  | ⟨1, _⟩ => show r.val % 2 = r.val; omega
  | ⟨2, _⟩ => show o.val % 64 = o.val; omega

/-- The point that writes a place of the sums. -/
theorem pt13 (b : Fin 32) (r : Fin 2) (o : Fin 64) : pt13Of (ix3 b r o) = (point b 31 (by decide)).val := by
  show 32 * (1 * (b.val / 1 - 0) + 1 * (r.val / 2 - 0) + 1 * (o.val / 64 - 0)) + 31 = 32 * b.val + 31
  omega

/-- The array of sums, from what the writing point leaves. -/
theorem at13 (c : Dev nD) (i : S32x2x64.Idx) (h : pt13Of i < cfg0.N) :
    G13 m c i = (outsAt0 m c (pt13Of i) h).2.2.1 (loc13Of i) := by
  unfold G13
  rw [dif_pos h, outsAt0_sweep]

/-- The array of sums. -/
theorem G13_apply (c : Dev nD) (b : Fin 32) (r : Fin 2) (o : Fin 64) :
    (G13 m c : Vec Ideal S32x2x64 .f32) (ix3 b r o) = ∑ d : Fin 32, part m c b r o d.val := by
  have hp := pt13 b r o
  have h0 : ¬(point b 31 (by decide)).val % 32 = 0 := by rw [depth_point]; decide
  have h1 : (point b 31 (by decide)).val % 32 = 31 := depth_point b 31 (by decide)
  have hlt : pt13Of (ix3 b r o) < cfg0.N := lt_of_eq_of_lt hp (point b 31 (by decide)).isLt
  rw [at13 m c (ix3 b r o) hlt, outs_congr m c _ hlt _ hp, out13_C m c _ h0 h1, loc13, ← scr_C m c _ h0 h1]
  unfold k0_pay2
  refine (shapeCast_apply _ shapeCasts_S2x64_S1x2x64 (ix3 0 r o) (ix2 r o) ?_).trans ?_
  · rw [Shape.rowMajor_val_two, Shape.rowMajor_val_three]
    show r.val * 64 + o.val = (0 * 2 + r.val) * 64 + o.val
    omega
  · rw [scratch_apply m c b r o 31 (by decide), Finset.sum_range]

end Cert.Proof.C2
-- ==== Proof.C2Ref.lean ====
/-
  What the reference of the last layer computes, at an index: the convolution of the padded
  activated input as one sum over window positions and input channels, its bias, the magnitudes and their sums.
-/
module

public import proofs.«01_k».proof.Proof.Gen.RefC2Ideal.Run
public import proofs.«01_k».proof.Proof.ConvHost
public import proofs.«01_k».proof.Proof.ConvRef

@[expose] public section

noncomputable section

namespace Cert.Proof.C2Ref

open Cert.RefC2Ideal Cert.RefC2Ideal.Gen Cert.RefC2Ideal.Value Idealize.ShloMosaic Idealize.ShloMosaic.TcCoe Idealize.SL.Sem
open Cert.Proof.ConvMath
open scoped BigOperators

variable (V0 : Valuation τ sig (Elt Ideal))

/-- The activated real input. -/
def actArrR : FVec Ideal S32x64x32x8x8 .f32 := mulf (res_main_v14 V0) (Host.cos (res_main_v6 V0))

/-- The activated imaginary input. -/
def actArrI : FVec Ideal S32x64x32x8x8 .f32 := mulf (res_main_v14 V0) (Host.sin (res_main_v6 V0))

/-- The activated magnitude of the input, at an index. -/
theorem actMag_apply (b : Fin 32) (k : Fin 64) (i : Fin 32) (j l : Fin 8) :
    (res_main_v14 V0 : FVec Ideal S32x64x32x8x8 .f32) (ix5 b k i j l)
      = actMag ((V0 (Proc.devRef .tc main_arg5) : FVec Ideal S64x1 .f32) (ix2 k 0)) ((V0 (Proc.devRef .tc main_arg6) : FVec Ideal S64x1 .f32) (ix2 k 0))
        ((V0 (Proc.devRef .tc main_arg0) : FVec Ideal S32x64x32x8x8 .f32) (ix5 b k i j l)) ((V0 (Proc.devRef .tc main_arg1) : FVec Ideal S32x64x32x8x8 .f32) (ix5 b k i j l)) := by
  unfold res_main_v14 actMag
  refine congrArg₂ (max : EReal → EReal → EReal) (congrArg₂ (· + ·) (congrArg₂ (· * ·) rfl ?_) ?_) rfl
  · exact chan_apply (V0 (Proc.devRef .tc main_arg5)) _ _ b k i j l
  · exact chan_apply (V0 (Proc.devRef .tc main_arg6)) _ _ b k i j l

/-- The activated real input, at an index. -/
theorem actArrR_apply (b : Fin 32) (k : Fin 64) (i : Fin 32) (j l : Fin 8) :
    actArrR V0 (ix5 b k i j l)
      = actR ((V0 (Proc.devRef .tc main_arg5) : FVec Ideal S64x1 .f32) (ix2 k 0)) ((V0 (Proc.devRef .tc main_arg6) : FVec Ideal S64x1 .f32) (ix2 k 0))
        ((V0 (Proc.devRef .tc main_arg0) : FVec Ideal S32x64x32x8x8 .f32) (ix5 b k i j l)) ((V0 (Proc.devRef .tc main_arg1) : FVec Ideal S32x64x32x8x8 .f32) (ix5 b k i j l)) :=
  congrArg₂ (· * ·) (actMag_apply V0 b k i j l) rfl

/-- The activated imaginary input, at an index. -/
theorem actArrI_apply (b : Fin 32) (k : Fin 64) (i : Fin 32) (j l : Fin 8) :
    actArrI V0 (ix5 b k i j l)
      = actI ((V0 (Proc.devRef .tc main_arg5) : FVec Ideal S64x1 .f32) (ix2 k 0)) ((V0 (Proc.devRef .tc main_arg6) : FVec Ideal S64x1 .f32) (ix2 k 0))
        ((V0 (Proc.devRef .tc main_arg0) : FVec Ideal S32x64x32x8x8 .f32) (ix5 b k i j l)) ((V0 (Proc.devRef .tc main_arg1) : FVec Ideal S32x64x32x8x8 .f32) (ix5 b k i j l)) :=
  congrArg₂ (· * ·) (actMag_apply V0 b k i j l) rfl

/-- The pad's value is zero. -/
theorem refZero : (sitofp (F := Ideal) .f32 (constantI S_ 32 0#32)) (Shape.Idx.first h_S_) = 0 := by
  show ((((0#32 : BitVec 32).toInt : ℤ) : ℝ) : EReal) = 0
  simp

/-- The padded real input of the convolution, at an index. -/
theorem padR_apply (b : Fin 32) (k : Fin 64) (i : Fin 34) (j l : Fin 10) :
    (res_main_v19 V0 : FVec Ideal S32x64x34x10x10 .f32) (ix5 b k i j l) = padAt (actArrR V0) b k i.val j.val l.val :=
  pad_apply (actArrR V0) _ _ _ refZero b k i j l

/-- The sum of the first 10 terms of the real convolution, at an index. -/
theorem sumR10 (b : Fin 32) (d : Fin 32) (y x : Fin 4) (o : Fin 64) :
    (res_main_v70 V0 : FVec Ideal S32x32x4x4x64 .f32) (ix5 b d y x o)
      = (0 : EReal) + refT (padAt (actArrR V0)) b (V0 (Proc.devRef .tc main_arg2)) o d.val y.val x.val 0 + refT (padAt (actArrR V0)) b (V0 (Proc.devRef .tc main_arg2)) o d.val y.val x.val 1 + refT (padAt (actArrR V0)) b (V0 (Proc.devRef .tc main_arg2)) o d.val y.val x.val 2 + refT (padAt (actArrR V0)) b (V0 (Proc.devRef .tc main_arg2)) o d.val y.val x.val 3 + refT (padAt (actArrR V0)) b (V0 (Proc.devRef .tc main_arg2)) o d.val y.val x.val 4 + refT (padAt (actArrR V0)) b (V0 (Proc.devRef .tc main_arg2)) o d.val y.val x.val 5 + refT (padAt (actArrR V0)) b (V0 (Proc.devRef .tc main_arg2)) o d.val y.val x.val 6 + refT (padAt (actArrR V0)) b (V0 (Proc.devRef .tc main_arg2)) o d.val y.val x.val 7 + refT (padAt (actArrR V0)) b (V0 (Proc.devRef .tc main_arg2)) o d.val y.val x.val 8 + refT (padAt (actArrR V0)) b (V0 (Proc.devRef .tc main_arg2)) o d.val y.val x.val 9 := by
  unfold res_main_v70
  refine congrArg₂ (· + ·) ?_ (refTerm_apply (f := padAt (actArrR V0)) 1 0 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 2 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 1 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 0 0 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  exact Ideal.ofBits_zero_f32

/-- The sum of the first 21 terms of the real convolution, at an index. -/
theorem sumR21 (b : Fin 32) (d : Fin 32) (y x : Fin 4) (o : Fin 64) :
    (res_main_v125 V0 : FVec Ideal S32x32x4x4x64 .f32) (ix5 b d y x o)
      = (0 : EReal) + refT (padAt (actArrR V0)) b (V0 (Proc.devRef .tc main_arg2)) o d.val y.val x.val 0 + refT (padAt (actArrR V0)) b (V0 (Proc.devRef .tc main_arg2)) o d.val y.val x.val 1 + refT (padAt (actArrR V0)) b (V0 (Proc.devRef .tc main_arg2)) o d.val y.val x.val 2 + refT (padAt (actArrR V0)) b (V0 (Proc.devRef .tc main_arg2)) o d.val y.val x.val 3 + refT (padAt (actArrR V0)) b (V0 (Proc.devRef .tc main_arg2)) o d.val y.val x.val 4 + refT (padAt (actArrR V0)) b (V0 (Proc.devRef .tc main_arg2)) o d.val y.val x.val 5 + refT (padAt (actArrR V0)) b (V0 (Proc.devRef .tc main_arg2)) o d.val y.val x.val 6 + refT (padAt (actArrR V0)) b (V0 (Proc.devRef .tc main_arg2)) o d.val y.val x.val 7 + refT (padAt (actArrR V0)) b (V0 (Proc.devRef .tc main_arg2)) o d.val y.val x.val 8 + refT (padAt (actArrR V0)) b (V0 (Proc.devRef .tc main_arg2)) o d.val y.val x.val 9 + refT (padAt (actArrR V0)) b (V0 (Proc.devRef .tc main_arg2)) o d.val y.val x.val 10 + refT (padAt (actArrR V0)) b (V0 (Proc.devRef .tc main_arg2)) o d.val y.val x.val 11 + refT (padAt (actArrR V0)) b (V0 (Proc.devRef .tc main_arg2)) o d.val y.val x.val 12 + refT (padAt (actArrR V0)) b (V0 (Proc.devRef .tc main_arg2)) o d.val y.val x.val 13 + refT (padAt (actArrR V0)) b (V0 (Proc.devRef .tc main_arg2)) o d.val y.val x.val 14 + refT (padAt (actArrR V0)) b (V0 (Proc.devRef .tc main_arg2)) o d.val y.val x.val 15 + refT (padAt (actArrR V0)) b (V0 (Proc.devRef .tc main_arg2)) o d.val y.val x.val 16 + refT (padAt (actArrR V0)) b (V0 (Proc.devRef .tc main_arg2)) o d.val y.val x.val 17 + refT (padAt (actArrR V0)) b (V0 (Proc.devRef .tc main_arg2)) o d.val y.val x.val 18 + refT (padAt (actArrR V0)) b (V0 (Proc.devRef .tc main_arg2)) o d.val y.val x.val 19 + refT (padAt (actArrR V0)) b (V0 (Proc.devRef .tc main_arg2)) o d.val y.val x.val 20 := by
  unfold res_main_v125
  refine congrArg₂ (· + ·) ?_ (refTerm_apply (f := padAt (actArrR V0)) 2 0 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 0 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 0 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 2 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 1 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 0 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 1 0 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  exact sumR10 V0 b d y x o

/-- The real convolution with its bias, at an index. -/
theorem resR_apply (b : Fin 32) (o : Fin 64) (d : Fin 32) (y x : Fin 4) :
    (res_main_v159 V0 : FVec Ideal S32x64x32x4x4 .f32) (ix5 b o d y x)
      = conv (padAt (actArrR V0) b) (V0 (Proc.devRef .tc main_arg2)) o d.val y.val x.val + (V0 (Proc.devRef .tc main_arg3) : FVec Ideal S64 .f32) (ix1 o) := by
  unfold res_main_v159
  refine congrArg₂ (· + ·) ?_ (bias_apply (V0 (Proc.devRef .tc main_arg3)) _ _ b o d y x)
  refine (toFront_apply _ _ b o d y x).trans ?_
  rw [← refT_sum]
  refine congrArg₂ (· + ·) ?_ (refTerm_apply (f := padAt (actArrR V0)) 2 2 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 2 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 2 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 2 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 1 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  refine congrArg₂ (· + ·) ?_ (refTerm_apply (f := padAt (actArrR V0)) 2 1 0 dot_S32x64x32x4x4_S64x64_S32x32x4x4x64_1_1_0234_0_n_n rfl rfl rfl rfl rfl rfl
    (res_main_v19 V0) (padR_apply V0) _ (V0 (Proc.devRef .tc main_arg2)) _ _ (by decide) (by decide) (by decide) b d y x o)
  exact sumR21 V0 b d y x o

/-- The padded imaginary input of the convolution, at an index. -/
theorem padI_apply (b : Fin 32) (k : Fin 64) (i : Fin 34) (j l : Fin 10) :
    (res_main_v160 V0 : FVec Ideal S32x64x34x10x10 .f32) (ix5 b k i j l) = padAt (actArrI V0) b k i.val j.val l.val :=
  pad_apply (actArrI V0) _ _ _ refZero b k i j l

/-- The sum of the first 10 terms of the imaginary convolution, at an index. -/
theorem sumI10 (b : Fin 32) (d : Fin 32) (y x : Fin 4) (o : Fin 64) :
    (res_main_v211 V0 : FVec Ideal S32x32x4x4x64 .f32) (ix5 b d y x o)
      = (0 : EReal) + refT (padAt (actArrI V0)) b (V0 (Proc.devRef .tc main_arg2)) o d.val y.val x.val 0 + refT (padAt (actArrI V0)) b (V0 (Proc.devRef .tc main_arg2)) o d.val y.val x.val 1 + refT (padAt (actArrI V0)) b (V0 (Proc.devRef .tc main_arg2)) o d.val y.val x.val 2 + refT (padAt (actArrI V0)) b (V0 (Proc.devRef .tc main_arg2)) o d.val y.val x.val 3 + refT (padAt (actArrI V0)) b (V0 (Proc.devRef .tc main_arg2)) o d.val y.val x.val 4 + refT (padAt (actArrI V0)) b (V0 (Proc.devRef .tc main_arg2)) o d.val y.val x.val 5 + refT (padAt (actArrI V0)) b (V0 (Proc.devRef .tc main_arg2)) o d.val y.val x.val 6 + refT (padAt (actArrI V0)) b (V0 (Proc.devRef .tc main_arg2)) o d.val y.val x.val 7 + refT (padAt (actArrI V0)) b (V0 (Proc.devRef .tc main_arg2)) o d.val y.val x.val 8 + refT (padAt (actArrI V0)) b (V0 (Proc.devRef .tc main_arg2)) o d.val y.val x.val 9 := by
  unfold res_main_v211
  refine congrArg₂ (· + ·) ?_ (refTerm_apply (f := padAt (actArrI V0)) 1 0 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 2 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 1 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 0 0 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  exact Ideal.ofBits_zero_f32

/-- The sum of the first 21 terms of the imaginary convolution, at an index. -/
theorem sumI21 (b : Fin 32) (d : Fin 32) (y x : Fin 4) (o : Fin 64) :
    (res_main_v266 V0 : FVec Ideal S32x32x4x4x64 .f32) (ix5 b d y x o)
      = (0 : EReal) + refT (padAt (actArrI V0)) b (V0 (Proc.devRef .tc main_arg2)) o d.val y.val x.val 0 + refT (padAt (actArrI V0)) b (V0 (Proc.devRef .tc main_arg2)) o d.val y.val x.val 1 + refT (padAt (actArrI V0)) b (V0 (Proc.devRef .tc main_arg2)) o d.val y.val x.val 2 + refT (padAt (actArrI V0)) b (V0 (Proc.devRef .tc main_arg2)) o d.val y.val x.val 3 + refT (padAt (actArrI V0)) b (V0 (Proc.devRef .tc main_arg2)) o d.val y.val x.val 4 + refT (padAt (actArrI V0)) b (V0 (Proc.devRef .tc main_arg2)) o d.val y.val x.val 5 + refT (padAt (actArrI V0)) b (V0 (Proc.devRef .tc main_arg2)) o d.val y.val x.val 6 + refT (padAt (actArrI V0)) b (V0 (Proc.devRef .tc main_arg2)) o d.val y.val x.val 7 + refT (padAt (actArrI V0)) b (V0 (Proc.devRef .tc main_arg2)) o d.val y.val x.val 8 + refT (padAt (actArrI V0)) b (V0 (Proc.devRef .tc main_arg2)) o d.val y.val x.val 9 + refT (padAt (actArrI V0)) b (V0 (Proc.devRef .tc main_arg2)) o d.val y.val x.val 10 + refT (padAt (actArrI V0)) b (V0 (Proc.devRef .tc main_arg2)) o d.val y.val x.val 11 + refT (padAt (actArrI V0)) b (V0 (Proc.devRef .tc main_arg2)) o d.val y.val x.val 12 + refT (padAt (actArrI V0)) b (V0 (Proc.devRef .tc main_arg2)) o d.val y.val x.val 13 + refT (padAt (actArrI V0)) b (V0 (Proc.devRef .tc main_arg2)) o d.val y.val x.val 14 + refT (padAt (actArrI V0)) b (V0 (Proc.devRef .tc main_arg2)) o d.val y.val x.val 15 + refT (padAt (actArrI V0)) b (V0 (Proc.devRef .tc main_arg2)) o d.val y.val x.val 16 + refT (padAt (actArrI V0)) b (V0 (Proc.devRef .tc main_arg2)) o d.val y.val x.val 17 + refT (padAt (actArrI V0)) b (V0 (Proc.devRef .tc main_arg2)) o d.val y.val x.val 18 + refT (padAt (actArrI V0)) b (V0 (Proc.devRef .tc main_arg2)) o d.val y.val x.val 19 + refT (padAt (actArrI V0)) b (V0 (Proc.devRef .tc main_arg2)) o d.val y.val x.val 20 := by
  unfold res_main_v266
  refine congrArg₂ (· + ·) ?_ (refTerm_apply (f := padAt (actArrI V0)) 2 0 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 0 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 0 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 2 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 1 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 0 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 1 0 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  exact sumI10 V0 b d y x o

/-- The imaginary convolution with its bias, at an index. -/
theorem resI_apply (b : Fin 32) (o : Fin 64) (d : Fin 32) (y x : Fin 4) :
    (res_main_v300 V0 : FVec Ideal S32x64x32x4x4 .f32) (ix5 b o d y x)
      = conv (padAt (actArrI V0) b) (V0 (Proc.devRef .tc main_arg2)) o d.val y.val x.val + (V0 (Proc.devRef .tc main_arg4) : FVec Ideal S64 .f32) (ix1 o) := by
  unfold res_main_v300
  refine congrArg₂ (· + ·) ?_ (bias_apply (V0 (Proc.devRef .tc main_arg4)) _ _ b o d y x)
  refine (toFront_apply _ _ b o d y x).trans ?_
  rw [← refT_sum]
  refine congrArg₂ (· + ·) ?_ (refTerm_apply (f := padAt (actArrI V0)) 2 2 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 2 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 2 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 2 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 1 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  refine congrArg₂ (· + ·) ?_ (refTerm_apply (f := padAt (actArrI V0)) 2 1 0 dot_S32x64x32x4x4_S64x64_S32x32x4x4x64_1_1_0234_0_n_n rfl rfl rfl rfl rfl rfl
    (res_main_v160 V0) (padI_apply V0) _ (V0 (Proc.devRef .tc main_arg2)) _ _ (by decide) (by decide) (by decide) b d y x o)
  exact sumI21 V0 b d y x o

/-- The magnitudes of the result. -/
def arrM : FVec Ideal S32x64x32x4x4 .f32 := res_main_v306 V0

/-- The magnitude of the result, at an index. -/
theorem resM_apply (b : Fin 32) (o : Fin 64) (d : Fin 32) (y x : Fin 4) :
    arrM V0 (ix5 b o d y x)
      = mag ((res_main_v159 V0 : FVec Ideal S32x64x32x4x4 .f32) (ix5 b o d y x))
        ((res_main_v300 V0 : FVec Ideal S32x64x32x4x4 .f32) (ix5 b o d y x)) := by
  unfold arrM res_main_v306 mag
  generalize res_main_v159 V0 = u
  generalize res_main_v300 V0 = v
  rfl

/-- The array of the two sums, at an index. -/
theorem resS_apply (b : Fin 32) (r : Fin 2) (o : Fin 64) :
    (concatenate S32x2x64 1 [⟨S32x1x64, (broadcastInDim S32x1x64 ![0, 2] bcast_S32x64_S32x1x64_0_2 (Host.reduceAdd (res_main_v306 V0) (constant S_ .f32 0x00000000#32) reducesTo_S32x64x32x4x4_S32x64_d2_3_4 h_S_))⟩,
        ⟨S32x1x64, (broadcastInDim S32x1x64 ![0, 2] bcast_S32x64_S32x1x64_0_2 (Host.reduceAdd (mulf (res_main_v306 V0) (res_main_v306 V0)) (constant S_ .f32 0x00000000#32) reducesTo_S32x64x32x4x4_S32x64_d2_3_4 h_S_))⟩]
        concatenates_S32x1x64_S32x1x64_S32x2x64_d1 : FVec Ideal S32x2x64 .f32) (ix3 b r o)
      = if r.val = 0 then ∑ d : Fin 32, ∑ y : Fin 4, ∑ x : Fin 4, arrM V0 (ix5 b o d y x)
        else ∑ d : Fin 32, ∑ y : Fin 4, ∑ x : Fin 4, arrM V0 (ix5 b o d y x) * arrM V0 (ix5 b o d y x) := by
  refine (stack_apply _ _ _ _ b r o).trans ?_
  refine ite_congr rfl (fun _ => total_apply (arrM V0) _ _ b o) (fun _ => total_apply (mulf (arrM V0) (arrM V0)) _ _ b o)

end Cert.Proof.C2Ref
-- ==== Proof.C2.lean ====
/-
  The call of the last layer against its reference: equal results from equal arguments, where
  the activation leaves zero at zero.
-/
module

public import proofs.«01_k».proof.Defs
public import proofs.«01_k».proof.Proof.C2Out
public import proofs.«01_k».proof.Proof.C2Ref
public import proofs.«01_k».proof.Proof.Padding
public import proofs.«01_k».proof.Proof.Gen.Pre_padding_inactive_c2

@[expose] public section

noncomputable section

namespace Cert.Proof.C2

open Cert.ConvC2Ideal Cert.ConvC2Ideal.Gen Cert.ConvC2Ideal.Value Idealize.ShloMosaic Idealize.ShloMosaic.TcCoe Idealize.SL.Sem
open Idealize.ShloMosaic.StableHlo
open Cert.Proof.ConvMath
open scoped BigOperators

variable (m : (ℓ : Loc nD τ sig) → Buf (Elt Ideal) ℓ)

/-- What the precondition says of a channel's scale and shift. -/
theorem inactive (hpre : Cert.Pre_ConvC2Ideal_padding_inactive_c2 (hPre_padding_inactive_c2 := Cert.Pre_padding_inactive_c2.Gen.facts) m)
    (c : Dev nD) (k : Fin 64) :
    Inactive ((m ((c : Thread nD τ).loc main_arg5) : Vec Ideal S64x1 .f32) (ix2 k 0))
      ((m ((c : Thread nD τ).loc main_arg6) : Vec Ideal S64x1 .f32) (ix2 k 0)) := by
  have h := le_of_cmp (congrFun (hpre c) (ix2 k 0))
  exact h.trans_eq Ideal.ofBits_zero_f32

section agree

variable (V0 : Valuation Cert.RefC2Ideal.τ Cert.RefC2Ideal.sig (Elt Ideal)) (c : Dev nD)

/-- The reference's arguments are the kernel's. -/
structure Same : Prop where
  h0 : V0 (Proc.devRef .tc Cert.RefC2Ideal.main_arg0) = m ((c : Thread nD τ).loc main_arg0)
  h1 : V0 (Proc.devRef .tc Cert.RefC2Ideal.main_arg1) = m ((c : Thread nD τ).loc main_arg1)
  h2 : V0 (Proc.devRef .tc Cert.RefC2Ideal.main_arg2) = m ((c : Thread nD τ).loc main_arg2)
  h3 : V0 (Proc.devRef .tc Cert.RefC2Ideal.main_arg3) = m ((c : Thread nD τ).loc main_arg3)
  h4 : V0 (Proc.devRef .tc Cert.RefC2Ideal.main_arg4) = m ((c : Thread nD τ).loc main_arg4)
  h5 : V0 (Proc.devRef .tc Cert.RefC2Ideal.main_arg5) = m ((c : Thread nD τ).loc main_arg5)
  h6 : V0 (Proc.devRef .tc Cert.RefC2Ideal.main_arg6) = m ((c : Thread nD τ).loc main_arg6)

variable {V0} {c} {m}
variable (hV : Same m V0 c)
variable (hin : ∀ k : Fin 64, Inactive ((m ((c : Thread nD τ).loc main_arg5) : Vec Ideal S64x1 .f32) (ix2 k 0))
      ((m ((c : Thread nD τ).loc main_arg6) : Vec Ideal S64x1 .f32) (ix2 k 0)))

include hV hin

/-- The kernel's activated real part is the reference's. -/
theorem aR_eq (b : Fin 32) : aR m c b = padAt (C2Ref.actArrR V0) b := by
  funext k i j l
  refine actR_pad _ _ (C2Ref.actArrR V0) (fun k => (m ((c : Thread nD τ).loc main_arg5) : Vec Ideal S64x1 .f32) (ix2 k 0))
    (fun k => (m ((c : Thread nD τ).loc main_arg6) : Vec Ideal S64x1 .f32) (ix2 k 0)) hin b (fun k i j l => ?_) k i j l
  refine (C2Ref.actArrR_apply V0 b k i j l).trans ?_
  rw [hV.h0, hV.h1, hV.h5, hV.h6]

/-- The kernel's activated imaginary part is the reference's. -/
theorem aI_eq (b : Fin 32) : aI m c b = padAt (C2Ref.actArrI V0) b := by
  funext k i j l
  refine actI_pad _ _ (C2Ref.actArrI V0) (fun k => (m ((c : Thread nD τ).loc main_arg5) : Vec Ideal S64x1 .f32) (ix2 k 0))
    (fun k => (m ((c : Thread nD τ).loc main_arg6) : Vec Ideal S64x1 .f32) (ix2 k 0)) hin b (fun k i j l => ?_) k i j l
  refine (C2Ref.actArrI_apply V0 b k i j l).trans ?_
  rw [hV.h0, hV.h1, hV.h5, hV.h6]

/-- The real results, at an index. -/
theorem fR_eq (b : Fin 32) (o : Fin 64) (d : Fin 32) (y x : Fin 4) :
    (Cert.RefC2Ideal.Value.res_main_v159 V0 : FVec Ideal S32x64x32x4x4 .f32) (ix5 b o d y x) = fR m c b o d.val y.val x.val := by
  refine (C2Ref.resR_apply V0 b o d y x).trans ?_
  unfold fR
  rw [aR_eq hV hin b, hV.h2, hV.h3]

/-- The imaginary results, at an index. -/
theorem fI_eq (b : Fin 32) (o : Fin 64) (d : Fin 32) (y x : Fin 4) :
    (Cert.RefC2Ideal.Value.res_main_v300 V0 : FVec Ideal S32x64x32x4x4 .f32) (ix5 b o d y x) = fI m c b o d.val y.val x.val := by
  refine (C2Ref.resI_apply V0 b o d y x).trans ?_
  unfold fI
  rw [aI_eq hV hin b, hV.h2, hV.h4]

/-- The magnitudes of the results, at an index. -/
theorem fM_eq (b : Fin 32) (o : Fin 64) (d : Fin 32) (y x : Fin 4) :
    C2Ref.arrM V0 (ix5 b o d y x) = fM m c b o d.val y.val x.val := by
  refine (C2Ref.resM_apply V0 b o d y x).trans ?_
  unfold fM
  rw [fR_eq hV hin, fI_eq hV hin]

/-- The real result arrays are equal. -/
theorem out0 : (Cert.RefC2Ideal.Value.res_main_v159 V0 : FVec Ideal S32x64x32x4x4 .f32) = G11 m c := by
  funext i
  obtain ⟨b, o, d, y, x, rfl⟩ := exists_ix5 i
  exact (fR_eq hV hin b o d y x).trans (G11_apply m c b o d y x).symm

/-- The imaginary result arrays are equal. -/
theorem out1 : (Cert.RefC2Ideal.Value.res_main_v300 V0 : FVec Ideal S32x64x32x4x4 .f32) = G12 m c := by
  funext i
  obtain ⟨b, o, d, y, x, rfl⟩ := exists_ix5 i
  exact (fI_eq hV hin b o d y x).trans (G12_apply m c b o d y x).symm

/-- The sums of the magnitudes and of their squares, at an index. -/
theorem sums_eq (b : Fin 32) (r : Fin 2) (o : Fin 64) :
    (if r.val = 0 then ∑ d : Fin 32, ∑ y : Fin 4, ∑ x : Fin 4, C2Ref.arrM V0 (ix5 b o d y x)
      else ∑ d : Fin 32, ∑ y : Fin 4, ∑ x : Fin 4, C2Ref.arrM V0 (ix5 b o d y x) * C2Ref.arrM V0 (ix5 b o d y x))
      = ∑ d : Fin 32, part m c b r o d.val := by
  unfold part
  split
  · refine Finset.sum_congr rfl fun d _ => Finset.sum_congr rfl fun y _ => Finset.sum_congr rfl fun x _ => ?_
    rw [fM_eq hV hin]
  · refine Finset.sum_congr rfl fun d _ => Finset.sum_congr rfl fun y _ => Finset.sum_congr rfl fun x _ => ?_
    rw [fM_eq hV hin]

end agree

/-- The reference runs to an end and leaves its arguments unchanged. -/
theorem frame_ref : Cert.quiescent_RefC2Ideal (hRefC2Ideal := Cert.RefC2Ideal.Gen.facts) := fun m g _ =>
  (θ_run (Cert.RefC2Ideal.defs (F := Ideal)) _ _).mono
    (fun r h => ⟨fun c => (h c).2.2.2, sem_eq_zero_of_no_sems (by decide) r.2⟩) (Cert.RefC2Ideal.Value.run (F := Ideal) m g)

/-- The claim about the call: its results are the reference's. -/
theorem algebraic : Cert.algebraic_ConvC2Ideal_RefC2Ideal_pre_padding_inactive_c2 (hConvC2Ideal := Cert.ConvC2Ideal.Gen.facts)
    (hRefC2Ideal := Cert.RefC2Ideal.Gen.facts) (hPre_padding_inactive_c2 := Cert.Pre_padding_inactive_c2.Gen.facts) := by
  intro m g m' g' hpre hargs
  refine ⟨fun c => G11 m c, fun c => G12 m c, fun c => G13 m c, run m g, ?_⟩
  refine (θ_run (Cert.RefC2Ideal.defs (F := Ideal)) _ _).mono (fun r h c => ?_) (Cert.RefC2Ideal.Value.run (F := Ideal) m' g')
  obtain ⟨a0, a1, a2, a3, a4, a5, a6⟩ := hargs c
  have hV : Same m (launchContents m' c) c := ⟨a0, a1, a2, a3, a4, a5, a6⟩
  have hin := inactive m hpre c
  obtain ⟨h0, h1, h2, hk⟩ := h c
  refine ⟨h0.trans (out0 hV hin), h1.trans (out1 hV hin), h2.trans ?_, hk⟩
  funext i
  obtain ⟨b, r, o, rfl⟩ := exists_ix3 i
  refine (C2Ref.resS_apply (launchContents m' c) b r o).trans ?_
  exact (sums_eq hV hin b r o).trans (G13_apply m c b r o).symm

end Cert.Proof.C2
-- ==== Proof.ReadoutKernel.lean ====
/-
  What the readout's call computes at a grid point, from the blocks it reads, at an index: the activated input weighted
  and summed over channels and positions, the bias added, and the magnitude of the complex result.
-/
module

public import proofs.«01_k».proof.Proof.Gen.ReadoutIdeal.Value
public import proofs.«01_k».proof.Proof.ConvHost
public import Idealize.ShloMosaic.Lib.Pointwise

@[expose] public section

noncomputable section

namespace Cert.Proof.Readout

open Cert.ReadoutIdeal Cert.ReadoutIdeal.Gen Cert.ReadoutIdeal.Value Idealize.ShloMosaic Idealize.ShloMosaic.TcCoe Idealize.SL.Sem
open Cert.Proof.ConvMath
open scoped BigOperators

/-- The zero offsets of a load of a whole block, at rank two. -/
theorem hz2 : (![0, 0] : Fin 2 → ℕ) = fun _ => 0 := by funext a; fin_cases a <;> rfl
/-- The same at rank three. -/
theorem hz3 : (![0, 0, 0] : Fin 3 → ℕ) = fun _ => 0 := by funext a; fin_cases a <;> rfl

/-- A channel's constant spread along its positions, at an index. -/
theorem spread_apply (v : Vec Ideal S64x1 .f32) (k : Fin 64) (n : Fin 512) :
    broadcastTo S64x512 v broadcasts_S64x1_S64x512 (ix2 k n) = v (ix2 k 0) :=
  broadcastTo_apply _ broadcasts_S64x1_S64x512 (ix2 k n) (ix2 k 0) fun a => by
    match a with
    | ⟨0, _⟩ => rfl
    | ⟨1, _⟩ => rfl

/-- A block of one batch row without its leading axis, at an index. -/
theorem row_apply (v : Vec Ideal S1x64x512 .f32) (k : Fin 64) (n : Fin 512) :
    shapeCast S64x512 v shapeCasts_S1x64x512_S64x512 (ix2 k n) = v (ix3 0 k n) :=
  shapeCast_apply _ _ _ _ (by
    rw [Shape.rowMajor_val_two, Shape.rowMajor_val_three]
    show (0 * 64 + k.val) * 512 + n.val = k.val * 512 + n.val
    omega)

/-- The activated magnitude of a block, at an index. -/
theorem act_apply (v0 v2 : Vec Ideal S1x64x512 .f32) (v4 v5 : Vec Ideal S64x1 .f32) (k : Fin 64) (n : Fin 512) :
    k0_pay4 v0 v2 v4 v5 (ix2 k n) = actMag (v4 (ix2 k 0)) (v5 (ix2 k 0)) (v0 (ix3 0 k n)) (v2 (ix3 0 k n)) := by
  unfold k0_pay4 k0_pay2 k0_pay3 actMag mag
  refine congrArg₂ (max : EReal → EReal → EReal) (congrArg₂ (· + ·) (congrArg₂ (· * ·) ?_ (spread_apply v4 k n)) (spread_apply v5 k n)) rfl
  refine congrArg Ideal.sqrt (congrArg₂ (· + ·) (congrArg₂ (· + ·) ?_ ?_) rfl)
  · exact congrArg₂ (· * ·) (row_apply v0 k n) (row_apply v0 k n)
  · exact congrArg₂ (· * ·) (row_apply v2 k n) (row_apply v2 k n)

/-- The phase of a block, at an index. -/
theorem phase_apply (v0 v2 : Vec Ideal S1x64x512 .f32) (k : Fin 64) (n : Fin 512) :
    k0_pay5 v0 v2 (ix2 k n) = Ideal.atan2 (v2 (ix3 0 k n)) (v0 (ix3 0 k n)) := by
  unfold k0_pay5 k0_pay2 k0_pay3
  exact congrArg₂ Ideal.atan2 (row_apply v2 k n) (row_apply v0 k n)

/-- The total of a block over channels and positions. -/
theorem sum_apply (v : FVec Ideal S64x512 .f32) :
    extractAt ![0, 0, 0] (shapeCast S1x1x1 (multiReduction .add [1, 2] S1 (shapeCast S1x64x512 v shapeCasts_S64x512_S1x64x512)
      0x00000000#32 reduces_S1x64x512_S1 (.inl rfl) rfl) shapeCasts_S1_S1x1x1) inpos_S1x1x1_p0_0_0
      = ∑ k : Fin 64, ∑ n : Fin 512, v (ix2 k n) := by
  pointwise

/-- The weighted real total with its bias. -/
theorem real_apply (v0 v2 : Vec Ideal S1x64x512 .f32) (v4 v5 : Vec Ideal S64x1 .f32) (w : Vec Ideal S64x512 .f32) (b : Vec Ideal S1x1 .f32) :
    k0_pay7 v0 v2 v4 v5 w b
      = (∑ k : Fin 64, ∑ n : Fin 512, actR (v4 (ix2 k 0)) (v5 (ix2 k 0)) (v0 (ix3 0 k n)) (v2 (ix3 0 k n)) * w (ix2 k n)) + b (ix2 0 0) := by
  unfold k0_pay7 k0_pay6
  refine congrArg₂ (· + ·) ((sum_apply _).trans ?_) ?_
  · refine Finset.sum_congr rfl fun k _ => Finset.sum_congr rfl fun n _ => ?_
    rw [shapeCast_self]
    exact congrArg₂ (· * ·) (congrArg₂ (· * ·) (act_apply v0 v2 v4 v5 k n) (congrArg Ideal.cos (phase_apply v0 v2 k n))) rfl
  · pointwise

/-- The weighted imaginary total. -/
theorem imag_apply (v0 v2 : Vec Ideal S1x64x512 .f32) (v4 v5 : Vec Ideal S64x1 .f32) (w : Vec Ideal S64x512 .f32) :
    k0_pay8 v0 v2 v4 v5 w
      = ∑ k : Fin 64, ∑ n : Fin 512, actI (v4 (ix2 k 0)) (v5 (ix2 k 0)) (v0 (ix3 0 k n)) (v2 (ix3 0 k n)) * w (ix2 k n) := by
  unfold k0_pay8 k0_pay6
  refine (sum_apply _).trans ?_
  refine Finset.sum_congr rfl fun k _ => Finset.sum_congr rfl fun n _ => ?_
  rw [shapeCast_self]
  exact congrArg₂ (· * ·) (congrArg₂ (· * ·) (act_apply v0 v2 v4 v5 k n) (congrArg Ideal.sin (phase_apply v0 v2 k n))) rfl

/-- The magnitude written out, from the two totals and the imaginary bias. -/
theorem out_apply (x y : EReal) (b : Vec Ideal S1x1 .f32) : k0_pay1 (F := Ideal) x y b (ix3 0 0 0) = mag x (y + b (ix2 0 0)) := by
  unfold k0_pay1 mag
  pointwise
  rfl

/-- What the call leaves in its block at a point, from the blocks it reads there. -/
theorem block_apply (x0 x1 : Vec Ideal S1x64x512 .f32) (x2 : Vec Ideal S64x512 .f32) (x3 x4 : Vec Ideal S64x1 .f32) (x5 : Vec Ideal S1x2 .f32) :
    out0_6 x0 x1 x2 x3 x4 x5 (ix3 0 0 0)
      = mag ((∑ k : Fin 64, ∑ n : Fin 512, actR (x3 (ix2 k 0)) (x4 (ix2 k 0)) (x0 (ix3 0 k n)) (x1 (ix3 0 k n)) * x2 (ix2 k n)) + x5 (ix2 0 0))
        ((∑ k : Fin 64, ∑ n : Fin 512, actI (x3 (ix2 k 0)) (x4 (ix2 k 0)) (x0 (ix3 0 k n)) (x1 (ix3 0 k n)) * x2 (ix2 k n)) + x5 (ix2 0 1)) := by
  unfold out0_6
  rw [View.canon_unit_zero hz3, View.ld_unit_zero hz3, View.ld_unit_zero hz3, View.ld_unit_zero hz2, View.ld_unit_zero hz2,
    View.ld_unit_zero hz2]
  refine (out_apply _ _ _).trans ?_
  rw [real_apply, imag_apply]
  have e0 : (View.ld x5 r0_3 : Vec Ideal S1x1 .f32) (ix2 0 0) = x5 (ix2 0 0) := congrArg x5 (by
    funext a; apply Fin.ext
    match a with
    | ⟨0, _⟩ => rfl
    | ⟨1, _⟩ => rfl)
  have e1 : (View.ld x5 r0_4 : Vec Ideal S1x1 .f32) (ix2 0 0) = x5 (ix2 0 1) := congrArg x5 (by
    funext a; apply Fin.ext
    match a with
    | ⟨0, _⟩ => rfl
    | ⟨1, _⟩ => rfl)
  rw [e0, e1]

end Cert.Proof.Readout
-- ==== Proof.ReadoutHost.lean ====
/-
  The arrays that the readout's call reads, from the arguments: the input with its three spatial axes laid out as one,
  the weights as one row of positions per channel, and the two biases side by side.
-/
module

public import proofs.«01_k».proof.Proof.Gen.ReadoutIdeal.Frame
public import proofs.«01_k».proof.Proof.ConvHost
public import Idealize.ShloMosaic.Lib.StableHlo.ReadAt

@[expose] public section

noncomputable section

namespace Cert.Proof.Readout

open Cert.ReadoutIdeal Cert.ReadoutIdeal.Gen Idealize.ShloMosaic Idealize.ShloMosaic.TcCoe Idealize.SL.Sem
open Cert.Proof.ConvMath

section arrays

variable {F : FTy → Type} [FloatOps F] (m : (ℓ : Loc nD τ sig) → Buf (Elt F) ℓ)

/-- The real input as the call reads it. -/
theorem V_real (c : Dev nD) : V m c main_v8 = shapeCast S32x64x512 (m ((c : Thread nD τ).loc main_arg0)) shapeCasts_S32x64x32x4x4_S32x64x512 := by
  unfold V hostOps0
  after_results
  rfl

/-- The imaginary input as the call reads it. -/
theorem V_imag (c : Dev nD) : V m c main_v9 = shapeCast S32x64x512 (m ((c : Thread nD τ).loc main_arg1)) shapeCasts_S32x64x32x4x4_S32x64x512 := by
  unfold V hostOps0
  after_results
  rfl

/-- The weights as the call reads them. -/
theorem V_weights (c : Dev nD) : V m c main_v1
    = shapeCast S64x512 (shapeCast S32768 (m ((c : Thread nD τ).loc main_arg2)) shapeCasts_S1x32768_S32768) shapeCasts_S32768_S64x512 := by
  unfold V hostOps0
  after_results
  rfl

/-- The two biases as the call reads them. -/
theorem V_bias (c : Dev nD) : V m c main_v7
    = shapeCast S1x2 (concatenate S2 0
        [⟨S1, broadcastInDim S1 ![] bcast_S_S1 (shapeCast S_ (m ((c : Thread nD τ).loc main_arg5)) shapeCasts_S1_S_)⟩,
          ⟨S1, broadcastInDim S1 ![] bcast_S_S1 (shapeCast S_ (m ((c : Thread nD τ).loc main_arg6)) shapeCasts_S1_S_)⟩]
        concatenates_S1_S1_S2_d0) shapeCasts_S2_S1x2 := by
  unfold V hostOps0
  after_results
  rfl

end arrays

/-- An array of five axes read by batch row, channel, and position laid out as one number. -/
def pos5 (x : (⟨5, ![32, 64, 32, 4, 4]⟩ : Shape).Idx → EReal) (b : Fin 32) (k : Fin 64) (n : Fin 512) : EReal :=
  x (ix5 b k ⟨n.val / 16, by omega⟩ ⟨n.val / 4 % 4, by omega⟩ ⟨n.val % 4, by omega⟩)

/-- The place of a channel's position in the row of all weights. -/
def place (k : Fin 64) (n : Fin 512) : Fin 32768 := ⟨512 * k.val + n.val, by omega⟩

/-- The input with its spatial axes laid out as one, at an index. -/
theorem flat_apply (x : Vec Ideal S32x64x32x4x4 .f32) (b : Fin 32) (k : Fin 64) (n : Fin 512) :
    shapeCast S32x64x512 x shapeCasts_S32x64x32x4x4_S32x64x512 (ix3 b k n) = pos5 x b k n :=
  shapeCast_apply _ _ _ _ (by
    rw [Shape.rowMajor_val_five, Shape.rowMajor_val_three]
    show (((b.val * 64 + k.val) * 32 + n.val / 16) * 4 + n.val / 4 % 4) * 4 + n.val % 4 = (b.val * 64 + k.val) * 512 + n.val
    omega)

/-- The weights laid out by channel and position, at an index. -/
theorem weight_apply (w : Vec Ideal S1x32768 .f32) (k : Fin 64) (n : Fin 512) :
    shapeCast S64x512 (shapeCast S32768 w shapeCasts_S1x32768_S32768) shapeCasts_S32768_S64x512 (ix2 k n) = w (ix2 0 (place k n)) := by
  rw [shapeCast_apply _ shapeCasts_S32768_S64x512 (ix2 k n) (ix1 (place k n)), shapeCast_apply _ shapeCasts_S1x32768_S32768 (ix1 (place k n)) (ix2 0 (place k n))]
  · rw [Shape.rowMajor_val_two, Shape.rowMajor_val_one]
    show 0 * 32768 + (512 * k.val + n.val) = 512 * k.val + n.val
    omega
  · rw [Shape.rowMajor_val_two, Shape.rowMajor_val_one]
    show 512 * k.val + n.val = k.val * 512 + n.val
    omega

/-- The pair of biases, at an index. -/
theorem bias_pair (u v : Vec Ideal S1 .f32) :
    (shapeCast S1x2 (concatenate S2 0
        [⟨S1, broadcastInDim S1 ![] bcast_S_S1 (shapeCast S_ u shapeCasts_S1_S_)⟩, ⟨S1, broadcastInDim S1 ![] bcast_S_S1 (shapeCast S_ v shapeCasts_S1_S_)⟩]
        concatenates_S1_S1_S2_d0) shapeCasts_S2_S1x2 : Vec Ideal S1x2 .f32) (ix2 0 0) = u (ix1 0)
    ∧ (shapeCast S1x2 (concatenate S2 0
        [⟨S1, broadcastInDim S1 ![] bcast_S_S1 (shapeCast S_ u shapeCasts_S1_S_)⟩, ⟨S1, broadcastInDim S1 ![] bcast_S_S1 (shapeCast S_ v shapeCasts_S1_S_)⟩]
        concatenates_S1_S1_S2_d0) shapeCasts_S2_S1x2 : Vec Ideal S1x2 .f32) (ix2 0 1) = v (ix1 0) := by
  have one : ∀ w : Vec Ideal S1 .f32, ∀ i : S1.Idx, broadcastInDim S1 ![] bcast_S_S1 (shapeCast S_ w shapeCasts_S1_S_) i = w (ix1 0) := fun w i =>
    congrArg w (by
      funext a
      match a with
      | ⟨0, _⟩ => exact Subsingleton.elim (α := Fin 1) _ _)
  constructor
  · rw [shapeCast_apply _ shapeCasts_S2_S1x2 (ix2 0 0) (ix1 0) (by rw [Shape.rowMajor_val_two, Shape.rowMajor_val_one]; rfl)]
    exact (concatenate_pair_apply_left _ _ _ concatenates_S1_S1_S2_d0 (ix1 0) rfl (ix1 0) fun a => by
      match a with
      | ⟨0, _⟩ => rfl).trans (one u _)
  · rw [shapeCast_apply _ shapeCasts_S2_S1x2 (ix2 0 1) (ix1 1) (by rw [Shape.rowMajor_val_two, Shape.rowMajor_val_one]; rfl)]
    refine (concatenate_pair_apply_right _ _ _ concatenates_S1_S1_S2_d0 (ix1 1) rfl rfl (ix1 0) (fun a ha => ?_) ?_).trans (one v _)
    · match a with
      | ⟨0, _⟩ => exact absurd rfl ha
    · rfl

end Cert.Proof.Readout
-- ==== Proof.ReadoutOut.lean ====
/-
  The readout's result array at an index, from the arguments.
-/
module

public import proofs.«01_k».proof.Proof.ReadoutKernel
public import proofs.«01_k».proof.Proof.ReadoutHost

@[expose] public section

noncomputable section

namespace Cert.Proof.Readout

open Cert.ReadoutIdeal Cert.ReadoutIdeal.Gen Cert.ReadoutIdeal.Value Idealize.ShloMosaic Idealize.ShloMosaic.TcCoe Idealize.SL.Sem
open Cert.Proof.ConvMath
open scoped BigOperators

/-- The weighted total of an array given by channel and position. -/
def total (f : Fin 64 → Fin 512 → EReal) (w : (⟨2, ![1, 32768]⟩ : Shape).Idx → EReal) : EReal :=
  ∑ k : Fin 64, ∑ n : Fin 512, f k n * w (ix2 0 (place k n))

variable (m : (ℓ : Loc nD τ sig) → Buf (Elt Ideal) ℓ)

/-- The batch row of a grid point. -/
def batch (t : Fin cfg0.N) : Fin 32 := ⟨t.val, lt_of_lt_of_eq t.isLt N_0⟩

/-- The activated real input by channel and position. -/
def aR (c : Dev nD) (b : Fin 32) (k : Fin 64) (n : Fin 512) : EReal :=
  actR ((m ((c : Thread nD τ).loc main_arg3) : Vec Ideal S64x1 .f32) (ix2 k 0)) ((m ((c : Thread nD τ).loc main_arg4) : Vec Ideal S64x1 .f32) (ix2 k 0))
    (pos5 (m ((c : Thread nD τ).loc main_arg0)) b k n) (pos5 (m ((c : Thread nD τ).loc main_arg1)) b k n)

/-- The activated imaginary input by channel and position. -/
def aI (c : Dev nD) (b : Fin 32) (k : Fin 64) (n : Fin 512) : EReal :=
  actI ((m ((c : Thread nD τ).loc main_arg3) : Vec Ideal S64x1 .f32) (ix2 k 0)) ((m ((c : Thread nD τ).loc main_arg4) : Vec Ideal S64x1 .f32) (ix2 k 0))
    (pos5 (m ((c : Thread nD τ).loc main_arg0)) b k n) (pos5 (m ((c : Thread nD τ).loc main_arg1)) b k n)

/-- The result at a batch row. -/
def res (c : Dev nD) (b : Fin 32) : EReal :=
  mag (total (aR m c b) (m ((c : Thread nD τ).loc main_arg2)) + (m ((c : Thread nD τ).loc main_arg5) : Vec Ideal S1 .f32) (ix1 0))
    (total (aI m c b) (m ((c : Thread nD τ).loc main_arg2)) + (m ((c : Thread nD τ).loc main_arg6) : Vec Ideal S1 .f32) (ix1 0))

/-- Where window 0 reads, at a point. -/
theorem index0 : ∀ t : Fin cfg0.N, win0_0.index t 0 = t.val ∧ win0_0.index t 1 = 0 ∧ win0_0.index t 2 = 0 := (by decide +kernel : ∀ t : Fin grid0.N, _)
/-- Where window 1 reads, at a point. -/
theorem index1 : ∀ t : Fin cfg0.N, win0_1.index t 0 = t.val ∧ win0_1.index t 1 = 0 ∧ win0_1.index t 2 = 0 := (by decide +kernel : ∀ t : Fin grid0.N, _)
/-- Where window 2 reads. -/
theorem index2 : ∀ t : Fin cfg0.N, win0_2.index t 0 = 0 ∧ win0_2.index t 1 = 0 := (by decide +kernel : ∀ t : Fin grid0.N, _)
/-- Where window 3 reads. -/
theorem index3 : ∀ t : Fin cfg0.N, win0_3.index t 0 = 0 ∧ win0_3.index t 1 = 0 := (by decide +kernel : ∀ t : Fin grid0.N, _)
/-- Where window 4 reads. -/
theorem index4 : ∀ t : Fin cfg0.N, win0_4.index t 0 = 0 ∧ win0_4.index t 1 = 0 := (by decide +kernel : ∀ t : Fin grid0.N, _)
/-- Where window 5 reads. -/
theorem index5 : ∀ t : Fin cfg0.N, win0_5.index t 0 = 0 ∧ win0_5.index t 1 = 0 := (by decide +kernel : ∀ t : Fin grid0.N, _)
/-- Where window 6 writes, at a point. -/
theorem index6 : ∀ t : Fin cfg0.N, win0_6.index t 0 = t.val ∧ win0_6.index t 1 = 0 ∧ win0_6.index t 2 = 0 := (by decide +kernel : ∀ t : Fin grid0.N, _)
/-- Every point writes its block back. -/
theorem flush6 : ∀ t : Fin cfg0.N, (cfg0.win 6).flush t = true := (by decide +kernel : ∀ t : Fin grid0.N, win0_6.flush t = true)

/-- What window 0 reads of any array contents, at an index. -/
theorem read0 (c : Dev nD) (f : (b : Ref sig .tc) → Buf (Elt Ideal) ((c : Thread nD τ).loc b)) (t : Fin cfg0.N) (z : S1x64x512.Idx) :
    (((cfg0.win 0).blk t).view.read (Elt Ideal) (f (Pipeline.arrRef spec0 0)) : Vec Ideal S1x64x512 .f32) z
      = (f main_v8 : Vec Ideal S32x64x512 .f32) (((cfg0.win 0).blk t).view.emb z) := rfl

/-- Window 0's block: the real input's batch row. -/
theorem block0 (c : Dev nD) (t : Fin cfg0.N) (k : Fin 64) (n : Fin 512) :
    (iblk m c 0 t : Vec Ideal S1x64x512 .f32) (ix3 0 k n) = pos5 (m ((c : Thread nD τ).loc main_arg0)) (batch t) k n := by
  obtain ⟨h0, h1, h2⟩ := index0 t
  have e : (((cfg0.win 0).blk t).view.emb (ix3 0 k n) : S32x64x512.Idx) = ix3 (batch t) k n := by
    funext a
    apply Fin.ext
    match a with
    | ⟨0, _⟩ => show win0_0.index t 0 * 1 + 1 * 0 = t.val; omega
    | ⟨1, _⟩ => show win0_0.index t 1 * 64 + 1 * k.val = k.val; omega
    | ⟨2, _⟩ => show win0_0.index t 2 * 512 + 1 * n.val = n.val; omega
  exact (read0 c (V m c) t _).trans ((congrArg _ e).trans ((congrFun (V_real m c) _).trans (flat_apply _ (batch t) k n)))

/-- What window 1 reads of any array contents, at an index. -/
theorem read1 (c : Dev nD) (f : (b : Ref sig .tc) → Buf (Elt Ideal) ((c : Thread nD τ).loc b)) (t : Fin cfg0.N) (z : S1x64x512.Idx) :
    (((cfg0.win 1).blk t).view.read (Elt Ideal) (f (Pipeline.arrRef spec0 1)) : Vec Ideal S1x64x512 .f32) z
      = (f main_v9 : Vec Ideal S32x64x512 .f32) (((cfg0.win 1).blk t).view.emb z) := rfl

/-- Window 1's block: the imaginary input's batch row. -/
theorem block1 (c : Dev nD) (t : Fin cfg0.N) (k : Fin 64) (n : Fin 512) :
    (iblk m c 1 t : Vec Ideal S1x64x512 .f32) (ix3 0 k n) = pos5 (m ((c : Thread nD τ).loc main_arg1)) (batch t) k n := by
  obtain ⟨h0, h1, h2⟩ := index1 t
  have e : (((cfg0.win 1).blk t).view.emb (ix3 0 k n) : S32x64x512.Idx) = ix3 (batch t) k n := by
    funext a
    apply Fin.ext
    match a with
    | ⟨0, _⟩ => show win0_1.index t 0 * 1 + 1 * 0 = t.val; omega
    | ⟨1, _⟩ => show win0_1.index t 1 * 64 + 1 * k.val = k.val; omega
    | ⟨2, _⟩ => show win0_1.index t 2 * 512 + 1 * n.val = n.val; omega
  exact (read1 c (V m c) t _).trans ((congrArg _ e).trans ((congrFun (V_imag m c) _).trans (flat_apply _ (batch t) k n)))

/-- What window 2 reads of any array contents, at an index. -/
theorem read2 (c : Dev nD) (f : (b : Ref sig .tc) → Buf (Elt Ideal) ((c : Thread nD τ).loc b)) (t : Fin cfg0.N) (z : S64x512.Idx) :
    (((cfg0.win 2).blk t).view.read (Elt Ideal) (f (Pipeline.arrRef spec0 2)) : Vec Ideal S64x512 .f32) z
      = (f main_v1 : Vec Ideal S64x512 .f32) (((cfg0.win 2).blk t).view.emb z) := rfl

/-- Window 2's block: the weights by channel and position. -/
theorem block2 (c : Dev nD) (t : Fin cfg0.N) (k : Fin 64) (n : Fin 512) :
    (iblk m c 2 t : Vec Ideal S64x512 .f32) (ix2 k n) = (m ((c : Thread nD τ).loc main_arg2) : Vec Ideal S1x32768 .f32) (ix2 0 (place k n)) := by
  obtain ⟨h0, h1⟩ := index2 t
  have e : (((cfg0.win 2).blk t).view.emb (ix2 k n) : S64x512.Idx) = ix2 k n := by
    funext a
    apply Fin.ext
    match a with
    | ⟨0, _⟩ => show win0_2.index t 0 * 64 + 1 * k.val = k.val; omega
    | ⟨1, _⟩ => show win0_2.index t 1 * 512 + 1 * n.val = n.val; omega
  exact (read2 c (V m c) t _).trans ((congrArg _ e).trans ((congrFun (V_weights m c) _).trans (weight_apply _ k n)))

/-- What window 3 reads of any array contents, at an index. -/
theorem read3 (c : Dev nD) (f : (b : Ref sig .tc) → Buf (Elt Ideal) ((c : Thread nD τ).loc b)) (t : Fin cfg0.N) (z : S64x1.Idx) :
    (((cfg0.win 3).blk t).view.read (Elt Ideal) (f (Pipeline.arrRef spec0 3)) : Vec Ideal S64x1 .f32) z
      = (f main_arg3 : Vec Ideal S64x1 .f32) (((cfg0.win 3).blk t).view.emb z) := rfl

/-- Window 3's block: the scale. -/
theorem block3 (c : Dev nD) (t : Fin cfg0.N) (k : Fin 64) :
    (iblk m c 3 t : Vec Ideal S64x1 .f32) (ix2 k 0) = (m ((c : Thread nD τ).loc main_arg3) : Vec Ideal S64x1 .f32) (ix2 k 0) := by
  obtain ⟨h0, h1⟩ := index3 t
  have e : (((cfg0.win 3).blk t).view.emb (ix2 k 0) : S64x1.Idx) = ix2 k 0 := by
    funext a
    apply Fin.ext
    match a with
    | ⟨0, _⟩ => show win0_3.index t 0 * 64 + 1 * k.val = k.val; omega
    | ⟨1, _⟩ => show win0_3.index t 1 * 1 + 1 * 0 = 0; omega
  exact (read3 c (V m c) t _).trans ((congrArg _ e).trans (congrFun (V_main_arg3 m c) _))

/-- What window 4 reads of any array contents, at an index. -/
theorem read4 (c : Dev nD) (f : (b : Ref sig .tc) → Buf (Elt Ideal) ((c : Thread nD τ).loc b)) (t : Fin cfg0.N) (z : S64x1.Idx) :
    (((cfg0.win 4).blk t).view.read (Elt Ideal) (f (Pipeline.arrRef spec0 4)) : Vec Ideal S64x1 .f32) z
      = (f main_arg4 : Vec Ideal S64x1 .f32) (((cfg0.win 4).blk t).view.emb z) := rfl

/-- Window 4's block: the shift. -/
theorem block4 (c : Dev nD) (t : Fin cfg0.N) (k : Fin 64) :
    (iblk m c 4 t : Vec Ideal S64x1 .f32) (ix2 k 0) = (m ((c : Thread nD τ).loc main_arg4) : Vec Ideal S64x1 .f32) (ix2 k 0) := by
  obtain ⟨h0, h1⟩ := index4 t
  have e : (((cfg0.win 4).blk t).view.emb (ix2 k 0) : S64x1.Idx) = ix2 k 0 := by
    funext a
    apply Fin.ext
    match a with
    | ⟨0, _⟩ => show win0_4.index t 0 * 64 + 1 * k.val = k.val; omega
    | ⟨1, _⟩ => show win0_4.index t 1 * 1 + 1 * 0 = 0; omega
  exact (read4 c (V m c) t _).trans ((congrArg _ e).trans (congrFun (V_main_arg4 m c) _))

/-- What window 5 reads of any array contents, at an index. -/
theorem read5 (c : Dev nD) (f : (b : Ref sig .tc) → Buf (Elt Ideal) ((c : Thread nD τ).loc b)) (t : Fin cfg0.N) (z : S1x2.Idx) :
    (((cfg0.win 5).blk t).view.read (Elt Ideal) (f (Pipeline.arrRef spec0 5)) : Vec Ideal S1x2 .f32) z
      = (f main_v7 : Vec Ideal S1x2 .f32) (((cfg0.win 5).blk t).view.emb z) := rfl

/-- Window 5's block is the array of the two biases. -/
theorem block5 (c : Dev nD) (t : Fin cfg0.N) (r : Fin 2) :
    (iblk m c 5 t : Vec Ideal S1x2 .f32) (ix2 0 r) = (V m c main_v7 : Vec Ideal S1x2 .f32) (ix2 0 r) := by
  obtain ⟨h0, h1⟩ := index5 t
  have e : (((cfg0.win 5).blk t).view.emb (ix2 0 r) : S1x2.Idx) = ix2 0 r := by
    funext a
    apply Fin.ext
    match a with
    | ⟨0, _⟩ => show win0_5.index t 0 * 1 + 1 * 0 = 0; omega
    | ⟨1, _⟩ => show win0_5.index t 1 * 2 + 1 * r.val = r.val; omega
  exact (read5 c (V m c) t _).trans (congrArg _ e)

/-- Window 5's block: the real bias. -/
theorem block5R (c : Dev nD) (t : Fin cfg0.N) :
    (iblk m c 5 t : Vec Ideal S1x2 .f32) (ix2 0 0) = (m ((c : Thread nD τ).loc main_arg5) : Vec Ideal S1 .f32) (ix1 0) :=
  (block5 m c t 0).trans ((congrFun (V_bias m c) _).trans (bias_pair _ _).1)

/-- Window 5's block: the imaginary bias. -/
theorem block5I (c : Dev nD) (t : Fin cfg0.N) :
    (iblk m c 5 t : Vec Ideal S1x2 .f32) (ix2 0 1) = (m ((c : Thread nD τ).loc main_arg6) : Vec Ideal S1 .f32) (ix1 0) :=
  (block5 m c t 1).trans ((congrFun (V_bias m c) _).trans (bias_pair _ _).2)

/-- What a point writes: the result at its batch row. -/
theorem point_apply (c : Dev nD) (t : Fin cfg0.N) :
    out0_6 (iblk m c 0 t) (iblk m c 1 t) (iblk m c 2 t) (iblk m c 3 t) (iblk m c 4 t) (iblk m c 5 t) (ix3 0 0 0) = res m c (batch t) := by
  refine (block_apply _ _ _ _ _ _).trans ?_
  unfold res total aR aI
  refine congrArg₂ mag (congrArg₂ (· + ·) ?_ (block5R m c t)) (congrArg₂ (· + ·) ?_ (block5I m c t))
  · refine Finset.sum_congr rfl fun k _ => Finset.sum_congr rfl fun n _ => ?_
    rw [block0 m c t k n, block1 m c t k n, block2 m c t k n, block3 m c t k, block4 m c t k]
  · refine Finset.sum_congr rfl fun k _ => Finset.sum_congr rfl fun n _ => ?_
    rw [block0 m c t k n, block1 m c t k n, block2 m c t k n, block3 m c t k, block4 m c t k]

/-- What window 6's block holds of any array contents, at an index. -/
theorem read6 (c : Dev nD) (f : Buf (Elt Ideal) ((c : Thread nD τ).loc main_v10)) (t : Fin cfg0.N) (z : S1x1x1.Idx) :
    (((cfg0.win 6).blk t).view.read (Elt Ideal) f : Vec Ideal S1x1x1 .f32) z
      = (f : Vec Ideal S32x1x1 .f32) (((cfg0.win 6).blk t).view.emb z) := rfl

/-- The result array after the run, at an index. -/
theorem out_at (c : Dev nD) (b : Fin 32) :
    ((dats m 0 c).arrAt 6 cfg0.N : Vec Ideal S32x1x1 .f32) (ix3 b 0 0) = res m c b := by
  have hb : b.val < cfg0.N := lt_of_lt_of_eq b.isLt N_0.symm
  obtain ⟨h0, h1, h2⟩ := index6 ⟨b.val, hb⟩
  have e : (((cfg0.win 6).blk ⟨b.val, hb⟩).view.emb (ix3 0 0 0) : S32x1x1.Idx) = ix3 b 0 0 := by
    funext a
    apply Fin.ext
    match a with
    | ⟨0, _⟩ => show win0_6.index ⟨b.val, hb⟩ 0 * 1 + 1 * 0 = b.val; rw [h0]; show b.val * 1 + 1 * 0 = b.val; omega
    | ⟨1, _⟩ => show win0_6.index ⟨b.val, hb⟩ 1 * 1 + 1 * 0 = 0; omega
    | ⟨2, _⟩ => show win0_6.index ⟨b.val, hb⟩ 2 * 1 + 1 * 0 = 0; omega
  have h := congrFun ((blocks6 m c ⟨b.val, hb⟩ (flush6 _)).trans (flushed6 m c ⟨b.val, hb⟩)) (ix3 0 0 0)
  rw [← e]
  exact ((read6 c _ ⟨b.val, hb⟩ (ix3 0 0 0)).symm.trans h).trans (point_apply m c ⟨b.val, hb⟩)

end Cert.Proof.Readout
-- ==== Proof.ReadoutRef.lean ====
/-
  What the readout's reference computes, at an index: the activated input laid out as one row per batch row, its product
  with the weights, the bias, and the magnitude of the complex result.
-/
module

public import proofs.«01_k».proof.Proof.Gen.RefReadoutIdeal.Run
public import proofs.«01_k».proof.Proof.ReadoutOut
public import proofs.«01_k».proof.Proof.ConvRef
public import Idealize.ShloMosaic.Lib.StackMember

@[expose] public section

noncomputable section

namespace Cert.Proof.ReadoutRef

open Cert.RefReadoutIdeal Cert.RefReadoutIdeal.Gen Cert.RefReadoutIdeal.Value Idealize.ShloMosaic Idealize.ShloMosaic.TcCoe Idealize.SL.Sem
open Cert.Proof.ConvMath Cert.Proof.Readout
open scoped BigOperators

/-- The activated magnitude of an input. -/
def arrMag (x y : FVec Ideal S32x64x32x4x4 .f32) (s h : FVec Ideal S64x1 .f32) : FVec Ideal S32x64x32x4x4 .f32 :=
  maximumf (addf (mulf (Host.sqrt (addf (addf (mulf x x) (mulf y y)) (broadcastInDim S32x64x32x4x4 ![] bcast_S_S32x64x32x4x4 (constant S_ .f32 0x2B8CBCCC#32))))
    (broadcastInDim S32x64x32x4x4 ![0, 1, 2, 3, 4] bcast_S1x64x1x1x1_S32x64x32x4x4_0_1_2_3_4 (broadcastInDim S1x64x1x1x1 ![1, 2] bcast_S64x1_S1x64x1x1x1_1_2 s)))
    (broadcastInDim S32x64x32x4x4 ![0, 1, 2, 3, 4] bcast_S1x64x1x1x1_S32x64x32x4x4_0_1_2_3_4 (broadcastInDim S1x64x1x1x1 ![1, 2] bcast_S64x1_S1x64x1x1x1_1_2 h)))
    (broadcastInDim S32x64x32x4x4 ![] bcast_S_S32x64x32x4x4 (constant S_ .f32 0x00000000#32))

/-- A part of the result: the array laid out as one row per batch row, its product with the weights, and the bias. -/
def part (a : FVec Ideal S32x64x32x4x4 .f32) (w : FVec Ideal S1x32768 .f32) (b : FVec Ideal S1 .f32) : FVec Ideal S32x1 .f32 :=
  addf (Host.dotGeneral dot_S32x32768_S32768x1_S32x1_1_0_0_1_n_n none (shapeCast S32x32768 a shapeCasts_S32x64x32x4x4_S32x32768)
      (transpose S32768x1 [1, 0] w transposes_S1x32768_S32768x1_1_0))
    (broadcastInDim S32x1 ![0, 1] bcast_S1x1_S32x1_0_1 (broadcastInDim S1x1 ![1] bcast_S1_S1x1_1 b))

/-- The magnitude of a complex array of two parts. -/
def outMag (u v : FVec Ideal S32x1 .f32) : FVec Ideal S32x1x1 .f32 :=
  broadcastInDim S32x1x1 ![0, 1] bcast_S32x1_S32x1x1_0_1
    (Host.sqrt (addf (addf (mulf u u) (mulf v v)) (broadcastInDim S32x1 ![] bcast_S_S32x1 (constant S_ .f32 0x2B8CBCCC#32))))

/-- The reference's result in these terms. -/
theorem result_eq (m : (ℓ : Loc nD τ sig) → Buf (Elt Ideal) ℓ) (c : Dev nD) :
    res_main_v37 m c = outMag
      (part (mulf (arrMag (m ((c.tc : Thread nD τ).loc main_arg0)) (m ((c.tc : Thread nD τ).loc main_arg1)) (m ((c.tc : Thread nD τ).loc main_arg3)) (m ((c.tc : Thread nD τ).loc main_arg4)))
        (Host.cos (Host.atan2 (m ((c.tc : Thread nD τ).loc main_arg1)) (m ((c.tc : Thread nD τ).loc main_arg0)))))
        (m ((c.tc : Thread nD τ).loc main_arg2)) (m ((c.tc : Thread nD τ).loc main_arg5)))
      (part (mulf (arrMag (m ((c.tc : Thread nD τ).loc main_arg0)) (m ((c.tc : Thread nD τ).loc main_arg1)) (m ((c.tc : Thread nD τ).loc main_arg3)) (m ((c.tc : Thread nD τ).loc main_arg4)))
        (Host.sin (Host.atan2 (m ((c.tc : Thread nD τ).loc main_arg1)) (m ((c.tc : Thread nD τ).loc main_arg0)))))
        (m ((c.tc : Thread nD τ).loc main_arg2)) (m ((c.tc : Thread nD τ).loc main_arg6))) := by
  unfold res_main_v37 outMag part arrMag
  rfl

/-- The activated magnitude, at an index. -/
theorem arrMag_apply (x y : FVec Ideal S32x64x32x4x4 .f32) (s h : FVec Ideal S64x1 .f32) (b : Fin 32) (k : Fin 64) (i : Fin 32) (j l : Fin 4) :
    arrMag x y s h (ix5 b k i j l) = actMag (s (ix2 k 0)) (h (ix2 k 0)) (x (ix5 b k i j l)) (y (ix5 b k i j l)) := by
  unfold arrMag actMag
  refine congrArg₂ (max : EReal → EReal → EReal) (congrArg₂ (· + ·) (congrArg₂ (· * ·) rfl ?_) ?_) rfl
  · exact chan_apply s _ _ b k i j l
  · exact chan_apply h _ _ b k i j l

/-- A sum over all weights, channel by channel. -/
theorem sum_places (f : Fin 32768 → EReal) : ∑ p, f p = ∑ k : Fin 64, ∑ n : Fin 512, f (place k n) := by
  rw [← (finProdFinEquiv (m := 64) (n := 512)).sum_comp f, Fintype.sum_prod_type]
  refine Finset.sum_congr rfl fun k _ => Finset.sum_congr rfl fun n _ => congrArg f (Fin.ext ?_)
  show n.val + 512 * k.val = 512 * k.val + n.val
  omega

/-- The array laid out as one row per batch row, at an index. -/
theorem rows_apply (a : FVec Ideal S32x64x32x4x4 .f32) (b : Fin 32) (k : Fin 64) (n : Fin 512) :
    shapeCast S32x32768 a shapeCasts_S32x64x32x4x4_S32x32768 (ix2 b (place k n)) = pos5 a b k n :=
  shapeCast_apply _ _ _ _ (by
    rw [Shape.rowMajor_val_five, Shape.rowMajor_val_two]
    show (((b.val * 64 + k.val) * 32 + n.val / 16) * 4 + n.val / 4 % 4) * 4 + n.val % 4 = b.val * 32768 + (512 * k.val + n.val)
    omega)

/-- A part of the result, at an index. -/
theorem part_apply (a : FVec Ideal S32x64x32x4x4 .f32) (w : FVec Ideal S1x32768 .f32) (v : FVec Ideal S1 .f32) (b : Fin 32) :
    part a w v (ix2 b 0) = total (pos5 a b) w + v (ix1 0) := by
  unfold part total
  refine congrArg₂ (· + ·) ?_ ?_
  · refine (StackMember.dotGeneral_plain_apply none (shapeCast S32x32768 a shapeCasts_S32x64x32x4x4_S32x32768)
      (transpose S32768x1 [1, 0] w transposes_S1x32768_S32768x1_1_0) b 0).trans ?_
    rw [sum_places]
    refine Finset.sum_congr rfl fun k _ => Finset.sum_congr rfl fun n _ => congrArg₂ (· * ·) (rows_apply a b k n) ?_
    exact congrArg w (by
      funext a
      match a with
      | ⟨0, _⟩ => rfl
      | ⟨1, _⟩ => rfl)
  · exact congrArg v (by
      funext a
      match a with
      | ⟨0, _⟩ => exact Subsingleton.elim (α := Fin 1) _ _)

/-- The result's magnitude, at an index. -/
theorem outMag_apply (u v : FVec Ideal S32x1 .f32) (b : Fin 32) : outMag u v (ix3 b 0 0) = mag (u (ix2 b 0)) (v (ix2 b 0)) := by
  have e : (broadcastInDim S32x1x1 ![0, 1] bcast_S32x1_S32x1x1_0_1
      (Host.sqrt (addf (addf (mulf u u) (mulf v v)) (broadcastInDim S32x1 ![] bcast_S_S32x1 (constant S_ .f32 0x2B8CBCCC#32))) : FVec Ideal S32x1 .f32)) (ix3 b 0 0)
      = (Host.sqrt (addf (addf (mulf u u) (mulf v v)) (broadcastInDim S32x1 ![] bcast_S_S32x1 (constant S_ .f32 0x2B8CBCCC#32))) : FVec Ideal S32x1 .f32) (ix2 b 0) :=
    broadcastInDim_apply _ bcast_S32x1_S32x1x1_0_1 _ (ix3 b 0 0) (ix2 b 0) fun a => by
      match a with
      | ⟨0, _⟩ => rfl
      | ⟨1, _⟩ => rfl
  unfold outMag mag
  exact e

/-- The reference's result, at an index. -/
theorem result_apply (m : (ℓ : Loc nD τ sig) → Buf (Elt Ideal) ℓ) (c : Dev nD) (b : Fin 32) :
    (res_main_v37 m c : FVec Ideal S32x1x1 .f32) (ix3 b 0 0)
      = mag (total (fun k n => actR ((m ((c.tc : Thread nD τ).loc main_arg3) : FVec Ideal S64x1 .f32) (ix2 k 0)) ((m ((c.tc : Thread nD τ).loc main_arg4) : FVec Ideal S64x1 .f32) (ix2 k 0))
            (pos5 (m ((c.tc : Thread nD τ).loc main_arg0)) b k n) (pos5 (m ((c.tc : Thread nD τ).loc main_arg1)) b k n)) (m ((c.tc : Thread nD τ).loc main_arg2))
            + (m ((c.tc : Thread nD τ).loc main_arg5) : FVec Ideal S1 .f32) (ix1 0))
          (total (fun k n => actI ((m ((c.tc : Thread nD τ).loc main_arg3) : FVec Ideal S64x1 .f32) (ix2 k 0)) ((m ((c.tc : Thread nD τ).loc main_arg4) : FVec Ideal S64x1 .f32) (ix2 k 0))
            (pos5 (m ((c.tc : Thread nD τ).loc main_arg0)) b k n) (pos5 (m ((c.tc : Thread nD τ).loc main_arg1)) b k n)) (m ((c.tc : Thread nD τ).loc main_arg2))
            + (m ((c.tc : Thread nD τ).loc main_arg6) : FVec Ideal S1 .f32) (ix1 0)) := by
  refine (congrFun (result_eq m c) (ix3 b 0 0)).trans ((outMag_apply _ _ b).trans ?_)
  refine congrArg₂ mag ((part_apply _ _ _ b).trans (congrArg₂ (· + ·) (congrArg₂ total ?_ rfl) rfl))
    ((part_apply _ _ _ b).trans (congrArg₂ (· + ·) (congrArg₂ total ?_ rfl) rfl))
  · funext k n
    exact congrArg₂ (· * ·) (arrMag_apply _ _ _ _ b k _ _ _) rfl
  · funext k n
    exact congrArg₂ (· * ·) (arrMag_apply _ _ _ _ b k _ _ _) rfl

end Cert.Proof.ReadoutRef
-- ==== Proof.Readout.lean ====
/-
  The readout's call against its reference: equal results from equal arguments.
-/
module

public import proofs.«01_k».proof.Defs
public import proofs.«01_k».proof.Proof.ReadoutOut
public import proofs.«01_k».proof.Proof.ReadoutRef
public import proofs.«01_k».proof.Proof.Padding

@[expose] public section

noncomputable section

namespace Cert.Proof.Readout

open Cert.ReadoutIdeal Cert.ReadoutIdeal.Gen Cert.ReadoutIdeal.Value Idealize.ShloMosaic Idealize.ShloMosaic.TcCoe Idealize.SL.Sem
open Cert.Proof.ConvMath
open scoped BigOperators

/-- The reference runs to an end and leaves its arguments unchanged. -/
theorem frame_ref : Cert.quiescent_RefReadoutIdeal (hRefReadoutIdeal := Cert.RefReadoutIdeal.Gen.facts) := fun m g _ =>
  (θ_run (Cert.RefReadoutIdeal.defs (F := Ideal)) _ _).mono
    (fun r h => ⟨fun c => (h c).2, sem_eq_zero_of_no_sems (by decide) r.2⟩) (Cert.RefReadoutIdeal.Value.run (F := Ideal) m g)

/-- The claim about the call: its result is the reference's. -/
theorem algebraic : Cert.algebraic_ReadoutIdeal_RefReadoutIdeal (hReadoutIdeal := Cert.ReadoutIdeal.Gen.facts)
    (hRefReadoutIdeal := Cert.RefReadoutIdeal.Gen.facts) := by
  intro m g m' g' _ hargs
  refine ⟨fun c => (dats m 0 c).arrAt 6 cfg0.N, run_blocks m g, ?_⟩
  refine (θ_run (Cert.RefReadoutIdeal.defs (F := Ideal)) _ _).mono (fun r h c => ?_) (Cert.RefReadoutIdeal.Value.run (F := Ideal) m' g')
  obtain ⟨a0, a1, a2, a3, a4, a5, a6⟩ := hargs c
  obtain ⟨h0, hk⟩ := h c
  refine ⟨h0.trans ?_, hk⟩
  funext i
  obtain ⟨b, y, x, rfl⟩ := exists_ix3 i
  obtain rfl : y = 0 := Subsingleton.elim _ _
  obtain rfl : x = 0 := Subsingleton.elim _ _
  refine (ReadoutRef.result_apply m' c b).trans (Eq.trans ?_ (out_at m c b).symm)
  rw [a0, a1, a2, a3, a4, a5, a6]
  rfl

end Cert.Proof.Readout
-- ==== Proof.OscillatorsIdeal.lean ====
/-
  The idealized call of the coupled oscillators runs: at any values, from any memory, every fair execution ends, with the argument
  arrays as they were and every semaphore at zero. The call's grid is 32 examples by 32 frames; the phases are kept in a
  scratch buffer from one frame to the next, read at the first frame before anything is stored there. At the first
  frame the update is repeated seven more times by a counted loop, which only computes. Nothing is said of the contents
  of the three results.
-/
module

public import proofs.«01_k».proof.Proof.Gen.OscillatorsIdeal.Skeleton
public import proofs.«01_k».proof.Proof.Gen.OscillatorsIdeal.Launch
public import proofs.«01_k».proof.Proof.Gen.OscillatorsIdeal.Points
public import proofs.«01_k».proof.Proof.Gen.OscillatorsIdeal.Frame
public import Idealize.ShloMosaic.Lib.Pipeline.Frame
public import Idealize.ShloMosaic.Lib.Tactic

@[expose] public section

noncomputable section

namespace Cert.Proof.OscillatorsIdeal

open Cert.OscillatorsIdeal Cert.OscillatorsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parts that only compute -/

section Parts

variable (i : grid0.Coords)
  (arg2 : Memref sig .tc .vmem S1x3x1x34x34 .f32) (harg2 : arg2.IsWhole)
  (arg3 : Memref sig .tc .vmem S1x8x32x32 .f32) (harg3 : arg3.IsWhole)
  (arg4 : Memref sig .tc .vmem S1x5x1x32x32 .i32) (harg4 : arg4.IsWhole)
  (arg5 : Memref sig .tc .vmem S8x27 .f32) (harg5 : arg5.IsWhole)
  (arg6 : Memref sig .tc .vmem S5x5 .f32) (harg6 : arg6.IsWhole)
  (arg7 : Memref sig .tc .vmem S1x8x1x32x32 .f32) (harg7 : arg7.IsWhole)
  (arg8 : Memref sig .tc .vmem S1x8x1x32x32 .f32) (harg8 : arg8.IsWhole)
  (arg9 : Memref sig .tc .vmem S1x1x1x1 .f32) (harg9 : arg9.IsWhole)
  (arg10 : Memref sig .tc .vmem S8x32x32 .f32) (harg10 : arg10.IsWhole)

/-- One repetition of the update only computes. -/
theorem trip_ret (arg1 : BitVec 32) (v18 : FVec F S8x32x32 .f32) (v20 : FVec F S5x5 .f32) (v21 : FVec F S8x32x32 .f32)
    (v30 : FVec F S8x32x32 .f32) (v320 : FVec F S8x32x32 .f32) (v326 : FVec F S8x32x32 .f32) (h : k0_cond1 i = 1#1)
    (k : Fin k0_t1_loop.trips) (acc : FVec F S8x32x32 .f32) :
    ∃ x, k0_t1_body i arg2 harg2 arg3 harg3 arg4 harg4 arg5 harg5 arg6 harg6 arg7 harg7 arg8 harg8 arg9 harg9 arg10 harg10
      arg1 v18 v20 v21 v30 v320 v326 h k acc = .ret x :=
  ⟨_, rfl⟩

/-- So the counted loop only computes. -/
theorem loop_ret (arg1 : BitVec 32) (v18 : FVec F S8x32x32 .f32) (v20 : FVec F S5x5 .f32) (v21 : FVec F S8x32x32 .f32)
    (v30 : FVec F S8x32x32 .f32) (v320 : FVec F S8x32x32 .f32) (v326 : FVec F S8x32x32 .f32) (h : k0_cond1 i = 1#1)
    (init : FVec F S8x32x32 .f32) :
    ∃ x, Scf.Loop.for k0_t1_loop (k0_t1_ok i h) init
      (k0_t1_body i arg2 harg2 arg3 harg3 arg4 harg4 arg5 harg5 arg6 harg6 arg7 harg7 arg8 harg8 arg9 harg9 arg10 harg10
        arg1 v18 v20 v21 v30 v320 v326 h) = .ret x := by
  choose g hg using fun k acc => trip_ret (F := F) i arg2 harg2 arg3 harg3 arg4 harg4 arg5 harg5 arg6 harg6 arg7 harg7
    arg8 harg8 arg9 harg9 arg10 harg10 arg1 v18 v20 v21 v30 v320 v326 h k acc
  exact ⟨_, Scf.for_pure _ _ _ _ _ _ g hg⟩

end Parts

/-! ## The body, run once -/

/-- The scratch buffer the phases are kept in. -/
abbrev scM : Memref sig .tc .vmem S8x32x32 .f32 := Memref.whole cc0_scratch0

/-- The body from its five operands' blocks, its results and the scratch at anything, ends with the operands' blocks as
    they were. -/
theorem kernelRun (c : Dev nD) (i : grid0.Coords)
    (arg2 : Memref sig .tc .vmem S1x3x1x34x34 .f32) (harg2 : arg2.IsWhole)
    (arg3 : Memref sig .tc .vmem S1x8x32x32 .f32) (harg3 : arg3.IsWhole)
    (arg4 : Memref sig .tc .vmem S1x5x1x32x32 .i32) (harg4 : arg4.IsWhole)
    (arg5 : Memref sig .tc .vmem S8x27 .f32) (harg5 : arg5.IsWhole)
    (arg6 : Memref sig .tc .vmem S5x5 .f32) (harg6 : arg6.IsWhole)
    (arg7 : Memref sig .tc .vmem S1x8x1x32x32 .f32) (harg7 : arg7.IsWhole)
    (arg8 : Memref sig .tc .vmem S1x8x1x32x32 .f32) (harg8 : arg8.IsWhole)
    (arg9 : Memref sig .tc .vmem S1x1x1x1 .f32) (harg9 : arg9.IsWhole)
    (X2 : Vec F S1x3x1x34x34 .f32) (X3 : Vec F S1x8x32x32 .f32) (X4 : Vec F S1x5x1x32x32 .i32) (X5 : Vec F S8x27 .f32)
    (X6 : Vec F S5x5 .f32) (K : PUnit → sProp 𝕄) :
    iprop(owns (c : Thread nD τ) arg2 fullShare X2 ∗ owns (c : Thread nD τ) arg3 fullShare X3
        ∗ owns (c : Thread nD τ) arg4 fullShare X4 ∗ owns (c : Thread nD τ) arg5 fullShare X5
        ∗ owns (c : Thread nD τ) arg6 fullShare X6
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) scM fullShare d)
        ∗ (iprop(owns (c : Thread nD τ) arg2 fullShare X2 ∗ owns (c : Thread nD τ) arg3 fullShare X3
              ∗ owns (c : Thread nD τ) arg4 fullShare X4 ∗ owns (c : Thread nD τ) arg5 fullShare X5
              ∗ owns (c : Thread nD τ) arg6 fullShare X6
              ∗ (∃ d, owns (c : Thread nD τ) arg7 fullShare d) ∗ (∃ d, owns (c : Thread nD τ) arg8 fullShare d)
              ∗ (∃ d, owns (c : Thread nD τ) arg9 fullShare d) ∗ (∃ d, owns (c : Thread nD τ) scM fullShare d)) -∗ K ⟨⟩))
      ⊢ wp frame (wpE (defs₀ (F := F)) Variants.none c none) Set.univ
          (cc0__kuramoto_body i arg2 harg2 arg3 harg3 arg4 harg4 arg5 harg5 arg6 harg6 arg7 harg7 arg8 harg8 arg9 harg9
            scM (Memref.isWhole_whole _)) K := by
  simp only [cc0__kuramoto_body_eq_skeleton]; unfold cc0__kuramoto_body_skel
  simp only [k0_part6_eq_skeleton]; unfold k0_part6_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%ds, %fs, -, HS⟩, Hk⟩
  sl_exec
  by_cases h : k0_cond1 i = 1#1
  · rw [dif_pos h, (loop_ret (F := F) i arg2 harg2 arg3 harg3 arg4 harg4 arg5 harg5 arg6 harg6 arg7 harg7 arg8 harg8
      arg9 harg9 scM (Memref.isWhole_whole _) _ _ _ _ _ _ _ h _).choose_spec]
    generalize Exists.choose _ = x
    sl_exec
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS
    ipureintro; rfl
  · rw [dif_neg h]
    sl_exec
    sl_step
    iapply Hk
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS
    ipureintro; rfl

/-! ## The proof data and the body obligation -/

/-- The three results' windows are forgotten: nothing here reads what the body leaves in them. -/
def forgets0 : Fin 8 → Bool := fun w => decide (5 ≤ w.val)

/-- The proof data on a core: the arrays as the region finds them, an operand's block left in place, the results'
    blocks unnamed, the scratch at anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The arrays of the proof data are as the region finds them. -/
theorem A_eq (c : Dev nD) (w : Fin cfg0.W) : (dats m 0 c).A w = V m c (Pipeline.arrRef spec0 w) := by dsimp only [dats]

/-- The body leaves operand 0's block in place. -/
theorem after_0 (c : Dev nD) (t : Fin cfg0.N) : (dats m 0 c).after 0 t = iblk m c 0 t := by dsimp only [dats]
/-- The body leaves operand 1's block in place. -/
theorem after_1 (c : Dev nD) (t : Fin cfg0.N) : (dats m 0 c).after 1 t = iblk m c 1 t := by dsimp only [dats]
/-- The body leaves operand 2's block in place. -/
theorem after_2 (c : Dev nD) (t : Fin cfg0.N) : (dats m 0 c).after 2 t = iblk m c 2 t := by dsimp only [dats]
/-- The body leaves operand 3's block in place. -/
theorem after_3 (c : Dev nD) (t : Fin cfg0.N) : (dats m 0 c).after 3 t = iblk m c 3 t := by dsimp only [dats]
/-- The body leaves operand 4's block in place. -/
theorem after_4 (c : Dev nD) (t : Fin cfg0.N) : (dats m 0 c).after 4 t = iblk m c 4 t := by dsimp only [dats]

/-- The invariant between the points: the scratch at some contents and the generator register at some state. -/
theorem PhiA0_eq (c : Dev nD) :
    (Pipeline.ΦA spec0 c : sProp 𝕄)
      = iprop((∃ d, owns (c : Thread nD τ) scM fullShare d) ∗ (∃ r, prngReg c r)) := by
  unfold Pipeline.ΦA
  rw [scopedRest0_eq]; simp only [scM, owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at a point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after_0, after_1, after_2, after_3, after_4]
  iintro ⟨⟨HS, Hg⟩, HO, ⟨%d0, H0⟩, ⟨%d1, H1⟩, ⟨%d2, H2⟩, ⟨%d3, H3⟩, ⟨%d4, H4⟩, H5, H6, H7⟩
  iapply (kernelRun c (grid0.coords t) (st0_0 t) _ (st0_1 t) _ (st0_2 t) _ (st0_3 t) _ (st0_4 t) _ (st0_5 t) _ (st0_6 t) _
    (st0_7 t) _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every fair execution ends; every operand array and every other buffer outside the region is as the region found it,
    and every semaphore is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim: the argument arrays end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
      (h.1.arr_in c 2 rfl).trans (V_main_arg1 m c),
      (h.1.arr_in c 1 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.Proof.OscillatorsIdeal

end
-- ==== Proof.lean ====
/-
  The claims about the kernel's three convolution calls and its readout call: they run to an end with their arguments
  unchanged, and their results are the references' over the extended reals.
-/
module

public import proofs.«01_k».proof.Defs
public import proofs.«01_k».proof.Proof.Gen.ConvPre
public import proofs.«01_k».proof.Proof.Gen.ConvPre.Skeleton
public import proofs.«01_k».proof.Proof.Gen.ConvPre.Launch
public import proofs.«01_k».proof.Proof.Gen.ConvPre.Points
public import proofs.«01_k».proof.Proof.Gen.ConvPre.Frame
public import proofs.«01_k».proof.Proof.Gen.ConvPreIdeal
public import proofs.«01_k».proof.Proof.Gen.ConvPreIdeal.Skeleton
public import proofs.«01_k».proof.Proof.Gen.ConvPreIdeal.Launch
public import proofs.«01_k».proof.Proof.Gen.ConvPreIdeal.Points
public import proofs.«01_k».proof.Proof.Gen.ConvPreIdeal.Frame
public import proofs.«01_k».proof.Proof.Gen.ConvPreIdeal.Value
public import proofs.«01_k».proof.Proof.Gen.ConvC1
public import proofs.«01_k».proof.Proof.Gen.ConvC1.Skeleton
public import proofs.«01_k».proof.Proof.Gen.ConvC1.Launch
public import proofs.«01_k».proof.Proof.Gen.ConvC1.Points
public import proofs.«01_k».proof.Proof.Gen.ConvC1.Frame
public import proofs.«01_k».proof.Proof.Gen.ConvC1Ideal
public import proofs.«01_k».proof.Proof.Gen.ConvC1Ideal.Skeleton
public import proofs.«01_k».proof.Proof.Gen.ConvC1Ideal.Launch
public import proofs.«01_k».proof.Proof.Gen.ConvC1Ideal.Points
public import proofs.«01_k».proof.Proof.Gen.ConvC1Ideal.Frame
public import proofs.«01_k».proof.Proof.Gen.ConvC1Ideal.Value
public import proofs.«01_k».proof.Proof.Gen.ConvC2
public import proofs.«01_k».proof.Proof.Gen.ConvC2.Skeleton
public import proofs.«01_k».proof.Proof.Gen.ConvC2.Launch
public import proofs.«01_k».proof.Proof.Gen.ConvC2.Points
public import proofs.«01_k».proof.Proof.Gen.ConvC2.Frame
public import proofs.«01_k».proof.Proof.Gen.ConvC2Ideal
public import proofs.«01_k».proof.Proof.Gen.ConvC2Ideal.Skeleton
public import proofs.«01_k».proof.Proof.Gen.ConvC2Ideal.Launch
public import proofs.«01_k».proof.Proof.Gen.ConvC2Ideal.Points
public import proofs.«01_k».proof.Proof.Gen.ConvC2Ideal.Frame
public import proofs.«01_k».proof.Proof.Gen.ConvC2Ideal.Value
public import proofs.«01_k».proof.Proof.Gen.RefPreIdeal
public import proofs.«01_k».proof.Proof.Gen.RefPreIdeal.Run
public import proofs.«01_k».proof.Proof.Gen.RefC1Ideal
public import proofs.«01_k».proof.Proof.Gen.RefC1Ideal.Run
public import proofs.«01_k».proof.Proof.Gen.RefC2Ideal
public import proofs.«01_k».proof.Proof.Gen.RefC2Ideal.Run
public import proofs.«01_k».proof.Proof.Gen.Pre_padding_inactive
public import proofs.«01_k».proof.Proof.Gen.Pre_padding_inactive_c2
public import proofs.«01_k».proof.Proof.Pre
public import proofs.«01_k».proof.Proof.C1
public import proofs.«01_k».proof.Proof.C2
public import proofs.«01_k».proof.Proof.Readout
public import proofs.«01_k».proof.Proof.Oscillators
public import proofs.«01_k».proof.Proof.OscillatorsIdeal
public import proofs.«01_k».proof.Proof.Gen.Oscillators
public import proofs.«01_k».proof.Proof.Gen.Oscillators.Skeleton
public import proofs.«01_k».proof.Proof.Gen.Oscillators.Launch
public import proofs.«01_k».proof.Proof.Gen.Oscillators.Points
public import proofs.«01_k».proof.Proof.Gen.Oscillators.Frame
public import proofs.«01_k».proof.Proof.Gen.OscillatorsIdeal
public import proofs.«01_k».proof.Proof.Gen.OscillatorsIdeal.Skeleton
public import proofs.«01_k».proof.Proof.Gen.OscillatorsIdeal.Launch
public import proofs.«01_k».proof.Proof.Gen.OscillatorsIdeal.Points
public import proofs.«01_k».proof.Proof.Gen.OscillatorsIdeal.Frame
public import proofs.«01_k».proof.Proof.Gen.Readout
public import proofs.«01_k».proof.Proof.Gen.Readout.Skeleton
public import proofs.«01_k».proof.Proof.Gen.Readout.Launch
public import proofs.«01_k».proof.Proof.Gen.Readout.Points
public import proofs.«01_k».proof.Proof.Gen.Readout.Frame
public import proofs.«01_k».proof.Proof.Gen.ReadoutIdeal
public import proofs.«01_k».proof.Proof.Gen.ReadoutIdeal.Skeleton
public import proofs.«01_k».proof.Proof.Gen.ReadoutIdeal.Launch
public import proofs.«01_k».proof.Proof.Gen.ReadoutIdeal.Points
public import proofs.«01_k».proof.Proof.Gen.ReadoutIdeal.Frame
public import proofs.«01_k».proof.Proof.Gen.ReadoutIdeal.Value
public import proofs.«01_k».proof.Proof.Gen.RefReadoutIdeal
public import proofs.«01_k».proof.Proof.Gen.RefReadoutIdeal.Run
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.ConvPre.Gen.facts, Cert.ConvPreIdeal.Gen.facts, Cert.RefPreIdeal.Gen.facts,
  Cert.ConvC1.Gen.facts, Cert.ConvC1Ideal.Gen.facts, Cert.RefC1Ideal.Gen.facts,
  Cert.ConvC2.Gen.facts, Cert.ConvC2Ideal.Gen.facts, Cert.RefC2Ideal.Gen.facts,
  Cert.Readout.Gen.facts, Cert.ReadoutIdeal.Gen.facts, Cert.RefReadoutIdeal.Gen.facts,
  Cert.Oscillators.Gen.facts, Cert.OscillatorsIdeal.Gen.facts, Cert.Pre_padding_inactive.Gen.facts, Cert.Pre_padding_inactive_c2.Gen.facts,
  fun m g _ => Cert.ConvPre.Gen.frame m g,
  fun m g _ => Cert.ConvPreIdeal.Gen.frame m g,
  Pre.frame_ref,
  fun m g _ => Cert.ConvC1.Gen.frame m g,
  fun m g _ => Cert.ConvC1Ideal.Gen.frame m g,
  fun m g _ => Cert.ConvC1Ideal.Gen.frame m g,
  C1.frame_ref,
  fun m g _ => C1.frame_ref m g trivial,
  fun m g _ => Cert.ConvC2.Gen.frame m g,
  fun m g _ => Cert.ConvC2Ideal.Gen.frame m g,
  fun m g _ => Cert.ConvC2Ideal.Gen.frame m g,
  C2.frame_ref,
  fun m g _ => C2.frame_ref m g trivial,
  fun m g _ => Cert.Readout.Gen.frame m g,
  fun m g _ => Cert.ReadoutIdeal.Gen.frame m g,
  Readout.frame_ref,
  fun m g _ => Cert.Proof.Oscillators.frame m g,
  fun m g _ => Cert.Proof.OscillatorsIdeal.frame m g,
  trivial, Pre.algebraic, trivial, C1.algebraic, trivial, C2.algebraic, trivial, Readout.algebraic, trivial⟩

end Cert.Proof
